-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelFfnA (m : (ℓ : Loc Cert.KernelFfnA.nD Cert.KernelFfnA.τ Cert.KernelFfnA.sig) → Buf (Elt Bits) ℓ) : Prop :=
  True

def Pre_KernelFfnAIdeal (m : (ℓ : Loc Cert.KernelFfnAIdeal.nD Cert.KernelFfnAIdeal.τ Cert.KernelFfnAIdeal.sig) → Buf (Elt Ideal) ℓ) : Prop :=
  True

def Pre_ReferenceFfnAIdeal (m : (ℓ : Loc Cert.ReferenceFfnAIdeal.nD Cert.ReferenceFfnAIdeal.τ Cert.ReferenceFfnAIdeal.sig) → Buf (Elt Ideal) ℓ) : Prop :=
  True

def Pre_KernelFfnB (m : (ℓ : Loc Cert.KernelFfnB.nD Cert.KernelFfnB.τ Cert.KernelFfnB.sig) → Buf (Elt Bits) ℓ) : Prop :=
  True

def Pre_KernelFfnBIdeal (m : (ℓ : Loc Cert.KernelFfnBIdeal.nD Cert.KernelFfnBIdeal.τ Cert.KernelFfnBIdeal.sig) → Buf (Elt Ideal) ℓ) : Prop :=
  True

def Pre_ReferenceFfnBIdeal (m : (ℓ : Loc Cert.ReferenceFfnBIdeal.nD Cert.ReferenceFfnBIdeal.τ Cert.ReferenceFfnBIdeal.sig) → Buf (Elt Ideal) ℓ) : Prop :=
  True

def Pre_KernelFfn0 (m : (ℓ : Loc Cert.KernelFfn0.nD Cert.KernelFfn0.τ Cert.KernelFfn0.sig) → Buf (Elt Bits) ℓ) : Prop :=
  True

def Pre_KernelFfn0Ideal (m : (ℓ : Loc Cert.KernelFfn0Ideal.nD Cert.KernelFfn0Ideal.τ Cert.KernelFfn0Ideal.sig) → Buf (Elt Ideal) ℓ) : Prop :=
  True

def Pre_ReferenceFfn0Ideal (m : (ℓ : Loc Cert.ReferenceFfn0Ideal.nD Cert.ReferenceFfn0Ideal.τ Cert.ReferenceFfn0Ideal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelProjS (m : (ℓ : Loc Cert.KernelProjS.nD Cert.KernelProjS.τ Cert.KernelProjS.sig) → Buf (Elt Bits) ℓ) : Prop :=
  True

def Pre_KernelProjSIdeal (m : (ℓ : Loc Cert.KernelProjSIdeal.nD Cert.KernelProjSIdeal.τ Cert.KernelProjSIdeal.sig) → Buf (Elt Ideal) ℓ) : Prop :=
  True

def Pre_ReferenceProjSIdeal (m : (ℓ : Loc Cert.ReferenceProjSIdeal.nD Cert.ReferenceProjSIdeal.τ Cert.ReferenceProjSIdeal.sig) → Buf (Elt Ideal) ℓ) : Prop :=
  True

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_ReferenceQkvIdeal (m : (ℓ : Loc Cert.ReferenceQkvIdeal.nD Cert.ReferenceQkvIdeal.τ Cert.ReferenceQkvIdeal.sig) → Buf (Elt Ideal) ℓ) : Prop :=
  True

def Pre_KernelQkv1 (m : (ℓ : Loc Cert.KernelQkv1.nD Cert.KernelQkv1.τ Cert.KernelQkv1.sig) → Buf (Elt Bits) ℓ) : Prop :=
  True

def Pre_KernelQkv1Ideal (m : (ℓ : Loc Cert.KernelQkv1Ideal.nD Cert.KernelQkv1Ideal.τ Cert.KernelQkv1Ideal.sig) → Buf (Elt Ideal) ℓ) : Prop :=
  True

def Pre_ReferenceQkv1Ideal (m : (ℓ : Loc Cert.ReferenceQkv1Ideal.nD Cert.ReferenceQkv1Ideal.τ Cert.ReferenceQkv1Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5)
      ∧ r.2.mem ((c.tc : Thread Cert.KernelFfn.nD Cert.KernelFfn.τ).loc Cert.KernelFfn.main_arg6) = m ((c.tc : Thread Cert.KernelFfn.nD Cert.KernelFfn.τ).loc Cert.KernelFfn.main_arg6)
      ∧ r.2.mem ((c.tc : Thread Cert.KernelFfn.nD Cert.KernelFfn.τ).loc Cert.KernelFfn.main_arg7) = m ((c.tc : Thread Cert.KernelFfn.nD Cert.KernelFfn.τ).loc Cert.KernelFfn.main_arg7))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
      ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5)
      ∧ r.2.mem ((c.tc : Thread Cert.ReferenceFfnIdeal.nD Cert.ReferenceFfnIdeal.τ).loc Cert.ReferenceFfnIdeal.main_arg6) = m ((c.tc : Thread Cert.ReferenceFfnIdeal.nD Cert.ReferenceFfnIdeal.τ).loc Cert.ReferenceFfnIdeal.main_arg6)
      ∧ r.2.mem ((c.tc : Thread Cert.ReferenceFfnIdeal.nD Cert.ReferenceFfnIdeal.τ).loc Cert.ReferenceFfnIdeal.main_arg7) = m ((c.tc : Thread Cert.ReferenceFfnIdeal.nD Cert.ReferenceFfnIdeal.τ).loc Cert.ReferenceFfnIdeal.main_arg7))
      ∧ r.2.sem = fun _ => 0)

def quiescent_KernelFfnA [hKernelFfnA : Cert.KernelFfnA.Facts] : Prop :=
  ∀ (m : (ℓ : Loc Cert.KernelFfnA.nD Cert.KernelFfnA.τ Cert.KernelFfnA.sig) → Buf (Elt Bits) ℓ) (g : Dev Cert.KernelFfnA.nD → PrngReg), Pre_KernelFfnA m →
    θ_run (Cert.KernelFfnA.defs (F := Bits)) (onTc (τ := Cert.KernelFfnA.τ) (Cert.KernelFfnA.main (F := Bits))) ⟨m, fun _ => 0, g⟩ (fun r => (∀ c : Dev Cert.KernelFfnA.nD,
      r.2.mem ((c.tc : Thread Cert.KernelFfnA.nD Cert.KernelFfnA.τ).loc Cert.KernelFfnA.main_arg0) = m ((c.tc : Thread Cert.KernelFfnA.nD Cert.KernelFfnA.τ).loc Cert.KernelFfnA.main_arg0)
      ∧ r.2.mem ((c.tc : Thread Cert.KernelFfnA.nD Cert.KernelFfnA.τ).loc Cert.KernelFfnA.main_arg1) = m ((c.tc : Thread Cert.KernelFfnA.nD Cert.KernelFfnA.τ).loc Cert.KernelFfnA.main_arg1)
      ∧ r.2.mem ((c.tc : Thread Cert.KernelFfnA.nD Cert.KernelFfnA.τ).loc Cert.KernelFfnA.main_arg2) = m ((c.tc : Thread Cert.KernelFfnA.nD Cert.KernelFfnA.τ).loc Cert.KernelFfnA.main_arg2)
      ∧ r.2.mem ((c.tc : Thread Cert.KernelFfnA.nD Cert.KernelFfnA.τ).loc Cert.KernelFfnA.main_arg3) = m ((c.tc : Thread Cert.KernelFfnA.nD Cert.KernelFfnA.τ).loc Cert.KernelFfnA.main_arg3))
      ∧ r.2.sem = fun _ => 0)

def quiescent_KernelFfnAIdeal [hKernelFfnAIdeal : Cert.KernelFfnAIdeal.Facts] : Prop :=
  ∀ (m : (ℓ : Loc Cert.KernelFfnAIdeal.nD Cert.KernelFfnAIdeal.τ Cert.KernelFfnAIdeal.sig) → Buf (Elt Ideal) ℓ) (g : Dev Cert.KernelFfnAIdeal.nD → PrngReg), Pre_KernelFfnAIdeal m →
    θ_run (Cert.KernelFfnAIdeal.defs (F := Ideal)) (onTc (τ := Cert.KernelFfnAIdeal.τ) (Cert.KernelFfnAIdeal.main (F := Ideal))) ⟨m, fun _ => 0, g⟩ (fun r => (∀ c : Dev Cert.KernelFfnAIdeal.nD,
      r.2.mem ((c.tc : Thread Cert.KernelFfnAIdeal.nD Cert.KernelFfnAIdeal.τ).loc Cert.KernelFfnAIdeal.main_arg0) = m ((c.tc : Thread Cert.KernelFfnAIdeal.nD Cert.KernelFfnAIdeal.τ).loc Cert.KernelFfnAIdeal.main_arg0)
      ∧ r.2.mem ((c.tc : Thread Cert.KernelFfnAIdeal.nD Cert.KernelFfnAIdeal.τ).loc Cert.KernelFfnAIdeal.main_arg1) = m ((c.tc : Thread Cert.KernelFfnAIdeal.nD Cert.KernelFfnAIdeal.τ).loc Cert.KernelFfnAIdeal.main_arg1)
      ∧ r.2.mem ((c.tc : Thread Cert.KernelFfnAIdeal.nD Cert.KernelFfnAIdeal.τ).loc Cert.KernelFfnAIdeal.main_arg2) = m ((c.tc : Thread Cert.KernelFfnAIdeal.nD Cert.KernelFfnAIdeal.τ).loc Cert.KernelFfnAIdeal.main_arg2)
      ∧ r.2.mem ((c.tc : Thread Cert.KernelFfnAIdeal.nD Cert.KernelFfnAIdeal.τ).loc Cert.KernelFfnAIdeal.main_arg3) = m ((c.tc : Thread Cert.KernelFfnAIdeal.nD Cert.KernelFfnAIdeal.τ).loc Cert.KernelFfnAIdeal.main_arg3))
      ∧ r.2.sem = fun _ => 0)

def quiescent_ReferenceFfnAIdeal [hReferenceFfnAIdeal : Cert.ReferenceFfnAIdeal.Facts] : Prop :=
  ∀ (m : (ℓ : Loc Cert.ReferenceFfnAIdeal.nD Cert.ReferenceFfnAIdeal.τ Cert.ReferenceFfnAIdeal.sig) → Buf (Elt Ideal) ℓ) (g : Dev Cert.ReferenceFfnAIdeal.nD → PrngReg), Pre_ReferenceFfnAIdeal m →
    θ_run (Cert.ReferenceFfnAIdeal.defs (F := Ideal)) (onTc (τ := Cert.ReferenceFfnAIdeal.τ) (Cert.ReferenceFfnAIdeal.main (F := Ideal))) ⟨m, fun _ => 0, g⟩ (fun r => (∀ c : Dev Cert.ReferenceFfnAIdeal.nD,
      r.2.mem ((c.tc : Thread Cert.ReferenceFfnAIdeal.nD Cert.ReferenceFfnAIdeal.τ).loc Cert.ReferenceFfnAIdeal.main_arg0) = m ((c.tc : Thread Cert.ReferenceFfnAIdeal.nD Cert.ReferenceFfnAIdeal.τ).loc Cert.ReferenceFfnAIdeal.main_arg0)
      ∧ r.2.mem ((c.tc : Thread Cert.ReferenceFfnAIdeal.nD Cert.ReferenceFfnAIdeal.τ).loc Cert.ReferenceFfnAIdeal.main_arg1) = m ((c.tc : Thread Cert.ReferenceFfnAIdeal.nD Cert.ReferenceFfnAIdeal.τ).loc Cert.ReferenceFfnAIdeal.main_arg1)
      ∧ r.2.mem ((c.tc : Thread Cert.ReferenceFfnAIdeal.nD Cert.ReferenceFfnAIdeal.τ).loc Cert.ReferenceFfnAIdeal.main_arg2) = m ((c.tc : Thread Cert.ReferenceFfnAIdeal.nD Cert.ReferenceFfnAIdeal.τ).loc Cert.ReferenceFfnAIdeal.main_arg2)
      ∧ r.2.mem ((c.tc : Thread Cert.ReferenceFfnAIdeal.nD Cert.ReferenceFfnAIdeal.τ).loc Cert.ReferenceFfnAIdeal.main_arg3) = m ((c.tc : Thread Cert.ReferenceFfnAIdeal.nD Cert.ReferenceFfnAIdeal.τ).loc Cert.ReferenceFfnAIdeal.main_arg3))
      ∧ r.2.sem = fun _ => 0)

def quiescent_KernelFfnB [hKernelFfnB : Cert.KernelFfnB.Facts] : Prop :=
  ∀ (m : (ℓ : Loc Cert.KernelFfnB.nD Cert.KernelFfnB.τ Cert.KernelFfnB.sig) → Buf (Elt Bits) ℓ) (g : Dev Cert.KernelFfnB.nD → PrngReg), Pre_KernelFfnB m →
    θ_run (Cert.KernelFfnB.defs (F := Bits)) (onTc (τ := Cert.KernelFfnB.τ) (Cert.KernelFfnB.main (F := Bits))) ⟨m, fun _ => 0, g⟩ (fun r => (∀ c : Dev Cert.KernelFfnB.nD,
      r.2.mem ((c.tc : Thread Cert.KernelFfnB.nD Cert.KernelFfnB.τ).loc Cert.KernelFfnB.main_arg0) = m ((c.tc : Thread Cert.KernelFfnB.nD Cert.KernelFfnB.τ).loc Cert.KernelFfnB.main_arg0)
      ∧ r.2.mem ((c.tc : Thread Cert.KernelFfnB.nD Cert.KernelFfnB.τ).loc Cert.KernelFfnB.main_arg1) = m ((c.tc : Thread Cert.KernelFfnB.nD Cert.KernelFfnB.τ).loc Cert.KernelFfnB.main_arg1)
      ∧ r.2.mem ((c.tc : Thread Cert.KernelFfnB.nD Cert.KernelFfnB.τ).loc Cert.KernelFfnB.main_arg2) = m ((c.tc : Thread Cert.KernelFfnB.nD Cert.KernelFfnB.τ).loc Cert.KernelFfnB.main_arg2)
      ∧ r.2.mem ((c.tc : Thread Cert.KernelFfnB.nD Cert.KernelFfnB.τ).loc Cert.KernelFfnB.main_arg3) = m ((c.tc : Thread Cert.KernelFfnB.nD Cert.KernelFfnB.τ).loc Cert.KernelFfnB.main_arg3)
      ∧ r.2.mem ((c.tc : Thread Cert.KernelFfnB.nD Cert.KernelFfnB.τ).loc Cert.KernelFfnB.main_arg4) = m ((c.tc : Thread Cert.KernelFfnB.nD Cert.KernelFfnB.τ).loc Cert.KernelFfnB.main_arg4)
      ∧ r.2.mem ((c.tc : Thread Cert.KernelFfnB.nD Cert.KernelFfnB.τ).loc Cert.KernelFfnB.main_arg5) = m ((c.tc : Thread Cert.KernelFfnB.nD Cert.KernelFfnB.τ).loc Cert.KernelFfnB.main_arg5)
      ∧ r.2.mem ((c.tc : Thread Cert.KernelFfnB.nD Cert.KernelFfnB.τ).loc Cert.KernelFfnB.main_arg6) = m ((c.tc : Thread Cert.KernelFfnB.nD Cert.KernelFfnB.τ).loc Cert.KernelFfnB.main_arg6))
      ∧ r.2.sem = fun _ => 0)

def quiescent_KernelFfnBIdeal [hKernelFfnBIdeal : Cert.KernelFfnBIdeal.Facts] : Prop :=
  ∀ (m : (ℓ : Loc Cert.KernelFfnBIdeal.nD Cert.KernelFfnBIdeal.τ Cert.KernelFfnBIdeal.sig) → Buf (Elt Ideal) ℓ) (g : Dev Cert.KernelFfnBIdeal.nD → PrngReg), Pre_KernelFfnBIdeal m →
    θ_run (Cert.KernelFfnBIdeal.defs (F := Ideal)) (onTc (τ := Cert.KernelFfnBIdeal.τ) (Cert.KernelFfnBIdeal.main (F := Ideal))) ⟨m, fun _ => 0, g⟩ (fun r => (∀ c : Dev Cert.KernelFfnBIdeal.nD,
      r.2.mem ((c.tc : Thread Cert.KernelFfnBIdeal.nD Cert.KernelFfnBIdeal.τ).loc Cert.KernelFfnBIdeal.main_arg0) = m ((c.tc : Thread Cert.KernelFfnBIdeal.nD Cert.KernelFfnBIdeal.τ).loc Cert.KernelFfnBIdeal.main_arg0)
      ∧ r.2.mem ((c.tc : Thread Cert.KernelFfnBIdeal.nD Cert.KernelFfnBIdeal.τ).loc Cert.KernelFfnBIdeal.main_arg1) = m ((c.tc : Thread Cert.KernelFfnBIdeal.nD Cert.KernelFfnBIdeal.τ).loc Cert.KernelFfnBIdeal.main_arg1)
      ∧ r.2.mem ((c.tc : Thread Cert.KernelFfnBIdeal.nD Cert.KernelFfnBIdeal.τ).loc Cert.KernelFfnBIdeal.main_arg2) = m ((c.tc : Thread Cert.KernelFfnBIdeal.nD Cert.KernelFfnBIdeal.τ).loc Cert.KernelFfnBIdeal.main_arg2)
      ∧ r.2.mem ((c.tc : Thread Cert.KernelFfnBIdeal.nD Cert.KernelFfnBIdeal.τ).loc Cert.KernelFfnBIdeal.main_arg3) = m ((c.tc : Thread Cert.KernelFfnBIdeal.nD Cert.KernelFfnBIdeal.τ).loc Cert.KernelFfnBIdeal.main_arg3)
      ∧ r.2.mem ((c.tc : Thread Cert.KernelFfnBIdeal.nD Cert.KernelFfnBIdeal.τ).loc Cert.KernelFfnBIdeal.main_arg4) = m ((c.tc : Thread Cert.KernelFfnBIdeal.nD Cert.KernelFfnBIdeal.τ).loc Cert.KernelFfnBIdeal.main_arg4)
      ∧ r.2.mem ((c.tc : Thread Cert.KernelFfnBIdeal.nD Cert.KernelFfnBIdeal.τ).loc Cert.KernelFfnBIdeal.main_arg5) = m ((c.tc : Thread Cert.KernelFfnBIdeal.nD Cert.KernelFfnBIdeal.τ).loc Cert.KernelFfnBIdeal.main_arg5)
      ∧ r.2.mem ((c.tc : Thread Cert.KernelFfnBIdeal.nD Cert.KernelFfnBIdeal.τ).loc Cert.KernelFfnBIdeal.main_arg6) = m ((c.tc : Thread Cert.KernelFfnBIdeal.nD Cert.KernelFfnBIdeal.τ).loc Cert.KernelFfnBIdeal.main_arg6))
      ∧ r.2.sem = fun _ => 0)

def quiescent_ReferenceFfnBIdeal [hReferenceFfnBIdeal : Cert.ReferenceFfnBIdeal.Facts] : Prop :=
  ∀ (m : (ℓ : Loc Cert.ReferenceFfnBIdeal.nD Cert.ReferenceFfnBIdeal.τ Cert.ReferenceFfnBIdeal.sig) → Buf (Elt Ideal) ℓ) (g : Dev Cert.ReferenceFfnBIdeal.nD → PrngReg), Pre_ReferenceFfnBIdeal m →
    θ_run (Cert.ReferenceFfnBIdeal.defs (F := Ideal)) (onTc (τ := Cert.ReferenceFfnBIdeal.τ) (Cert.ReferenceFfnBIdeal.main (F := Ideal))) ⟨m, fun _ => 0, g⟩ (fun r => (∀ c : Dev Cert.ReferenceFfnBIdeal.nD,
      r.2.mem ((c.tc : Thread Cert.ReferenceFfnBIdeal.nD Cert.ReferenceFfnBIdeal.τ).loc Cert.ReferenceFfnBIdeal.main_arg0) = m ((c.tc : Thread Cert.ReferenceFfnBIdeal.nD Cert.ReferenceFfnBIdeal.τ).loc Cert.ReferenceFfnBIdeal.main_arg0)
      ∧ r.2.mem ((c.tc : Thread Cert.ReferenceFfnBIdeal.nD Cert.ReferenceFfnBIdeal.τ).loc Cert.ReferenceFfnBIdeal.main_arg1) = m ((c.tc : Thread Cert.ReferenceFfnBIdeal.nD Cert.ReferenceFfnBIdeal.τ).loc Cert.ReferenceFfnBIdeal.main_arg1)
      ∧ r.2.mem ((c.tc : Thread Cert.ReferenceFfnBIdeal.nD Cert.ReferenceFfnBIdeal.τ).loc Cert.ReferenceFfnBIdeal.main_arg2) = m ((c.tc : Thread Cert.ReferenceFfnBIdeal.nD Cert.ReferenceFfnBIdeal.τ).loc Cert.ReferenceFfnBIdeal.main_arg2)
      ∧ r.2.mem ((c.tc : Thread Cert.ReferenceFfnBIdeal.nD Cert.ReferenceFfnBIdeal.τ).loc Cert.ReferenceFfnBIdeal.main_arg3) = m ((c.tc : Thread Cert.ReferenceFfnBIdeal.nD Cert.ReferenceFfnBIdeal.τ).loc Cert.ReferenceFfnBIdeal.main_arg3)
      ∧ r.2.mem ((c.tc : Thread Cert.ReferenceFfnBIdeal.nD Cert.ReferenceFfnBIdeal.τ).loc Cert.ReferenceFfnBIdeal.main_arg4) = m ((c.tc : Thread Cert.ReferenceFfnBIdeal.nD Cert.ReferenceFfnBIdeal.τ).loc Cert.ReferenceFfnBIdeal.main_arg4)
      ∧ r.2.mem ((c.tc : Thread Cert.ReferenceFfnBIdeal.nD Cert.ReferenceFfnBIdeal.τ).loc Cert.ReferenceFfnBIdeal.main_arg5) = m ((c.tc : Thread Cert.ReferenceFfnBIdeal.nD Cert.ReferenceFfnBIdeal.τ).loc Cert.ReferenceFfnBIdeal.main_arg5)
      ∧ r.2.mem ((c.tc : Thread Cert.ReferenceFfnBIdeal.nD Cert.ReferenceFfnBIdeal.τ).loc Cert.ReferenceFfnBIdeal.main_arg6) = m ((c.tc : Thread Cert.ReferenceFfnBIdeal.nD Cert.ReferenceFfnBIdeal.τ).loc Cert.ReferenceFfnBIdeal.main_arg6))
      ∧ r.2.sem = fun _ => 0)

def quiescent_KernelFfn0 [hKernelFfn0 : Cert.KernelFfn0.Facts] : Prop :=
  ∀ (m : (ℓ : Loc Cert.KernelFfn0.nD Cert.KernelFfn0.τ Cert.KernelFfn0.sig) → Buf (Elt Bits) ℓ) (g : Dev Cert.KernelFfn0.nD → PrngReg), Pre_KernelFfn0 m →
    θ_run (Cert.KernelFfn0.defs (F := Bits)) (onTc (τ := Cert.KernelFfn0.τ) (Cert.KernelFfn0.main (F := Bits))) ⟨m, fun _ => 0, g⟩ (fun r => (∀ c : Dev Cert.KernelFfn0.nD,
      r.2.mem ((c.tc : Thread Cert.KernelFfn0.nD Cert.KernelFfn0.τ).loc Cert.KernelFfn0.main_arg0) = m ((c.tc : Thread Cert.KernelFfn0.nD Cert.KernelFfn0.τ).loc Cert.KernelFfn0.main_arg0)
      ∧ r.2.mem ((c.tc : Thread Cert.KernelFfn0.nD Cert.KernelFfn0.τ).loc Cert.KernelFfn0.main_arg1) = m ((c.tc : Thread Cert.KernelFfn0.nD Cert.KernelFfn0.τ).loc Cert.KernelFfn0.main_arg1)
      ∧ r.2.mem ((c.tc : Thread Cert.KernelFfn0.nD Cert.KernelFfn0.τ).loc Cert.KernelFfn0.main_arg2) = m ((c.tc : Thread Cert.KernelFfn0.nD Cert.KernelFfn0.τ).loc Cert.KernelFfn0.main_arg2)
      ∧ r.2.mem ((c.tc : Thread Cert.KernelFfn0.nD Cert.KernelFfn0.τ).loc Cert.KernelFfn0.main_arg3) = m ((c.tc : Thread Cert.KernelFfn0.nD Cert.KernelFfn0.τ).loc Cert.KernelFfn0.main_arg3)
      ∧ r.2.mem ((c.tc : Thread Cert.KernelFfn0.nD Cert.KernelFfn0.τ).loc Cert.KernelFfn0.main_arg4) = m ((c.tc : Thread Cert.KernelFfn0.nD Cert.KernelFfn0.τ).loc Cert.KernelFfn0.main_arg4))
      ∧ r.2.sem = fun _ => 0)

def quiescent_KernelFfn0Ideal [hKernelFfn0Ideal : Cert.KernelFfn0Ideal.Facts] : Prop :=
  ∀ (m : (ℓ : Loc Cert.KernelFfn0Ideal.nD Cert.KernelFfn0Ideal.τ Cert.KernelFfn0Ideal.sig) → Buf (Elt Ideal) ℓ) (g : Dev Cert.KernelFfn0Ideal.nD → PrngReg), Pre_KernelFfn0Ideal m →
    θ_run (Cert.KernelFfn0Ideal.defs (F := Ideal)) (onTc (τ := Cert.KernelFfn0Ideal.τ) (Cert.KernelFfn0Ideal.main (F := Ideal))) ⟨m, fun _ => 0, g⟩ (fun r => (∀ c : Dev Cert.KernelFfn0Ideal.nD,
      r.2.mem ((c.tc : Thread Cert.KernelFfn0Ideal.nD Cert.KernelFfn0Ideal.τ).loc Cert.KernelFfn0Ideal.main_arg0) = m ((c.tc : Thread Cert.KernelFfn0Ideal.nD Cert.KernelFfn0Ideal.τ).loc Cert.KernelFfn0Ideal.main_arg0)
      ∧ r.2.mem ((c.tc : Thread Cert.KernelFfn0Ideal.nD Cert.KernelFfn0Ideal.τ).loc Cert.KernelFfn0Ideal.main_arg1) = m ((c.tc : Thread Cert.KernelFfn0Ideal.nD Cert.KernelFfn0Ideal.τ).loc Cert.KernelFfn0Ideal.main_arg1)
      ∧ r.2.mem ((c.tc : Thread Cert.KernelFfn0Ideal.nD Cert.KernelFfn0Ideal.τ).loc Cert.KernelFfn0Ideal.main_arg2) = m ((c.tc : Thread Cert.KernelFfn0Ideal.nD Cert.KernelFfn0Ideal.τ).loc Cert.KernelFfn0Ideal.main_arg2)
      ∧ r.2.mem ((c.tc : Thread Cert.KernelFfn0Ideal.nD Cert.KernelFfn0Ideal.τ).loc Cert.KernelFfn0Ideal.main_arg3) = m ((c.tc : Thread Cert.KernelFfn0Ideal.nD Cert.KernelFfn0Ideal.τ).loc Cert.KernelFfn0Ideal.main_arg3)
      ∧ r.2.mem ((c.tc : Thread Cert.KernelFfn0Ideal.nD Cert.KernelFfn0Ideal.τ).loc Cert.KernelFfn0Ideal.main_arg4) = m ((c.tc : Thread Cert.KernelFfn0Ideal.nD Cert.KernelFfn0Ideal.τ).loc Cert.KernelFfn0Ideal.main_arg4))
      ∧ r.2.sem = fun _ => 0)

def quiescent_ReferenceFfn0Ideal [hReferenceFfn0Ideal : Cert.ReferenceFfn0Ideal.Facts] : Prop :=
  ∀ (m : (ℓ : Loc Cert.ReferenceFfn0Ideal.nD Cert.ReferenceFfn0Ideal.τ Cert.ReferenceFfn0Ideal.sig) → Buf (Elt Ideal) ℓ) (g : Dev Cert.ReferenceFfn0Ideal.nD → PrngReg), Pre_ReferenceFfn0Ideal m →
    θ_run (Cert.ReferenceFfn0Ideal.defs (F := Ideal)) (onTc (τ := Cert.ReferenceFfn0Ideal.τ) (Cert.ReferenceFfn0Ideal.main (F := Ideal))) ⟨m, fun _ => 0, g⟩ (fun r => (∀ c : Dev Cert.ReferenceFfn0Ideal.nD,
      r.2.mem ((c.tc : Thread Cert.ReferenceFfn0Ideal.nD Cert.ReferenceFfn0Ideal.τ).loc Cert.ReferenceFfn0Ideal.main_arg0) = m ((c.tc : Thread Cert.ReferenceFfn0Ideal.nD Cert.ReferenceFfn0Ideal.τ).loc Cert.ReferenceFfn0Ideal.main_arg0)
      ∧ r.2.mem ((c.tc : Thread Cert.ReferenceFfn0Ideal.nD Cert.ReferenceFfn0Ideal.τ).loc Cert.ReferenceFfn0Ideal.main_arg1) = m ((c.tc : Thread Cert.ReferenceFfn0Ideal.nD Cert.ReferenceFfn0Ideal.τ).loc Cert.ReferenceFfn0Ideal.main_arg1)
      ∧ r.2.mem ((c.tc : Thread Cert.ReferenceFfn0Ideal.nD Cert.ReferenceFfn0Ideal.τ).loc Cert.ReferenceFfn0Ideal.main_arg2) = m ((c.tc : Thread Cert.ReferenceFfn0Ideal.nD Cert.ReferenceFfn0Ideal.τ).loc Cert.ReferenceFfn0Ideal.main_arg2)
      ∧ r.2.mem ((c.tc : Thread Cert.ReferenceFfn0Ideal.nD Cert.ReferenceFfn0Ideal.τ).loc Cert.ReferenceFfn0Ideal.main_arg3) = m ((c.tc : Thread Cert.ReferenceFfn0Ideal.nD Cert.ReferenceFfn0Ideal.τ).loc Cert.ReferenceFfn0Ideal.main_arg3)
      ∧ r.2.mem ((c.tc : Thread Cert.ReferenceFfn0Ideal.nD Cert.ReferenceFfn0Ideal.τ).loc Cert.ReferenceFfn0Ideal.main_arg4) = m ((c.tc : Thread Cert.ReferenceFfn0Ideal.nD Cert.ReferenceFfn0Ideal.τ).loc Cert.ReferenceFfn0Ideal.main_arg4))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2))
      ∧ r.2.sem = fun _ => 0)

def quiescent_KernelProjS [hKernelProjS : Cert.KernelProjS.Facts] : Prop :=
  ∀ (m : (ℓ : Loc Cert.KernelProjS.nD Cert.KernelProjS.τ Cert.KernelProjS.sig) → Buf (Elt Bits) ℓ) (g : Dev Cert.KernelProjS.nD → PrngReg), Pre_KernelProjS m →
    θ_run (Cert.KernelProjS.defs (F := Bits)) (onTc (τ := Cert.KernelProjS.τ) (Cert.KernelProjS.main (F := Bits))) ⟨m, fun _ => 0, g⟩ (fun r => (∀ c : Dev Cert.KernelProjS.nD,
      r.2.mem ((c.tc : Thread Cert.KernelProjS.nD Cert.KernelProjS.τ).loc Cert.KernelProjS.main_arg0) = m ((c.tc : Thread Cert.KernelProjS.nD Cert.KernelProjS.τ).loc Cert.KernelProjS.main_arg0)
      ∧ r.2.mem ((c.tc : Thread Cert.KernelProjS.nD Cert.KernelProjS.τ).loc Cert.KernelProjS.main_arg1) = m ((c.tc : Thread Cert.KernelProjS.nD Cert.KernelProjS.τ).loc Cert.KernelProjS.main_arg1)
      ∧ r.2.mem ((c.tc : Thread Cert.KernelProjS.nD Cert.KernelProjS.τ).loc Cert.KernelProjS.main_arg2) = m ((c.tc : Thread Cert.KernelProjS.nD Cert.KernelProjS.τ).loc Cert.KernelProjS.main_arg2))
      ∧ r.2.sem = fun _ => 0)

def quiescent_KernelProjSIdeal [hKernelProjSIdeal : Cert.KernelProjSIdeal.Facts] : Prop :=
  ∀ (m : (ℓ : Loc Cert.KernelProjSIdeal.nD Cert.KernelProjSIdeal.τ Cert.KernelProjSIdeal.sig) → Buf (Elt Ideal) ℓ) (g : Dev Cert.KernelProjSIdeal.nD → PrngReg), Pre_KernelProjSIdeal m →
    θ_run (Cert.KernelProjSIdeal.defs (F := Ideal)) (onTc (τ := Cert.KernelProjSIdeal.τ) (Cert.KernelProjSIdeal.main (F := Ideal))) ⟨m, fun _ => 0, g⟩ (fun r => (∀ c : Dev Cert.KernelProjSIdeal.nD,
      r.2.mem ((c.tc : Thread Cert.KernelProjSIdeal.nD Cert.KernelProjSIdeal.τ).loc Cert.KernelProjSIdeal.main_arg0) = m ((c.tc : Thread Cert.KernelProjSIdeal.nD Cert.KernelProjSIdeal.τ).loc Cert.KernelProjSIdeal.main_arg0)
      ∧ r.2.mem ((c.tc : Thread Cert.KernelProjSIdeal.nD Cert.KernelProjSIdeal.τ).loc Cert.KernelProjSIdeal.main_arg1) = m ((c.tc : Thread Cert.KernelProjSIdeal.nD Cert.KernelProjSIdeal.τ).loc Cert.KernelProjSIdeal.main_arg1)
      ∧ r.2.mem ((c.tc : Thread Cert.KernelProjSIdeal.nD Cert.KernelProjSIdeal.τ).loc Cert.KernelProjSIdeal.main_arg2) = m ((c.tc : Thread Cert.KernelProjSIdeal.nD Cert.KernelProjSIdeal.τ).loc Cert.KernelProjSIdeal.main_arg2))
      ∧ r.2.sem = fun _ => 0)

def quiescent_ReferenceProjSIdeal [hReferenceProjSIdeal : Cert.ReferenceProjSIdeal.Facts] : Prop :=
  ∀ (m : (ℓ : Loc Cert.ReferenceProjSIdeal.nD Cert.ReferenceProjSIdeal.τ Cert.ReferenceProjSIdeal.sig) → Buf (Elt Ideal) ℓ) (g : Dev Cert.ReferenceProjSIdeal.nD → PrngReg), Pre_ReferenceProjSIdeal m →
    θ_run (Cert.ReferenceProjSIdeal.defs (F := Ideal)) (onTc (τ := Cert.ReferenceProjSIdeal.τ) (Cert.ReferenceProjSIdeal.main (F := Ideal))) ⟨m, fun _ => 0, g⟩ (fun r => (∀ c : Dev Cert.ReferenceProjSIdeal.nD,
      r.2.mem ((c.tc : Thread Cert.ReferenceProjSIdeal.nD Cert.ReferenceProjSIdeal.τ).loc Cert.ReferenceProjSIdeal.main_arg0) = m ((c.tc : Thread Cert.ReferenceProjSIdeal.nD Cert.ReferenceProjSIdeal.τ).loc Cert.ReferenceProjSIdeal.main_arg0)
      ∧ r.2.mem ((c.tc : Thread Cert.ReferenceProjSIdeal.nD Cert.ReferenceProjSIdeal.τ).loc Cert.ReferenceProjSIdeal.main_arg1) = m ((c.tc : Thread Cert.ReferenceProjSIdeal.nD Cert.ReferenceProjSIdeal.τ).loc Cert.ReferenceProjSIdeal.main_arg1)
      ∧ r.2.mem ((c.tc : Thread Cert.ReferenceProjSIdeal.nD Cert.ReferenceProjSIdeal.τ).loc Cert.ReferenceProjSIdeal.main_arg2) = m ((c.tc : Thread Cert.ReferenceProjSIdeal.nD Cert.ReferenceProjSIdeal.τ).loc Cert.ReferenceProjSIdeal.main_arg2))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1)
      ∧ r.2.mem ((c.tc : Thread Cert.KernelQkv.nD Cert.KernelQkv.τ).loc Cert.KernelQkv.main_arg2) = m ((c.tc : Thread Cert.KernelQkv.nD Cert.KernelQkv.τ).loc Cert.KernelQkv.main_arg2)
      ∧ r.2.mem ((c.tc : Thread Cert.KernelQkv.nD Cert.KernelQkv.τ).loc Cert.KernelQkv.main_arg3) = m ((c.tc : Thread Cert.KernelQkv.nD Cert.KernelQkv.τ).loc Cert.KernelQkv.main_arg3)
      ∧ r.2.mem ((c.tc : Thread Cert.KernelQkv.nD Cert.KernelQkv.τ).loc Cert.KernelQkv.main_arg4) = m ((c.tc : Thread Cert.KernelQkv.nD Cert.KernelQkv.τ).loc Cert.KernelQkv.main_arg4))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
      ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
      ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
      ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1)
      ∧ r.2.mem ((c.tc : Thread Cert.ReferenceQkvIdeal.nD Cert.ReferenceQkvIdeal.τ).loc Cert.ReferenceQkvIdeal.main_arg2) = m ((c.tc : Thread Cert.ReferenceQkvIdeal.nD Cert.ReferenceQkvIdeal.τ).loc Cert.ReferenceQkvIdeal.main_arg2)
      ∧ r.2.mem ((c.tc : Thread Cert.ReferenceQkvIdeal.nD Cert.ReferenceQkvIdeal.τ).loc Cert.ReferenceQkvIdeal.main_arg3) = m ((c.tc : Thread Cert.ReferenceQkvIdeal.nD Cert.ReferenceQkvIdeal.τ).loc Cert.ReferenceQkvIdeal.main_arg3)
      ∧ r.2.mem ((c.tc : Thread Cert.ReferenceQkvIdeal.nD Cert.ReferenceQkvIdeal.τ).loc Cert.ReferenceQkvIdeal.main_arg4) = m ((c.tc : Thread Cert.ReferenceQkvIdeal.nD Cert.ReferenceQkvIdeal.τ).loc Cert.ReferenceQkvIdeal.main_arg4))
      ∧ r.2.sem = fun _ => 0)

def quiescent_KernelQkv1 [hKernelQkv1 : Cert.KernelQkv1.Facts] : Prop :=
  ∀ (m : (ℓ : Loc Cert.KernelQkv1.nD Cert.KernelQkv1.τ Cert.KernelQkv1.sig) → Buf (Elt Bits) ℓ) (g : Dev Cert.KernelQkv1.nD → PrngReg), Pre_KernelQkv1 m →
    θ_run (Cert.KernelQkv1.defs (F := Bits)) (onTc (τ := Cert.KernelQkv1.τ) (Cert.KernelQkv1.main (F := Bits))) ⟨m, fun _ => 0, g⟩ (fun r => (∀ c : Dev Cert.KernelQkv1.nD,
      r.2.mem ((c.tc : Thread Cert.KernelQkv1.nD Cert.KernelQkv1.τ).loc Cert.KernelQkv1.main_arg0) = m ((c.tc : Thread Cert.KernelQkv1.nD Cert.KernelQkv1.τ).loc Cert.KernelQkv1.main_arg0)
      ∧ r.2.mem ((c.tc : Thread Cert.KernelQkv1.nD Cert.KernelQkv1.τ).loc Cert.KernelQkv1.main_arg1) = m ((c.tc : Thread Cert.KernelQkv1.nD Cert.KernelQkv1.τ).loc Cert.KernelQkv1.main_arg1)
      ∧ r.2.mem ((c.tc : Thread Cert.KernelQkv1.nD Cert.KernelQkv1.τ).loc Cert.KernelQkv1.main_arg2) = m ((c.tc : Thread Cert.KernelQkv1.nD Cert.KernelQkv1.τ).loc Cert.KernelQkv1.main_arg2))
      ∧ r.2.sem = fun _ => 0)

def quiescent_KernelQkv1Ideal [hKernelQkv1Ideal : Cert.KernelQkv1Ideal.Facts] : Prop :=
  ∀ (m : (ℓ : Loc Cert.KernelQkv1Ideal.nD Cert.KernelQkv1Ideal.τ Cert.KernelQkv1Ideal.sig) → Buf (Elt Ideal) ℓ) (g : Dev Cert.KernelQkv1Ideal.nD → PrngReg), Pre_KernelQkv1Ideal m →
    θ_run (Cert.KernelQkv1Ideal.defs (F := Ideal)) (onTc (τ := Cert.KernelQkv1Ideal.τ) (Cert.KernelQkv1Ideal.main (F := Ideal))) ⟨m, fun _ => 0, g⟩ (fun r => (∀ c : Dev Cert.KernelQkv1Ideal.nD,
      r.2.mem ((c.tc : Thread Cert.KernelQkv1Ideal.nD Cert.KernelQkv1Ideal.τ).loc Cert.KernelQkv1Ideal.main_arg0) = m ((c.tc : Thread Cert.KernelQkv1Ideal.nD Cert.KernelQkv1Ideal.τ).loc Cert.KernelQkv1Ideal.main_arg0)
      ∧ r.2.mem ((c.tc : Thread Cert.KernelQkv1Ideal.nD Cert.KernelQkv1Ideal.τ).loc Cert.KernelQkv1Ideal.main_arg1) = m ((c.tc : Thread Cert.KernelQkv1Ideal.nD Cert.KernelQkv1Ideal.τ).loc Cert.KernelQkv1Ideal.main_arg1)
      ∧ r.2.mem ((c.tc : Thread Cert.KernelQkv1Ideal.nD Cert.KernelQkv1Ideal.τ).loc Cert.KernelQkv1Ideal.main_arg2) = m ((c.tc : Thread Cert.KernelQkv1Ideal.nD Cert.KernelQkv1Ideal.τ).loc Cert.KernelQkv1Ideal.main_arg2))
      ∧ r.2.sem = fun _ => 0)

def quiescent_ReferenceQkv1Ideal [hReferenceQkv1Ideal : Cert.ReferenceQkv1Ideal.Facts] : Prop :=
  ∀ (m : (ℓ : Loc Cert.ReferenceQkv1Ideal.nD Cert.ReferenceQkv1Ideal.τ Cert.ReferenceQkv1Ideal.sig) → Buf (Elt Ideal) ℓ) (g : Dev Cert.ReferenceQkv1Ideal.nD → PrngReg), Pre_ReferenceQkv1Ideal m →
    θ_run (Cert.ReferenceQkv1Ideal.defs (F := Ideal)) (onTc (τ := Cert.ReferenceQkv1Ideal.τ) (Cert.ReferenceQkv1Ideal.main (F := Ideal))) ⟨m, fun _ => 0, g⟩ (fun r => (∀ c : Dev Cert.ReferenceQkv1Ideal.nD,
      r.2.mem ((c.tc : Thread Cert.ReferenceQkv1Ideal.nD Cert.ReferenceQkv1Ideal.τ).loc Cert.ReferenceQkv1Ideal.main_arg0) = m ((c.tc : Thread Cert.ReferenceQkv1Ideal.nD Cert.ReferenceQkv1Ideal.τ).loc Cert.ReferenceQkv1Ideal.main_arg0)
      ∧ r.2.mem ((c.tc : Thread Cert.ReferenceQkv1Ideal.nD Cert.ReferenceQkv1Ideal.τ).loc Cert.ReferenceQkv1Ideal.main_arg1) = m ((c.tc : Thread Cert.ReferenceQkv1Ideal.nD Cert.ReferenceQkv1Ideal.τ).loc Cert.ReferenceQkv1Ideal.main_arg1)
      ∧ r.2.mem ((c.tc : Thread Cert.ReferenceQkv1Ideal.nD Cert.ReferenceQkv1Ideal.τ).loc Cert.ReferenceQkv1Ideal.main_arg2) = m ((c.tc : Thread Cert.ReferenceQkv1Ideal.nD Cert.ReferenceQkv1Ideal.τ).loc Cert.ReferenceQkv1Ideal.main_arg2))
      ∧ r.2.sem = fun _ => 0)

def preserves_Kernel_KernelIdeal : Prop :=
  IdealRules.named_const.Statement Cert.KernelIdeal.κ "scale_log2e" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "masked" .f32 0xF149F2CA#32 ⊥

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)
      ∧ m' ((c.tc : Thread Cert.ReferenceFfnIdeal.nD Cert.ReferenceFfnIdeal.τ).loc Cert.ReferenceFfnIdeal.main_arg6) = m ((c.tc : Thread Cert.KernelFfnIdeal.nD Cert.KernelFfnIdeal.τ).loc Cert.KernelFfnIdeal.main_arg6)
      ∧ m' ((c.tc : Thread Cert.ReferenceFfnIdeal.nD Cert.ReferenceFfnIdeal.τ).loc Cert.ReferenceFfnIdeal.main_arg7) = m ((c.tc : Thread Cert.KernelFfnIdeal.nD Cert.KernelFfnIdeal.τ).loc Cert.KernelFfnIdeal.main_arg7)) →
    ∃ (v0 : (c : Dev Cert.KernelFfnIdeal.nD) → Buf (Elt Ideal) ((c.tc : Thread Cert.KernelFfnIdeal.nD Cert.KernelFfnIdeal.τ).loc Cert.KernelFfnIdeal.main_v10)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v10) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
          ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
          ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v46) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5)
          ∧ r.2.mem ((c.tc : Thread Cert.ReferenceFfnIdeal.nD Cert.ReferenceFfnIdeal.τ).loc Cert.ReferenceFfnIdeal.main_arg6) = m' ((c.tc : Thread Cert.ReferenceFfnIdeal.nD Cert.ReferenceFfnIdeal.τ).loc Cert.ReferenceFfnIdeal.main_arg6)
          ∧ r.2.mem ((c.tc : Thread Cert.ReferenceFfnIdeal.nD Cert.ReferenceFfnIdeal.τ).loc Cert.ReferenceFfnIdeal.main_arg7) = m' ((c.tc : Thread Cert.ReferenceFfnIdeal.nD Cert.ReferenceFfnIdeal.τ).loc Cert.ReferenceFfnIdeal.main_arg7))

def preserves_KernelFfnA_KernelFfnAIdeal : Prop :=
  True

def algebraic_KernelFfnAIdeal_ReferenceFfnAIdeal [hKernelFfnAIdeal : Cert.KernelFfnAIdeal.Facts] [hReferenceFfnAIdeal : Cert.ReferenceFfnAIdeal.Facts] : Prop :=
  ∀ (m : (ℓ : Loc Cert.KernelFfnAIdeal.nD Cert.KernelFfnAIdeal.τ Cert.KernelFfnAIdeal.sig) → Buf (Elt Ideal) ℓ) (g : Dev Cert.KernelFfnAIdeal.nD → PrngReg)
    (m' : (ℓ : Loc Cert.ReferenceFfnAIdeal.nD Cert.ReferenceFfnAIdeal.τ Cert.ReferenceFfnAIdeal.sig) → Buf (Elt Ideal) ℓ) (g' : Dev Cert.ReferenceFfnAIdeal.nD → PrngReg), Pre_KernelFfnAIdeal m →
    (∀ c : Dev Cert.KernelFfnAIdeal.nD,
      m' ((c.tc : Thread Cert.ReferenceFfnAIdeal.nD Cert.ReferenceFfnAIdeal.τ).loc Cert.ReferenceFfnAIdeal.main_arg0) = m ((c.tc : Thread Cert.KernelFfnAIdeal.nD Cert.KernelFfnAIdeal.τ).loc Cert.KernelFfnAIdeal.main_arg0)
      ∧ m' ((c.tc : Thread Cert.ReferenceFfnAIdeal.nD Cert.ReferenceFfnAIdeal.τ).loc Cert.ReferenceFfnAIdeal.main_arg1) = m ((c.tc : Thread Cert.KernelFfnAIdeal.nD Cert.KernelFfnAIdeal.τ).loc Cert.KernelFfnAIdeal.main_arg1)
      ∧ m' ((c.tc : Thread Cert.ReferenceFfnAIdeal.nD Cert.ReferenceFfnAIdeal.τ).loc Cert.ReferenceFfnAIdeal.main_arg2) = m ((c.tc : Thread Cert.KernelFfnAIdeal.nD Cert.KernelFfnAIdeal.τ).loc Cert.KernelFfnAIdeal.main_arg2)
      ∧ m' ((c.tc : Thread Cert.ReferenceFfnAIdeal.nD Cert.ReferenceFfnAIdeal.τ).loc Cert.ReferenceFfnAIdeal.main_arg3) = m ((c.tc : Thread Cert.KernelFfnAIdeal.nD Cert.KernelFfnAIdeal.τ).loc Cert.KernelFfnAIdeal.main_arg3)) →
    ∃ (v0 : (c : Dev Cert.KernelFfnAIdeal.nD) → Buf (Elt Ideal) ((c.tc : Thread Cert.KernelFfnAIdeal.nD Cert.KernelFfnAIdeal.τ).loc Cert.KernelFfnAIdeal.main_v5)),
      θ_run (Cert.KernelFfnAIdeal.defs (F := Ideal)) (onTc (τ := Cert.KernelFfnAIdeal.τ) (Cert.KernelFfnAIdeal.main (F := Ideal))) ⟨m, fun _ => 0, g⟩ (fun r => ∀ c : Dev Cert.KernelFfnAIdeal.nD,
          r.2.mem ((c.tc : Thread Cert.KernelFfnAIdeal.nD Cert.KernelFfnAIdeal.τ).loc Cert.KernelFfnAIdeal.main_v5) = v0 c
          ∧ r.2.mem ((c.tc : Thread Cert.KernelFfnAIdeal.nD Cert.KernelFfnAIdeal.τ).loc Cert.KernelFfnAIdeal.main_arg0) = m ((c.tc : Thread Cert.KernelFfnAIdeal.nD Cert.KernelFfnAIdeal.τ).loc Cert.KernelFfnAIdeal.main_arg0)
          ∧ r.2.mem ((c.tc : Thread Cert.KernelFfnAIdeal.nD Cert.KernelFfnAIdeal.τ).loc Cert.KernelFfnAIdeal.main_arg1) = m ((c.tc : Thread Cert.KernelFfnAIdeal.nD Cert.KernelFfnAIdeal.τ).loc Cert.KernelFfnAIdeal.main_arg1)
          ∧ r.2.mem ((c.tc : Thread Cert.KernelFfnAIdeal.nD Cert.KernelFfnAIdeal.τ).loc Cert.KernelFfnAIdeal.main_arg2) = m ((c.tc : Thread Cert.KernelFfnAIdeal.nD Cert.KernelFfnAIdeal.τ).loc Cert.KernelFfnAIdeal.main_arg2)
          ∧ r.2.mem ((c.tc : Thread Cert.KernelFfnAIdeal.nD Cert.KernelFfnAIdeal.τ).loc Cert.KernelFfnAIdeal.main_arg3) = m ((c.tc : Thread Cert.KernelFfnAIdeal.nD Cert.KernelFfnAIdeal.τ).loc Cert.KernelFfnAIdeal.main_arg3))
      ∧ θ_run (Cert.ReferenceFfnAIdeal.defs (F := Ideal)) (onTc (τ := Cert.ReferenceFfnAIdeal.τ) (Cert.ReferenceFfnAIdeal.main (F := Ideal))) ⟨m', fun _ => 0, g'⟩ (fun r => ∀ c : Dev Cert.ReferenceFfnAIdeal.nD,
          r.2.mem ((c.tc : Thread Cert.ReferenceFfnAIdeal.nD Cert.ReferenceFfnAIdeal.τ).loc Cert.ReferenceFfnAIdeal.main_v27) = v0 c
          ∧ r.2.mem ((c.tc : Thread Cert.ReferenceFfnAIdeal.nD Cert.ReferenceFfnAIdeal.τ).loc Cert.ReferenceFfnAIdeal.main_arg0) = m' ((c.tc : Thread Cert.ReferenceFfnAIdeal.nD Cert.ReferenceFfnAIdeal.τ).loc Cert.ReferenceFfnAIdeal.main_arg0)
          ∧ r.2.mem ((c.tc : Thread Cert.ReferenceFfnAIdeal.nD Cert.ReferenceFfnAIdeal.τ).loc Cert.ReferenceFfnAIdeal.main_arg1) = m' ((c.tc : Thread Cert.ReferenceFfnAIdeal.nD Cert.ReferenceFfnAIdeal.τ).loc Cert.ReferenceFfnAIdeal.main_arg1)
          ∧ r.2.mem ((c.tc : Thread Cert.ReferenceFfnAIdeal.nD Cert.ReferenceFfnAIdeal.τ).loc Cert.ReferenceFfnAIdeal.main_arg2) = m' ((c.tc : Thread Cert.ReferenceFfnAIdeal.nD Cert.ReferenceFfnAIdeal.τ).loc Cert.ReferenceFfnAIdeal.main_arg2)
          ∧ r.2.mem ((c.tc : Thread Cert.ReferenceFfnAIdeal.nD Cert.ReferenceFfnAIdeal.τ).loc Cert.ReferenceFfnAIdeal.main_arg3) = m' ((c.tc : Thread Cert.ReferenceFfnAIdeal.nD Cert.ReferenceFfnAIdeal.τ).loc Cert.ReferenceFfnAIdeal.main_arg3))

def preserves_KernelFfnB_KernelFfnBIdeal : Prop :=
  True

def algebraic_KernelFfnBIdeal_ReferenceFfnBIdeal [hKernelFfnBIdeal : Cert.KernelFfnBIdeal.Facts] [hReferenceFfnBIdeal : Cert.ReferenceFfnBIdeal.Facts] : Prop :=
  ∀ (m : (ℓ : Loc Cert.KernelFfnBIdeal.nD Cert.KernelFfnBIdeal.τ Cert.KernelFfnBIdeal.sig) → Buf (Elt Ideal) ℓ) (g : Dev Cert.KernelFfnBIdeal.nD → PrngReg)
    (m' : (ℓ : Loc Cert.ReferenceFfnBIdeal.nD Cert.ReferenceFfnBIdeal.τ Cert.ReferenceFfnBIdeal.sig) → Buf (Elt Ideal) ℓ) (g' : Dev Cert.ReferenceFfnBIdeal.nD → PrngReg), Pre_KernelFfnBIdeal m →
    (∀ c : Dev Cert.KernelFfnBIdeal.nD,
      m' ((c.tc : Thread Cert.ReferenceFfnBIdeal.nD Cert.ReferenceFfnBIdeal.τ).loc Cert.ReferenceFfnBIdeal.main_arg0) = m ((c.tc : Thread Cert.KernelFfnBIdeal.nD Cert.KernelFfnBIdeal.τ).loc Cert.KernelFfnBIdeal.main_arg0)
      ∧ m' ((c.tc : Thread Cert.ReferenceFfnBIdeal.nD Cert.ReferenceFfnBIdeal.τ).loc Cert.ReferenceFfnBIdeal.main_arg1) = m ((c.tc : Thread Cert.KernelFfnBIdeal.nD Cert.KernelFfnBIdeal.τ).loc Cert.KernelFfnBIdeal.main_arg1)
      ∧ m' ((c.tc : Thread Cert.ReferenceFfnBIdeal.nD Cert.ReferenceFfnBIdeal.τ).loc Cert.ReferenceFfnBIdeal.main_arg2) = m ((c.tc : Thread Cert.KernelFfnBIdeal.nD Cert.KernelFfnBIdeal.τ).loc Cert.KernelFfnBIdeal.main_arg2)
      ∧ m' ((c.tc : Thread Cert.ReferenceFfnBIdeal.nD Cert.ReferenceFfnBIdeal.τ).loc Cert.ReferenceFfnBIdeal.main_arg3) = m ((c.tc : Thread Cert.KernelFfnBIdeal.nD Cert.KernelFfnBIdeal.τ).loc Cert.KernelFfnBIdeal.main_arg3)
      ∧ m' ((c.tc : Thread Cert.ReferenceFfnBIdeal.nD Cert.ReferenceFfnBIdeal.τ).loc Cert.ReferenceFfnBIdeal.main_arg4) = m ((c.tc : Thread Cert.KernelFfnBIdeal.nD Cert.KernelFfnBIdeal.τ).loc Cert.KernelFfnBIdeal.main_arg4)
      ∧ m' ((c.tc : Thread Cert.ReferenceFfnBIdeal.nD Cert.ReferenceFfnBIdeal.τ).loc Cert.ReferenceFfnBIdeal.main_arg5) = m ((c.tc : Thread Cert.KernelFfnBIdeal.nD Cert.KernelFfnBIdeal.τ).loc Cert.KernelFfnBIdeal.main_arg5)
      ∧ m' ((c.tc : Thread Cert.ReferenceFfnBIdeal.nD Cert.ReferenceFfnBIdeal.τ).loc Cert.ReferenceFfnBIdeal.main_arg6) = m ((c.tc : Thread Cert.KernelFfnBIdeal.nD Cert.KernelFfnBIdeal.τ).loc Cert.KernelFfnBIdeal.main_arg6)) →
    ∃ (v0 : (c : Dev Cert.KernelFfnBIdeal.nD) → Buf (Elt Ideal) ((c.tc : Thread Cert.KernelFfnBIdeal.nD Cert.KernelFfnBIdeal.τ).loc Cert.KernelFfnBIdeal.main_v9)),
      θ_run (Cert.KernelFfnBIdeal.defs (F := Ideal)) (onTc (τ := Cert.KernelFfnBIdeal.τ) (Cert.KernelFfnBIdeal.main (F := Ideal))) ⟨m, fun _ => 0, g⟩ (fun r => ∀ c : Dev Cert.KernelFfnBIdeal.nD,
          r.2.mem ((c.tc : Thread Cert.KernelFfnBIdeal.nD Cert.KernelFfnBIdeal.τ).loc Cert.KernelFfnBIdeal.main_v9) = v0 c
          ∧ r.2.mem ((c.tc : Thread Cert.KernelFfnBIdeal.nD Cert.KernelFfnBIdeal.τ).loc Cert.KernelFfnBIdeal.main_arg0) = m ((c.tc : Thread Cert.KernelFfnBIdeal.nD Cert.KernelFfnBIdeal.τ).loc Cert.KernelFfnBIdeal.main_arg0)
          ∧ r.2.mem ((c.tc : Thread Cert.KernelFfnBIdeal.nD Cert.KernelFfnBIdeal.τ).loc Cert.KernelFfnBIdeal.main_arg1) = m ((c.tc : Thread Cert.KernelFfnBIdeal.nD Cert.KernelFfnBIdeal.τ).loc Cert.KernelFfnBIdeal.main_arg1)
          ∧ r.2.mem ((c.tc : Thread Cert.KernelFfnBIdeal.nD Cert.KernelFfnBIdeal.τ).loc Cert.KernelFfnBIdeal.main_arg2) = m ((c.tc : Thread Cert.KernelFfnBIdeal.nD Cert.KernelFfnBIdeal.τ).loc Cert.KernelFfnBIdeal.main_arg2)
          ∧ r.2.mem ((c.tc : Thread Cert.KernelFfnBIdeal.nD Cert.KernelFfnBIdeal.τ).loc Cert.KernelFfnBIdeal.main_arg3) = m ((c.tc : Thread Cert.KernelFfnBIdeal.nD Cert.KernelFfnBIdeal.τ).loc Cert.KernelFfnBIdeal.main_arg3)
          ∧ r.2.mem ((c.tc : Thread Cert.KernelFfnBIdeal.nD Cert.KernelFfnBIdeal.τ).loc Cert.KernelFfnBIdeal.main_arg4) = m ((c.tc : Thread Cert.KernelFfnBIdeal.nD Cert.KernelFfnBIdeal.τ).loc Cert.KernelFfnBIdeal.main_arg4)
          ∧ r.2.mem ((c.tc : Thread Cert.KernelFfnBIdeal.nD Cert.KernelFfnBIdeal.τ).loc Cert.KernelFfnBIdeal.main_arg5) = m ((c.tc : Thread Cert.KernelFfnBIdeal.nD Cert.KernelFfnBIdeal.τ).loc Cert.KernelFfnBIdeal.main_arg5)
          ∧ r.2.mem ((c.tc : Thread Cert.KernelFfnBIdeal.nD Cert.KernelFfnBIdeal.τ).loc Cert.KernelFfnBIdeal.main_arg6) = m ((c.tc : Thread Cert.KernelFfnBIdeal.nD Cert.KernelFfnBIdeal.τ).loc Cert.KernelFfnBIdeal.main_arg6))
      ∧ θ_run (Cert.ReferenceFfnBIdeal.defs (F := Ideal)) (onTc (τ := Cert.ReferenceFfnBIdeal.τ) (Cert.ReferenceFfnBIdeal.main (F := Ideal))) ⟨m', fun _ => 0, g'⟩ (fun r => ∀ c : Dev Cert.ReferenceFfnBIdeal.nD,
          r.2.mem ((c.tc : Thread Cert.ReferenceFfnBIdeal.nD Cert.ReferenceFfnBIdeal.τ).loc Cert.ReferenceFfnBIdeal.main_v33) = v0 c
          ∧ r.2.mem ((c.tc : Thread Cert.ReferenceFfnBIdeal.nD Cert.ReferenceFfnBIdeal.τ).loc Cert.ReferenceFfnBIdeal.main_arg0) = m' ((c.tc : Thread Cert.ReferenceFfnBIdeal.nD Cert.ReferenceFfnBIdeal.τ).loc Cert.ReferenceFfnBIdeal.main_arg0)
          ∧ r.2.mem ((c.tc : Thread Cert.ReferenceFfnBIdeal.nD Cert.ReferenceFfnBIdeal.τ).loc Cert.ReferenceFfnBIdeal.main_arg1) = m' ((c.tc : Thread Cert.ReferenceFfnBIdeal.nD Cert.ReferenceFfnBIdeal.τ).loc Cert.ReferenceFfnBIdeal.main_arg1)
          ∧ r.2.mem ((c.tc : Thread Cert.ReferenceFfnBIdeal.nD Cert.ReferenceFfnBIdeal.τ).loc Cert.ReferenceFfnBIdeal.main_arg2) = m' ((c.tc : Thread Cert.ReferenceFfnBIdeal.nD Cert.ReferenceFfnBIdeal.τ).loc Cert.ReferenceFfnBIdeal.main_arg2)
          ∧ r.2.mem ((c.tc : Thread Cert.ReferenceFfnBIdeal.nD Cert.ReferenceFfnBIdeal.τ).loc Cert.ReferenceFfnBIdeal.main_arg3) = m' ((c.tc : Thread Cert.ReferenceFfnBIdeal.nD Cert.ReferenceFfnBIdeal.τ).loc Cert.ReferenceFfnBIdeal.main_arg3)
          ∧ r.2.mem ((c.tc : Thread Cert.ReferenceFfnBIdeal.nD Cert.ReferenceFfnBIdeal.τ).loc Cert.ReferenceFfnBIdeal.main_arg4) = m' ((c.tc : Thread Cert.ReferenceFfnBIdeal.nD Cert.ReferenceFfnBIdeal.τ).loc Cert.ReferenceFfnBIdeal.main_arg4)
          ∧ r.2.mem ((c.tc : Thread Cert.ReferenceFfnBIdeal.nD Cert.ReferenceFfnBIdeal.τ).loc Cert.ReferenceFfnBIdeal.main_arg5) = m' ((c.tc : Thread Cert.ReferenceFfnBIdeal.nD Cert.ReferenceFfnBIdeal.τ).loc Cert.ReferenceFfnBIdeal.main_arg5)
          ∧ r.2.mem ((c.tc : Thread Cert.ReferenceFfnBIdeal.nD Cert.ReferenceFfnBIdeal.τ).loc Cert.ReferenceFfnBIdeal.main_arg6) = m' ((c.tc : Thread Cert.ReferenceFfnBIdeal.nD Cert.ReferenceFfnBIdeal.τ).loc Cert.ReferenceFfnBIdeal.main_arg6))

def preserves_KernelFfn0_KernelFfn0Ideal : Prop :=
  True

def algebraic_KernelFfn0Ideal_ReferenceFfn0Ideal [hKernelFfn0Ideal : Cert.KernelFfn0Ideal.Facts] [hReferenceFfn0Ideal : Cert.ReferenceFfn0Ideal.Facts] : Prop :=
  ∀ (m : (ℓ : Loc Cert.KernelFfn0Ideal.nD Cert.KernelFfn0Ideal.τ Cert.KernelFfn0Ideal.sig) → Buf (Elt Ideal) ℓ) (g : Dev Cert.KernelFfn0Ideal.nD → PrngReg)
    (m' : (ℓ : Loc Cert.ReferenceFfn0Ideal.nD Cert.ReferenceFfn0Ideal.τ Cert.ReferenceFfn0Ideal.sig) → Buf (Elt Ideal) ℓ) (g' : Dev Cert.ReferenceFfn0Ideal.nD → PrngReg), Pre_KernelFfn0Ideal m →
    (∀ c : Dev Cert.KernelFfn0Ideal.nD,
      m' ((c.tc : Thread Cert.ReferenceFfn0Ideal.nD Cert.ReferenceFfn0Ideal.τ).loc Cert.ReferenceFfn0Ideal.main_arg0) = m ((c.tc : Thread Cert.KernelFfn0Ideal.nD Cert.KernelFfn0Ideal.τ).loc Cert.KernelFfn0Ideal.main_arg0)
      ∧ m' ((c.tc : Thread Cert.ReferenceFfn0Ideal.nD Cert.ReferenceFfn0Ideal.τ).loc Cert.ReferenceFfn0Ideal.main_arg1) = m ((c.tc : Thread Cert.KernelFfn0Ideal.nD Cert.KernelFfn0Ideal.τ).loc Cert.KernelFfn0Ideal.main_arg1)
      ∧ m' ((c.tc : Thread Cert.ReferenceFfn0Ideal.nD Cert.ReferenceFfn0Ideal.τ).loc Cert.ReferenceFfn0Ideal.main_arg2) = m ((c.tc : Thread Cert.KernelFfn0Ideal.nD Cert.KernelFfn0Ideal.τ).loc Cert.KernelFfn0Ideal.main_arg2)
      ∧ m' ((c.tc : Thread Cert.ReferenceFfn0Ideal.nD Cert.ReferenceFfn0Ideal.τ).loc Cert.ReferenceFfn0Ideal.main_arg3) = m ((c.tc : Thread Cert.KernelFfn0Ideal.nD Cert.KernelFfn0Ideal.τ).loc Cert.KernelFfn0Ideal.main_arg3)
      ∧ m' ((c.tc : Thread Cert.ReferenceFfn0Ideal.nD Cert.ReferenceFfn0Ideal.τ).loc Cert.ReferenceFfn0Ideal.main_arg4) = m ((c.tc : Thread Cert.KernelFfn0Ideal.nD Cert.KernelFfn0Ideal.τ).loc Cert.KernelFfn0Ideal.main_arg4)) →
    ∃ (v0 : (c : Dev Cert.KernelFfn0Ideal.nD) → Buf (Elt Ideal) ((c.tc : Thread Cert.KernelFfn0Ideal.nD Cert.KernelFfn0Ideal.τ).loc Cert.KernelFfn0Ideal.main_v5)),
      θ_run (Cert.KernelFfn0Ideal.defs (F := Ideal)) (onTc (τ := Cert.KernelFfn0Ideal.τ) (Cert.KernelFfn0Ideal.main (F := Ideal))) ⟨m, fun _ => 0, g⟩ (fun r => ∀ c : Dev Cert.KernelFfn0Ideal.nD,
          r.2.mem ((c.tc : Thread Cert.KernelFfn0Ideal.nD Cert.KernelFfn0Ideal.τ).loc Cert.KernelFfn0Ideal.main_v5) = v0 c
          ∧ r.2.mem ((c.tc : Thread Cert.KernelFfn0Ideal.nD Cert.KernelFfn0Ideal.τ).loc Cert.KernelFfn0Ideal.main_arg0) = m ((c.tc : Thread Cert.KernelFfn0Ideal.nD Cert.KernelFfn0Ideal.τ).loc Cert.KernelFfn0Ideal.main_arg0)
          ∧ r.2.mem ((c.tc : Thread Cert.KernelFfn0Ideal.nD Cert.KernelFfn0Ideal.τ).loc Cert.KernelFfn0Ideal.main_arg1) = m ((c.tc : Thread Cert.KernelFfn0Ideal.nD Cert.KernelFfn0Ideal.τ).loc Cert.KernelFfn0Ideal.main_arg1)
          ∧ r.2.mem ((c.tc : Thread Cert.KernelFfn0Ideal.nD Cert.KernelFfn0Ideal.τ).loc Cert.KernelFfn0Ideal.main_arg2) = m ((c.tc : Thread Cert.KernelFfn0Ideal.nD Cert.KernelFfn0Ideal.τ).loc Cert.KernelFfn0Ideal.main_arg2)
          ∧ r.2.mem ((c.tc : Thread Cert.KernelFfn0Ideal.nD Cert.KernelFfn0Ideal.τ).loc Cert.KernelFfn0Ideal.main_arg3) = m ((c.tc : Thread Cert.KernelFfn0Ideal.nD Cert.KernelFfn0Ideal.τ).loc Cert.KernelFfn0Ideal.main_arg3)
          ∧ r.2.mem ((c.tc : Thread Cert.KernelFfn0Ideal.nD Cert.KernelFfn0Ideal.τ).loc Cert.KernelFfn0Ideal.main_arg4) = m ((c.tc : Thread Cert.KernelFfn0Ideal.nD Cert.KernelFfn0Ideal.τ).loc Cert.KernelFfn0Ideal.main_arg4))
      ∧ θ_run (Cert.ReferenceFfn0Ideal.defs (F := Ideal)) (onTc (τ := Cert.ReferenceFfn0Ideal.τ) (Cert.ReferenceFfn0Ideal.main (F := Ideal))) ⟨m', fun _ => 0, g'⟩ (fun r => ∀ c : Dev Cert.ReferenceFfn0Ideal.nD,
          r.2.mem ((c.tc : Thread Cert.ReferenceFfn0Ideal.nD Cert.ReferenceFfn0Ideal.τ).loc Cert.ReferenceFfn0Ideal.main_v28) = v0 c
          ∧ r.2.mem ((c.tc : Thread Cert.ReferenceFfn0Ideal.nD Cert.ReferenceFfn0Ideal.τ).loc Cert.ReferenceFfn0Ideal.main_arg0) = m' ((c.tc : Thread Cert.ReferenceFfn0Ideal.nD Cert.ReferenceFfn0Ideal.τ).loc Cert.ReferenceFfn0Ideal.main_arg0)
          ∧ r.2.mem ((c.tc : Thread Cert.ReferenceFfn0Ideal.nD Cert.ReferenceFfn0Ideal.τ).loc Cert.ReferenceFfn0Ideal.main_arg1) = m' ((c.tc : Thread Cert.ReferenceFfn0Ideal.nD Cert.ReferenceFfn0Ideal.τ).loc Cert.ReferenceFfn0Ideal.main_arg1)
          ∧ r.2.mem ((c.tc : Thread Cert.ReferenceFfn0Ideal.nD Cert.ReferenceFfn0Ideal.τ).loc Cert.ReferenceFfn0Ideal.main_arg2) = m' ((c.tc : Thread Cert.ReferenceFfn0Ideal.nD Cert.ReferenceFfn0Ideal.τ).loc Cert.ReferenceFfn0Ideal.main_arg2)
          ∧ r.2.mem ((c.tc : Thread Cert.ReferenceFfn0Ideal.nD Cert.ReferenceFfn0Ideal.τ).loc Cert.ReferenceFfn0Ideal.main_arg3) = m' ((c.tc : Thread Cert.ReferenceFfn0Ideal.nD Cert.ReferenceFfn0Ideal.τ).loc Cert.ReferenceFfn0Ideal.main_arg3)
          ∧ r.2.mem ((c.tc : Thread Cert.ReferenceFfn0Ideal.nD Cert.ReferenceFfn0Ideal.τ).loc Cert.ReferenceFfn0Ideal.main_arg4) = m' ((c.tc : Thread Cert.ReferenceFfn0Ideal.nD Cert.ReferenceFfn0Ideal.τ).loc Cert.ReferenceFfn0Ideal.main_arg4))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)) →
    ∃ (v0 : (c : Dev Cert.KernelProjIdeal.nD) → Buf (Elt Ideal) ((c.tc : Thread Cert.KernelProjIdeal.nD Cert.KernelProjIdeal.τ).loc Cert.KernelProjIdeal.main_v6_0)) (v1 : (c : Dev Cert.KernelProjIdeal.nD) → Buf (Elt Ideal) ((c.tc : Thread Cert.KernelProjIdeal.nD Cert.KernelProjIdeal.τ).loc Cert.KernelProjIdeal.main_v6_1)) (v2 : (c : Dev Cert.KernelProjIdeal.nD) → Buf (Elt Ideal) ((c.tc : Thread Cert.KernelProjIdeal.nD Cert.KernelProjIdeal.τ).loc Cert.KernelProjIdeal.main_v6_2)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v6_0) = v0 c
          ∧ r.2.mem ((c.tc : Thread Cert.KernelProjIdeal.nD Cert.KernelProjIdeal.τ).loc Cert.KernelProjIdeal.main_v6_1) = v1 c
          ∧ r.2.mem ((c.tc : Thread Cert.KernelProjIdeal.nD Cert.KernelProjIdeal.τ).loc Cert.KernelProjIdeal.main_v6_2) = v2 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v18) = v0 c
          ∧ r.2.mem ((c.tc : Thread Cert.ReferenceProjIdeal.nD Cert.ReferenceProjIdeal.τ).loc Cert.ReferenceProjIdeal.main_v19) = v1 c
          ∧ r.2.mem ((c.tc : Thread Cert.ReferenceProjIdeal.nD Cert.ReferenceProjIdeal.τ).loc Cert.ReferenceProjIdeal.main_v20) = v2 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2))

def preserves_KernelProjS_KernelProjSIdeal : Prop :=
  True

def algebraic_KernelProjSIdeal_ReferenceProjSIdeal [hKernelProjSIdeal : Cert.KernelProjSIdeal.Facts] [hReferenceProjSIdeal : Cert.ReferenceProjSIdeal.Facts] : Prop :=
  ∀ (m : (ℓ : Loc Cert.KernelProjSIdeal.nD Cert.KernelProjSIdeal.τ Cert.KernelProjSIdeal.sig) → Buf (Elt Ideal) ℓ) (g : Dev Cert.KernelProjSIdeal.nD → PrngReg)
    (m' : (ℓ : Loc Cert.ReferenceProjSIdeal.nD Cert.ReferenceProjSIdeal.τ Cert.ReferenceProjSIdeal.sig) → Buf (Elt Ideal) ℓ) (g' : Dev Cert.ReferenceProjSIdeal.nD → PrngReg), Pre_KernelProjSIdeal m →
    (∀ c : Dev Cert.KernelProjSIdeal.nD,
      m' ((c.tc : Thread Cert.ReferenceProjSIdeal.nD Cert.ReferenceProjSIdeal.τ).loc Cert.ReferenceProjSIdeal.main_arg0) = m ((c.tc : Thread Cert.KernelProjSIdeal.nD Cert.KernelProjSIdeal.τ).loc Cert.KernelProjSIdeal.main_arg0)
      ∧ m' ((c.tc : Thread Cert.ReferenceProjSIdeal.nD Cert.ReferenceProjSIdeal.τ).loc Cert.ReferenceProjSIdeal.main_arg1) = m ((c.tc : Thread Cert.KernelProjSIdeal.nD Cert.KernelProjSIdeal.τ).loc Cert.KernelProjSIdeal.main_arg1)
      ∧ m' ((c.tc : Thread Cert.ReferenceProjSIdeal.nD Cert.ReferenceProjSIdeal.τ).loc Cert.ReferenceProjSIdeal.main_arg2) = m ((c.tc : Thread Cert.KernelProjSIdeal.nD Cert.KernelProjSIdeal.τ).loc Cert.KernelProjSIdeal.main_arg2)) →
    ∃ (v0 : (c : Dev Cert.KernelProjSIdeal.nD) → Buf (Elt Ideal) ((c.tc : Thread Cert.KernelProjSIdeal.nD Cert.KernelProjSIdeal.τ).loc Cert.KernelProjSIdeal.main_v6_0)) (v1 : (c : Dev Cert.KernelProjSIdeal.nD) → Buf (Elt Ideal) ((c.tc : Thread Cert.KernelProjSIdeal.nD Cert.KernelProjSIdeal.τ).loc Cert.KernelProjSIdeal.main_v6_1)) (v2 : (c : Dev Cert.KernelProjSIdeal.nD) → Buf (Elt Ideal) ((c.tc : Thread Cert.KernelProjSIdeal.nD Cert.KernelProjSIdeal.τ).loc Cert.KernelProjSIdeal.main_v6_2)),
      θ_run (Cert.KernelProjSIdeal.defs (F := Ideal)) (onTc (τ := Cert.KernelProjSIdeal.τ) (Cert.KernelProjSIdeal.main (F := Ideal))) ⟨m, fun _ => 0, g⟩ (fun r => ∀ c : Dev Cert.KernelProjSIdeal.nD,
          r.2.mem ((c.tc : Thread Cert.KernelProjSIdeal.nD Cert.KernelProjSIdeal.τ).loc Cert.KernelProjSIdeal.main_v6_0) = v0 c
          ∧ r.2.mem ((c.tc : Thread Cert.KernelProjSIdeal.nD Cert.KernelProjSIdeal.τ).loc Cert.KernelProjSIdeal.main_v6_1) = v1 c
          ∧ r.2.mem ((c.tc : Thread Cert.KernelProjSIdeal.nD Cert.KernelProjSIdeal.τ).loc Cert.KernelProjSIdeal.main_v6_2) = v2 c
          ∧ r.2.mem ((c.tc : Thread Cert.KernelProjSIdeal.nD Cert.KernelProjSIdeal.τ).loc Cert.KernelProjSIdeal.main_arg0) = m ((c.tc : Thread Cert.KernelProjSIdeal.nD Cert.KernelProjSIdeal.τ).loc Cert.KernelProjSIdeal.main_arg0)
          ∧ r.2.mem ((c.tc : Thread Cert.KernelProjSIdeal.nD Cert.KernelProjSIdeal.τ).loc Cert.KernelProjSIdeal.main_arg1) = m ((c.tc : Thread Cert.KernelProjSIdeal.nD Cert.KernelProjSIdeal.τ).loc Cert.KernelProjSIdeal.main_arg1)
          ∧ r.2.mem ((c.tc : Thread Cert.KernelProjSIdeal.nD Cert.KernelProjSIdeal.τ).loc Cert.KernelProjSIdeal.main_arg2) = m ((c.tc : Thread Cert.KernelProjSIdeal.nD Cert.KernelProjSIdeal.τ).loc Cert.KernelProjSIdeal.main_arg2))
      ∧ θ_run (Cert.ReferenceProjSIdeal.defs (F := Ideal)) (onTc (τ := Cert.ReferenceProjSIdeal.τ) (Cert.ReferenceProjSIdeal.main (F := Ideal))) ⟨m', fun _ => 0, g'⟩ (fun r => ∀ c : Dev Cert.ReferenceProjSIdeal.nD,
          r.2.mem ((c.tc : Thread Cert.ReferenceProjSIdeal.nD Cert.ReferenceProjSIdeal.τ).loc Cert.ReferenceProjSIdeal.main_v19) = v0 c
          ∧ r.2.mem ((c.tc : Thread Cert.ReferenceProjSIdeal.nD Cert.ReferenceProjSIdeal.τ).loc Cert.ReferenceProjSIdeal.main_v20) = v1 c
          ∧ r.2.mem ((c.tc : Thread Cert.ReferenceProjSIdeal.nD Cert.ReferenceProjSIdeal.τ).loc Cert.ReferenceProjSIdeal.main_v21) = v2 c
          ∧ r.2.mem ((c.tc : Thread Cert.ReferenceProjSIdeal.nD Cert.ReferenceProjSIdeal.τ).loc Cert.ReferenceProjSIdeal.main_arg0) = m' ((c.tc : Thread Cert.ReferenceProjSIdeal.nD Cert.ReferenceProjSIdeal.τ).loc Cert.ReferenceProjSIdeal.main_arg0)
          ∧ r.2.mem ((c.tc : Thread Cert.ReferenceProjSIdeal.nD Cert.ReferenceProjSIdeal.τ).loc Cert.ReferenceProjSIdeal.main_arg1) = m' ((c.tc : Thread Cert.ReferenceProjSIdeal.nD Cert.ReferenceProjSIdeal.τ).loc Cert.ReferenceProjSIdeal.main_arg1)
          ∧ r.2.mem ((c.tc : Thread Cert.ReferenceProjSIdeal.nD Cert.ReferenceProjSIdeal.τ).loc Cert.ReferenceProjSIdeal.main_arg2) = m' ((c.tc : Thread Cert.ReferenceProjSIdeal.nD Cert.ReferenceProjSIdeal.τ).loc Cert.ReferenceProjSIdeal.main_arg2))

def preserves_KernelQkv_KernelQkvIdeal : Prop :=
  True

def algebraic_KernelQkvIdeal_ReferenceQkvIdeal [hKernelQkvIdeal : Cert.KernelQkvIdeal.Facts] [hReferenceQkvIdeal : Cert.ReferenceQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)
      ∧ m' ((c.tc : Thread Cert.ReferenceQkvIdeal.nD Cert.ReferenceQkvIdeal.τ).loc Cert.ReferenceQkvIdeal.main_arg2) = m ((c.tc : Thread Cert.KernelQkvIdeal.nD Cert.KernelQkvIdeal.τ).loc Cert.KernelQkvIdeal.main_arg2)
      ∧ m' ((c.tc : Thread Cert.ReferenceQkvIdeal.nD Cert.ReferenceQkvIdeal.τ).loc Cert.ReferenceQkvIdeal.main_arg3) = m ((c.tc : Thread Cert.KernelQkvIdeal.nD Cert.KernelQkvIdeal.τ).loc Cert.KernelQkvIdeal.main_arg3)
      ∧ m' ((c.tc : Thread Cert.ReferenceQkvIdeal.nD Cert.ReferenceQkvIdeal.τ).loc Cert.ReferenceQkvIdeal.main_arg4) = m ((c.tc : Thread Cert.KernelQkvIdeal.nD Cert.KernelQkvIdeal.τ).loc Cert.KernelQkvIdeal.main_arg4)) →
    ∃ (v0 : (c : Dev Cert.KernelQkvIdeal.nD) → Buf (Elt Ideal) ((c.tc : Thread Cert.KernelQkvIdeal.nD Cert.KernelQkvIdeal.τ).loc Cert.KernelQkvIdeal.main_v11_0)) (v1 : (c : Dev Cert.KernelQkvIdeal.nD) → Buf (Elt Ideal) ((c.tc : Thread Cert.KernelQkvIdeal.nD Cert.KernelQkvIdeal.τ).loc Cert.KernelQkvIdeal.main_v13)) (v2 : (c : Dev Cert.KernelQkvIdeal.nD) → Buf (Elt Ideal) ((c.tc : Thread Cert.KernelQkvIdeal.nD Cert.KernelQkvIdeal.τ).loc Cert.KernelQkvIdeal.main_v11_2)) (v3 : (c : Dev Cert.KernelQkvIdeal.nD) → Buf (Elt Ideal) ((c.tc : Thread Cert.KernelQkvIdeal.nD Cert.KernelQkvIdeal.τ).loc Cert.KernelQkvIdeal.main_v15)) (v4 : (c : Dev Cert.KernelQkvIdeal.nD) → Buf (Elt Ideal) ((c.tc : Thread Cert.KernelQkvIdeal.nD Cert.KernelQkvIdeal.τ).loc Cert.KernelQkvIdeal.main_v11_4)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v11_0) = v0 c
          ∧ r.2.mem ((c.tc : Thread Cert.KernelQkvIdeal.nD Cert.KernelQkvIdeal.τ).loc Cert.KernelQkvIdeal.main_v13) = v1 c
          ∧ r.2.mem ((c.tc : Thread Cert.KernelQkvIdeal.nD Cert.KernelQkvIdeal.τ).loc Cert.KernelQkvIdeal.main_v11_2) = v2 c
          ∧ r.2.mem ((c.tc : Thread Cert.KernelQkvIdeal.nD Cert.KernelQkvIdeal.τ).loc Cert.KernelQkvIdeal.main_v15) = v3 c
          ∧ r.2.mem ((c.tc : Thread Cert.KernelQkvIdeal.nD Cert.KernelQkvIdeal.τ).loc Cert.KernelQkvIdeal.main_v11_4) = v4 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
          ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
          ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3)
          ∧ r.2.mem ((c.tc : Thread Cert.KernelQkvIdeal.nD Cert.KernelQkvIdeal.τ).loc Cert.KernelQkvIdeal.main_arg4) = m ((c.tc : Thread Cert.KernelQkvIdeal.nD Cert.KernelQkvIdeal.τ).loc Cert.KernelQkvIdeal.main_arg4))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v26) = v0 c
          ∧ r.2.mem ((c.tc : Thread Cert.ReferenceQkvIdeal.nD Cert.ReferenceQkvIdeal.τ).loc Cert.ReferenceQkvIdeal.main_v30) = v1 c
          ∧ r.2.mem ((c.tc : Thread Cert.ReferenceQkvIdeal.nD Cert.ReferenceQkvIdeal.τ).loc Cert.ReferenceQkvIdeal.main_v31) = v2 c
          ∧ r.2.mem ((c.tc : Thread Cert.ReferenceQkvIdeal.nD Cert.ReferenceQkvIdeal.τ).loc Cert.ReferenceQkvIdeal.main_v35) = v3 c
          ∧ r.2.mem ((c.tc : Thread Cert.ReferenceQkvIdeal.nD Cert.ReferenceQkvIdeal.τ).loc Cert.ReferenceQkvIdeal.main_v36) = v4 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1)
          ∧ r.2.mem ((c.tc : Thread Cert.ReferenceQkvIdeal.nD Cert.ReferenceQkvIdeal.τ).loc Cert.ReferenceQkvIdeal.main_arg2) = m' ((c.tc : Thread Cert.ReferenceQkvIdeal.nD Cert.ReferenceQkvIdeal.τ).loc Cert.ReferenceQkvIdeal.main_arg2)
          ∧ r.2.mem ((c.tc : Thread Cert.ReferenceQkvIdeal.nD Cert.ReferenceQkvIdeal.τ).loc Cert.ReferenceQkvIdeal.main_arg3) = m' ((c.tc : Thread Cert.ReferenceQkvIdeal.nD Cert.ReferenceQkvIdeal.τ).loc Cert.ReferenceQkvIdeal.main_arg3)
          ∧ r.2.mem ((c.tc : Thread Cert.ReferenceQkvIdeal.nD Cert.ReferenceQkvIdeal.τ).loc Cert.ReferenceQkvIdeal.main_arg4) = m' ((c.tc : Thread Cert.ReferenceQkvIdeal.nD Cert.ReferenceQkvIdeal.τ).loc Cert.ReferenceQkvIdeal.main_arg4))

def preserves_KernelQkv1_KernelQkv1Ideal : Prop :=
  True

def algebraic_KernelQkv1Ideal_ReferenceQkv1Ideal [hKernelQkv1Ideal : Cert.KernelQkv1Ideal.Facts] [hReferenceQkv1Ideal : Cert.ReferenceQkv1Ideal.Facts] : Prop :=
  ∀ (m : (ℓ : Loc Cert.KernelQkv1Ideal.nD Cert.KernelQkv1Ideal.τ Cert.KernelQkv1Ideal.sig) → Buf (Elt Ideal) ℓ) (g : Dev Cert.KernelQkv1Ideal.nD → PrngReg)
    (m' : (ℓ : Loc Cert.ReferenceQkv1Ideal.nD Cert.ReferenceQkv1Ideal.τ Cert.ReferenceQkv1Ideal.sig) → Buf (Elt Ideal) ℓ) (g' : Dev Cert.ReferenceQkv1Ideal.nD → PrngReg), Pre_KernelQkv1Ideal m →
    (∀ c : Dev Cert.KernelQkv1Ideal.nD,
      m' ((c.tc : Thread Cert.ReferenceQkv1Ideal.nD Cert.ReferenceQkv1Ideal.τ).loc Cert.ReferenceQkv1Ideal.main_arg0) = m ((c.tc : Thread Cert.KernelQkv1Ideal.nD Cert.KernelQkv1Ideal.τ).loc Cert.KernelQkv1Ideal.main_arg0)
      ∧ m' ((c.tc : Thread Cert.ReferenceQkv1Ideal.nD Cert.ReferenceQkv1Ideal.τ).loc Cert.ReferenceQkv1Ideal.main_arg1) = m ((c.tc : Thread Cert.KernelQkv1Ideal.nD Cert.KernelQkv1Ideal.τ).loc Cert.KernelQkv1Ideal.main_arg1)
      ∧ m' ((c.tc : Thread Cert.ReferenceQkv1Ideal.nD Cert.ReferenceQkv1Ideal.τ).loc Cert.ReferenceQkv1Ideal.main_arg2) = m ((c.tc : Thread Cert.KernelQkv1Ideal.nD Cert.KernelQkv1Ideal.τ).loc Cert.KernelQkv1Ideal.main_arg2)) →
    ∃ (v0 : (c : Dev Cert.KernelQkv1Ideal.nD) → Buf (Elt Ideal) ((c.tc : Thread Cert.KernelQkv1Ideal.nD Cert.KernelQkv1Ideal.τ).loc Cert.KernelQkv1Ideal.main_v11_0)) (v1 : (c : Dev Cert.KernelQkv1Ideal.nD) → Buf (Elt Ideal) ((c.tc : Thread Cert.KernelQkv1Ideal.nD Cert.KernelQkv1Ideal.τ).loc Cert.KernelQkv1Ideal.main_v11_1)) (v2 : (c : Dev Cert.KernelQkv1Ideal.nD) → Buf (Elt Ideal) ((c.tc : Thread Cert.KernelQkv1Ideal.nD Cert.KernelQkv1Ideal.τ).loc Cert.KernelQkv1Ideal.main_v11_2)) (v3 : (c : Dev Cert.KernelQkv1Ideal.nD) → Buf (Elt Ideal) ((c.tc : Thread Cert.KernelQkv1Ideal.nD Cert.KernelQkv1Ideal.τ).loc Cert.KernelQkv1Ideal.main_v11_3)) (v4 : (c : Dev Cert.KernelQkv1Ideal.nD) → Buf (Elt Ideal) ((c.tc : Thread Cert.KernelQkv1Ideal.nD Cert.KernelQkv1Ideal.τ).loc Cert.KernelQkv1Ideal.main_v11_4)),
      θ_run (Cert.KernelQkv1Ideal.defs (F := Ideal)) (onTc (τ := Cert.KernelQkv1Ideal.τ) (Cert.KernelQkv1Ideal.main (F := Ideal))) ⟨m, fun _ => 0, g⟩ (fun r => ∀ c : Dev Cert.KernelQkv1Ideal.nD,
          r.2.mem ((c.tc : Thread Cert.KernelQkv1Ideal.nD Cert.KernelQkv1Ideal.τ).loc Cert.KernelQkv1Ideal.main_v11_0) = v0 c
          ∧ r.2.mem ((c.tc : Thread Cert.KernelQkv1Ideal.nD Cert.KernelQkv1Ideal.τ).loc Cert.KernelQkv1Ideal.main_v11_1) = v1 c
          ∧ r.2.mem ((c.tc : Thread Cert.KernelQkv1Ideal.nD Cert.KernelQkv1Ideal.τ).loc Cert.KernelQkv1Ideal.main_v11_2) = v2 c
          ∧ r.2.mem ((c.tc : Thread Cert.KernelQkv1Ideal.nD Cert.KernelQkv1Ideal.τ).loc Cert.KernelQkv1Ideal.main_v11_3) = v3 c
          ∧ r.2.mem ((c.tc : Thread Cert.KernelQkv1Ideal.nD Cert.KernelQkv1Ideal.τ).loc Cert.KernelQkv1Ideal.main_v11_4) = v4 c
          ∧ r.2.mem ((c.tc : Thread Cert.KernelQkv1Ideal.nD Cert.KernelQkv1Ideal.τ).loc Cert.KernelQkv1Ideal.main_arg0) = m ((c.tc : Thread Cert.KernelQkv1Ideal.nD Cert.KernelQkv1Ideal.τ).loc Cert.KernelQkv1Ideal.main_arg0)
          ∧ r.2.mem ((c.tc : Thread Cert.KernelQkv1Ideal.nD Cert.KernelQkv1Ideal.τ).loc Cert.KernelQkv1Ideal.main_arg1) = m ((c.tc : Thread Cert.KernelQkv1Ideal.nD Cert.KernelQkv1Ideal.τ).loc Cert.KernelQkv1Ideal.main_arg1)
          ∧ r.2.mem ((c.tc : Thread Cert.KernelQkv1Ideal.nD Cert.KernelQkv1Ideal.τ).loc Cert.KernelQkv1Ideal.main_arg2) = m ((c.tc : Thread Cert.KernelQkv1Ideal.nD Cert.KernelQkv1Ideal.τ).loc Cert.KernelQkv1Ideal.main_arg2))
      ∧ θ_run (Cert.ReferenceQkv1Ideal.defs (F := Ideal)) (onTc (τ := Cert.ReferenceQkv1Ideal.τ) (Cert.ReferenceQkv1Ideal.main (F := Ideal))) ⟨m', fun _ => 0, g'⟩ (fun r => ∀ c : Dev Cert.ReferenceQkv1Ideal.nD,
          r.2.mem ((c.tc : Thread Cert.ReferenceQkv1Ideal.nD Cert.ReferenceQkv1Ideal.τ).loc Cert.ReferenceQkv1Ideal.main_v26) = v0 c
          ∧ r.2.mem ((c.tc : Thread Cert.ReferenceQkv1Ideal.nD Cert.ReferenceQkv1Ideal.τ).loc Cert.ReferenceQkv1Ideal.main_v28) = v1 c
          ∧ r.2.mem ((c.tc : Thread Cert.ReferenceQkv1Ideal.nD Cert.ReferenceQkv1Ideal.τ).loc Cert.ReferenceQkv1Ideal.main_v29) = v2 c
          ∧ r.2.mem ((c.tc : Thread Cert.ReferenceQkv1Ideal.nD Cert.ReferenceQkv1Ideal.τ).loc Cert.ReferenceQkv1Ideal.main_v31) = v3 c
          ∧ r.2.mem ((c.tc : Thread Cert.ReferenceQkv1Ideal.nD Cert.ReferenceQkv1Ideal.τ).loc Cert.ReferenceQkv1Ideal.main_v32) = v4 c
          ∧ r.2.mem ((c.tc : Thread Cert.ReferenceQkv1Ideal.nD Cert.ReferenceQkv1Ideal.τ).loc Cert.ReferenceQkv1Ideal.main_arg0) = m' ((c.tc : Thread Cert.ReferenceQkv1Ideal.nD Cert.ReferenceQkv1Ideal.τ).loc Cert.ReferenceQkv1Ideal.main_arg0)
          ∧ r.2.mem ((c.tc : Thread Cert.ReferenceQkv1Ideal.nD Cert.ReferenceQkv1Ideal.τ).loc Cert.ReferenceQkv1Ideal.main_arg1) = m' ((c.tc : Thread Cert.ReferenceQkv1Ideal.nD Cert.ReferenceQkv1Ideal.τ).loc Cert.ReferenceQkv1Ideal.main_arg1)
          ∧ r.2.mem ((c.tc : Thread Cert.ReferenceQkv1Ideal.nD Cert.ReferenceQkv1Ideal.τ).loc Cert.ReferenceQkv1Ideal.main_arg2) = m' ((c.tc : Thread Cert.ReferenceQkv1Ideal.nD Cert.ReferenceQkv1Ideal.τ).loc Cert.ReferenceQkv1Ideal.main_arg2))

def Claim : Prop :=
  ∃ (hKernel : Cert.Kernel.Facts) (hKernelIdeal : Cert.KernelIdeal.Facts) (hReferenceIdeal : Cert.ReferenceIdeal.Facts) (hKernelFfn : Cert.KernelFfn.Facts) (hKernelFfnIdeal : Cert.KernelFfnIdeal.Facts) (hReferenceFfnIdeal : Cert.ReferenceFfnIdeal.Facts) (hKernelFfnA : Cert.KernelFfnA.Facts) (hKernelFfnAIdeal : Cert.KernelFfnAIdeal.Facts) (hReferenceFfnAIdeal : Cert.ReferenceFfnAIdeal.Facts) (hKernelFfnB : Cert.KernelFfnB.Facts) (hKernelFfnBIdeal : Cert.KernelFfnBIdeal.Facts) (hReferenceFfnBIdeal : Cert.ReferenceFfnBIdeal.Facts) (hKernelFfn0 : Cert.KernelFfn0.Facts) (hKernelFfn0Ideal : Cert.KernelFfn0Ideal.Facts) (hReferenceFfn0Ideal : Cert.ReferenceFfn0Ideal.Facts) (hKernelProj : Cert.KernelProj.Facts) (hKernelProjIdeal : Cert.KernelProjIdeal.Facts) (hReferenceProjIdeal : Cert.ReferenceProjIdeal.Facts) (hKernelProjS : Cert.KernelProjS.Facts) (hKernelProjSIdeal : Cert.KernelProjSIdeal.Facts) (hReferenceProjSIdeal : Cert.ReferenceProjSIdeal.Facts) (hKernelQkv : Cert.KernelQkv.Facts) (hKernelQkvIdeal : Cert.KernelQkvIdeal.Facts) (hReferenceQkvIdeal : Cert.ReferenceQkvIdeal.Facts) (hKernelQkv1 : Cert.KernelQkv1.Facts) (hKernelQkv1Ideal : Cert.KernelQkv1Ideal.Facts) (hReferenceQkv1Ideal : Cert.ReferenceQkv1Ideal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelFfnA (hKernelFfnA := hKernelFfnA)
    ∧ quiescent_KernelFfnAIdeal (hKernelFfnAIdeal := hKernelFfnAIdeal)
    ∧ quiescent_ReferenceFfnAIdeal (hReferenceFfnAIdeal := hReferenceFfnAIdeal)
    ∧ quiescent_KernelFfnB (hKernelFfnB := hKernelFfnB)
    ∧ quiescent_KernelFfnBIdeal (hKernelFfnBIdeal := hKernelFfnBIdeal)
    ∧ quiescent_ReferenceFfnBIdeal (hReferenceFfnBIdeal := hReferenceFfnBIdeal)
    ∧ quiescent_KernelFfn0 (hKernelFfn0 := hKernelFfn0)
    ∧ quiescent_KernelFfn0Ideal (hKernelFfn0Ideal := hKernelFfn0Ideal)
    ∧ quiescent_ReferenceFfn0Ideal (hReferenceFfn0Ideal := hReferenceFfn0Ideal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelProjS (hKernelProjS := hKernelProjS)
    ∧ quiescent_KernelProjSIdeal (hKernelProjSIdeal := hKernelProjSIdeal)
    ∧ quiescent_ReferenceProjSIdeal (hReferenceProjSIdeal := hReferenceProjSIdeal)
    ∧ quiescent_KernelQkv (hKernelQkv := hKernelQkv)
    ∧ quiescent_KernelQkvIdeal (hKernelQkvIdeal := hKernelQkvIdeal)
    ∧ quiescent_ReferenceQkvIdeal (hReferenceQkvIdeal := hReferenceQkvIdeal)
    ∧ quiescent_KernelQkv1 (hKernelQkv1 := hKernelQkv1)
    ∧ quiescent_KernelQkv1Ideal (hKernelQkv1Ideal := hKernelQkv1Ideal)
    ∧ quiescent_ReferenceQkv1Ideal (hReferenceQkv1Ideal := hReferenceQkv1Ideal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelFfnA_KernelFfnAIdeal
    ∧ algebraic_KernelFfnAIdeal_ReferenceFfnAIdeal (hKernelFfnAIdeal := hKernelFfnAIdeal) (hReferenceFfnAIdeal := hReferenceFfnAIdeal)
    ∧ preserves_KernelFfnB_KernelFfnBIdeal
    ∧ algebraic_KernelFfnBIdeal_ReferenceFfnBIdeal (hKernelFfnBIdeal := hKernelFfnBIdeal) (hReferenceFfnBIdeal := hReferenceFfnBIdeal)
    ∧ preserves_KernelFfn0_KernelFfn0Ideal
    ∧ algebraic_KernelFfn0Ideal_ReferenceFfn0Ideal (hKernelFfn0Ideal := hKernelFfn0Ideal) (hReferenceFfn0Ideal := hReferenceFfn0Ideal)
    ∧ preserves_KernelProj_KernelProjIdeal
    ∧ algebraic_KernelProjIdeal_ReferenceProjIdeal (hKernelProjIdeal := hKernelProjIdeal) (hReferenceProjIdeal := hReferenceProjIdeal)
    ∧ preserves_KernelProjS_KernelProjSIdeal
    ∧ algebraic_KernelProjSIdeal_ReferenceProjSIdeal (hKernelProjSIdeal := hKernelProjSIdeal) (hReferenceProjSIdeal := hReferenceProjSIdeal)
    ∧ preserves_KernelQkv_KernelQkvIdeal
    ∧ algebraic_KernelQkvIdeal_ReferenceQkvIdeal (hKernelQkvIdeal := hKernelQkvIdeal) (hReferenceQkvIdeal := hReferenceQkvIdeal)
    ∧ preserves_KernelQkv1_KernelQkv1Ideal
    ∧ algebraic_KernelQkv1Ideal_ReferenceQkv1Ideal (hKernelQkv1Ideal := hKernelQkv1Ideal) (hReferenceQkv1Ideal := hReferenceQkv1Ideal)
-- ==== Pre_finite_logits.lean ====
abbrev S2x8192x16x64 : Shape := ⟨4, ![2, 8192, 16, 64]⟩
abbrev S16 : Shape := ⟨1, ![16]⟩
abbrev S_ : Shape := ⟨0, ![]⟩

class Facts : Prop where
  bcast_S_S2x8192x16x64 : S_.BroadcastsInDim S2x8192x16x64 (![] : Fin 0 → Fin S2x8192x16x64.rank)
  reducesTo_S2x8192x16x64_S_d0_1_2_3 : S2x8192x16x64.ReducesTo [0, 1, 2, 3] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S2x8192x16x64 .f32) (main_arg1 : FVec F S2x8192x16x64 .f32) (main_arg2 : FVec F S2x8192x16x64 .f32) (main_arg3 : FVec F S16 .f32) : IVec S_ 1 :=
  let main_v0 : FVec F S2x8192x16x64 .f32 := Host.absf main_arg0
  let main_cst : FVec F S_ .f32 := constant S_ .f32 0x7F800000#32
  let main_v1 : FVec F S2x8192x16x64 .f32 := broadcastInDim S2x8192x16x64 ![] bcast_S_S2x8192x16x64 main_cst
  let main_v2 : IVec S2x8192x16x64 1 := cmpf .olt main_v0 main_v1
  let main_c : IVec S_ 1 := constantI S_ 1 1#1
  let main_v3 : IVec S_ 1 := (fun x v => Host.reduce IntOp.andi x v reducesTo_S2x8192x16x64_S_d0_1_2_3 h_S_) main_v2 main_c
  let main_v4 : FVec F S2x8192x16x64 .f32 := Host.absf main_arg1
  let main_cst_0 : FVec F S_ .f32 := constant S_ .f32 0x7F800000#32
  let main_v5 : FVec F S2x8192x16x64 .f32 := broadcastInDim S2x8192x16x64 ![] bcast_S_S2x8192x16x64 main_cst_0
  let main_v6 : IVec S2x8192x16x64 1 := cmpf .olt main_v4 main_v5
  let main_c_1 : IVec S_ 1 := constantI S_ 1 1#1
  let main_v7 : IVec S_ 1 := (fun x v => Host.reduce IntOp.andi x v reducesTo_S2x8192x16x64_S_d0_1_2_3 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S2x8192x16x64 : Shape := ⟨4, ![2, 8192, 16, 64]⟩
abbrev S16 : Shape := ⟨1, ![16]⟩
abbrev S2x32x256x1024 : Shape := ⟨4, ![2, 32, 256, 1024]⟩
abbrev S2x32x1024x256 : Shape := ⟨4, ![2, 32, 1024, 256]⟩
abbrev S16384x1024 : Shape := ⟨2, ![16384, 1024]⟩
abbrev S_ : Shape := ⟨0, ![]⟩
abbrev S256x256 : Shape := ⟨2, ![256, 256]⟩
abbrev S512x512 : Shape := ⟨2, ![512, 512]⟩
abbrev S1x32x512x256 : Shape := ⟨4, ![1, 32, 512, 256]⟩
abbrev S8192x512 : Shape := ⟨2, ![8192, 512]⟩
abbrev S2x8x512x256 : Shape := ⟨4, ![2, 8, 512, 256]⟩
abbrev S8x512x128 : Shape := ⟨3, ![8, 512, 128]⟩
abbrev S1x128 : Shape := ⟨2, ![1, 128]⟩
abbrev S512x128 : Shape := ⟨2, ![512, 128]⟩
abbrev S1 : Shape := ⟨1, ![1]⟩
abbrev S1x1x128x256 : Shape := ⟨4, ![1, 1, 128, 256]⟩
abbrev S128x256 : Shape := ⟨2, ![128, 256]⟩
abbrev S512x256 : Shape := ⟨2, ![512, 256]⟩
abbrev S1x1x512x256 : Shape := ⟨4, ![1, 1, 512, 256]⟩
abbrev S1x512x128 : Shape := ⟨3, ![1, 512, 128]⟩
abbrev S512x1 : Shape := ⟨2, ![512, 1]⟩
abbrev S256x128 : Shape := ⟨2, ![256, 128]⟩

abbrev nBuf : Space → Nat
  | .hbm => 22
  | .vmem => 12
  | .smem => 1
  | _ => 0

abbrev bufTy : (tb : Table) → Fin (tcTables nBuf tb) → BufTy
  | .hbm, ⟨0, _⟩ => ⟨S2x8192x16x64, .f32⟩
  | .hbm, ⟨1, _⟩ => ⟨S2x8192x16x64, .f32⟩
  | .hbm, ⟨2, _⟩ => ⟨S2x8192x16x64, .f32⟩
  | .hbm, ⟨3, _⟩ => ⟨S16, .f32⟩
  | .hbm, ⟨4, _⟩ => ⟨S2x32x256x1024, .f32⟩
  | .hbm, ⟨5, _⟩ => ⟨S2x32x1024x256, .f32⟩
  | .hbm, ⟨6, _⟩ => ⟨S2x32x1024x256, .bf16⟩
  | .hbm, ⟨7, _⟩ => ⟨S16384x1024, .f32⟩
  | .hbm, ⟨8, _⟩ => ⟨S16384x1024, .bf16⟩
  | .hbm, ⟨9, _⟩ => ⟨S16384x1024, .f32⟩
  | .hbm, ⟨10, _⟩ => ⟨S_, .bf16⟩
  | .hbm, ⟨11, _⟩ => ⟨S256x256, .bf16⟩
  | .hbm, ⟨12, _⟩ => ⟨S256x256, .i32⟩
  | .hbm, ⟨13, _⟩ => ⟨S_, .i32⟩
  | .hbm, ⟨14, _⟩ => ⟨S256x256, .i32⟩
  | .hbm, ⟨15, _⟩ => ⟨S256x256, .i32⟩
  | .hbm, ⟨16, _⟩ => ⟨S256x256, .i32⟩
  | .hbm, ⟨17, _⟩ => ⟨S256x256, .i1⟩
  | .hbm, ⟨18, _⟩ => ⟨S_, .bf16⟩
  | .hbm, ⟨19, _⟩ => ⟨S256x256, .bf16⟩
  | .hbm, ⟨20, _⟩ => ⟨S256x256, .bf16⟩
  | .hbm, ⟨21, _⟩ => ⟨S16384x1024, .bf16⟩
  | .local _ .vmem, ⟨0, _⟩ => ⟨S512x512, .f32⟩
  | .local _ .vmem, ⟨1, _⟩ => ⟨S512x512, .f32⟩
  | .local _ .vmem, ⟨2, _⟩ => ⟨S1x32x512x256, .bf16⟩
  | .local _ .vmem, ⟨3, _⟩ => ⟨S8192x512, .bf16⟩
  | .local _ .vmem, ⟨4, _⟩ => ⟨S256x256, .bf16⟩
  | .local _ .vmem, ⟨5, _⟩ => ⟨S512x512, .bf16⟩
  | .local _ .vmem, ⟨6, _⟩ => ⟨S512x512, .bf16⟩
  | .local _ .vmem, ⟨7, _⟩ => ⟨S2x8x512x256, .f32⟩
  | .local _ .vmem, ⟨8, _⟩ => ⟨S2x8x512x256, .bf16⟩
  | .local _ .vmem, ⟨9, _⟩ => ⟨S2x8x512x256, .f32⟩
  | .local _ .vmem, ⟨10, _⟩ => ⟨S8x512x128, .f32⟩
  | .local _ .vmem, ⟨11, _⟩ => ⟨S8x512x128, .f32⟩
  | .local _ .smem, ⟨0, _⟩ => ⟨S16, .f32⟩
  | _, _ => ⟨S2x8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_cst : Ref sig .tc := ⟨.hbm, 18, rfl⟩
abbrev main_call0_v5 : Ref sig .tc := ⟨.hbm, 19, rfl⟩
abbrev main_v7 : Ref sig .tc := ⟨.hbm, 20, rfl⟩
abbrev main_v8 : Ref sig .tc := ⟨.hbm, 21, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨3, ![2, 2, 16], ![false, false, false]⟩

def k0_off1 (i : grid0.Coords) (c0_i32_88 : BitVec 32) : Fin 1 → Nat :=
  let c8_i32 : BitVec 32 := 8#32
  let arg1 : BitVec 32 := BitVec.ofNat 32 (i 1).val
  let v281 : BitVec 32 := Scalar.muli c8_i32 arg1
  let v282 : BitVec 32 := Scalar.addi v281 c0_i32_88
  let v283 : Index := Scalar.indexCast v282
  ![v283.toNat]
def k0_off2 (i : grid0.Coords) : Fin 4 → Nat :=
  let c0_116 : Index := 0#32
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let v332 : Index := Scalar.indexCast v331
  let c0_117 : Index := 0#32
  let c0_118 : Index := 0#32
  ![0, v332.toNat, 0, 0]
def k0_off3 (i : grid0.Coords) : Fin 4 → Nat :=
  let c0_151 : Index := 0#32
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let v404 : Index := Scalar.indexCast v331
  let c128_152 : Index := 128#32
  let c0_153 : Index := 0#32
  ![0, v404.toNat, 128, 0]
def k0_off4 (i : grid0.Coords) : Fin 4 → Nat :=
  let c0_187 : Index := 0#32
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let v476 : Index := Scalar.indexCast v331
  let c256_188 : Index := 256#32
  let c0_189 : Index := 0#32
  ![0, v476.toNat, 256, 0]
def k0_off5 (i : grid0.Coords) : Fin 4 → Nat :=
  let c0_223 : Index := 0#32
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let v548 : Index := Scalar.indexCast v331
  let c384_224 : Index := 384#32
  let c0_225 : Index := 0#32
  ![0, v548.toNat, 384, 0]
def k0_off6 (i : grid0.Coords) : Fin 4 → Nat :=
  let c0_428 : Index := 0#32
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let c1_i32_427 : BitVec 32 := 1#32
  let v788 : BitVec 32 := Scalar.subi v331 c1_i32_427
  let v789 : Index := Scalar.indexCast v788
  let c0_429 : Index := 0#32
  let c0_430 : Index := 0#32
  ![0, v789.toNat, 0, 0]
def k0_off7 (i : grid0.Coords) : Fin 4 → Nat :=
  let c0_466 : Index := 0#32
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let c1_i32_427 : BitVec 32 := 1#32
  let v788 : BitVec 32 := Scalar.subi v331 c1_i32_427
  let v861 : Index := Scalar.indexCast v788
  let c128_467 : Index := 128#32
  let c0_468 : Index := 0#32
  ![0, v861.toNat, 128, 0]
def k0_off8 (i : grid0.Coords) : Fin 4 → Nat :=
  let c0_504 : Index := 0#32
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let c1_i32_427 : BitVec 32 := 1#32
  let v788 : BitVec 32 := Scalar.subi v331 c1_i32_427
  let v933 : Index := Scalar.indexCast v788
  let c256_505 : Index := 256#32
  let c0_506 : Index := 0#32
  ![0, v933.toNat, 256, 0]
def k0_off9 (i : grid0.Coords) : Fin 4 → Nat :=
  let c0_542 : Index := 0#32
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let c1_i32_427 : BitVec 32 := 1#32
  let v788 : BitVec 32 := Scalar.subi v331 c1_i32_427
  let v1005 : Index := Scalar.indexCast v788
  let c384_543 : Index := 384#32
  let c0_544 : Index := 0#32
  ![0, v1005.toNat, 384, 0]
@[reducible] def k0_t1_loop (i : grid0.Coords) : Scf.Loop 32 :=
  let c1_i32_581 : BitVec 32 := 1#32
  let arg2 : BitVec 32 := BitVec.ofNat 32 (i 2).val
  let c1_i32_580 : BitVec 32 := 1#32
  let v1077 : BitVec 32 := Scalar.addi arg2 c1_i32_580
  let v1078 : BitVec 32 := Scalar.subi v1077 c1_i32_581
  let c1_i32_583 : BitVec 32 := 1#32
  let v1080 : BitVec 32 := Scalar.divsi v1078 c1_i32_583
  let v1081 : BitVec 32 := Scalar.muli v1080 c1_i32_583
  let v1082 : BitVec 32 := Scalar.addi c1_i32_581 v1081
  let c1_i32_584 : BitVec 32 := 1#32
  ⟨c1_i32_581, v1082, c1_i32_584⟩
def k0_mult1 (i : grid0.Coords) (k0_t1 : Fin (k0_t1_loop i).trips) : BitVec 32 :=
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let c2_i32_984 : BitVec 32 := 2#32
  let c1_i32_581 : BitVec 32 := 1#32
  let c1_i32_584 : BitVec 32 := 1#32
  let arg14 : BitVec 32 := Scf.iv c1_i32_581 c1_i32_584 k0_t1
  let v1523 : BitVec 32 := Scalar.muli c2_i32_984 arg14
  let v1524 : BitVec 32 := Scalar.subi v331 v1523
  let c2_i32_985 : BitVec 32 := 2#32
  let v1525 : BitVec 32 := Scalar.addi v1524 c2_i32_985
  let c256_i32_986 : BitVec 32 := 256#32
  let v1526 : BitVec 32 := Scalar.muli v1525 c256_i32_986
  v1526
def k0_off10 (i : grid0.Coords) (k0_t1 : Fin (k0_t1_loop i).trips) (c2_i32_985 : BitVec 32) : Fin 2 → Nat :=
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let c2_i32_984 : BitVec 32 := 2#32
  let c1_i32_581 : BitVec 32 := 1#32
  let c1_i32_584 : BitVec 32 := 1#32
  let arg14 : BitVec 32 := Scf.iv c1_i32_581 c1_i32_584 k0_t1
  let v1523 : BitVec 32 := Scalar.muli c2_i32_984 arg14
  let v1524 : BitVec 32 := Scalar.subi v331 v1523
  let v1525 : BitVec 32 := Scalar.addi v1524 c2_i32_985
  let c256_i32_986 : BitVec 32 := 256#32
  let v1526 : BitVec 32 := Scalar.muli v1525 c256_i32_986
  let v1527 : BitVec 32 := v1526
  let v1528 : Index := Scalar.indexCast v1527
  let c0_987 : Index := 0#32
  ![v1528.toNat, 0]
def k0_off11 (i : grid0.Coords) (k0_t1 : Fin (k0_t1_loop i).trips) (c2_i32_985 : BitVec 32) : Fin 2 → Nat :=
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let c2_i32_984 : BitVec 32 := 2#32
  let c1_i32_581 : BitVec 32 := 1#32
  let c1_i32_584 : BitVec 32 := 1#32
  let arg14 : BitVec 32 := Scf.iv c1_i32_581 c1_i32_584 k0_t1
  let v1523 : BitVec 32 := Scalar.muli c2_i32_984 arg14
  let v1524 : BitVec 32 := Scalar.subi v331 v1523
  let v1525 : BitVec 32 := Scalar.addi v1524 c2_i32_985
  let c256_i32_986 : BitVec 32 := 256#32
  let v1526 : BitVec 32 := Scalar.muli v1525 c256_i32_986
  let v1527 : BitVec 32 := v1526
  let v1556 : Index := Scalar.indexCast v1527
  let c128_1011 : Index := 128#32
  ![v1556.toNat, 128]
def k0_off12 (i : grid0.Coords) (k0_t1 : Fin (k0_t1_loop i).trips) (c2_i32_985 : BitVec 32) : Fin 2 → Nat :=
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let c2_i32_984 : BitVec 32 := 2#32
  let c1_i32_581 : BitVec 32 := 1#32
  let c1_i32_584 : BitVec 32 := 1#32
  let arg14 : BitVec 32 := Scf.iv c1_i32_581 c1_i32_584 k0_t1
  let v1523 : BitVec 32 := Scalar.muli c2_i32_984 arg14
  let v1524 : BitVec 32 := Scalar.subi v331 v1523
  let v1525 : BitVec 32 := Scalar.addi v1524 c2_i32_985
  let c256_i32_986 : BitVec 32 := 256#32
  let v1526 : BitVec 32 := Scalar.muli v1525 c256_i32_986
  let v1527 : BitVec 32 := v1526
  let v1584 : Index := Scalar.indexCast v1527
  let c256_1035 : Index := 256#32
  ![v1584.toNat, 256]
def k0_off13 (i : grid0.Coords) (k0_t1 : Fin (k0_t1_loop i).trips) (c2_i32_985 : BitVec 32) : Fin 2 → Nat :=
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let c2_i32_984 : BitVec 32 := 2#32
  let c1_i32_581 : BitVec 32 := 1#32
  let c1_i32_584 : BitVec 32 := 1#32
  let arg14 : BitVec 32 := Scf.iv c1_i32_581 c1_i32_584 k0_t1
  let v1523 : BitVec 32 := Scalar.muli c2_i32_984 arg14
  let v1524 : BitVec 32 := Scalar.subi v331 v1523
  let v1525 : BitVec 32 := Scalar.addi v1524 c2_i32_985
  let c256_i32_986 : BitVec 32 := 256#32
  let v1526 : BitVec 32 := Scalar.muli v1525 c256_i32_986
  let v1527 : BitVec 32 := v1526
  let v1612 : Index := Scalar.indexCast v1527
  let c384_1059 : Index := 384#32
  ![v1612.toNat, 384]
def k0_off14 (i : grid0.Coords) (k0_t1 : Fin (k0_t1_loop i).trips) : Fin 4 → Nat :=
  let c0_1251 : Index := 0#32
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let c2_i32_984 : BitVec 32 := 2#32
  let c1_i32_581 : BitVec 32 := 1#32
  let c1_i32_584 : BitVec 32 := 1#32
  let arg14 : BitVec 32 := Scf.iv c1_i32_581 c1_i32_584 k0_t1
  let v1523 : BitVec 32 := Scalar.muli c2_i32_984 arg14
  let v1808 : BitVec 32 := Scalar.subi v331 v1523
  let v1809 : Index := Scalar.indexCast v1808
  let c0_1252 : Index := 0#32
  let c0_1253 : Index := 0#32
  ![0, v1809.toNat, 0, 0]
def k0_off15 (i : grid0.Coords) (k0_t1 : Fin (k0_t1_loop i).trips) : Fin 4 → Nat :=
  let c0_1283 : Index := 0#32
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let c2_i32_984 : BitVec 32 := 2#32
  let c1_i32_581 : BitVec 32 := 1#32
  let c1_i32_584 : BitVec 32 := 1#32
  let arg14 : BitVec 32 := Scf.iv c1_i32_581 c1_i32_584 k0_t1
  let v1523 : BitVec 32 := Scalar.muli c2_i32_984 arg14
  let v1808 : BitVec 32 := Scalar.subi v331 v1523
  let v1859 : Index := Scalar.indexCast v1808
  let c128_1284 : Index := 128#32
  let c0_1285 : Index := 0#32
  ![0, v1859.toNat, 128, 0]
def k0_off16 (i : grid0.Coords) (k0_t1 : Fin (k0_t1_loop i).trips) : Fin 4 → Nat :=
  let c0_1315 : Index := 0#32
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let c2_i32_984 : BitVec 32 := 2#32
  let c1_i32_581 : BitVec 32 := 1#32
  let c1_i32_584 : BitVec 32 := 1#32
  let arg14 : BitVec 32 := Scf.iv c1_i32_581 c1_i32_584 k0_t1
  let v1523 : BitVec 32 := Scalar.muli c2_i32_984 arg14
  let v1808 : BitVec 32 := Scalar.subi v331 v1523
  let v1909 : Index := Scalar.indexCast v1808
  let c256_1316 : Index := 256#32
  let c0_1317 : Index := 0#32
  ![0, v1909.toNat, 256, 0]
def k0_off17 (i : grid0.Coords) (k0_t1 : Fin (k0_t1_loop i).trips) : Fin 4 → Nat :=
  let c0_1347 : Index := 0#32
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let c2_i32_984 : BitVec 32 := 2#32
  let c1_i32_581 : BitVec 32 := 1#32
  let c1_i32_584 : BitVec 32 := 1#32
  let arg14 : BitVec 32 := Scf.iv c1_i32_581 c1_i32_584 k0_t1
  let v1523 : BitVec 32 := Scalar.muli c2_i32_984 arg14
  let v1808 : BitVec 32 := Scalar.subi v331 v1523
  let v1959 : Index := Scalar.indexCast v1808
  let c384_1348 : Index := 384#32
  let c0_1349 : Index := 0#32
  ![0, v1959.toNat, 384, 0]
def k0_mult2 (i : grid0.Coords) (k0_t1 : Fin (k0_t1_loop i).trips) : BitVec 32 :=
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let c2_i32_984 : BitVec 32 := 2#32
  let c1_i32_581 : BitVec 32 := 1#32
  let c1_i32_584 : BitVec 32 := 1#32
  let arg14 : BitVec 32 := Scf.iv c1_i32_581 c1_i32_584 k0_t1
  let v1523 : BitVec 32 := Scalar.muli c2_i32_984 arg14
  let v2009 : BitVec 32 := Scalar.subi v331 v1523
  let c1_i32_1379 : BitVec 32 := 1#32
  let v2010 : BitVec 32 := Scalar.addi v2009 c1_i32_1379
  let c256_i32_1380 : BitVec 32 := 256#32
  let v2011 : BitVec 32 := Scalar.muli v2010 c256_i32_1380
  v2011
def k0_off18 (i : grid0.Coords) (k0_t1 : Fin (k0_t1_loop i).trips) : Fin 4 → Nat :=
  let c0_1646 : Index := 0#32
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let c2_i32_984 : BitVec 32 := 2#32
  let c1_i32_581 : BitVec 32 := 1#32
  let c1_i32_584 : BitVec 32 := 1#32
  let arg14 : BitVec 32 := Scf.iv c1_i32_581 c1_i32_584 k0_t1
  let v1523 : BitVec 32 := Scalar.muli c2_i32_984 arg14
  let v2293 : BitVec 32 := Scalar.subi v331 v1523
  let c1_i32_1645 : BitVec 32 := 1#32
  let v2294 : BitVec 32 := Scalar.subi v2293 c1_i32_1645
  let v2295 : Index := Scalar.indexCast v2294
  let c0_1647 : Index := 0#32
  let c0_1648 : Index := 0#32
  ![0, v2295.toNat, 0, 0]
def k0_off19 (i : grid0.Coords) (k0_t1 : Fin (k0_t1_loop i).trips) : Fin 4 → Nat :=
  let c0_1678 : Index := 0#32
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let c2_i32_984 : BitVec 32 := 2#32
  let c1_i32_581 : BitVec 32 := 1#32
  let c1_i32_584 : BitVec 32 := 1#32
  let arg14 : BitVec 32 := Scf.iv c1_i32_581 c1_i32_584 k0_t1
  let v1523 : BitVec 32 := Scalar.muli c2_i32_984 arg14
  let v2293 : BitVec 32 := Scalar.subi v331 v1523
  let c1_i32_1645 : BitVec 32 := 1#32
  let v2294 : BitVec 32 := Scalar.subi v2293 c1_i32_1645
  let v2345 : Index := Scalar.indexCast v2294
  let c128_1679 : Index := 128#32
  let c0_1680 : Index := 0#32
  ![0, v2345.toNat, 128, 0]
def k0_off20 (i : grid0.Coords) (k0_t1 : Fin (k0_t1_loop i).trips) : Fin 4 → Nat :=
  let c0_1710 : Index := 0#32
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let c2_i32_984 : BitVec 32 := 2#32
  let c1_i32_581 : BitVec 32 := 1#32
  let c1_i32_584 : BitVec 32 := 1#32
  let arg14 : BitVec 32 := Scf.iv c1_i32_581 c1_i32_584 k0_t1
  let v1523 : BitVec 32 := Scalar.muli c2_i32_984 arg14
  let v2293 : BitVec 32 := Scalar.subi v331 v1523
  let c1_i32_1645 : BitVec 32 := 1#32
  let v2294 : BitVec 32 := Scalar.subi v2293 c1_i32_1645
  let v2395 : Index := Scalar.indexCast v2294
  let c256_1711 : Index := 256#32
  let c0_1712 : Index := 0#32
  ![0, v2395.toNat, 256, 0]
def k0_off21 (i : grid0.Coords) (k0_t1 : Fin (k0_t1_loop i).trips) : Fin 4 → Nat :=
  let c0_1742 : Index := 0#32
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let c2_i32_984 : BitVec 32 := 2#32
  let c1_i32_581 : BitVec 32 := 1#32
  let c1_i32_584 : BitVec 32 := 1#32
  let arg14 : BitVec 32 := Scf.iv c1_i32_581 c1_i32_584 k0_t1
  let v1523 : BitVec 32 := Scalar.muli c2_i32_984 arg14
  let v2293 : BitVec 32 := Scalar.subi v331 v1523
  let c1_i32_1645 : BitVec 32 := 1#32
  let v2294 : BitVec 32 := Scalar.subi v2293 c1_i32_1645
  let v2445 : Index := Scalar.indexCast v2294
  let c384_1743 : Index := 384#32
  let c0_1744 : Index := 0#32
  ![0, v2445.toNat, 384, 0]
@[reducible] def k0_t2_loop (i : grid0.Coords) : Scf.Loop 32 :=
  let c1_i32_581 : BitVec 32 := 1#32
  let arg2 : BitVec 32 := BitVec.ofNat 32 (i 2).val
  let c1_i32_580 : BitVec 32 := 1#32
  let v1077 : BitVec 32 := Scalar.addi arg2 c1_i32_580
  let v1078 : BitVec 32 := Scalar.subi v1077 c1_i32_581
  let c1_i32_583 : BitVec 32 := 1#32
  let v1080 : BitVec 32 := Scalar.divsi v1078 c1_i32_583
  let v1081 : BitVec 32 := Scalar.muli v1080 c1_i32_583
  let v1082 : BitVec 32 := Scalar.addi c1_i32_581 v1081
  let v1079 : BitVec 32 := Scalar.addi c1_i32_581 v1078
  let c1_i32_585 : BitVec 32 := 1#32
  ⟨v1082, v1079, c1_i32_585⟩
def k0_mult3 (i : grid0.Coords) (k0_t2 : Fin (k0_t2_loop i).trips) : BitVec 32 :=
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let c2_i32_984 : BitVec 32 := 2#32
  let c1_i32_581 : BitVec 32 := 1#32
  let c1_i32_580 : BitVec 32 := 1#32
  let v1077 : BitVec 32 := Scalar.addi arg2 c1_i32_580
  let v1078 : BitVec 32 := Scalar.subi v1077 c1_i32_581
  let c1_i32_583 : BitVec 32 := 1#32
  let v1080 : BitVec 32 := Scalar.divsi v1078 c1_i32_583
  let v1081 : BitVec 32 := Scalar.muli v1080 c1_i32_583
  let v1082 : BitVec 32 := Scalar.addi c1_i32_581 v1081
  let c1_i32_585 : BitVec 32 := 1#32
  let arg14 : BitVec 32 := Scf.iv v1082 c1_i32_585 k0_t2
  let v1523 : BitVec 32 := Scalar.muli c2_i32_984 arg14
  let v1524 : BitVec 32 := Scalar.subi v331 v1523
  let c2_i32_985 : BitVec 32 := 2#32
  let v1525 : BitVec 32 := Scalar.addi v1524 c2_i32_985
  let c256_i32_986 : BitVec 32 := 256#32
  let v1526 : BitVec 32 := Scalar.muli v1525 c256_i32_986
  v1526
def k0_off22 (i : grid0.Coords) (k0_t2 : Fin (k0_t2_loop i).trips) (c2_i32_985 : BitVec 32) : Fin 2 → Nat :=
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let c2_i32_984 : BitVec 32 := 2#32
  let c1_i32_581 : BitVec 32 := 1#32
  let c1_i32_580 : BitVec 32 := 1#32
  let v1077 : BitVec 32 := Scalar.addi arg2 c1_i32_580
  let v1078 : BitVec 32 := Scalar.subi v1077 c1_i32_581
  let c1_i32_583 : BitVec 32 := 1#32
  let v1080 : BitVec 32 := Scalar.divsi v1078 c1_i32_583
  let v1081 : BitVec 32 := Scalar.muli v1080 c1_i32_583
  let v1082 : BitVec 32 := Scalar.addi c1_i32_581 v1081
  let c1_i32_585 : BitVec 32 := 1#32
  let arg14 : BitVec 32 := Scf.iv v1082 c1_i32_585 k0_t2
  let v1523 : BitVec 32 := Scalar.muli c2_i32_984 arg14
  let v1524 : BitVec 32 := Scalar.subi v331 v1523
  let v1525 : BitVec 32 := Scalar.addi v1524 c2_i32_985
  let c256_i32_986 : BitVec 32 := 256#32
  let v1526 : BitVec 32 := Scalar.muli v1525 c256_i32_986
  let v1527 : BitVec 32 := v1526
  let v1528 : Index := Scalar.indexCast v1527
  let c0_987 : Index := 0#32
  ![v1528.toNat, 0]
def k0_off23 (i : grid0.Coords) (k0_t2 : Fin (k0_t2_loop i).trips) (c2_i32_985 : BitVec 32) : Fin 2 → Nat :=
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let c2_i32_984 : BitVec 32 := 2#32
  let c1_i32_581 : BitVec 32 := 1#32
  let c1_i32_580 : BitVec 32 := 1#32
  let v1077 : BitVec 32 := Scalar.addi arg2 c1_i32_580
  let v1078 : BitVec 32 := Scalar.subi v1077 c1_i32_581
  let c1_i32_583 : BitVec 32 := 1#32
  let v1080 : BitVec 32 := Scalar.divsi v1078 c1_i32_583
  let v1081 : BitVec 32 := Scalar.muli v1080 c1_i32_583
  let v1082 : BitVec 32 := Scalar.addi c1_i32_581 v1081
  let c1_i32_585 : BitVec 32 := 1#32
  let arg14 : BitVec 32 := Scf.iv v1082 c1_i32_585 k0_t2
  let v1523 : BitVec 32 := Scalar.muli c2_i32_984 arg14
  let v1524 : BitVec 32 := Scalar.subi v331 v1523
  let v1525 : BitVec 32 := Scalar.addi v1524 c2_i32_985
  let c256_i32_986 : BitVec 32 := 256#32
  let v1526 : BitVec 32 := Scalar.muli v1525 c256_i32_986
  let v1527 : BitVec 32 := v1526
  let v1556 : Index := Scalar.indexCast v1527
  let c128_1011 : Index := 128#32
  ![v1556.toNat, 128]
def k0_off24 (i : grid0.Coords) (k0_t2 : Fin (k0_t2_loop i).trips) (c2_i32_985 : BitVec 32) : Fin 2 → Nat :=
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let c2_i32_984 : BitVec 32 := 2#32
  let c1_i32_581 : BitVec 32 := 1#32
  let c1_i32_580 : BitVec 32 := 1#32
  let v1077 : BitVec 32 := Scalar.addi arg2 c1_i32_580
  let v1078 : BitVec 32 := Scalar.subi v1077 c1_i32_581
  let c1_i32_583 : BitVec 32 := 1#32
  let v1080 : BitVec 32 := Scalar.divsi v1078 c1_i32_583
  let v1081 : BitVec 32 := Scalar.muli v1080 c1_i32_583
  let v1082 : BitVec 32 := Scalar.addi c1_i32_581 v1081
  let c1_i32_585 : BitVec 32 := 1#32
  let arg14 : BitVec 32 := Scf.iv v1082 c1_i32_585 k0_t2
  let v1523 : BitVec 32 := Scalar.muli c2_i32_984 arg14
  let v1524 : BitVec 32 := Scalar.subi v331 v1523
  let v1525 : BitVec 32 := Scalar.addi v1524 c2_i32_985
  let c256_i32_986 : BitVec 32 := 256#32
  let v1526 : BitVec 32 := Scalar.muli v1525 c256_i32_986
  let v1527 : BitVec 32 := v1526
  let v1584 : Index := Scalar.indexCast v1527
  let c256_1035 : Index := 256#32
  ![v1584.toNat, 256]
def k0_off25 (i : grid0.Coords) (k0_t2 : Fin (k0_t2_loop i).trips) (c2_i32_985 : BitVec 32) : Fin 2 → Nat :=
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let c2_i32_984 : BitVec 32 := 2#32
  let c1_i32_581 : BitVec 32 := 1#32
  let c1_i32_580 : BitVec 32 := 1#32
  let v1077 : BitVec 32 := Scalar.addi arg2 c1_i32_580
  let v1078 : BitVec 32 := Scalar.subi v1077 c1_i32_581
  let c1_i32_583 : BitVec 32 := 1#32
  let v1080 : BitVec 32 := Scalar.divsi v1078 c1_i32_583
  let v1081 : BitVec 32 := Scalar.muli v1080 c1_i32_583
  let v1082 : BitVec 32 := Scalar.addi c1_i32_581 v1081
  let c1_i32_585 : BitVec 32 := 1#32
  let arg14 : BitVec 32 := Scf.iv v1082 c1_i32_585 k0_t2
  let v1523 : BitVec 32 := Scalar.muli c2_i32_984 arg14
  let v1524 : BitVec 32 := Scalar.subi v331 v1523
  let v1525 : BitVec 32 := Scalar.addi v1524 c2_i32_985
  let c256_i32_986 : BitVec 32 := 256#32
  let v1526 : BitVec 32 := Scalar.muli v1525 c256_i32_986
  let v1527 : BitVec 32 := v1526
  let v1612 : Index := Scalar.indexCast v1527
  let c384_1059 : Index := 384#32
  ![v1612.toNat, 384]
def k0_off26 (i : grid0.Coords) (k0_t2 : Fin (k0_t2_loop i).trips) : Fin 4 → Nat :=
  let c0_1251 : Index := 0#32
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let c2_i32_984 : BitVec 32 := 2#32
  let c1_i32_581 : BitVec 32 := 1#32
  let c1_i32_580 : BitVec 32 := 1#32
  let v1077 : BitVec 32 := Scalar.addi arg2 c1_i32_580
  let v1078 : BitVec 32 := Scalar.subi v1077 c1_i32_581
  let c1_i32_583 : BitVec 32 := 1#32
  let v1080 : BitVec 32 := Scalar.divsi v1078 c1_i32_583
  let v1081 : BitVec 32 := Scalar.muli v1080 c1_i32_583
  let v1082 : BitVec 32 := Scalar.addi c1_i32_581 v1081
  let c1_i32_585 : BitVec 32 := 1#32
  let arg14 : BitVec 32 := Scf.iv v1082 c1_i32_585 k0_t2
  let v1523 : BitVec 32 := Scalar.muli c2_i32_984 arg14
  let v1808 : BitVec 32 := Scalar.subi v331 v1523
  let v1809 : Index := Scalar.indexCast v1808
  let c0_1252 : Index := 0#32
  let c0_1253 : Index := 0#32
  ![0, v1809.toNat, 0, 0]
def k0_off27 (i : grid0.Coords) (k0_t2 : Fin (k0_t2_loop i).trips) : Fin 4 → Nat :=
  let c0_1283 : Index := 0#32
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let c2_i32_984 : BitVec 32 := 2#32
  let c1_i32_581 : BitVec 32 := 1#32
  let c1_i32_580 : BitVec 32 := 1#32
  let v1077 : BitVec 32 := Scalar.addi arg2 c1_i32_580
  let v1078 : BitVec 32 := Scalar.subi v1077 c1_i32_581
  let c1_i32_583 : BitVec 32 := 1#32
  let v1080 : BitVec 32 := Scalar.divsi v1078 c1_i32_583
  let v1081 : BitVec 32 := Scalar.muli v1080 c1_i32_583
  let v1082 : BitVec 32 := Scalar.addi c1_i32_581 v1081
  let c1_i32_585 : BitVec 32 := 1#32
  let arg14 : BitVec 32 := Scf.iv v1082 c1_i32_585 k0_t2
  let v1523 : BitVec 32 := Scalar.muli c2_i32_984 arg14
  let v1808 : BitVec 32 := Scalar.subi v331 v1523
  let v1859 : Index := Scalar.indexCast v1808
  let c128_1284 : Index := 128#32
  let c0_1285 : Index := 0#32
  ![0, v1859.toNat, 128, 0]
def k0_off28 (i : grid0.Coords) (k0_t2 : Fin (k0_t2_loop i).trips) : Fin 4 → Nat :=
  let c0_1315 : Index := 0#32
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let c2_i32_984 : BitVec 32 := 2#32
  let c1_i32_581 : BitVec 32 := 1#32
  let c1_i32_580 : BitVec 32 := 1#32
  let v1077 : BitVec 32 := Scalar.addi arg2 c1_i32_580
  let v1078 : BitVec 32 := Scalar.subi v1077 c1_i32_581
  let c1_i32_583 : BitVec 32 := 1#32
  let v1080 : BitVec 32 := Scalar.divsi v1078 c1_i32_583
  let v1081 : BitVec 32 := Scalar.muli v1080 c1_i32_583
  let v1082 : BitVec 32 := Scalar.addi c1_i32_581 v1081
  let c1_i32_585 : BitVec 32 := 1#32
  let arg14 : BitVec 32 := Scf.iv v1082 c1_i32_585 k0_t2
  let v1523 : BitVec 32 := Scalar.muli c2_i32_984 arg14
  let v1808 : BitVec 32 := Scalar.subi v331 v1523
  let v1909 : Index := Scalar.indexCast v1808
  let c256_1316 : Index := 256#32
  let c0_1317 : Index := 0#32
  ![0, v1909.toNat, 256, 0]
def k0_off29 (i : grid0.Coords) (k0_t2 : Fin (k0_t2_loop i).trips) : Fin 4 → Nat :=
  let c0_1347 : Index := 0#32
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let c2_i32_984 : BitVec 32 := 2#32
  let c1_i32_581 : BitVec 32 := 1#32
  let c1_i32_580 : BitVec 32 := 1#32
  let v1077 : BitVec 32 := Scalar.addi arg2 c1_i32_580
  let v1078 : BitVec 32 := Scalar.subi v1077 c1_i32_581
  let c1_i32_583 : BitVec 32 := 1#32
  let v1080 : BitVec 32 := Scalar.divsi v1078 c1_i32_583
  let v1081 : BitVec 32 := Scalar.muli v1080 c1_i32_583
  let v1082 : BitVec 32 := Scalar.addi c1_i32_581 v1081
  let c1_i32_585 : BitVec 32 := 1#32
  let arg14 : BitVec 32 := Scf.iv v1082 c1_i32_585 k0_t2
  let v1523 : BitVec 32 := Scalar.muli c2_i32_984 arg14
  let v1808 : BitVec 32 := Scalar.subi v331 v1523
  let v1959 : Index := Scalar.indexCast v1808
  let c384_1348 : Index := 384#32
  let c0_1349 : Index := 0#32
  ![0, v1959.toNat, 384, 0]
def k0_mult4 (i : grid0.Coords) (k0_t2 : Fin (k0_t2_loop i).trips) : BitVec 32 :=
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let c2_i32_984 : BitVec 32 := 2#32
  let c1_i32_581 : BitVec 32 := 1#32
  let c1_i32_580 : BitVec 32 := 1#32
  let v1077 : BitVec 32 := Scalar.addi arg2 c1_i32_580
  let v1078 : BitVec 32 := Scalar.subi v1077 c1_i32_581
  let c1_i32_583 : BitVec 32 := 1#32
  let v1080 : BitVec 32 := Scalar.divsi v1078 c1_i32_583
  let v1081 : BitVec 32 := Scalar.muli v1080 c1_i32_583
  let v1082 : BitVec 32 := Scalar.addi c1_i32_581 v1081
  let c1_i32_585 : BitVec 32 := 1#32
  let arg14 : BitVec 32 := Scf.iv v1082 c1_i32_585 k0_t2
  let v1523 : BitVec 32 := Scalar.muli c2_i32_984 arg14
  let v2009 : BitVec 32 := Scalar.subi v331 v1523
  let c1_i32_1379 : BitVec 32 := 1#32
  let v2010 : BitVec 32 := Scalar.addi v2009 c1_i32_1379
  let c256_i32_1380 : BitVec 32 := 256#32
  let v2011 : BitVec 32 := Scalar.muli v2010 c256_i32_1380
  v2011
def k0_off30 (i : grid0.Coords) (k0_t2 : Fin (k0_t2_loop i).trips) : Fin 4 → Nat :=
  let c0_1646 : Index := 0#32
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let c2_i32_984 : BitVec 32 := 2#32
  let c1_i32_581 : BitVec 32 := 1#32
  let c1_i32_580 : BitVec 32 := 1#32
  let v1077 : BitVec 32 := Scalar.addi arg2 c1_i32_580
  let v1078 : BitVec 32 := Scalar.subi v1077 c1_i32_581
  let c1_i32_583 : BitVec 32 := 1#32
  let v1080 : BitVec 32 := Scalar.divsi v1078 c1_i32_583
  let v1081 : BitVec 32 := Scalar.muli v1080 c1_i32_583
  let v1082 : BitVec 32 := Scalar.addi c1_i32_581 v1081
  let c1_i32_585 : BitVec 32 := 1#32
  let arg14 : BitVec 32 := Scf.iv v1082 c1_i32_585 k0_t2
  let v1523 : BitVec 32 := Scalar.muli c2_i32_984 arg14
  let v2293 : BitVec 32 := Scalar.subi v331 v1523
  let c1_i32_1645 : BitVec 32 := 1#32
  let v2294 : BitVec 32 := Scalar.subi v2293 c1_i32_1645
  let v2295 : Index := Scalar.indexCast v2294
  let c0_1647 : Index := 0#32
  let c0_1648 : Index := 0#32
  ![0, v2295.toNat, 0, 0]
def k0_off31 (i : grid0.Coords) (k0_t2 : Fin (k0_t2_loop i).trips) : Fin 4 → Nat :=
  let c0_1678 : Index := 0#32
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let c2_i32_984 : BitVec 32 := 2#32
  let c1_i32_581 : BitVec 32 := 1#32
  let c1_i32_580 : BitVec 32 := 1#32
  let v1077 : BitVec 32 := Scalar.addi arg2 c1_i32_580
  let v1078 : BitVec 32 := Scalar.subi v1077 c1_i32_581
  let c1_i32_583 : BitVec 32 := 1#32
  let v1080 : BitVec 32 := Scalar.divsi v1078 c1_i32_583
  let v1081 : BitVec 32 := Scalar.muli v1080 c1_i32_583
  let v1082 : BitVec 32 := Scalar.addi c1_i32_581 v1081
  let c1_i32_585 : BitVec 32 := 1#32
  let arg14 : BitVec 32 := Scf.iv v1082 c1_i32_585 k0_t2
  let v1523 : BitVec 32 := Scalar.muli c2_i32_984 arg14
  let v2293 : BitVec 32 := Scalar.subi v331 v1523
  let c1_i32_1645 : BitVec 32 := 1#32
  let v2294 : BitVec 32 := Scalar.subi v2293 c1_i32_1645
  let v2345 : Index := Scalar.indexCast v2294
  let c128_1679 : Index := 128#32
  let c0_1680 : Index := 0#32
  ![0, v2345.toNat, 128, 0]
def k0_off32 (i : grid0.Coords) (k0_t2 : Fin (k0_t2_loop i).trips) : Fin 4 → Nat :=
  let c0_1710 : Index := 0#32
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let c2_i32_984 : BitVec 32 := 2#32
  let c1_i32_581 : BitVec 32 := 1#32
  let c1_i32_580 : BitVec 32 := 1#32
  let v1077 : BitVec 32 := Scalar.addi arg2 c1_i32_580
  let v1078 : BitVec 32 := Scalar.subi v1077 c1_i32_581
  let c1_i32_583 : BitVec 32 := 1#32
  let v1080 : BitVec 32 := Scalar.divsi v1078 c1_i32_583
  let v1081 : BitVec 32 := Scalar.muli v1080 c1_i32_583
  let v1082 : BitVec 32 := Scalar.addi c1_i32_581 v1081
  let c1_i32_585 : BitVec 32 := 1#32
  let arg14 : BitVec 32 := Scf.iv v1082 c1_i32_585 k0_t2
  let v1523 : BitVec 32 := Scalar.muli c2_i32_984 arg14
  let v2293 : BitVec 32 := Scalar.subi v331 v1523
  let c1_i32_1645 : BitVec 32 := 1#32
  let v2294 : BitVec 32 := Scalar.subi v2293 c1_i32_1645
  let v2395 : Index := Scalar.indexCast v2294
  let c256_1711 : Index := 256#32
  let c0_1712 : Index := 0#32
  ![0, v2395.toNat, 256, 0]
def k0_off33 (i : grid0.Coords) (k0_t2 : Fin (k0_t2_loop i).trips) : Fin 4 → Nat :=
  let c0_1742 : Index := 0#32
  let c2_i32_114 : BitVec 32 := 2#32
  let arg2 : BitVec 32 := BitVec.ofNat 32 (i 2).val
  let c1_i32_113 : BitVec 32 := 1#32
  let v329 : BitVec 32 := Scalar.addi arg2 c1_i32_113
  let v330 : BitVec 32 := Scalar.muli c2_i32_114 v329
  let c1_i32_115 : BitVec 32 := 1#32
  let v331 : BitVec 32 := Scalar.subi v330 c1_i32_115
  let c2_i32_984 : BitVec 32 := 2#32
  let c1_i32_581 : BitVec 32 := 1#32
  let c1_i32_580 : BitVec 32 := 1#32
  let v1077 : BitVec 32 := Scalar.addi arg2 c1_i32_580
  let v1078 : BitVec 32 := Scalar.subi v1077 c1_i32_581
  let c1_i32_583 : BitVec 32 := 1#32
  let v1080 : BitVec 32 := Scalar.divsi v1078 c1_i32_583
  let v1081 : BitVec 32 := Scalar.muli v1080 c1_i32_583
  let v1082 : BitVec 32 := Scalar.addi c1_i32_581 v1081
  let c1_i32_585 : BitVec 32 := 1#32
  let arg14 : BitVec 32 := Scf.iv v1082 c1_i32_585 k0_t2
  let v1523 : BitVec 32 := Scalar.muli c2_i32_984 arg14
  let v2293 : BitVec 32 := Scalar.subi v331 v1523
  let c1_i32_1645 : BitVec 32 := 1#32
  let v2294 : BitVec 32 := Scalar.subi v2293 c1_i32_1645
  let v2445 : Index := Scalar.indexCast v2294
  let c384_1743 : Index := 384#32
  let c0_1744 : Index := 0#32
  ![0, v2445.toNat, 384, 0]
def k0_mult5 : BitVec 32 :=
  let c256_i32_586 : BitVec 32 := 256#32
  c256_i32_586
def k0_mult6 : BitVec 32 :=
  let c0_i32_851 : BitVec 32 := 0#32
  c0_i32_851
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S1x32x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S8192x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e" => some (((Real.log 2)⁻¹ : ℝ) : EReal)
  | "masked" => some ⊥
  | "scale_log2e" => some (((1 / 8) * (Real.log 2)⁻¹ : ℝ) : EReal)
  | _ => none
-- ==== ReferenceIdeal.lean ====
abbrev S2x8192x16x64 : Shape := ⟨4, ![2, 8192, 16, 64]⟩
abbrev S16 : Shape := ⟨1, ![16]⟩
abbrev S2x16x8192x8192 : Shape := ⟨4, ![2, 16, 8192, 8192]⟩
abbrev S_ : Shape := ⟨0, ![]⟩
abbrev S1x16x1x1 : Shape := ⟨4, ![1, 16, 1, 1]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x16x64x8192 : Shape := ⟨4, ![2, 16, 64, 8192]⟩
abbrev S16384x1024 : Shape := ⟨2, ![16384, 1024]⟩

abbrev nBuf : Space → Nat
  | .hbm => 67
  | .vmem => 0
  | .smem => 0
  | _ => 0

abbrev bufTy : (tb : Table) → Fin (tcTables nBuf tb) → BufTy
  | .hbm, ⟨0, _⟩ => ⟨S2x8192x16x64, .f32⟩
  | .hbm, ⟨1, _⟩ => ⟨S2x8192x16x64, .f32⟩
  | .hbm, ⟨2, _⟩ => ⟨S2x8192x16x64, .f32⟩
  | .hbm, ⟨3, _⟩ => ⟨S16, .f32⟩
  | .hbm, ⟨4, _⟩ => ⟨S2x16x8192x8192, .f32⟩
  | .hbm, ⟨5, _⟩ => ⟨S_, .f32⟩
  | .hbm, ⟨6, _⟩ => ⟨S2x16x8192x8192, .f32⟩
  | .hbm, ⟨7, _⟩ => ⟨S2x16x8192x8192, .f32⟩
  | .hbm, ⟨8, _⟩ => ⟨S1x16x1x1, .f32⟩
  | .hbm, ⟨9, _⟩ => ⟨S2x16x8192x8192, .f32⟩
  | .hbm, ⟨10, _⟩ => ⟨S2x16x8192x8192, .f32⟩
  | .hbm, ⟨11, _⟩ => ⟨S8192, .i32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S_, .f32⟩
  | .hbm, ⟨18, _⟩ => ⟨S2x16x8192x8192, .f32⟩
  | .hbm, ⟨19, _⟩ => ⟨S2x16x8192x8192, .f32⟩
  | .hbm, ⟨20, _⟩ => ⟨S2x16x8192x8192, .f32⟩
  | .hbm, ⟨21, _⟩ => ⟨S2x16x8192x8192, .f32⟩
  | .hbm, ⟨22, _⟩ => ⟨S2x16x8192x8192, .i1⟩
  | .hbm, ⟨23, _⟩ => ⟨S2x16x8192x8192, .f32⟩
  | .hbm, ⟨24, _⟩ => ⟨S2x16x8192x8192, .f32⟩
  | .hbm, ⟨25, _⟩ => ⟨S2x16x8192x8192, .f32⟩
  | .hbm, ⟨26, _⟩ => ⟨S2x16x8192x8192, .f32⟩
  | .hbm, ⟨27, _⟩ => ⟨S2x16x8192x8192, .f32⟩
  | .hbm, ⟨28, _⟩ => ⟨S2x16x8192x8192, .f32⟩
  | .hbm, ⟨29, _⟩ => ⟨S2x16x8192x8192, .f32⟩
  | .hbm, ⟨30, _⟩ => ⟨S2x16x8192x8192, .f32⟩
  | .hbm, ⟨31, _⟩ => ⟨S_, .f32⟩
  | .hbm, ⟨32, _⟩ => ⟨S_, .f32⟩
  | .hbm, ⟨33, _⟩ => ⟨S2x16x8192x8192, .i1⟩
  | .hbm, ⟨34, _⟩ => ⟨S2x16x8192x8192, .f32⟩
  | .hbm, ⟨35, _⟩ => ⟨S2x16x8192x8192, .f32⟩
  | .hbm, ⟨36, _⟩ => ⟨S_, .f32⟩
  | .hbm, ⟨37, _⟩ => ⟨S_, .f32⟩
  | .hbm, ⟨38, _⟩ => ⟨S2x16x8192x8192, .f32⟩
  | .hbm, ⟨39, _⟩ => ⟨S2x16x8192x8192, .f32⟩
  | .hbm, ⟨40, _⟩ => ⟨S2x16x8192x8192, .f32⟩
  | .hbm, ⟨41, _⟩ => ⟨S_, .f32⟩
  | .hbm, ⟨42, _⟩ => ⟨S2x16x8192x8192, .f32⟩
  | .hbm, ⟨43, _⟩ => ⟨S2x16x8192x8192, .f32⟩
  | .hbm, ⟨44, _⟩ => ⟨S2x16x8192x8192, .f32⟩
  | .hbm, ⟨45, _⟩ => ⟨S2x16x8192x8192, .f32⟩
  | .hbm, ⟨46, _⟩ => ⟨S2x16x8192x8192, .i1⟩
  | .hbm, ⟨47, _⟩ => ⟨S2x16x8192x8192, .f32⟩
  | .hbm, ⟨48, _⟩ => ⟨S2x16x8192x8192, .f32⟩
  | .hbm, ⟨49, _⟩ => ⟨S2x16x8192x8192, .f32⟩
  | .hbm, ⟨50, _⟩ => ⟨S2x16x8192x8192, .f32⟩
  | .hbm, ⟨51, _⟩ => ⟨S2x16x8192x8192, .f32⟩
  | .hbm, ⟨52, _⟩ => ⟨S2x16x8192x8192, .f32⟩
  | .hbm, ⟨53, _⟩ => ⟨S2x16x8192x8192, .f32⟩
  | .hbm, ⟨54, _⟩ => ⟨S2x16x8192x8192, .f32⟩
  | .hbm, ⟨55, _⟩ => ⟨S2x16x8192x8192, .f32⟩
  | .hbm, ⟨56, _⟩ => ⟨S2x16x8192x8192, .f32⟩
  | .hbm, ⟨57, _⟩ => ⟨S2x16x8192x8192, .f32⟩
  | .hbm, ⟨58, _⟩ => ⟨S_, .f32⟩
  | .hbm, ⟨59, _⟩ => ⟨S_, .f32⟩
  | .hbm, ⟨60, _⟩ => ⟨S2x16x8192x8192, .i1⟩
  | .hbm, ⟨61, _⟩ => ⟨S2x16x8192x8192, .f32⟩
  | .hbm, ⟨62, _⟩ => ⟨S2x16x8192x8192, .f32⟩
  | .hbm, ⟨63, _⟩ => ⟨S2x16x64x8192, .f32⟩
  | .hbm, ⟨64, _⟩ => ⟨S2x8192x16x64, .f32⟩
  | .hbm, ⟨65, _⟩ => ⟨S16384x1024, .f32⟩
  | .hbm, ⟨66, _⟩ => ⟨S16384x1024, .bf16⟩
  | _, _ => ⟨S2x8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v12 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v13 : Ref sig .tc := ⟨.hbm, 35, rfl⟩
abbrev main_call2_cst : Ref sig .tc := ⟨.hbm, 36, rfl⟩
abbrev main_call2_v0 : Ref sig .tc := ⟨.hbm, 37, rfl⟩
abbrev main_v14 : Ref sig .tc := ⟨.hbm, 38, rfl⟩
abbrev main_v15 : Ref sig .tc := ⟨.hbm, 39, rfl⟩
abbrev main_call3_v0 : Ref sig .tc := ⟨.hbm, 40, rfl⟩
abbrev main_call3_call0_cst : Ref sig .tc := ⟨.hbm, 41, rfl⟩
abbrev main_call3_call0_v0 : Ref sig .tc := ⟨.hbm, 42, rfl⟩
abbrev main_call3_call0_v1 : Ref sig .tc := ⟨.hbm, 43, rfl⟩
abbrev main_call3_call0_v2 : Ref sig .tc := ⟨.hbm, 44, rfl⟩
abbrev main_call3_call0_v3 : Ref sig .tc := ⟨.hbm, 45, rfl⟩
abbrev main_call3_call0_v4 : Ref sig .tc := ⟨.hbm, 46, rfl⟩
abbrev main_call3_call0_v5 : Ref sig .tc := ⟨.hbm, 47, rfl⟩
abbrev main_call3_call0_v6 : Ref sig .tc := ⟨.hbm, 48, rfl⟩
abbrev main_call3_call0_v7 : Ref sig .tc := ⟨.hbm, 49, rfl⟩
abbrev main_call3_call0_v8 : Ref sig .tc := ⟨.hbm, 50, rfl⟩
abbrev main_call3_call0_v9 : Ref sig .tc := ⟨.hbm, 51, rfl⟩
abbrev main_call3_call0_v10 : Ref sig .tc := ⟨.hbm, 52, rfl⟩
abbrev main_call3_call0_v11 : Ref sig .tc := ⟨.hbm, 53, rfl⟩
abbrev main_call3_v1 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst_1 : Ref sig .tc := ⟨.hbm, 58, rfl⟩
abbrev main_call4_v0 : Ref sig .tc := ⟨.hbm, 59, rfl⟩
abbrev main_call4_v1 : Ref sig .tc := ⟨.hbm, 60, rfl⟩
abbrev main_call4_v2 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩

abbrev nD : Nat := 1
abbrev τ : Topo := Topo.v7x

variable {F : FTy → Type} [FloatOps F]
-- ==== KernelFfn.lean ====
abbrev S16512x1024 : Shape := ⟨2, ![16512, 1024]⟩
abbrev S16384x1024 : Shape := ⟨2, ![16384, 1024]⟩
abbrev S128x1024 : Shape := ⟨2, ![128, 1024]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1024 : Shape := ⟨1, ![1024]⟩
abbrev S1x1024x1024 : Shape := ⟨3, ![1, 1024, 1024]⟩
abbrev S1024x1024 : Shape := ⟨2, ![1024, 1024]⟩
abbrev S1x1024 : Shape := ⟨2, ![1, 1024]⟩
abbrev S688x1024 : Shape := ⟨2, ![688, 1024]⟩
abbrev S1x1024x5632 : Shape := ⟨3, ![1, 1024, 5632]⟩
abbrev S1x2816x1024 : Shape := ⟨3, ![1, 2816, 1024]⟩
abbrev S560x1024 : Shape := ⟨2, ![560, 1024]⟩
abbrev S688 : Shape := ⟨1, ![688]⟩
abbrev S688x1 : Shape := ⟨2, ![688, 1]⟩
abbrev S1x1024x768 : Shape := ⟨3, ![1, 1024, 768]⟩
abbrev S1024x768 : Shape := ⟨2, ![1024, 768]⟩
abbrev S688x768 : Shape := ⟨2, ![688, 768]⟩
abbrev S1x768x1024 : Shape := ⟨3, ![1, 768, 1024]⟩
abbrev S768x1024 : Shape := ⟨2, ![768, 1024]⟩

abbrev nBuf : Space → Nat
  | .hbm => 19
  | .vmem => 12
  | .smem => 0
  | _ => 0

abbrev bufTy : (tb : Table) → Fin (tcTables nBuf tb) → BufTy
  | .hbm, ⟨0, _⟩ => ⟨S16512x1024, .f32⟩
  | .hbm, ⟨1, _⟩ => ⟨S16384x1024, .bf16⟩
  | .hbm, ⟨2, _⟩ => ⟨S128x1024, .f32⟩
  | .hbm, ⟨3, _⟩ => ⟨S2x1024x1024, .f32⟩
  | .hbm, ⟨4, _⟩ => ⟨S4x1024, .f32⟩
  | .hbm, ⟨5, _⟩ => ⟨S4x1024x5632, .f32⟩
  | .hbm, ⟨6, _⟩ => ⟨S4x2816x1024, .f32⟩
  | .hbm, ⟨7, _⟩ => ⟨S1024, .f32⟩
  | .hbm, ⟨8, _⟩ => ⟨S128x1024, .bf16⟩
  | .hbm, ⟨9, _⟩ => ⟨S1x1024x1024, .f32⟩
  | .hbm, ⟨10, _⟩ => ⟨S1024x1024, .f32⟩
  | .hbm, ⟨11, _⟩ => ⟨S1024x1024, .bf16⟩
  | .hbm, ⟨12, _⟩ => ⟨S1x1024, .f32⟩
  | .hbm, ⟨13, _⟩ => ⟨S1024, .f32⟩
  | .hbm, ⟨14, _⟩ => ⟨S4x1024x5632, .bf16⟩
  | .hbm, ⟨15, _⟩ => ⟨S4x2816x1024, .bf16⟩
  | .hbm, ⟨16, _⟩ => ⟨S1x1024, .f32⟩
  | .hbm, ⟨17, _⟩ => ⟨S1x1024, .f32⟩
  | .hbm, ⟨18, _⟩ => ⟨S16512x1024, .f32⟩
  | .local _ .vmem, ⟨0, _⟩ => ⟨S688x1024, .f32⟩
  | .local _ .vmem, ⟨1, _⟩ => ⟨S688x1024, .f32⟩
  | .local _ .vmem, ⟨2, _⟩ => ⟨S688x1024, .bf16⟩
  | .local _ .vmem, ⟨3, _⟩ => ⟨S688x1024, .bf16⟩
  | .local _ .vmem, ⟨4, _⟩ => ⟨S128x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024x5632, .bf16⟩
  | .local _ .vmem, ⟨8, _⟩ => ⟨S1x2816x1024, .bf16⟩
  | .local _ .vmem, ⟨9, _⟩ => ⟨S1x1024, .f32⟩
  | .local _ .vmem, ⟨10, _⟩ => ⟨S688x1024, .f32⟩
  | .local _ .vmem, ⟨11, _⟩ => ⟨S688x1024, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S688x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceFfnIdeal.lean ====
abbrev S16512x1024 : Shape := ⟨2, ![16512, 1024]⟩
abbrev S16384x1024 : Shape := ⟨2, ![16384, 1024]⟩
abbrev S128x1024 : Shape := ⟨2, ![128, 1024]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1024 : Shape := ⟨1, ![1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S16512 : Shape := ⟨1, ![16512]⟩
abbrev S16512x1 : Shape := ⟨2, ![16512, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16512x5632 : Shape := ⟨2, ![16512, 5632]⟩
abbrev S16512x2816 : Shape := ⟨2, ![16512, 2816]⟩

abbrev nBuf : Space → Nat
  | .hbm => 70
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S16384x1024, .bf16⟩
  | .hbm, ⟨2, _⟩ => ⟨S128x1024, .f32⟩
  | .hbm, ⟨3, _⟩ => ⟨S2x1024x1024, .f32⟩
  | .hbm, ⟨4, _⟩ => ⟨S4x1024, .f32⟩
  | .hbm, ⟨5, _⟩ => ⟨S4x1024x5632, .f32⟩
  | .hbm, ⟨6, _⟩ => ⟨S4x2816x1024, .f32⟩
  | .hbm, ⟨7, _⟩ => ⟨S1024, .f32⟩
  | .hbm, ⟨8, _⟩ => ⟨S16384x1024, .f32⟩
  | .hbm, ⟨9, _⟩ => ⟨S16512x1024, .f32⟩
  | .hbm, ⟨10, _⟩ => ⟨S1x1024x1024, .f32⟩
  | .hbm, ⟨11, _⟩ => ⟨S1024x1024, .f32⟩
  | .hbm, ⟨12, _⟩ => ⟨S16512x1024, .f32⟩
  | .hbm, ⟨13, _⟩ => ⟨S16512x1024, .f32⟩
  | .hbm, ⟨14, _⟩ => ⟨S1x1024, .f32⟩
  | .hbm, ⟨15, _⟩ => ⟨S1024, .f32⟩
  | .hbm, ⟨16, _⟩ => ⟨S16512x1024, .f32⟩
  | .hbm, ⟨17, _⟩ => ⟨S_, .f32⟩
  | .hbm, ⟨18, _⟩ => ⟨S16512, .f32⟩
  | .hbm, ⟨19, _⟩ => ⟨S16512x1, .f32⟩
  | .hbm, ⟨20, _⟩ => ⟨S_, .f32⟩
  | .hbm, ⟨21, _⟩ => ⟨S16512x1, .f32⟩
  | .hbm, ⟨22, _⟩ => ⟨S16512x1, .f32⟩
  | .hbm, ⟨23, _⟩ => ⟨S_, .f32⟩
  | .hbm, ⟨24, _⟩ => ⟨S16512x1, .f32⟩
  | .hbm, ⟨25, _⟩ => ⟨S16512x1, .f32⟩
  | .hbm, ⟨26, _⟩ => ⟨S16512x1, .f32⟩
  | .hbm, ⟨27, _⟩ => ⟨S16512x1024, .f32⟩
  | .hbm, ⟨28, _⟩ => ⟨S16512x1024, .f32⟩
  | .hbm, ⟨29, _⟩ => ⟨S1x1024, .f32⟩
  | .hbm, ⟨30, _⟩ => ⟨S16512x1024, .f32⟩
  | .hbm, ⟨31, _⟩ => ⟨S16512x1024, .f32⟩
  | .hbm, ⟨32, _⟩ => ⟨S1x1024x5632, .f32⟩
  | .hbm, ⟨33, _⟩ => ⟨S1024x5632, .f32⟩
  | .hbm, ⟨34, _⟩ => ⟨S1x2816x1024, .f32⟩
  | .hbm, ⟨35, _⟩ => ⟨S2816x1024, .f32⟩
  | .hbm, ⟨36, _⟩ => ⟨S16512x5632, .f32⟩
  | .hbm, ⟨37, _⟩ => ⟨S16512x2816, .f32⟩
  | .hbm, ⟨38, _⟩ => ⟨S16512x2816, .f32⟩
  | .hbm, ⟨39, _⟩ => ⟨S16512x2816, .f32⟩
  | .hbm, ⟨40, _⟩ => ⟨S16512x2816, .f32⟩
  | .hbm, ⟨41, _⟩ => ⟨S_, .f32⟩
  | .hbm, ⟨42, _⟩ => ⟨S16512x2816, .f32⟩
  | .hbm, ⟨43, _⟩ => ⟨S16512x2816, .f32⟩
  | .hbm, ⟨44, _⟩ => ⟨S_, .f32⟩
  | .hbm, ⟨45, _⟩ => ⟨S16512x2816, .f32⟩
  | .hbm, ⟨46, _⟩ => ⟨S16512x2816, .f32⟩
  | .hbm, ⟨47, _⟩ => ⟨S16512x2816, .f32⟩
  | .hbm, ⟨48, _⟩ => ⟨S16512x2816, .f32⟩
  | .hbm, ⟨49, _⟩ => ⟨S16512x1024, .f32⟩
  | .hbm, ⟨50, _⟩ => ⟨S_, .f32⟩
  | .hbm, ⟨51, _⟩ => ⟨S16512x1024, .f32⟩
  | .hbm, ⟨52, _⟩ => ⟨S16512x1024, .f32⟩
  | .hbm, ⟨53, _⟩ => ⟨S16512x1024, .f32⟩
  | .hbm, ⟨54, _⟩ => ⟨S16512x1024, .f32⟩
  | .hbm, ⟨55, _⟩ => ⟨S_, .f32⟩
  | .hbm, ⟨56, _⟩ => ⟨S16512, .f32⟩
  | .hbm, ⟨57, _⟩ => ⟨S16512x1, .f32⟩
  | .hbm, ⟨58, _⟩ => ⟨S_, .f32⟩
  | .hbm, ⟨59, _⟩ => ⟨S16512x1, .f32⟩
  | .hbm, ⟨60, _⟩ => ⟨S16512x1, .f32⟩
  | .hbm, ⟨61, _⟩ => ⟨S_, .f32⟩
  | .hbm, ⟨62, _⟩ => ⟨S16512x1, .f32⟩
  | .hbm, ⟨63, _⟩ => ⟨S16512x1, .f32⟩
  | .hbm, ⟨64, _⟩ => ⟨S16512x1, .f32⟩
  | .hbm, ⟨65, _⟩ => ⟨S16512x1024, .f32⟩
  | .hbm, ⟨66, _⟩ => ⟨S16512x1024, .f32⟩
  | .hbm, ⟨67, _⟩ => ⟨S1x1024, .f32⟩
  | .hbm, ⟨68, _⟩ => ⟨S16512x1024, .f32⟩
  | .hbm, ⟨69, _⟩ => ⟨S16512x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_2 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_3 : Ref sig .tc := ⟨.hbm, 55, rfl⟩
abbrev main_v35 : Ref sig .tc := ⟨.hbm, 56, rfl⟩
abbrev main_v36 : Ref sig .tc := ⟨.hbm, 57, rfl⟩
abbrev main_cst_4 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩

abbrev nD : Nat := 1
abbrev τ : Topo := Topo.v7x

variable {F : FTy → Type} [FloatOps F]
-- ==== KernelFfnA.lean ====
abbrev S16512x1024 : Shape := ⟨2, ![16512, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1x1024 : Shape := ⟨2, ![1, 1024]⟩
abbrev S1024 : Shape := ⟨1, ![1024]⟩
abbrev S688x1024 : Shape := ⟨2, ![688, 1024]⟩
abbrev S1x1024x5632 : Shape := ⟨3, ![1, 1024, 5632]⟩
abbrev S1x2816x1024 : Shape := ⟨3, ![1, 2816, 1024]⟩
abbrev S688 : Shape := ⟨1, ![688]⟩
abbrev S688x1 : Shape := ⟨2, ![688, 1]⟩
abbrev S1x1024x1024 : Shape := ⟨3, ![1, 1024, 1024]⟩
abbrev S1024x1024 : Shape := ⟨2, ![1024, 1024]⟩
abbrev S1x1024x768 : Shape := ⟨3, ![1, 1024, 768]⟩
abbrev S1024x768 : Shape := ⟨2, ![1024, 768]⟩
abbrev S688x768 : Shape := ⟨2, ![688, 768]⟩
abbrev S1x768x1024 : Shape := ⟨3, ![1, 768, 1024]⟩
abbrev S768x1024 : Shape := ⟨2, ![768, 1024]⟩

abbrev nBuf : Space → Nat
  | .hbm => 10
  | .vmem => 7
  | .smem => 0
  | _ => 0

abbrev bufTy : (tb : Table) → Fin (tcTables nBuf tb) → BufTy
  | .hbm, ⟨0, _⟩ => ⟨S16512x1024, .f32⟩
  | .hbm, ⟨1, _⟩ => ⟨S4x1024, .f32⟩
  | .hbm, ⟨2, _⟩ => ⟨S4x1024x5632, .f32⟩
  | .hbm, ⟨3, _⟩ => ⟨S4x2816x1024, .f32⟩
  | .hbm, ⟨4, _⟩ => ⟨S1x1024, .f32⟩
  | .hbm, ⟨5, _⟩ => ⟨S1024, .f32⟩
  | .hbm, ⟨6, _⟩ => ⟨S4x1024x5632, .bf16⟩
  | .hbm, ⟨7, _⟩ => ⟨S4x2816x1024, .bf16⟩
  | .hbm, ⟨8, _⟩ => ⟨S1x1024, .f32⟩
  | .hbm, ⟨9, _⟩ => ⟨S16512x1024, .f32⟩
  | .local _ .vmem, ⟨0, _⟩ => ⟨S688x1024, .f32⟩
  | .local _ .vmem, ⟨1, _⟩ => ⟨S688x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S688x1024, .f32⟩
  | .local _ .vmem, ⟨6, _⟩ => ⟨S688x1024, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceFfnAIdeal.lean ====
abbrev S16512x1024 : Shape := ⟨2, ![16512, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1x1024 : Shape := ⟨2, ![1, 1024]⟩
abbrev S1024 : Shape := ⟨1, ![1024]⟩
abbrev S_ : Shape := ⟨0, ![]⟩
abbrev S16512 : Shape := ⟨1, ![16512]⟩
abbrev S16512x1 : Shape := ⟨2, ![16512, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16512x5632 : Shape := ⟨2, ![16512, 5632]⟩
abbrev S16512x2816 : Shape := ⟨2, ![16512, 2816]⟩

abbrev nBuf : Space → Nat
  | .hbm => 44
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S4x1024, .f32⟩
  | .hbm, ⟨2, _⟩ => ⟨S4x1024x5632, .f32⟩
  | .hbm, ⟨3, _⟩ => ⟨S4x2816x1024, .f32⟩
  | .hbm, ⟨4, _⟩ => ⟨S1x1024, .f32⟩
  | .hbm, ⟨5, _⟩ => ⟨S1024, .f32⟩
  | .hbm, ⟨6, _⟩ => ⟨S16512x1024, .f32⟩
  | .hbm, ⟨7, _⟩ => ⟨S_, .f32⟩
  | .hbm, ⟨8, _⟩ => ⟨S16512, .f32⟩
  | .hbm, ⟨9, _⟩ => ⟨S16512x1, .f32⟩
  | .hbm, ⟨10, _⟩ => ⟨S_, .f32⟩
  | .hbm, ⟨11, _⟩ => ⟨S16512x1, .f32⟩
  | .hbm, ⟨12, _⟩ => ⟨S16512x1, .f32⟩
  | .hbm, ⟨13, _⟩ => ⟨S_, .f32⟩
  | .hbm, ⟨14, _⟩ => ⟨S16512x1, .f32⟩
  | .hbm, ⟨15, _⟩ => ⟨S16512x1, .f32⟩
  | .hbm, ⟨16, _⟩ => ⟨S16512x1, .f32⟩
  | .hbm, ⟨17, _⟩ => ⟨S16512x1024, .f32⟩
  | .hbm, ⟨18, _⟩ => ⟨S16512x1024, .f32⟩
  | .hbm, ⟨19, _⟩ => ⟨S1x1024, .f32⟩
  | .hbm, ⟨20, _⟩ => ⟨S16512x1024, .f32⟩
  | .hbm, ⟨21, _⟩ => ⟨S16512x1024, .f32⟩
  | .hbm, ⟨22, _⟩ => ⟨S1x1024x5632, .f32⟩
  | .hbm, ⟨23, _⟩ => ⟨S1024x5632, .f32⟩
  | .hbm, ⟨24, _⟩ => ⟨S1x2816x1024, .f32⟩
  | .hbm, ⟨25, _⟩ => ⟨S2816x1024, .f32⟩
  | .hbm, ⟨26, _⟩ => ⟨S16512x5632, .f32⟩
  | .hbm, ⟨27, _⟩ => ⟨S16512x2816, .f32⟩
  | .hbm, ⟨28, _⟩ => ⟨S16512x2816, .f32⟩
  | .hbm, ⟨29, _⟩ => ⟨S16512x2816, .f32⟩
  | .hbm, ⟨30, _⟩ => ⟨S16512x2816, .f32⟩
  | .hbm, ⟨31, _⟩ => ⟨S_, .f32⟩
  | .hbm, ⟨32, _⟩ => ⟨S16512x2816, .f32⟩
  | .hbm, ⟨33, _⟩ => ⟨S16512x2816, .f32⟩
  | .hbm, ⟨34, _⟩ => ⟨S_, .f32⟩
  | .hbm, ⟨35, _⟩ => ⟨S16512x2816, .f32⟩
  | .hbm, ⟨36, _⟩ => ⟨S16512x2816, .f32⟩
  | .hbm, ⟨37, _⟩ => ⟨S16512x2816, .f32⟩
  | .hbm, ⟨38, _⟩ => ⟨S16512x2816, .f32⟩
  | .hbm, ⟨39, _⟩ => ⟨S16512x1024, .f32⟩
  | .hbm, ⟨40, _⟩ => ⟨S_, .f32⟩
  | .hbm, ⟨41, _⟩ => ⟨S16512x1024, .f32⟩
  | .hbm, ⟨42, _⟩ => ⟨S16512x1024, .f32⟩
  | .hbm, ⟨43, _⟩ => ⟨S16512x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== KernelFfnB.lean ====
abbrev S16512x1024 : Shape := ⟨2, ![16512, 1024]⟩
abbrev S16384x1024 : Shape := ⟨2, ![16384, 1024]⟩
abbrev S128x1024 : Shape := ⟨2, ![128, 1024]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S688x1024 : Shape := ⟨2, ![688, 1024]⟩
abbrev S1x1024x5632 : Shape := ⟨3, ![1, 1024, 5632]⟩
abbrev S1x2816x1024 : Shape := ⟨3, ![1, 2816, 1024]⟩
abbrev S560x1024 : Shape := ⟨2, ![560, 1024]⟩
abbrev S688 : Shape := ⟨1, ![688]⟩
abbrev S688x1 : Shape := ⟨2, ![688, 1]⟩
abbrev S1x1024x768 : Shape := ⟨3, ![1, 1024, 768]⟩
abbrev S1024x768 : Shape := ⟨2, ![1024, 768]⟩
abbrev S688x768 : Shape := ⟨2, ![688, 768]⟩
abbrev S1x768x1024 : Shape := ⟨3, ![1, 768, 1024]⟩
abbrev S768x1024 : Shape := ⟨2, ![768, 1024]⟩

abbrev nBuf : Space → Nat
  | .hbm => 17
  | .vmem => 11
  | .smem => 0
  | _ => 0

abbrev bufTy : (tb : Table) → Fin (tcTables nBuf tb) → BufTy
  | .hbm, ⟨0, _⟩ => ⟨S16512x1024, .f32⟩
  | .hbm, ⟨1, _⟩ => ⟨S16384x1024, .bf16⟩
  | .hbm, ⟨2, _⟩ => ⟨S128x1024, .f32⟩
  | .hbm, ⟨3, _⟩ => ⟨S2x1024x1024, .f32⟩
  | .hbm, ⟨4, _⟩ => ⟨S4x1024, .f32⟩
  | .hbm, ⟨5, _⟩ => ⟨S4x1024x5632, .f32⟩
  | .hbm, ⟨6, _⟩ => ⟨S4x2816x1024, .f32⟩
  | .hbm, ⟨7, _⟩ => ⟨S128x1024, .bf16⟩
  | .hbm, ⟨8, _⟩ => ⟨S1x1024x1024, .f32⟩
  | .hbm, ⟨9, _⟩ => ⟨S1024x1024, .f32⟩
  | .hbm, ⟨10, _⟩ => ⟨S1024x1024, .bf16⟩
  | .hbm, ⟨11, _⟩ => ⟨S1x1024, .f32⟩
  | .hbm, ⟨12, _⟩ => ⟨S1024, .f32⟩
  | .hbm, ⟨13, _⟩ => ⟨S4x1024x5632, .bf16⟩
  | .hbm, ⟨14, _⟩ => ⟨S4x2816x1024, .bf16⟩
  | .hbm, ⟨15, _⟩ => ⟨S1x1024, .f32⟩
  | .hbm, ⟨16, _⟩ => ⟨S16512x1024, .f32⟩
  | .local _ .vmem, ⟨0, _⟩ => ⟨S688x1024, .f32⟩
  | .local _ .vmem, ⟨1, _⟩ => ⟨S688x1024, .f32⟩
  | .local _ .vmem, ⟨2, _⟩ => ⟨S688x1024, .bf16⟩
  | .local _ .vmem, ⟨3, _⟩ => ⟨S688x1024, .bf16⟩
  | .local _ .vmem, ⟨4, _⟩ => ⟨S128x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024x5632, .bf16⟩
  | .local _ .vmem, ⟨8, _⟩ => ⟨S1x2816x1024, .bf16⟩
  | .local _ .vmem, ⟨9, _⟩ => ⟨S688x1024, .f32⟩
  | .local _ .vmem, ⟨10, _⟩ => ⟨S688x1024, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S688x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceFfnBIdeal.lean ====
abbrev S16512x1024 : Shape := ⟨2, ![16512, 1024]⟩
abbrev S16384x1024 : Shape := ⟨2, ![16384, 1024]⟩
abbrev S128x1024 : Shape := ⟨2, ![128, 1024]⟩
abbrev S2x1024x1024 : Shape := ⟨3, ![2, 1024, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16512 : Shape := ⟨1, ![16512]⟩
abbrev S16512x1 : Shape := ⟨2, ![16512, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16512x5632 : Shape := ⟨2, ![16512, 5632]⟩
abbrev S16512x2816 : Shape := ⟨2, ![16512, 2816]⟩

abbrev nBuf : Space → Nat
  | .hbm => 53
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S16384x1024, .bf16⟩
  | .hbm, ⟨2, _⟩ => ⟨S128x1024, .f32⟩
  | .hbm, ⟨3, _⟩ => ⟨S2x1024x1024, .f32⟩
  | .hbm, ⟨4, _⟩ => ⟨S4x1024, .f32⟩
  | .hbm, ⟨5, _⟩ => ⟨S4x1024x5632, .f32⟩
  | .hbm, ⟨6, _⟩ => ⟨S4x2816x1024, .f32⟩
  | .hbm, ⟨7, _⟩ => ⟨S16384x1024, .f32⟩
  | .hbm, ⟨8, _⟩ => ⟨S16512x1024, .f32⟩
  | .hbm, ⟨9, _⟩ => ⟨S1x1024x1024, .f32⟩
  | .hbm, ⟨10, _⟩ => ⟨S1024x1024, .f32⟩
  | .hbm, ⟨11, _⟩ => ⟨S16512x1024, .f32⟩
  | .hbm, ⟨12, _⟩ => ⟨S16512x1024, .f32⟩
  | .hbm, ⟨13, _⟩ => ⟨S1x1024, .f32⟩
  | .hbm, ⟨14, _⟩ => ⟨S1024, .f32⟩
  | .hbm, ⟨15, _⟩ => ⟨S16512x1024, .f32⟩
  | .hbm, ⟨16, _⟩ => ⟨S_, .f32⟩
  | .hbm, ⟨17, _⟩ => ⟨S16512, .f32⟩
  | .hbm, ⟨18, _⟩ => ⟨S16512x1, .f32⟩
  | .hbm, ⟨19, _⟩ => ⟨S_, .f32⟩
  | .hbm, ⟨20, _⟩ => ⟨S16512x1, .f32⟩
  | .hbm, ⟨21, _⟩ => ⟨S16512x1, .f32⟩
  | .hbm, ⟨22, _⟩ => ⟨S_, .f32⟩
  | .hbm, ⟨23, _⟩ => ⟨S16512x1, .f32⟩
  | .hbm, ⟨24, _⟩ => ⟨S16512x1, .f32⟩
  | .hbm, ⟨25, _⟩ => ⟨S16512x1, .f32⟩
  | .hbm, ⟨26, _⟩ => ⟨S16512x1024, .f32⟩
  | .hbm, ⟨27, _⟩ => ⟨S16512x1024, .f32⟩
  | .hbm, ⟨28, _⟩ => ⟨S1x1024, .f32⟩
  | .hbm, ⟨29, _⟩ => ⟨S16512x1024, .f32⟩
  | .hbm, ⟨30, _⟩ => ⟨S16512x1024, .f32⟩
  | .hbm, ⟨31, _⟩ => ⟨S1x1024x5632, .f32⟩
  | .hbm, ⟨32, _⟩ => ⟨S1024x5632, .f32⟩
  | .hbm, ⟨33, _⟩ => ⟨S1x2816x1024, .f32⟩
  | .hbm, ⟨34, _⟩ => ⟨S2816x1024, .f32⟩
  | .hbm, ⟨35, _⟩ => ⟨S16512x5632, .f32⟩
  | .hbm, ⟨36, _⟩ => ⟨S16512x2816, .f32⟩
  | .hbm, ⟨37, _⟩ => ⟨S16512x2816, .f32⟩
  | .hbm, ⟨38, _⟩ => ⟨S16512x2816, .f32⟩
  | .hbm, ⟨39, _⟩ => ⟨S16512x2816, .f32⟩
  | .hbm, ⟨40, _⟩ => ⟨S_, .f32⟩
  | .hbm, ⟨41, _⟩ => ⟨S16512x2816, .f32⟩
  | .hbm, ⟨42, _⟩ => ⟨S16512x2816, .f32⟩
  | .hbm, ⟨43, _⟩ => ⟨S_, .f32⟩
  | .hbm, ⟨44, _⟩ => ⟨S16512x2816, .f32⟩
  | .hbm, ⟨45, _⟩ => ⟨S16512x2816, .f32⟩
  | .hbm, ⟨46, _⟩ => ⟨S16512x2816, .f32⟩
  | .hbm, ⟨47, _⟩ => ⟨S16512x2816, .f32⟩
  | .hbm, ⟨48, _⟩ => ⟨S16512x1024, .f32⟩
  | .hbm, ⟨49, _⟩ => ⟨S_, .f32⟩
  | .hbm, ⟨50, _⟩ => ⟨S16512x1024, .f32⟩
  | .hbm, ⟨51, _⟩ => ⟨S16512x1024, .f32⟩
  | .hbm, ⟨52, _⟩ => ⟨S16512x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== KernelFfn0.lean ====
abbrev S16384x1024 : Shape := ⟨2, ![16384, 1024]⟩
abbrev S128x1024 : Shape := ⟨2, ![128, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1x1024 : Shape := ⟨2, ![1, 1024]⟩
abbrev S1024 : Shape := ⟨1, ![1024]⟩
abbrev S16512x1024 : Shape := ⟨2, ![16512, 1024]⟩
abbrev S688x1024 : Shape := ⟨2, ![688, 1024]⟩
abbrev S1x1024x5632 : Shape := ⟨3, ![1, 1024, 5632]⟩
abbrev S1x2816x1024 : Shape := ⟨3, ![1, 2816, 1024]⟩
abbrev S560x1024 : Shape := ⟨2, ![560, 1024]⟩
abbrev S688 : Shape := ⟨1, ![688]⟩
abbrev S688x1 : Shape := ⟨2, ![688, 1]⟩
abbrev S1x1024x1024 : Shape := ⟨3, ![1, 1024, 1024]⟩
abbrev S1024x1024 : Shape := ⟨2, ![1024, 1024]⟩
abbrev S1x1024x768 : Shape := ⟨3, ![1, 1024, 768]⟩
abbrev S1024x768 : Shape := ⟨2, ![1024, 768]⟩
abbrev S688x768 : Shape := ⟨2, ![688, 768]⟩
abbrev S1x768x1024 : Shape := ⟨3, ![1, 768, 1024]⟩
abbrev S768x1024 : Shape := ⟨2, ![768, 1024]⟩

abbrev nBuf : Space → Nat
  | .hbm => 11
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S128x1024, .f32⟩
  | .hbm, ⟨2, _⟩ => ⟨S4x1024, .f32⟩
  | .hbm, ⟨3, _⟩ => ⟨S4x1024x5632, .f32⟩
  | .hbm, ⟨4, _⟩ => ⟨S4x2816x1024, .f32⟩
  | .hbm, ⟨5, _⟩ => ⟨S1x1024, .f32⟩
  | .hbm, ⟨6, _⟩ => ⟨S1024, .f32⟩
  | .hbm, ⟨7, _⟩ => ⟨S4x1024x5632, .bf16⟩
  | .hbm, ⟨8, _⟩ => ⟨S4x2816x1024, .bf16⟩
  | .hbm, ⟨9, _⟩ => ⟨S1x1024, .f32⟩
  | .hbm, ⟨10, _⟩ => ⟨S16512x1024, .f32⟩
  | .local _ .vmem, ⟨0, _⟩ => ⟨S688x1024, .f32⟩
  | .local _ .vmem, ⟨1, _⟩ => ⟨S688x1024, .f32⟩
  | .local _ .vmem, ⟨2, _⟩ => ⟨S128x1024, .f32⟩
  | .local _ .vmem, ⟨3, _⟩ => ⟨S1x1024, .f32⟩
  | .local _ .vmem, ⟨4, _⟩ => ⟨S1x1024x5632, .bf16⟩
  | .local _ .vmem, ⟨5, _⟩ => ⟨S1x2816x1024, .bf16⟩
  | .local _ .vmem, ⟨6, _⟩ => ⟨S688x1024, .f32⟩
  | .local _ .vmem, ⟨7, _⟩ => ⟨S688x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S688x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceFfn0Ideal.lean ====
abbrev S16384x1024 : Shape := ⟨2, ![16384, 1024]⟩
abbrev S128x1024 : Shape := ⟨2, ![128, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S16512x1024 : Shape := ⟨2, ![16512, 1024]⟩
abbrev S1x1024 : Shape := ⟨2, ![1, 1024]⟩
abbrev S1024 : Shape := ⟨1, ![1024]⟩
abbrev S_ : Shape := ⟨0, ![]⟩
abbrev S16512 : Shape := ⟨1, ![16512]⟩
abbrev S16512x1 : Shape := ⟨2, ![16512, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16512x5632 : Shape := ⟨2, ![16512, 5632]⟩
abbrev S16512x2816 : Shape := ⟨2, ![16512, 2816]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S128x1024, .f32⟩
  | .hbm, ⟨2, _⟩ => ⟨S4x1024, .f32⟩
  | .hbm, ⟨3, _⟩ => ⟨S4x1024x5632, .f32⟩
  | .hbm, ⟨4, _⟩ => ⟨S4x2816x1024, .f32⟩
  | .hbm, ⟨5, _⟩ => ⟨S16512x1024, .f32⟩
  | .hbm, ⟨6, _⟩ => ⟨S1x1024, .f32⟩
  | .hbm, ⟨7, _⟩ => ⟨S1024, .f32⟩
  | .hbm, ⟨8, _⟩ => ⟨S16512x1024, .f32⟩
  | .hbm, ⟨9, _⟩ => ⟨S_, .f32⟩
  | .hbm, ⟨10, _⟩ => ⟨S16512, .f32⟩
  | .hbm, ⟨11, _⟩ => ⟨S16512x1, .f32⟩
  | .hbm, ⟨12, _⟩ => ⟨S_, .f32⟩
  | .hbm, ⟨13, _⟩ => ⟨S16512x1, .f32⟩
  | .hbm, ⟨14, _⟩ => ⟨S16512x1, .f32⟩
  | .hbm, ⟨15, _⟩ => ⟨S_, .f32⟩
  | .hbm, ⟨16, _⟩ => ⟨S16512x1, .f32⟩
  | .hbm, ⟨17, _⟩ => ⟨S16512x1, .f32⟩
  | .hbm, ⟨18, _⟩ => ⟨S16512x1, .f32⟩
  | .hbm, ⟨19, _⟩ => ⟨S16512x1024, .f32⟩
  | .hbm, ⟨20, _⟩ => ⟨S16512x1024, .f32⟩
  | .hbm, ⟨21, _⟩ => ⟨S1x1024, .f32⟩
  | .hbm, ⟨22, _⟩ => ⟨S16512x1024, .f32⟩
  | .hbm, ⟨23, _⟩ => ⟨S16512x1024, .f32⟩
  | .hbm, ⟨24, _⟩ => ⟨S1x1024x5632, .f32⟩
  | .hbm, ⟨25, _⟩ => ⟨S1024x5632, .f32⟩
  | .hbm, ⟨26, _⟩ => ⟨S1x2816x1024, .f32⟩
  | .hbm, ⟨27, _⟩ => ⟨S2816x1024, .f32⟩
  | .hbm, ⟨28, _⟩ => ⟨S16512x5632, .f32⟩
  | .hbm, ⟨29, _⟩ => ⟨S16512x2816, .f32⟩
  | .hbm, ⟨30, _⟩ => ⟨S16512x2816, .f32⟩
  | .hbm, ⟨31, _⟩ => ⟨S16512x2816, .f32⟩
  | .hbm, ⟨32, _⟩ => ⟨S16512x2816, .f32⟩
  | .hbm, ⟨33, _⟩ => ⟨S_, .f32⟩
  | .hbm, ⟨34, _⟩ => ⟨S16512x2816, .f32⟩
  | .hbm, ⟨35, _⟩ => ⟨S16512x2816, .f32⟩
  | .hbm, ⟨36, _⟩ => ⟨S_, .f32⟩
  | .hbm, ⟨37, _⟩ => ⟨S16512x2816, .f32⟩
  | .hbm, ⟨38, _⟩ => ⟨S16512x2816, .f32⟩
  | .hbm, ⟨39, _⟩ => ⟨S16512x2816, .f32⟩
  | .hbm, ⟨40, _⟩ => ⟨S16512x2816, .f32⟩
  | .hbm, ⟨41, _⟩ => ⟨S16512x1024, .f32⟩
  | .hbm, ⟨42, _⟩ => ⟨S_, .f32⟩
  | .hbm, ⟨43, _⟩ => ⟨S16512x1024, .f32⟩
  | .hbm, ⟨44, _⟩ => ⟨S16512x1024, .f32⟩
  | .hbm, ⟨45, _⟩ => ⟨S16512x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== KernelProj.lean ====
abbrev S16512x1024 : Shape := ⟨2, ![16512, 1024]⟩
abbrev S4x1024 : Shape := ⟨2, ![4, 1024]⟩
abbrev S2x1024x1536 : Shape := ⟨3, ![2, 1024, 1536]⟩
abbrev S1x1024 : Shape := ⟨2, ![1, 1024]⟩
abbrev S1024 : Shape := ⟨1, ![1024]⟩
abbrev S1x1024x1536 : Shape := ⟨3, ![1, 1024, 1536]⟩
abbrev S1024x1536 : Shape := ⟨2, ![1024, 1536]⟩
abbrev S16512x512 : Shape := ⟨2, ![16512, 512]⟩
abbrev S688x1024 : Shape := ⟨2, ![688, 1024]⟩
abbrev S688x512 : Shape := ⟨2, ![688, 512]⟩
abbrev S688 : Shape := ⟨1, ![688]⟩
abbrev S688x1 : Shape := ⟨2, ![688, 1]⟩
abbrev S1024x512 : Shape := ⟨2, ![1024, 512]⟩

abbrev nBuf : Space → Nat
  | .hbm => 12
  | .vmem => 10
  | .smem => 0
  | _ => 0

abbrev bufTy : (tb : Table) → Fin (tcTables nBuf tb) → BufTy
  | .hbm, ⟨0, _⟩ => ⟨S16512x1024, .f32⟩
  | .hbm, ⟨1, _⟩ => ⟨S4x1024, .f32⟩
  | .hbm, ⟨2, _⟩ => ⟨S2x1024x1536, .f32⟩
  | .hbm, ⟨3, _⟩ => ⟨S1x1024, .f32⟩
  | .hbm, ⟨4, _⟩ => ⟨S1024, .f32⟩
  | .hbm, ⟨5, _⟩ => ⟨S1x1024x1536, .f32⟩
  | .hbm, ⟨6, _⟩ => ⟨S1024x1536, .f32⟩
  | .hbm, ⟨7, _⟩ => ⟨S1024x1536, .bf16⟩
  | .hbm, ⟨8, _⟩ => ⟨S1x1024, .f32⟩
  | .hbm, ⟨9, _⟩ => ⟨S16512x512, .f32⟩
  | .hbm, ⟨10, _⟩ => ⟨S16512x512, .f32⟩
  | .hbm, ⟨11, _⟩ => ⟨S16512x512, .f32⟩
  | .local _ .vmem, ⟨0, _⟩ => ⟨S688x1024, .f32⟩
  | .local _ .vmem, ⟨1, _⟩ => ⟨S688x1024, .f32⟩
  | .local _ .vmem, ⟨2, _⟩ => ⟨S1x1024, .f32⟩
  | .local _ .vmem, ⟨3, _⟩ => ⟨S1024x1536, .bf16⟩
  | .local _ .vmem, ⟨4, _⟩ => ⟨S688x512, .f32⟩
  | .local _ .vmem, ⟨5, _⟩ => ⟨S688x512, .f32⟩
  | .local _ .vmem, ⟨6, _⟩ => ⟨S688x512, .f32⟩
  | .local _ .vmem, ⟨7, _⟩ => ⟨S688x512, .f32⟩
  | .local _ .vmem, ⟨8, _⟩ => ⟨S688x512, .f32⟩
  | .local _ .vmem, ⟨9, _⟩ => ⟨S688x512, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S688x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S688x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S688x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceProjIdeal.lean ====
abbrev S16512x1024 : Shape := ⟨2, ![16512, 1024]⟩
abbrev S4x1024 : Shape := ⟨2, ![4, 1024]⟩
abbrev S2x1024x1536 : Shape := ⟨3, ![2, 1024, 1536]⟩
abbrev S1x1024 : Shape := ⟨2, ![1, 1024]⟩
abbrev S1024 : Shape := ⟨1, ![1024]⟩
abbrev S_ : Shape := ⟨0, ![]⟩
abbrev S16512 : Shape := ⟨1, ![16512]⟩
abbrev S16512x1 : Shape := ⟨2, ![16512, 1]⟩
abbrev S1x1024x1536 : Shape := ⟨3, ![1, 1024, 1536]⟩
abbrev S1024x1536 : Shape := ⟨2, ![1024, 1536]⟩
abbrev S16512x1536 : Shape := ⟨2, ![16512, 1536]⟩
abbrev S16512x512 : Shape := ⟨2, ![16512, 512]⟩

abbrev nBuf : Space → Nat
  | .hbm => 27
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S4x1024, .f32⟩
  | .hbm, ⟨2, _⟩ => ⟨S2x1024x1536, .f32⟩
  | .hbm, ⟨3, _⟩ => ⟨S1x1024, .f32⟩
  | .hbm, ⟨4, _⟩ => ⟨S1024, .f32⟩
  | .hbm, ⟨5, _⟩ => ⟨S16512x1024, .f32⟩
  | .hbm, ⟨6, _⟩ => ⟨S_, .f32⟩
  | .hbm, ⟨7, _⟩ => ⟨S16512, .f32⟩
  | .hbm, ⟨8, _⟩ => ⟨S16512x1, .f32⟩
  | .hbm, ⟨9, _⟩ => ⟨S_, .f32⟩
  | .hbm, ⟨10, _⟩ => ⟨S16512x1, .f32⟩
  | .hbm, ⟨11, _⟩ => ⟨S16512x1, .f32⟩
  | .hbm, ⟨12, _⟩ => ⟨S_, .f32⟩
  | .hbm, ⟨13, _⟩ => ⟨S16512x1, .f32⟩
  | .hbm, ⟨14, _⟩ => ⟨S16512x1, .f32⟩
  | .hbm, ⟨15, _⟩ => ⟨S16512x1, .f32⟩
  | .hbm, ⟨16, _⟩ => ⟨S16512x1024, .f32⟩
  | .hbm, ⟨17, _⟩ => ⟨S16512x1024, .f32⟩
  | .hbm, ⟨18, _⟩ => ⟨S1x1024, .f32⟩
  | .hbm, ⟨19, _⟩ => ⟨S16512x1024, .f32⟩
  | .hbm, ⟨20, _⟩ => ⟨S16512x1024, .f32⟩
  | .hbm, ⟨21, _⟩ => ⟨S1x1024x1536, .f32⟩
  | .hbm, ⟨22, _⟩ => ⟨S1024x1536, .f32⟩
  | .hbm, ⟨23, _⟩ => ⟨S16512x1536, .f32⟩
  | .hbm, ⟨24, _⟩ => ⟨S16512x512, .f32⟩
  | .hbm, ⟨25, _⟩ => ⟨S16512x512, .f32⟩
  | .hbm, ⟨26, _⟩ => ⟨S16512x512, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== KernelProjS.lean ====
abbrev S16512x1024 : Shape := ⟨2, ![16512, 1024]⟩
abbrev S4x1024 : Shape := ⟨2, ![4, 1024]⟩
abbrev S2x1024x3072 : Shape := ⟨3, ![2, 1024, 3072]⟩
abbrev S1x1024 : Shape := ⟨2, ![1, 1024]⟩
abbrev S1024 : Shape := ⟨1, ![1024]⟩
abbrev S1x1024x3072 : Shape := ⟨3, ![1, 1024, 3072]⟩
abbrev S1024x3072 : Shape := ⟨2, ![1024, 3072]⟩
abbrev S128x1024 : Shape := ⟨2, ![128, 1024]⟩
abbrev S128 : Shape := ⟨1, ![128]⟩
abbrev S128x1 : Shape := ⟨2, ![128, 1]⟩
abbrev S1024x1024 : Shape := ⟨2, ![1024, 1024]⟩

abbrev nBuf : Space → Nat
  | .hbm => 12
  | .vmem => 6
  | .smem => 0
  | _ => 0

abbrev bufTy : (tb : Table) → Fin (tcTables nBuf tb) → BufTy
  | .hbm, ⟨0, _⟩ => ⟨S16512x1024, .f32⟩
  | .hbm, ⟨1, _⟩ => ⟨S4x1024, .f32⟩
  | .hbm, ⟨2, _⟩ => ⟨S2x1024x3072, .f32⟩
  | .hbm, ⟨3, _⟩ => ⟨S1x1024, .f32⟩
  | .hbm, ⟨4, _⟩ => ⟨S1024, .f32⟩
  | .hbm, ⟨5, _⟩ => ⟨S1x1024x3072, .f32⟩
  | .hbm, ⟨6, _⟩ => ⟨S1024x3072, .f32⟩
  | .hbm, ⟨7, _⟩ => ⟨S1024x3072, .bf16⟩
  | .hbm, ⟨8, _⟩ => ⟨S1x1024, .f32⟩
  | .hbm, ⟨9, _⟩ => ⟨S128x1024, .f32⟩
  | .hbm, ⟨10, _⟩ => ⟨S128x1024, .f32⟩
  | .hbm, ⟨11, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1024x3072, .bf16⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== ReferenceProjSIdeal.lean ====
abbrev S16512x1024 : Shape := ⟨2, ![16512, 1024]⟩
abbrev S4x1024 : Shape := ⟨2, ![4, 1024]⟩
abbrev S2x1024x3072 : Shape := ⟨3, ![2, 1024, 3072]⟩
abbrev S128x1024 : Shape := ⟨2, ![128, 1024]⟩
abbrev S1x1024 : Shape := ⟨2, ![1, 1024]⟩
abbrev S1024 : Shape := ⟨1, ![1024]⟩
abbrev S_ : Shape := ⟨0, ![]⟩
abbrev S128 : Shape := ⟨1, ![128]⟩
abbrev S128x1 : Shape := ⟨2, ![128, 1]⟩
abbrev S1x1024x3072 : Shape := ⟨3, ![1, 1024, 3072]⟩
abbrev S1024x3072 : Shape := ⟨2, ![1024, 3072]⟩
abbrev S128x3072 : Shape := ⟨2, ![128, 3072]⟩

abbrev nBuf : Space → Nat
  | .hbm => 28
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S4x1024, .f32⟩
  | .hbm, ⟨2, _⟩ => ⟨S2x1024x3072, .f32⟩
  | .hbm, ⟨3, _⟩ => ⟨S128x1024, .f32⟩
  | .hbm, ⟨4, _⟩ => ⟨S1x1024, .f32⟩
  | .hbm, ⟨5, _⟩ => ⟨S1024, .f32⟩
  | .hbm, ⟨6, _⟩ => ⟨S128x1024, .f32⟩
  | .hbm, ⟨7, _⟩ => ⟨S_, .f32⟩
  | .hbm, ⟨8, _⟩ => ⟨S128, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S128x1, .f32⟩
  | .hbm, ⟨17, _⟩ => ⟨S128x1024, .f32⟩
  | .hbm, ⟨18, _⟩ => ⟨S128x1024, .f32⟩
  | .hbm, ⟨19, _⟩ => ⟨S1x1024, .f32⟩
  | .hbm, ⟨20, _⟩ => ⟨S128x1024, .f32⟩
  | .hbm, ⟨21, _⟩ => ⟨S128x1024, .f32⟩
  | .hbm, ⟨22, _⟩ => ⟨S1x1024x3072, .f32⟩
  | .hbm, ⟨23, _⟩ => ⟨S1024x3072, .f32⟩
  | .hbm, ⟨24, _⟩ => ⟨S128x3072, .f32⟩
  | .hbm, ⟨25, _⟩ => ⟨S128x1024, .f32⟩
  | .hbm, ⟨26, _⟩ => ⟨S128x1024, .f32⟩
  | .hbm, ⟨27, _⟩ => ⟨S128x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== KernelQkv.lean ====
abbrev S16512x1024 : Shape := ⟨2, ![16512, 1024]⟩
abbrev S4x1024 : Shape := ⟨2, ![4, 1024]⟩
abbrev S2x1024x3072 : Shape := ⟨3, ![2, 1024, 3072]⟩
abbrev S1x2x1024x8192 : Shape := ⟨4, ![1, 2, 1024, 8192]⟩
abbrev S1x1024 : Shape := ⟨2, ![1, 1024]⟩
abbrev S1024 : Shape := ⟨1, ![1024]⟩
abbrev S1x1024x3072 : Shape := ⟨3, ![1, 1024, 3072]⟩
abbrev S1024x3072 : Shape := ⟨2, ![1024, 3072]⟩
abbrev S1024x1024 : Shape := ⟨2, ![1024, 1024]⟩
abbrev S16384x1024 : Shape := ⟨2, ![16384, 1024]⟩
abbrev S2x2x1024x8192 : Shape := ⟨4, ![2, 2, 1024, 8192]⟩
abbrev S2x32x1024x256 : Shape := ⟨4, ![2, 32, 1024, 256]⟩
abbrev S512x1024 : Shape := ⟨2, ![512, 1024]⟩
abbrev S1x1x1024x512 : Shape := ⟨4, ![1, 1, 1024, 512]⟩
abbrev S2x1x1024x512 : Shape := ⟨4, ![2, 1, 1024, 512]⟩
abbrev S1x2x1024x256 : Shape := ⟨4, ![1, 2, 1024, 256]⟩
abbrev S512 : Shape := ⟨1, ![512]⟩
abbrev S512x1 : Shape := ⟨2, ![512, 1]⟩
abbrev S1024x512 : Shape := ⟨2, ![1024, 512]⟩
abbrev S1024x256 : Shape := ⟨2, ![1024, 256]⟩
abbrev S1x1x1024x256 : Shape := ⟨4, ![1, 1, 1024, 256]⟩
abbrev S2x2x16x64x8192 : Shape := ⟨5, ![2, 2, 16, 64, 8192]⟩
abbrev S2x2x8192x16x64 : Shape := ⟨5, ![2, 2, 8192, 16, 64]⟩

abbrev nBuf : Space → Nat
  | .hbm => 25
  | .vmem => 21
  | .smem => 0
  | _ => 0

abbrev bufTy : (tb : Table) → Fin (tcTables nBuf tb) → BufTy
  | .hbm, ⟨0, _⟩ => ⟨S16512x1024, .f32⟩
  | .hbm, ⟨1, _⟩ => ⟨S4x1024, .f32⟩
  | .hbm, ⟨2, _⟩ => ⟨S2x1024x3072, .f32⟩
  | .hbm, ⟨3, _⟩ => ⟨S1x2x1024x8192, .f32⟩
  | .hbm, ⟨4, _⟩ => ⟨S1x2x1024x8192, .f32⟩
  | .hbm, ⟨5, _⟩ => ⟨S1x1024, .f32⟩
  | .hbm, ⟨6, _⟩ => ⟨S1024, .f32⟩
  | .hbm, ⟨7, _⟩ => ⟨S1x1024x3072, .f32⟩
  | .hbm, ⟨8, _⟩ => ⟨S1024x3072, .f32⟩
  | .hbm, ⟨9, _⟩ => ⟨S1024x3072, .bf16⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1x1024, .f32⟩
  | .hbm, ⟨14, _⟩ => ⟨S1024x1024, .bf16⟩
  | .hbm, ⟨15, _⟩ => ⟨S1024x1024, .bf16⟩
  | .hbm, ⟨16, _⟩ => ⟨S16384x1024, .bf16⟩
  | .hbm, ⟨17, _⟩ => ⟨S2x2x1024x8192, .f32⟩
  | .hbm, ⟨18, _⟩ => ⟨S2x32x1024x256, .bf16⟩
  | .hbm, ⟨19, _⟩ => ⟨S2x2x1024x8192, .f32⟩
  | .hbm, ⟨20, _⟩ => ⟨S16384x1024, .bf16⟩
  | .hbm, ⟨21, _⟩ => ⟨S2x2x16x64x8192, .f32⟩
  | .hbm, ⟨22, _⟩ => ⟨S2x2x8192x16x64, .f32⟩
  | .hbm, ⟨23, _⟩ => ⟨S2x2x16x64x8192, .f32⟩
  | .hbm, ⟨24, _⟩ => ⟨S2x2x8192x16x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1x1024x512, .f32⟩
  | .local _ .vmem, ⟨8, _⟩ => ⟨S1x1x1024x512, .f32⟩
  | .local _ .vmem, ⟨9, _⟩ => ⟨S1x1x1024x512, .f32⟩
  | .local _ .vmem, ⟨10, _⟩ => ⟨S1x1x1024x512, .f32⟩
  | .local _ .vmem, ⟨11, _⟩ => ⟨S512x1024, .bf16⟩
  | .local _ .vmem, ⟨12, _⟩ => ⟨S512x1024, .bf16⟩
  | .local _ .vmem, ⟨13, _⟩ => ⟨S2x1x1024x512, .f32⟩
  | .local _ .vmem, ⟨14, _⟩ => ⟨S2x1x1024x512, .f32⟩
  | .local _ .vmem, ⟨15, _⟩ => ⟨S1x2x1024x256, .bf16⟩
  | .local _ .vmem, ⟨16, _⟩ => ⟨S1x2x1024x256, .bf16⟩
  | .local _ .vmem, ⟨17, _⟩ => ⟨S2x1x1024x512, .f32⟩
  | .local _ .vmem, ⟨18, _⟩ => ⟨S2x1x1024x512, .f32⟩
  | .local _ .vmem, ⟨19, _⟩ => ⟨S512x1024, .bf16⟩
  | .local _ .vmem, ⟨20, _⟩ => ⟨S512x1024, .bf16⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev main_v11_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x1x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x1x1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceQkvIdeal.lean ====
abbrev S16512x1024 : Shape := ⟨2, ![16512, 1024]⟩
abbrev S4x1024 : Shape := ⟨2, ![4, 1024]⟩
abbrev S2x1024x3072 : Shape := ⟨3, ![2, 1024, 3072]⟩
abbrev S1x2x1024x8192 : Shape := ⟨4, ![1, 2, 1024, 8192]⟩
abbrev S16384x1024 : Shape := ⟨2, ![16384, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x3072 : Shape := ⟨3, ![1, 1024, 3072]⟩
abbrev S1024x3072 : Shape := ⟨2, ![1024, 3072]⟩
abbrev S16384x3072 : Shape := ⟨2, ![16384, 3072]⟩
abbrev S2x32x256x1024 : Shape := ⟨4, ![2, 32, 256, 1024]⟩
abbrev S2x32x1024x256 : Shape := ⟨4, ![2, 32, 1024, 256]⟩
abbrev S1x2x16x64x8192 : Shape := ⟨5, ![1, 2, 16, 64, 8192]⟩
abbrev S1x2x8192x16x64 : Shape := ⟨5, ![1, 2, 8192, 16, 64]⟩
abbrev S2x2x8192x16x64 : Shape := ⟨5, ![2, 2, 8192, 16, 64]⟩

abbrev nBuf : Space → Nat
  | .hbm => 46
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S4x1024, .f32⟩
  | .hbm, ⟨2, _⟩ => ⟨S2x1024x3072, .f32⟩
  | .hbm, ⟨3, _⟩ => ⟨S1x2x1024x8192, .f32⟩
  | .hbm, ⟨4, _⟩ => ⟨S1x2x1024x8192, .f32⟩
  | .hbm, ⟨5, _⟩ => ⟨S16384x1024, .f32⟩
  | .hbm, ⟨6, _⟩ => ⟨S1x1024, .f32⟩
  | .hbm, ⟨7, _⟩ => ⟨S1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S1x1024x3072, .f32⟩
  | .hbm, ⟨25, _⟩ => ⟨S1024x3072, .f32⟩
  | .hbm, ⟨26, _⟩ => ⟨S16384x3072, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S2x32x256x1024, .f32⟩
  | .hbm, ⟨31, _⟩ => ⟨S2x32x1024x256, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S16384x1024, .bf16⟩
  | .hbm, ⟨36, _⟩ => ⟨S1x2x16x64x8192, .f32⟩
  | .hbm, ⟨37, _⟩ => ⟨S1x2x8192x16x64, .f32⟩
  | .hbm, ⟨38, _⟩ => ⟨S1x2x8192x16x64, .f32⟩
  | .hbm, ⟨39, _⟩ => ⟨S2x2x8192x16x64, .f32⟩
  | .hbm, ⟨40, _⟩ => ⟨S2x32x1024x256, .bf16⟩
  | .hbm, ⟨41, _⟩ => ⟨S1x2x16x64x8192, .f32⟩
  | .hbm, ⟨42, _⟩ => ⟨S1x2x8192x16x64, .f32⟩
  | .hbm, ⟨43, _⟩ => ⟨S1x2x8192x16x64, .f32⟩
  | .hbm, ⟨44, _⟩ => ⟨S2x2x8192x16x64, .f32⟩
  | .hbm, ⟨45, _⟩ => ⟨S16384x1024, .bf16⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== KernelQkv1.lean ====
abbrev S16512x1024 : Shape := ⟨2, ![16512, 1024]⟩
abbrev S4x1024 : Shape := ⟨2, ![4, 1024]⟩
abbrev S2x1024x3072 : Shape := ⟨3, ![2, 1024, 3072]⟩
abbrev S1x1024 : Shape := ⟨2, ![1, 1024]⟩
abbrev S1024 : Shape := ⟨1, ![1024]⟩
abbrev S1x1024x3072 : Shape := ⟨3, ![1, 1024, 3072]⟩
abbrev S1024x3072 : Shape := ⟨2, ![1024, 3072]⟩
abbrev S1024x1024 : Shape := ⟨2, ![1024, 1024]⟩
abbrev S16384x1024 : Shape := ⟨2, ![16384, 1024]⟩
abbrev S1x2x1024x8192 : Shape := ⟨4, ![1, 2, 1024, 8192]⟩
abbrev S2x32x1024x256 : Shape := ⟨4, ![2, 32, 1024, 256]⟩
abbrev S512x1024 : Shape := ⟨2, ![512, 1024]⟩
abbrev S1x1x1024x512 : Shape := ⟨4, ![1, 1, 1024, 512]⟩
abbrev S1x2x1024x256 : Shape := ⟨4, ![1, 2, 1024, 256]⟩
abbrev S512 : Shape := ⟨1, ![512]⟩
abbrev S512x1 : Shape := ⟨2, ![512, 1]⟩
abbrev S1024x512 : Shape := ⟨2, ![1024, 512]⟩
abbrev S1024x256 : Shape := ⟨2, ![1024, 256]⟩
abbrev S1x1x1024x256 : Shape := ⟨4, ![1, 1, 1024, 256]⟩

abbrev nBuf : Space → Nat
  | .hbm => 19
  | .vmem => 17
  | .smem => 0
  | _ => 0

abbrev bufTy : (tb : Table) → Fin (tcTables nBuf tb) → BufTy
  | .hbm, ⟨0, _⟩ => ⟨S16512x1024, .f32⟩
  | .hbm, ⟨1, _⟩ => ⟨S4x1024, .f32⟩
  | .hbm, ⟨2, _⟩ => ⟨S2x1024x3072, .f32⟩
  | .hbm, ⟨3, _⟩ => ⟨S1x1024, .f32⟩
  | .hbm, ⟨4, _⟩ => ⟨S1024, .f32⟩
  | .hbm, ⟨5, _⟩ => ⟨S1x1024x3072, .f32⟩
  | .hbm, ⟨6, _⟩ => ⟨S1024x3072, .f32⟩
  | .hbm, ⟨7, _⟩ => ⟨S1024x3072, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1x1024, .f32⟩
  | .hbm, ⟨12, _⟩ => ⟨S1024x1024, .bf16⟩
  | .hbm, ⟨13, _⟩ => ⟨S1024x1024, .bf16⟩
  | .hbm, ⟨14, _⟩ => ⟨S16384x1024, .bf16⟩
  | .hbm, ⟨15, _⟩ => ⟨S1x2x1024x8192, .f32⟩
  | .hbm, ⟨16, _⟩ => ⟨S2x32x1024x256, .bf16⟩
  | .hbm, ⟨17, _⟩ => ⟨S1x2x1024x8192, .f32⟩
  | .hbm, ⟨18, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S512x1024, .bf16⟩
  | .local _ .vmem, ⟨8, _⟩ => ⟨S512x1024, .bf16⟩
  | .local _ .vmem, ⟨9, _⟩ => ⟨S1x1x1024x512, .f32⟩
  | .local _ .vmem, ⟨10, _⟩ => ⟨S1x1x1024x512, .f32⟩
  | .local _ .vmem, ⟨11, _⟩ => ⟨S1x2x1024x256, .bf16⟩
  | .local _ .vmem, ⟨12, _⟩ => ⟨S1x2x1024x256, .bf16⟩
  | .local _ .vmem, ⟨13, _⟩ => ⟨S1x1x1024x512, .f32⟩
  | .local _ .vmem, ⟨14, _⟩ => ⟨S1x1x1024x512, .f32⟩
  | .local _ .vmem, ⟨15, _⟩ => ⟨S512x1024, .bf16⟩
  | .local _ .vmem, ⟨16, _⟩ => ⟨S512x1024, .bf16⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11_0 : Ref sig .tc := ⟨.hbm, 14, rfl⟩
abbrev main_v11_1 : Ref sig .tc := ⟨.hbm, 15, rfl⟩
abbrev main_v11_2 : Ref sig .tc := ⟨.hbm, 16, rfl⟩
abbrev main_v11_3 : Ref sig .tc := ⟨.hbm, 17, rfl⟩
abbrev main_v11_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceQkv1Ideal.lean ====
abbrev S16512x1024 : Shape := ⟨2, ![16512, 1024]⟩
abbrev S4x1024 : Shape := ⟨2, ![4, 1024]⟩
abbrev S2x1024x3072 : Shape := ⟨3, ![2, 1024, 3072]⟩
abbrev S16384x1024 : Shape := ⟨2, ![16384, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x3072 : Shape := ⟨3, ![1, 1024, 3072]⟩
abbrev S1024x3072 : Shape := ⟨2, ![1024, 3072]⟩
abbrev S16384x3072 : Shape := ⟨2, ![16384, 3072]⟩
abbrev S2x32x256x1024 : Shape := ⟨4, ![2, 32, 256, 1024]⟩
abbrev S2x32x1024x256 : Shape := ⟨4, ![2, 32, 1024, 256]⟩
abbrev S1x2x8192x1024 : Shape := ⟨4, ![1, 2, 8192, 1024]⟩
abbrev S1x2x1024x8192 : Shape := ⟨4, ![1, 2, 1024, 8192]⟩

abbrev nBuf : Space → Nat
  | .hbm => 40
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S4x1024, .f32⟩
  | .hbm, ⟨2, _⟩ => ⟨S2x1024x3072, .f32⟩
  | .hbm, ⟨3, _⟩ => ⟨S16384x1024, .f32⟩
  | .hbm, ⟨4, _⟩ => ⟨S1x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S1x1024x3072, .f32⟩
  | .hbm, ⟨23, _⟩ => ⟨S1024x3072, .f32⟩
  | .hbm, ⟨24, _⟩ => ⟨S16384x3072, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S2x32x256x1024, .f32⟩
  | .hbm, ⟨29, _⟩ => ⟨S2x32x1024x256, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S16384x1024, .bf16⟩
  | .hbm, ⟨34, _⟩ => ⟨S1x2x8192x1024, .f32⟩
  | .hbm, ⟨35, _⟩ => ⟨S1x2x1024x8192, .f32⟩
  | .hbm, ⟨36, _⟩ => ⟨S2x32x1024x256, .bf16⟩
  | .hbm, ⟨37, _⟩ => ⟨S1x2x8192x1024, .f32⟩
  | .hbm, ⟨38, _⟩ => ⟨S1x2x1024x8192, .f32⟩
  | .hbm, ⟨39, _⟩ => ⟨S16384x1024, .bf16⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== Proof.Mem.lean ====
/-
  Loads and stores of a memref that a core owns at known contents: a load at a rectangle reads a window of
  the contents, a store puts its payload over one.
-/
module

public import Idealize.ShloMosaic.Lib.VecWindow
public import Idealize.ShloMosaic.Lib.Tactic

@[expose] public section

noncomputable section

namespace Cert.Proof.Attn

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}
variable {Ix : Type} [DecidableEq Ix] {Name : Type} [DecidableEq Name] {U : Type} [URA U] {Lvl : Type} [Preorder Lvl]

local notation "𝕄" => MT nD τ sig Ix Val Name U Lvl

variable {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load at a rectangle continues at the window of the contents. -/
theorem wp_ld {cs : CoreSpace} {m : Memref sig c.2.kind cs s e} {off size : Fin s.rank → ℕ} {inb : ∀ a, off a + size a ≤ s.size a}
    {hl : m.view.LoadsAt (Rect.unit off size inb).toLoadRect} {q : PosShare TreeShare} {X : s.Idx → Val e}
    {k : ((Rect.unit off size inb).shape.Idx → Val e) → Prog (TpuEff nD τ sig Val Λ c.2) α} :
    (owns c m q X : sProp 𝕄)
      ⊢ iprop((owns c m q X -∗ wp frame (wpE defs 𝒱 c bd) E (k (VecWindow.window X off size inb)) Q)
        -∗ wp frame (wpE defs 𝒱 c bd) E (.op (.load m (Rect.unit off size inb).toLoadRect hl) k) Q) := by
  unfold owns
  iintro ⟨%f, %hf, H⟩ Hk
  subst hf
  iapply (wp_load 𝒱 c bd E (m := m) (r := (Rect.unit off size inb).toLoadRect) (hl := hl) (k := k) (q := q) (f := f)
    (S := m.view.set) (View.setOn_subset_set _ _)) $$ H
  iintro H
  iapply Hk
  iexists f; isplitr; · ipureintro; rfl
  iexact H

/-- A scalar load continues at the element of the contents. -/
theorem wp_lds {m : Memref sig c.2.kind .smem s e} {off size : Fin s.rank → ℕ} {inb : ∀ a, off a + size a ≤ s.size a}
    {hw : (m.access (Rect.unit off size inb)).Loads} {x : (Rect.unit off size inb).shape.Idx} {q : PosShare TreeShare} {X : s.Idx → Val e}
    {k : Val e → Prog (TpuEff nD τ sig Val Λ c.2) α} :
    (owns c m q X : sProp 𝕄)
      ⊢ iprop((owns c m q X -∗ wp frame (wpE defs 𝒱 c bd) E (k (VecWindow.window X off size inb x)) Q)
        -∗ wp frame (wpE defs 𝒱 c bd) E (smemLoadElt m (Rect.unit off size inb) hw x k) Q) := by
  unfold owns
  iintro ⟨%f, %hf, H⟩ Hk
  subst hf
  iapply (wp_smemLoadElt 𝒱 c bd E (m := m) (r := Rect.unit off size inb) (hw := hw) (x := x) (k := k) (q := q) (f := f)
    (S := m.view.set) (View.set_slice_subset _ _)) $$ H
  iintro H
  iapply Hk
  iexists f; isplitr; · ipureintro; rfl
  iexact H

/-- What a view reads after a store through one of its unit rectangles. -/
theorem read_put {sp : Space} {κ : Kind} (v : View sig κ sp s e) {off size : Fin s.rank → ℕ} {inb : ∀ a, off a + size a ≤ s.size a}
    (f : v.ty.Contents Val) (w : (Rect.unit off size inb).shape.Idx → Val e) :
    v.read Val ((v.slice (Rect.unit off size inb)).write Val f w Finset.univ) = VecWindow.put (v.read Val f) off size w := by
  have h := View.read_writes_cons_put v f inb w [] rfl
  rw [View.writes_nil] at h
  exact h

/-- A store at a rectangle leaves the contents with the payload put over the window. -/
theorem wp_st {cs : CoreSpace} {m : Memref sig c.2.kind cs s e} {off size : Fin s.rank → ℕ} {inb : ∀ a, off a + size a ≤ s.size a}
    {w : (Rect.unit off size inb).shape.Idx → Val e} {hx : (m.access (Rect.unit off size inb)).Stores Finset.univ}
    {hm : (Finset.univ : Finset (Rect.unit off size inb).shape.Idx) = Finset.univ ∨ ∀ a, (Rect.unit off size inb).stride a = 1} {X : s.Idx → Val e}
    {k : PUnit → Prog (TpuEff nD τ sig Val Λ c.2) α} :
    (owns c m fullShare X : sProp 𝕄)
      ⊢ iprop((owns c m fullShare (VecWindow.put X off size w) -∗ wp frame (wpE defs 𝒱 c bd) E (k ⟨⟩) Q)
        -∗ wp frame (wpE defs 𝒱 c bd) E (.op (.store m (Rect.unit off size inb) w Finset.univ hx hm) k) Q) := by
  unfold owns
  iintro ⟨%f, %hf, H⟩ Hk
  subst hf
  iapply (wp_store 𝒱 c bd E (m := m) (r := Rect.unit off size inb) (w := w) (hx := hx) (hm := hm) (k := k) (f := f)
    (S := m.view.set) ((View.setOn_subset_set _ _).trans (View.set_slice_subset _ _))) $$ H
  iintro H
  iapply Hk
  iexists _; isplitr; · ipureintro; exact read_put m.view f w
  iexact H

end Cert.Proof.Attn

end
-- ==== Proof.Clean.lean ====
/-
  The attention body written as its three stages over the eight heads of a step: the scores of a key tile (A), the
  exponents of its weights (B), the weighted values (C). The printed program is this one by unfolding.
-/
module

public import proofs.«01_k».proof.Proof.Gen.KernelIdeal.Skeleton

@[expose] public section

noncomputable section

namespace Cert.Proof.Attn

open Cert.KernelIdeal Cert.KernelIdeal.Gen
open Idealize.ShloMosaic Idealize.SL.Sem

variable {F : FTy → Type} [FloatOps F] [Named F]

/-- Programs of a core. -/
abbrev Pg (F : FTy → Type) [FloatOps F] [Named F] (α : Type) := Prog (TpuEff nD τ sig (Elt F) Λ₀ .tc) α

/-- One of eight things, by number. -/
def pick8 {α : Sort*} (a b c d e f g h : α) : ℕ → α
  | 0 => a | 1 => b | 2 => c | 3 => d | 4 => e | 5 => f | 6 => g | _ => h

/-- A step for each of the first `n` heads, in order. -/
def forHeads (f : (h : ℕ) → h < 8 → Pg F PUnit) : (n : ℕ) → n ≤ 8 → Pg F PUnit
  | 0, _ => pure ⟨⟩
  | n + 1, hn => forHeads f n (Nat.le_of_succ_le hn) >>= fun _ => f n hn

theorem inb4 (p h : ℕ) (hp : p < 2) (hh : h < 8) :
    ∀ a, (![p, h, 0, 0] : Fin 4 → ℕ) a + S1x1x512x256.size a ≤ S2x8x512x256.size a := by
  intro a; fin_cases a <;> simp [S1x1x512x256, S2x8x512x256] <;> omega

theorem inb3 (h : ℕ) (hh : h < 8) : ∀ a, (![h, 0, 0] : Fin 3 → ℕ) a + S1x512x128.size a ≤ S8x512x128.size a := by
  intro a; fin_cases a <;> simp [S1x512x128, S8x512x128] <;> omega

/-- The rectangle of head `h` in half `p` of a two-tile buffer. -/
abbrev r4 (p h : ℕ) (hp : p < 2) (hh : h < 8) : Rect S2x8x512x256 := Rect.unit (s := S2x8x512x256) ![p, h, 0, 0] S1x1x512x256.size (inb4 p h hp hh)

/-- The rectangle of head `h` in a row buffer. -/
abbrev r3 (h : ℕ) (hh : h < 8) : Rect S8x512x128 := Rect.unit (s := S8x512x128) ![h, 0, 0] S1x512x128.size (inb3 h hh)

section Stages

variable (i : grid0.Coords) (arg3 : Memref sig .tc .smem S16 .f32) (arg4 : Memref sig .tc .vmem S512x512 .f32)
  (arg5 : Memref sig .tc .vmem S1x32x512x256 .bf16) (arg6 : Memref sig .tc .vmem S8192x512 .bf16)
  (arg7 : Memref sig .tc .vmem S256x256 .bf16) (arg8 : Memref sig .tc .vmem S512x512 .bf16) (harg8 : arg8.IsWhole)
  (arg9 : Memref sig .tc .vmem S2x8x512x256 .f32) (arg10 : Memref sig .tc .vmem S2x8x512x256 .bf16) (harg10 : arg10.IsWhole)
  (arg11 : Memref sig .tc .vmem S2x8x512x256 .f32) (arg12 : Memref sig .tc .vmem S8x512x128 .f32)
  (arg13 : Memref sig .tc .vmem S8x512x128 .f32)

theorem packed4 (p h : ℕ) (hp : p < 2) (hh : h < 8) : (r4 p h hp hh).PackedRows EltTy.bf16.packing := by
  have : ∀ p : Fin 2, ∀ h : Fin 8, (r4 p h p.2 h.2).PackedRows EltTy.bf16.packing := by decide +kernel
  exact this ⟨p, hp⟩ ⟨h, hh⟩

/-- Stage A of a head: the scores of a key tile and their softplus. -/
def headA (p : ℕ) (hp : p < 2) (o : ℕ → Fin 4 → ℕ) (ho : ∀ h a, o h a + S1x1x128x256.size a ≤ S1x32x512x256.size a)
    (pz : ℕ → Vec F S1x1x128x256 .bf16 → FVec F S1x1x512x256 .f32) (ps : ℕ → Vec F S1x1x128x256 .bf16 → FVec F S1x1x512x256 .bf16)
    (h : ℕ) (hh : h < 8) : Pg F PUnit := do
  let x : Vec F S1x1x128x256 .bf16 ← Prog.lift (.load arg5 (Rect.unit (s := S1x32x512x256) (o h) S1x1x128x256.size (ho h)).toLoadRect (View.loadsAt_vmem h_S1x1x128x256))
  let _ : Vec F S1x1x512x256 .f32 ← Prog.lift (.load arg9 (r4 p h hp hh).toLoadRect (View.loadsAt_vmem h_S1x1x512x256))
  Prog.lift (.store arg9 (r4 p h hp hh) (pz h x) Finset.univ (View.stores_vmem_bits_univ h_S1x1x512x256 rfl) (.inl rfl))
  let _ : Vec F S1x1x512x256 .bf16 ← Prog.lift (.load arg10 (r4 p h hp hh).toLoadRect (View.loadsAt_vmem h_S1x1x512x256))
  Prog.lift (.store arg10 (r4 p h hp hh) (ps h x) Finset.univ (View.stores_vmem h_S1x1x512x256 (harg10.storeExact_slice rfl _ (packed4 p h hp hh)) (fun _ => rfl)) (.inl rfl))

/-- Stage B of a head: the exponents of the tile's weights, and the carried sum. -/
def headB (p : ℕ) (hp : p < 2) (h : ℕ) (hh : h < 8) : Pg F PUnit := do
  let x : Vec F S1x1x512x256 .bf16 ← Prog.lift (.load arg10 (r4 p h hp hh).toLoadRect (View.loadsAt_vmem h_S1x1x512x256))
  let t : Vec F S256x256 .bf16 ← Prog.lift (.load arg7 (Rect.unit (s := S256x256) ![0, 0] S256x256.size inb_S256x256_S256x256_0_0).toLoadRect (View.loadsAt_vmem h_S256x256))
  let c : Vec F S1x512x128 .f32 ← Prog.lift (.load arg13 (r3 h hh).toLoadRect (View.loadsAt_vmem h_S1x512x128))
  let z : Vec F S1x1x512x256 .f32 ← Prog.lift (.load arg9 (r4 p h hp hh).toLoadRect (View.loadsAt_vmem h_S1x1x512x256))
  let _ : Vec F S1x1x512x256 .f32 ← Prog.lift (.load arg11 (r4 p h hp hh).toLoadRect (View.loadsAt_vmem h_S1x1x512x256))
  Prog.lift (.store arg11 (r4 p h hp hh) (k0_pay23 x t c z) Finset.univ (View.stores_vmem_bits_univ h_S1x1x512x256 rfl) (.inl rfl))
  let _ : Vec F S1x512x128 .f32 ← Prog.lift (.load arg13 (r3 h hh).toLoadRect (View.loadsAt_vmem h_S1x512x128))
  Prog.lift (.store arg13 (r3 h hh) (k0_pay24 x t c) Finset.univ (View.stores_vmem_bits_univ h_S1x512x128 rfl) (.inl rfl))

/-- Stage C of a head: the weighted values of the tile. -/
def headC (p : ℕ) (hp : p < 2) (o : ℕ → Fin 2 → ℕ) (ho : ∀ h a, o h a + S256x128.size a ≤ S8192x512.size a)
    (h : ℕ) (hh : h < 8) : Pg F PUnit := do
  let v : Vec F S256x128 .bf16 ← Prog.lift (.load arg6 (Rect.unit (s := S8192x512) (o h) S256x128.size (ho h)).toLoadRect (View.loadsAt_vmem h_S256x128))
  let e : Vec F S1x1x512x256 .f32 ← Prog.lift (.load arg11 (r4 p h hp hh).toLoadRect (View.loadsAt_vmem h_S1x1x512x256))
  let a : Vec F S1x512x128 .f32 ← Prog.lift (.load arg12 (r3 h hh).toLoadRect (View.loadsAt_vmem h_S1x512x128))
  let _ : Vec F S1x512x128 .f32 ← Prog.lift (.load arg12 (r3 h hh).toLoadRect (View.loadsAt_vmem h_S1x512x128))
  Prog.lift (.store arg12 (r3 h hh) (k0_pay2 v e a) Finset.univ (View.stores_vmem_bits_univ h_S1x512x128 rfl) (.inl rfl))

def stageA (p : ℕ) (hp : p < 2) (o : ℕ → Fin 4 → ℕ) (ho : ∀ h a, o h a + S1x1x128x256.size a ≤ S1x32x512x256.size a)
    (pz : ℕ → Vec F S1x1x128x256 .bf16 → FVec F S1x1x512x256 .f32) (ps : ℕ → Vec F S1x1x128x256 .bf16 → FVec F S1x1x512x256 .bf16) : Pg F PUnit :=
  forHeads (headA arg5 arg9 arg10 harg10 p hp o ho pz ps) 8 le_rfl

def stageB (p : ℕ) (hp : p < 2) : Pg F PUnit := forHeads (headB (F := F) arg7 arg9 arg10 arg11 arg13 p hp) 8 le_rfl

def stageC (p : ℕ) (hp : p < 2) (o : ℕ → Fin 2 → ℕ) (ho : ∀ h a, o h a + S256x128.size a ≤ S8192x512.size a) : Pg F PUnit :=
  forHeads (headC (F := F) arg6 arg11 arg12 p hp o ho) 8 le_rfl

/-- Eight equal facts, two by two. -/
theorem pick8_cases {α : Sort*} {P : α → Prop} {a b c d e f g h : α} (ha : P a) (hb : P b) (hc : P c) (hd : P d) (he : P e) (hf : P f) (hg : P g)
    (hh : P h) (n : ℕ) : P (pick8 a b c d e f g h n) := by
  unfold pick8; split <;> assumption

/-- The rows of the value block that a trip's tile reads, by head. -/
def offC (t : Fin (k0_t1_loop i).trips) (w : BitVec 32) : ℕ → Fin 2 → ℕ :=
  pick8 (k0_off10 i t w) (k0_off10 i t w) (k0_off11 i t w) (k0_off11 i t w) (k0_off12 i t w) (k0_off12 i t w) (k0_off13 i t w) (k0_off13 i t w)

def offA0 (t : Fin (k0_t1_loop i).trips) : ℕ → Fin 4 → ℕ :=
  pick8 (k0_off14 i t) (k0_off14 i t) (k0_off15 i t) (k0_off15 i t) (k0_off16 i t) (k0_off16 i t) (k0_off17 i t) (k0_off17 i t)

def offA1 (t : Fin (k0_t1_loop i).trips) : ℕ → Fin 4 → ℕ :=
  pick8 (k0_off18 i t) (k0_off18 i t) (k0_off19 i t) (k0_off19 i t) (k0_off20 i t) (k0_off20 i t) (k0_off21 i t) (k0_off21 i t)

theorem offC_inb (t : Fin (k0_t1_loop i).trips) (j : Fin 2) (h : ℕ) (a : Fin 2) :
    offC i t (BitVec.ofNat 32 (1 + j.val)) h a + S256x128.size a ≤ S8192x512.size a :=
  pick8_cases (P := fun o : Fin 2 → ℕ => o a + S256x128.size a ≤ S8192x512.size a) (k0_off10_inb i t j a) (k0_off10_inb i t j a) (k0_off11_inb i t j a)
    (k0_off11_inb i t j a) (k0_off12_inb i t j a) (k0_off12_inb i t j a) (k0_off13_inb i t j a) (k0_off13_inb i t j a) h

theorem offA0_inb (t : Fin (k0_t1_loop i).trips) (h : ℕ) (a : Fin 4) : offA0 i t h a + S1x1x128x256.size a ≤ S1x32x512x256.size a :=
  pick8_cases (P := fun o : Fin 4 → ℕ => o a + S1x1x128x256.size a ≤ S1x32x512x256.size a) (k0_off14_inb i t a) (k0_off14_inb i t a) (k0_off15_inb i t a)
    (k0_off15_inb i t a) (k0_off16_inb i t a) (k0_off16_inb i t a) (k0_off17_inb i t a) (k0_off17_inb i t a) h

theorem offA1_inb (t : Fin (k0_t1_loop i).trips) (h : ℕ) (a : Fin 4) : offA1 i t h a + S1x1x128x256.size a ≤ S1x32x512x256.size a :=
  pick8_cases (P := fun o : Fin 4 → ℕ => o a + S1x1x128x256.size a ≤ S1x32x512x256.size a) (k0_off18_inb i t a) (k0_off18_inb i t a) (k0_off19_inb i t a)
    (k0_off19_inb i t a) (k0_off20_inb i t a) (k0_off20_inb i t a) (k0_off21_inb i t a) (k0_off21_inb i t a) h

/-- The first two tiles' score blocks, by head. -/
def offM0 : ℕ → Fin 4 → ℕ := pick8 (k0_off2 i) (k0_off2 i) (k0_off3 i) (k0_off3 i) (k0_off4 i) (k0_off4 i) (k0_off5 i) (k0_off5 i)

def offM1 : ℕ → Fin 4 → ℕ := pick8 (k0_off6 i) (k0_off6 i) (k0_off7 i) (k0_off7 i) (k0_off8 i) (k0_off8 i) (k0_off9 i) (k0_off9 i)

theorem offM0_inb (h : ℕ) (a : Fin 4) : offM0 i h a + S1x1x128x256.size a ≤ S1x32x512x256.size a :=
  pick8_cases (P := fun o : Fin 4 → ℕ => o a + S1x1x128x256.size a ≤ S1x32x512x256.size a) (k0_off2_inb i a) (k0_off2_inb i a) (k0_off3_inb i a)
    (k0_off3_inb i a) (k0_off4_inb i a) (k0_off4_inb i a) (k0_off5_inb i a) (k0_off5_inb i a) h

theorem offM1_inb (h : ℕ) (a : Fin 4) : offM1 i h a + S1x1x128x256.size a ≤ S1x32x512x256.size a :=
  pick8_cases (P := fun o : Fin 4 → ℕ => o a + S1x1x128x256.size a ≤ S1x32x512x256.size a) (k0_off6_inb i a) (k0_off6_inb i a) (k0_off7_inb i a)
    (k0_off7_inb i a) (k0_off8_inb i a) (k0_off8_inb i a) (k0_off9_inb i a) (k0_off9_inb i a) h

/-- The rows of the value block that the last two tiles read, by head. -/
def offE (r : ℕ) : ℕ → Fin 2 → ℕ := pick8 ![r, 0] ![r, 0] ![r, 128] ![r, 128] ![r, 256] ![r, 256] ![r, 384] ![r, 384]

theorem offE_inb (r : ℕ) (hr : r ≤ 256) (h : ℕ) (a : Fin 2) : offE r h a + S256x128.size a ≤ S8192x512.size a := by
  revert a
  refine pick8_cases (P := fun o : Fin 2 → ℕ => ∀ a, o a + S256x128.size a ≤ S8192x512.size a) ?_ ?_ ?_ ?_ ?_ ?_ ?_ ?_ h <;>
    (intro a; fin_cases a <;> simp [S256x128, S8192x512] <;> omega)

/-- A pair of heads' columns of a row block. -/
abbrev rq (o : ℕ) (ho : ∀ a, (![0, o] : Fin 2 → ℕ) a + S512x128.size a ≤ S512x512.size a) : Rect S512x512 :=
  Rect.unit (s := S512x512) ![0, o] S512x128.size ho

/-- The last tile of a step's masked scores. -/
def jTop : BitVec 32 := Scalar.subi (Scalar.muli 2#32 (Scalar.addi (BitVec.ofNat 32 (i 2).val) 1#32)) 1#32

/-- The first row of a step's queries. -/
def rowTop : BitVec 32 := Scalar.muli (BitVec.ofNat 32 (i 2).val) 512#32

/-- A masked query block of a head. -/
def qEven (x : Vec F S512x128 .f32) : FVec F S512x128 .bf16 := k0_pay310 x

def qOdd (x : Vec F S512x128 .f32) : FVec F S512x128 .bf16 := k0_pay312 (iota .tc S1x128 32 [1] iota_S1x128_d1_w32) (k0_pay311 x) 64#32

/-- The score payloads of an unmasked and of a masked tile. -/
def zOf (qs : ℕ → FVec F S512x128 .bf16) (bs : ℕ → F .f32) (h : ℕ) (x : Vec F S1x1x128x256 .bf16) : FVec F S1x1x512x256 .f32 := k0_pay48 (qs h) (bs h) x

def spOf (qs : ℕ → FVec F S512x128 .bf16) (bs : ℕ → F .f32) (h : ℕ) (x : Vec F S1x1x128x256 .bf16) : FVec F S1x1x512x256 .bf16 := k0_pay57 (qs h) (bs h) x

def zmOf (j : BitVec 32) (qs : ℕ → FVec F S512x128 .bf16) (bs : ℕ → F .f32) (h : ℕ) (x : Vec F S1x1x128x256 .bf16) : FVec F S1x1x512x256 .f32 :=
  k0_pay343 j (k0_pay341 (qs h) (bs h) x) (rowTop i)

def spmOf (j : BitVec 32) (qs : ℕ → FVec F S512x128 .bf16) (bs : ℕ → F .f32) (h : ℕ) (x : Vec F S1x1x128x256 .bf16) : FVec F S1x1x512x256 .bf16 :=
  k0_pay344 j (k0_pay341 (qs h) (bs h) x) (rowTop i)

/-- A trip of the loop: the older tile's values, the newer tile's exponents, the next two tiles' scores, in turn. -/
def trip (qs : ℕ → FVec F S512x128 .bf16) (bs : ℕ → F .f32) (t : Fin (k0_t1_loop i).trips) : Pg F (BitVec 32) := do
  stageC arg6 arg11 arg12 0 (by omega) (offC i t 2#32) (offC_inb i t 1)
  stageB arg7 arg9 arg10 arg11 arg13 1 (by omega)
  stageA arg5 arg9 arg10 harg10 0 (by omega) (offA0 i t) (offA0_inb i t) (zOf qs bs) (spOf qs bs)
  stageC arg6 arg11 arg12 1 (by omega) (offC i t 1#32) (offC_inb i t 0)
  stageB arg7 arg9 arg10 arg11 arg13 0 (by omega)
  stageA arg5 arg9 arg10 harg10 1 (by omega) (offA1 i t) (offA1_inb i t) (zOf qs bs) (spOf qs bs)
  pure 0#32

/-- A pair of heads' accumulated rows merged and stored. -/
def headO (o : ℕ) (ho : ∀ a, (![0, o] : Fin 2 → ℕ) a + S512x128.size a ≤ S512x512.size a) (hp : (rq o ho).PackedRows EltTy.bf16.packing)
    (h h' : ℕ) (hh : h < 8) (hh' : h' < 8) : Pg F PUnit := do
  let a : Vec F S1x512x128 .f32 ← Prog.lift (.load arg12 (r3 h hh).toLoadRect (View.loadsAt_vmem h_S1x512x128))
  let b : Vec F S1x512x128 .f32 ← Prog.lift (.load arg12 (r3 h' hh').toLoadRect (View.loadsAt_vmem h_S1x512x128))
  let _ : Vec F S512x128 .bf16 ← Prog.lift (.load arg8 (rq o ho).toLoadRect (View.loadsAt_vmem h_S512x128))
  Prog.lift (.store arg8 (rq o ho) (k0_pay1 (iota .tc S1x128 32 [1] iota_S1x128_d1_w32) a b) Finset.univ (View.stores_vmem h_S512x128 (harg8.storeExact_slice rfl _ hp) (fun _ => rfl)) (.inl rfl))

def stageO : Pg F PUnit := do
  headO arg8 harg8 arg12 0 inb_S512x512_S512x128_0_0 packedbf16_S512x512_S512x128_0_0 0 1 (by omega) (by omega)
  headO arg8 harg8 arg12 128 inb_S512x512_S512x128_0_128 packedbf16_S512x512_S512x128_0_128 2 3 (by omega) (by omega)
  headO arg8 harg8 arg12 256 inb_S512x512_S512x128_0_256 packedbf16_S512x512_S512x128_0_256 4 5 (by omega) (by omega)
  headO arg8 harg8 arg12 384 inb_S512x512_S512x128_0_384 packedbf16_S512x512_S512x128_0_384 6 7 (by omega) (by omega)

/-- The two running sums set to zero. -/
def zeros : Pg F PUnit := do
  let _ : Vec F S8x512x128 .f32 ← Prog.lift (.load arg12 (Rect.unit (s := S8x512x128) ![0, 0, 0] S8x512x128.size inb_S8x512x128_S8x512x128_0_0_0).toLoadRect (View.loadsAt_vmem h_S8x512x128))
  Prog.lift (.store arg12 (Rect.unit (s := S8x512x128) ![0, 0, 0] S8x512x128.size inb_S8x512x128_S8x512x128_0_0_0) (k0_pay339 (F := F)) Finset.univ (View.stores_vmem_bits_univ h_S8x512x128 rfl) (.inl rfl))
  let _ : Vec F S8x512x128 .f32 ← Prog.lift (.load arg13 (Rect.unit (s := S8x512x128) ![0, 0, 0] S8x512x128.size inb_S8x512x128_S8x512x128_0_0_0).toLoadRect (View.loadsAt_vmem h_S8x512x128))
  Prog.lift (.store arg13 (Rect.unit (s := S8x512x128) ![0, 0, 0] S8x512x128.size inb_S8x512x128_S8x512x128_0_0_0) (k0_pay340 (F := F)) Finset.univ (View.stores_vmem_bits_univ h_S8x512x128 rfl) (.inl rfl))

/-- A pair of heads' columns of the query block. -/
def ldq (o : ℕ) (ho : ∀ a, (![0, o] : Fin 2 → ℕ) a + S512x128.size a ≤ S512x512.size a) : Pg F (Vec F S512x128 .f32) :=
  Prog.lift (.load arg4 (rq o ho).toLoadRect (View.loadsAt_vmem h_S512x128))

/-- A head's bias. -/
def ldb (h : Fin 8) : Pg F (Elt F .f32) := smemLoad arg3 (Rect.unit (s := S16) (k0_off1 i (BitVec.ofNat 32 h.val)) S1.size (k0_off1_inb i h)) numel1_S1 rfl

/-- What goes before the loop, once the queries and biases are read. -/
def pre (qs : ℕ → FVec F S512x128 .bf16) (bs : ℕ → F .f32) : Pg F PUnit := do
  zeros arg12 arg13
  stageA arg5 arg9 arg10 harg10 0 (by omega) (offM0 i) (offM0_inb i) (zmOf i (jTop i) qs bs) (spmOf i (jTop i) qs bs)
  stageB arg7 arg9 arg10 arg11 arg13 0 (by omega)
  stageA arg5 arg9 arg10 harg10 1 (by omega) (offM1 i) (offM1_inb i) (zmOf i (Scalar.subi (jTop i) 1#32) qs bs) (spmOf i (Scalar.subi (jTop i) 1#32) qs bs)

/-- What goes after the loop. -/
def post : Pg F PUnit := do
  stageC arg6 arg11 arg12 0 (by omega) (offE 256) (offE_inb 256 (by omega))
  stageB arg7 arg9 arg10 arg11 arg13 1 (by omega)
  stageC arg6 arg11 arg12 1 (by omega) (offE 0) (offE_inb 0 (by omega))
  stageO arg8 harg8 arg12

end Stages

end Cert.Proof.Attn

end
-- ==== Proof.Stack.lean ====
/-
  Buffers that hold a block per head, as families of blocks: what a load of a head's block reads, and what a store of it leaves.
-/
module

public import proofs.«01_k».proof.Proof.Mem
public import proofs.«01_k».proof.Proof.Clean

@[expose] public section

noncomputable section

namespace Cert.Proof.Attn

open Cert.KernelIdeal Cert.KernelIdeal.Gen
open Idealize.ShloMosaic

variable {α : Type}

/-- A row buffer from its heads' blocks. -/
def stack3 (a : ℕ → S1x512x128.Idx → α) : S8x512x128.Idx → α := fun y => a (y 0).val (fun d => match d with | 0 => ⟨0, by decide⟩ | 1 => y 1 | 2 => y 2)

/-- A two-tile buffer from its halves' heads' blocks. -/
def stack4 (z : ℕ → ℕ → S1x1x512x256.Idx → α) : S2x8x512x256.Idx → α :=
  fun y => z (y 0).val (y 1).val (fun d => match d with | 0 => ⟨0, by decide⟩ | 1 => ⟨0, by decide⟩ | 2 => y 2 | 3 => y 3)

/-- One head's block replaced. -/
def upd {β : Type} (a : ℕ → β) (h : ℕ) (w : β) : ℕ → β := fun k => if k = h then w else a k

theorem lt_one_eq {n : ℕ} (h : n < 1) : n = 0 := by omega

theorem stack3_window (a : ℕ → S1x512x128.Idx → α) (h : ℕ) (hh : h < 8) :
    VecWindow.window (s := S8x512x128) (stack3 a) ![h, 0, 0] S1x512x128.size (inb3 h hh) = a h := by
  funext j
  have j0 : (j 0).val = 0 := lt_one_eq (j 0).isLt
  simp only [VecWindow.window, stack3]
  congr 1
  · simp [Rect.emb, Rect.unit, j0]
  · funext d
    fin_cases d <;> apply Fin.ext <;> simp [Rect.emb, Rect.unit, j0]

theorem stack3_put (a : ℕ → S1x512x128.Idx → α) (h : ℕ) (hh : h < 8) (w : S1x512x128.Idx → α) :
    VecWindow.put (s := S8x512x128) (stack3 a) ![h, 0, 0] S1x512x128.size w = stack3 (upd a h w) := by
  funext y
  have y1 : (y 1).val < 512 := (y 1).isLt
  have y2 : (y 2).val < 128 := (y 2).isLt
  by_cases hy : (y 0).val = h
  · have hin : ∀ d, (![h, 0, 0] : Fin 3 → ℕ) d ≤ (y d).val ∧ (y d).val < (![h, 0, 0] : Fin 3 → ℕ) d + S1x512x128.size d := by
      intro d
      fin_cases d <;> simp [S1x512x128, hy] <;> assumption
    simp only [VecWindow.put, stack3, upd, hy, if_true]
    rw [dif_pos hin]
    congr 1
    funext d
    fin_cases d <;> apply Fin.ext <;> simp [Rect.unitLocal, hy]
  · have hin : ¬ ∀ d, (![h, 0, 0] : Fin 3 → ℕ) d ≤ (y d).val ∧ (y d).val < (![h, 0, 0] : Fin 3 → ℕ) d + S1x512x128.size d := by
      intro hall
      have h0 := hall 0
      simp [S1x512x128] at h0
      omega
    simp only [VecWindow.put, stack3, upd, hy, if_false]
    rw [dif_neg hin]

theorem stack4_window (z : ℕ → ℕ → S1x1x512x256.Idx → α) (p h : ℕ) (hp : p < 2) (hh : h < 8) :
    VecWindow.window (s := S2x8x512x256) (stack4 z) ![p, h, 0, 0] S1x1x512x256.size (inb4 p h hp hh) = z p h := by
  funext j
  have j0 : (j 0).val = 0 := lt_one_eq (j 0).isLt
  have j1 : (j 1).val = 0 := lt_one_eq (j 1).isLt
  simp only [VecWindow.window, stack4]
  congr 1
  · simp [Rect.emb, Rect.unit, j0]
  · simp [Rect.emb, Rect.unit, j1]
  · funext d
    fin_cases d <;> apply Fin.ext <;> simp [Rect.emb, Rect.unit, j0, j1]

theorem stack4_put (z : ℕ → ℕ → S1x1x512x256.Idx → α) (p h : ℕ) (hp : p < 2) (hh : h < 8) (w : S1x1x512x256.Idx → α) :
    VecWindow.put (s := S2x8x512x256) (stack4 z) ![p, h, 0, 0] S1x1x512x256.size w = stack4 (upd z p (upd (z p) h w)) := by
  funext y
  have y2 : (y 2).val < 512 := (y 2).isLt
  have y3 : (y 3).val < 256 := (y 3).isLt
  by_cases hy : (y 0).val = p ∧ (y 1).val = h
  · obtain ⟨hy0, hy1⟩ := hy
    have hin : ∀ d, (![p, h, 0, 0] : Fin 4 → ℕ) d ≤ (y d).val ∧ (y d).val < (![p, h, 0, 0] : Fin 4 → ℕ) d + S1x1x512x256.size d := by
      intro d
      fin_cases d <;> simp [S1x1x512x256, hy0, hy1] <;> assumption
    simp only [VecWindow.put, stack4, upd, hy0, hy1, if_true]
    rw [dif_pos hin]
    congr 1
    funext d
    fin_cases d <;> apply Fin.ext <;> simp [Rect.unitLocal, hy0, hy1]
  · have hin : ¬ ∀ d, (![p, h, 0, 0] : Fin 4 → ℕ) d ≤ (y d).val ∧ (y d).val < (![p, h, 0, 0] : Fin 4 → ℕ) d + S1x1x512x256.size d := by
      intro hall
      have h0 := hall 0
      have h1 := hall 1
      simp [S1x1x512x256] at h0 h1
      omega
    simp only [VecWindow.put, stack4, upd]
    rw [dif_neg hin]
    by_cases h0 : (y 0).val = p
    · have h1 : ¬ (y 1).val = h := fun h1 => hy ⟨h0, h1⟩
      simp [h0, h1, upd]
    · simp [h0]

theorem stack3_surj (X : S8x512x128.Idx → α) : ∃ a, X = stack3 a := by
  refine ⟨fun h j => X (fun d => match d with | 0 => ⟨min h 7, by simp only [S8x512x128]; show min h 7 < 8; omega⟩ | 1 => j 1 | 2 => j 2), ?_⟩
  funext y
  have y0 : (y 0).val < 8 := (y 0).isLt
  simp only [stack3]
  congr 1
  funext d
  fin_cases d
  · apply Fin.ext; show (y 0).val = min (y 0).val 7; omega
  · rfl
  · rfl

theorem stack4_surj (X : S2x8x512x256.Idx → α) : ∃ z, X = stack4 z := by
  refine ⟨fun p h j => X (fun d => match d with
    | 0 => ⟨min p 1, by show min p 1 < 2; omega⟩ | 1 => ⟨min h 7, by show min h 7 < 8; omega⟩ | 2 => j 2 | 3 => j 3), ?_⟩
  funext y
  have y0 : (y 0).val < 2 := (y 0).isLt
  have y1 : (y 1).val < 8 := (y 1).isLt
  simp only [stack4]
  congr 1
  funext d
  fin_cases d
  · apply Fin.ext; show (y 0).val = min (y 0).val 1; omega
  · apply Fin.ext; show (y 1).val = min (y 1).val 7; omega
  · rfl
  · rfl

/-- A row buffer is what its eight blocks are. -/
theorem stack3_congr {a b : ℕ → S1x512x128.Idx → α} (h : ∀ k, k < 8 → a k = b k) : stack3 a = stack3 b := by
  funext y
  have y0 : (y 0).val < 8 := (y 0).isLt
  simp only [stack3, h _ y0]

theorem stack4_congr {a b : ℕ → ℕ → S1x1x512x256.Idx → α} (h : ∀ p, p < 2 → ∀ k, k < 8 → a p k = b p k) : stack4 a = stack4 b := by
  funext y
  have y0 : (y 0).val < 2 := (y 0).isLt
  have y1 : (y 1).val < 8 := (y 1).isLt
  simp only [stack4, h _ y0 _ y1]

end Cert.Proof.Attn

end
-- ==== Proof.State.lean ====
/-
  What each stage of the attention body does to the buffers it owns: one fact per stage, for every head, half and tile.
-/
module

public import proofs.«01_k».proof.Proof.Stack

@[expose] public section

noncomputable section

namespace Cert.Proof.Attn

open Cert.KernelIdeal Cert.KernelIdeal.Gen
open Idealize.ShloMosaic Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (𝒱 : Variants) (c : Dev nD) (bd : Option 𝒱.V) (E : Set ℕ)

/-- The weakest precondition of a clean program. -/
abbrev WP {α : Type} (p : Pg F α) (Q : α → sProp (MT nD τ sig Unit (Elt F) ℕ (UR sig nD τ) ℕ)) : sProp (MT nD τ sig Unit (Elt F) ℕ (UR sig nD τ) ℕ) :=
  wp frame (wpE (defs₀ (F := F)) 𝒱 (c : Thread nD τ) bd) E p Q

variable {𝒱 c bd E}

section Stages

variable {arg3 : Memref sig .tc .smem S16 .f32} {arg4 : Memref sig .tc .vmem S512x512 .f32}
  {arg5 : Memref sig .tc .vmem S1x32x512x256 .bf16} {arg6 : Memref sig .tc .vmem S8192x512 .bf16}
  {arg7 : Memref sig .tc .vmem S256x256 .bf16} {arg8 : Memref sig .tc .vmem S512x512 .bf16} {harg8 : arg8.IsWhole}
  {arg9 : Memref sig .tc .vmem S2x8x512x256 .f32} {arg10 : Memref sig .tc .vmem S2x8x512x256 .bf16} {harg10 : arg10.IsWhole}
  {arg11 : Memref sig .tc .vmem S2x8x512x256 .f32} {arg12 : Memref sig .tc .vmem S8x512x128 .f32}
  {arg13 : Memref sig .tc .vmem S8x512x128 .f32}

/-- The first `n` heads' blocks replaced. -/
def first {β : Type} (n : ℕ) (a b : ℕ → β) : ℕ → β := fun h => if h < n then b h else a h

theorem first_zero {β : Type} (a b : ℕ → β) : first 0 a b = a := by funext h; simp [first]

theorem upd_first {β : Type} (n : ℕ) (a b : ℕ → β) : upd (first n a b) n (b n) = first (n + 1) a b := by
  funext h
  simp only [upd, first]
  by_cases h1 : h = n
  · subst h1; simp
  · have : h < n ↔ h < n + 1 := by omega
    simp [h1, this]

theorem first_self {β : Type} (n : ℕ) (a b : ℕ → β) : first n a b n = a n := by simp [first]

theorem upd_upd {β : Type} (a : ℕ → β) (p : ℕ) (v w : β) : upd (upd a p v) p w = upd a p w := by
  funext h; simp only [upd]; split <;> rfl

theorem upd_same {β : Type} (a : ℕ → β) (p : ℕ) (v : β) : upd a p v p = v := by simp [upd]

theorem upd_at {β : Type} (a : ℕ → β) (p : ℕ) : upd a p (a p) = a := by
  funext h; simp only [upd]; split <;> simp_all

theorem stack3_first (a b : ℕ → S1x512x128.Idx → Elt F .f32) : stack3 (first 8 a b) = stack3 b :=
  stack3_congr fun k hk => by simp [first, hk]

theorem stack4_first {α : Type} (z : ℕ → ℕ → S1x1x512x256.Idx → α) (p : ℕ) (b : ℕ → S1x1x512x256.Idx → α) :
    stack4 (upd z p (first 8 (z p) b)) = stack4 (upd z p b) :=
  stack4_congr fun p' hp' k hk => by
    simp only [upd]
    split
    · simp [first, hk]
    · rfl

/-- A program for each head, run from a family of assertions. -/
theorem wp_forHeads (f : (h : ℕ) → h < 8 → Pg F PUnit) (I : ℕ → sProp (MT nD τ sig Unit (Elt F) ℕ (UR sig nD τ) ℕ))
    (hf : ∀ h (hh : h < 8) (Q : PUnit → sProp (MT nD τ sig Unit (Elt F) ℕ (UR sig nD τ) ℕ)), I h ⊢ iprop((I (h + 1) -∗ Q ⟨⟩) -∗ WP 𝒱 c bd E (f h hh) Q)) :
    ∀ (n : ℕ) (hn : n ≤ 8) (Q : PUnit → sProp (MT nD τ sig Unit (Elt F) ℕ (UR sig nD τ) ℕ)), I 0 ⊢ iprop((I n -∗ Q ⟨⟩) -∗ WP 𝒱 c bd E (forHeads f n hn) Q)
  | 0, _, Q => by
    simp only [forHeads, WP, Prog.pure_eq_ret, wp_ret]
    iintro H Hk
    iapply Hk $$ H
  | n + 1, hn, Q => by
    simp only [forHeads, WP, wp_bind]
    iintro H Hk
    iapply (wp_forHeads f I hf n (Nat.le_of_succ_le hn) _) $$ H
    iintro H
    iapply (hf n hn Q) $$ H
    iexact Hk

/-- Stage C: every head's sum takes its tile's weighted values. -/
theorem wp_stageC (p : ℕ) (hp : p < 2) (o : ℕ → Fin 2 → ℕ) (ho : ∀ h a, o h a + S256x128.size a ≤ S8192x512.size a)
    (V : S8192x512.Idx → Elt F .bf16) (e : ℕ → ℕ → S1x1x512x256.Idx → Elt F .f32) (a : ℕ → S1x512x128.Idx → Elt F .f32)
    (Q : PUnit → sProp (MT nD τ sig Unit (Elt F) ℕ (UR sig nD τ) ℕ)) :
    iprop(owns (c : Thread nD τ) arg6 fullShare V ∗ owns (c : Thread nD τ) arg11 fullShare (stack4 e) ∗ owns (c : Thread nD τ) arg12 fullShare (stack3 a))
      ⊢ iprop((owns (c : Thread nD τ) arg6 fullShare V ∗ owns (c : Thread nD τ) arg11 fullShare (stack4 e)
          ∗ owns (c : Thread nD τ) arg12 fullShare (stack3 fun h => k0_pay2 (VecWindow.window V (o h) S256x128.size (ho h)) (e p h) (a h)) -∗ Q ⟨⟩)
        -∗ WP 𝒱 c bd E (stageC arg6 arg11 arg12 p hp o ho) Q) := by
  have key := wp_forHeads (𝒱 := 𝒱) (c := c) (bd := bd) (E := E) (headC (F := F) arg6 arg11 arg12 p hp o ho)
    (fun n => iprop(owns (c : Thread nD τ) arg6 fullShare V ∗ owns (c : Thread nD τ) arg11 fullShare (stack4 e)
      ∗ owns (c : Thread nD τ) arg12 fullShare (stack3 (first n a fun h => k0_pay2 (VecWindow.window V (o h) S256x128.size (ho h)) (e p h) (a h)))))
    (fun h hh Q => by
      unfold headC
      simp only [WP, Prog.bind_lift]
      iintro ⟨HV, He, Ha⟩ Hk
      iapply (wp_ld 𝒱 (c : Thread nD τ) bd E) $$ HV
      iintro HV
      iapply (wp_ld 𝒱 (c : Thread nD τ) bd E) $$ He
      iintro He
      iapply (wp_ld 𝒱 (c : Thread nD τ) bd E) $$ Ha
      iintro Ha
      iapply (wp_ld 𝒱 (c : Thread nD τ) bd E) $$ Ha
      iintro Ha
      iapply (wp_st 𝒱 (c : Thread nD τ) bd E) $$ Ha
      iintro Ha
      rw [stack4_window _ _ _ hp hh, stack3_window _ _ hh, stack3_put _ _ hh, first_self, upd_first h a (fun h => k0_pay2 (VecWindow.window V (o h) S256x128.size (ho h)) (e p h) (a h))]
      simp only [wp_ret]
      imodintro
      iapply Hk
      isplitl [HV]
      · iexact HV
      isplitl [He]
      · iexact He
      iexact Ha) 8 le_rfl Q
  rw [first_zero, stack3_first] at key
  exact key

/-- Stage B: every head's exponents of the tile, and its carried sum past the tile. -/
theorem wp_stageB (p : ℕ) (hp : p < 2) (T : S256x256.Idx → Elt F .bf16) (z : ℕ → ℕ → S1x1x512x256.Idx → Elt F .f32)
    (sp : ℕ → ℕ → S1x1x512x256.Idx → Elt F .bf16) (e : ℕ → ℕ → S1x1x512x256.Idx → Elt F .f32) (r : ℕ → S1x512x128.Idx → Elt F .f32)
    (Q : PUnit → sProp (MT nD τ sig Unit (Elt F) ℕ (UR sig nD τ) ℕ)) :
    iprop(owns (c : Thread nD τ) arg7 fullShare (T) ∗ owns (c : Thread nD τ) arg9 fullShare (stack4 z) ∗ owns (c : Thread nD τ) arg10 fullShare (stack4 sp)
        ∗ owns (c : Thread nD τ) arg11 fullShare (stack4 e) ∗ owns (c : Thread nD τ) arg13 fullShare (stack3 r))
      ⊢ iprop((owns (c : Thread nD τ) arg7 fullShare (T) ∗ owns (c : Thread nD τ) arg9 fullShare (stack4 z) ∗ owns (c : Thread nD τ) arg10 fullShare (stack4 sp)
          ∗ owns (c : Thread nD τ) arg11 fullShare (stack4 (upd e p fun h => k0_pay23 (sp p h) T (r h) (z p h)))
          ∗ owns (c : Thread nD τ) arg13 fullShare (stack3 fun h => k0_pay24 (sp p h) T (r h)) -∗ Q ⟨⟩)
        -∗ WP 𝒱 c bd E (stageB arg7 arg9 arg10 arg11 arg13 p hp) Q) := by
  have hT : VecWindow.window (s := S256x256) T ![0, 0] S256x256.size inb_S256x256_S256x256_0_0 = T := by
    funext y
    simp only [VecWindow.window]
    congr 1
    funext d
    apply Fin.ext
    fin_cases d <;> simp [Rect.emb, Rect.unit]
  have key := wp_forHeads (𝒱 := 𝒱) (c := c) (bd := bd) (E := E) (headB (F := F) arg7 arg9 arg10 arg11 arg13 p hp)
    (fun n => iprop(owns (c : Thread nD τ) arg7 fullShare (T) ∗ owns (c : Thread nD τ) arg9 fullShare (stack4 z) ∗ owns (c : Thread nD τ) arg10 fullShare (stack4 sp)
      ∗ owns (c : Thread nD τ) arg11 fullShare (stack4 (upd e p (first n (e p) fun h => k0_pay23 (sp p h) T (r h) (z p h))))
      ∗ owns (c : Thread nD τ) arg13 fullShare (stack3 (first n r fun h => k0_pay24 (sp p h) T (r h)))))
    (fun h hh Q => by
      unfold headB
      simp only [WP, Prog.bind_lift]
      iintro ⟨HT, Hz, Hs, He, Hr⟩ Hk
      iapply (wp_ld 𝒱 (c : Thread nD τ) bd E) $$ Hs
      iintro Hs
      iapply (wp_ld 𝒱 (c : Thread nD τ) bd E) $$ HT
      iintro HT
      iapply (wp_ld 𝒱 (c : Thread nD τ) bd E) $$ Hr
      iintro Hr
      iapply (wp_ld 𝒱 (c : Thread nD τ) bd E) $$ Hz
      iintro Hz
      iapply (wp_ld 𝒱 (c : Thread nD τ) bd E) $$ He
      iintro He
      iapply (wp_st 𝒱 (c : Thread nD τ) bd E) $$ He
      iintro He
      iapply (wp_ld 𝒱 (c : Thread nD τ) bd E) $$ Hr
      iintro Hr
      iapply (wp_st 𝒱 (c : Thread nD τ) bd E) $$ Hr
      iintro Hr
      rw [hT, stack4_window _ _ _ hp hh, stack4_window _ _ _ hp hh, stack3_window _ _ hh, stack3_put _ _ hh, stack4_put _ _ _ hp hh, first_self,
        upd_first h r (fun h => k0_pay24 (sp p h) T (r h)), upd_upd, upd_same, upd_first h (e p) (fun h => k0_pay23 (sp p h) T (r h) (z p h))]
      simp only [wp_ret]
      imodintro
      iapply Hk
      isplitl [HT]
      · iexact HT
      isplitl [Hz]
      · iexact Hz
      isplitl [Hs]
      · iexact Hs
      isplitl [He]
      · iexact He
      iexact Hr) 8 le_rfl Q
  rw [first_zero, first_zero, upd_at, stack3_first, stack4_first] at key
  exact key

/-- Stage A: every head's scores of a tile, and their softplus. -/
theorem wp_stageA (p : ℕ) (hp : p < 2) (o : ℕ → Fin 4 → ℕ) (ho : ∀ h a, o h a + S1x1x128x256.size a ≤ S1x32x512x256.size a)
    (pz : ℕ → Vec F S1x1x128x256 .bf16 → FVec F S1x1x512x256 .f32) (ps : ℕ → Vec F S1x1x128x256 .bf16 → FVec F S1x1x512x256 .bf16)
    (K : S1x32x512x256.Idx → Elt F .bf16) (z : ℕ → ℕ → S1x1x512x256.Idx → Elt F .f32)
    (sp : ℕ → ℕ → S1x1x512x256.Idx → Elt F .bf16) (Q : PUnit → sProp (MT nD τ sig Unit (Elt F) ℕ (UR sig nD τ) ℕ)) :
    iprop(owns (c : Thread nD τ) arg5 fullShare (K) ∗ owns (c : Thread nD τ) arg9 fullShare (stack4 z) ∗ owns (c : Thread nD τ) arg10 fullShare (stack4 sp))
      ⊢ iprop((owns (c : Thread nD τ) arg5 fullShare (K)
          ∗ owns (c : Thread nD τ) arg9 fullShare (stack4 (upd z p fun h => pz h (VecWindow.window K (o h) S1x1x128x256.size (ho h))))
          ∗ owns (c : Thread nD τ) arg10 fullShare (stack4 (upd sp p fun h => ps h (VecWindow.window K (o h) S1x1x128x256.size (ho h)))) -∗ Q ⟨⟩)
        -∗ WP 𝒱 c bd E (stageA arg5 arg9 arg10 harg10 p hp o ho pz ps) Q) := by
  have key := wp_forHeads (𝒱 := 𝒱) (c := c) (bd := bd) (E := E) (headA (F := F) arg5 arg9 arg10 harg10 p hp o ho pz ps)
    (fun n => iprop(owns (c : Thread nD τ) arg5 fullShare (K)
      ∗ owns (c : Thread nD τ) arg9 fullShare (stack4 (upd z p (first n (z p) fun h => pz h (VecWindow.window K (o h) S1x1x128x256.size (ho h)))))
      ∗ owns (c : Thread nD τ) arg10 fullShare (stack4 (upd sp p (first n (sp p) fun h => ps h (VecWindow.window K (o h) S1x1x128x256.size (ho h)))))))
    (fun h hh Q => by
      unfold headA
      simp only [WP, Prog.bind_lift]
      iintro ⟨HK, Hz, Hs⟩ Hk
      iapply (wp_ld 𝒱 (c : Thread nD τ) bd E) $$ HK
      iintro HK
      iapply (wp_ld 𝒱 (c : Thread nD τ) bd E) $$ Hz
      iintro Hz
      iapply (wp_st 𝒱 (c : Thread nD τ) bd E) $$ Hz
      iintro Hz
      iapply (wp_ld 𝒱 (c : Thread nD τ) bd E) $$ Hs
      iintro Hs
      iapply (wp_st 𝒱 (c : Thread nD τ) bd E) $$ Hs
      iintro Hs
      rw [stack4_put _ _ _ hp hh, stack4_put _ _ _ hp hh, upd_upd, upd_same, upd_upd, upd_same,
        upd_first h (z p) (fun h => pz h (VecWindow.window K (o h) S1x1x128x256.size (ho h))), upd_first h (sp p) (fun h => ps h (VecWindow.window K (o h) S1x1x128x256.size (ho h)))]
      simp only [wp_ret]
      imodintro
      iapply Hk
      isplitl [HK]
      · iexact HK
      isplitl [Hz]
      · iexact Hz
      iexact Hs) 8 le_rfl Q
  rw [first_zero, first_zero, upd_at, upd_at, stack4_first, stack4_first] at key
  exact key

end Stages

end Cert.Proof.Attn

end
-- ==== Proof.Offs.lean ====
/-
  The places a grid point's loads read, in closed form: key tile `top − d` at depth `d`, head pair by head pair.
-/
module

public import proofs.«01_k».proof.Proof.Clean

@[expose] public section

set_option maxRecDepth 16384

noncomputable section

namespace Cert.Proof.Attn

open Cert.KernelIdeal Cert.KernelIdeal.Gen
open Idealize.ShloMosaic

theorem t1_trips : ∀ i : grid0.Coords, (k0_t1_loop i).trips = (i 2).val := by decide +kernel

theorem t2_trips : ∀ i : grid0.Coords, (k0_t2_loop i).trips = 0 := by decide +kernel

theorem offM0_eq : ∀ i : grid0.Coords, ∀ h : Fin 8, offM0 i h.val = ![0, 2 * (i 2).val + 1, 128 * (h.val / 2), 0] := by decide +kernel

theorem offM1_eq : ∀ i : grid0.Coords, ∀ h : Fin 8, offM1 i h.val = ![0, 2 * (i 2).val, 128 * (h.val / 2), 0] := by decide +kernel

theorem offA0_eq : ∀ i : grid0.Coords, ∀ t : Fin (k0_t1_loop i).trips, ∀ h : Fin 8, offA0 i t h.val = ![0, 2 * (i 2).val + 1 - (2 * t.val + 2), 128 * (h.val / 2), 0] := by decide +kernel

theorem offA1_eq : ∀ i : grid0.Coords, ∀ t : Fin (k0_t1_loop i).trips, ∀ h : Fin 8, offA1 i t h.val = ![0, 2 * (i 2).val + 1 - (2 * t.val + 3), 128 * (h.val / 2), 0] := by decide +kernel

theorem offC2_eq : ∀ i : grid0.Coords, ∀ t : Fin (k0_t1_loop i).trips, ∀ h : Fin 8, offC i t 2#32 h.val = ![256 * (2 * (i 2).val + 1 - 2 * t.val), 128 * (h.val / 2)] := by decide +kernel

theorem offC1_eq : ∀ i : grid0.Coords, ∀ t : Fin (k0_t1_loop i).trips, ∀ h : Fin 8, offC i t 1#32 h.val = ![256 * (2 * (i 2).val + 1 - (2 * t.val + 1)), 128 * (h.val / 2)] := by decide +kernel

theorem offE_eq (r : ℕ) : ∀ h : Fin 8, offE r h.val = ![r, 128 * (h.val / 2)] := by
  intro h; fin_cases h <;> rfl

theorem off1_eq : ∀ i : grid0.Coords, ∀ h : Fin 8, k0_off1 i (BitVec.ofNat 32 h.val) = ![8 * (i 1).val + h.val] := by decide +kernel

end Cert.Proof.Attn

end
-- ==== Proof.Depth.lean ====
/-
  What a grid point's buffers hold at depth `d` of its walk over the key tiles, the diagonal pair first: the scores and
  softplus sums of tile `top − d`, the exponents of its weights, the running sums below it.
-/
module

public import proofs.«01_k».proof.Proof.State
public import proofs.«01_k».proof.Proof.Offs

@[expose] public section

noncomputable section

namespace Cert.Proof.Attn

open Cert.KernelIdeal Cert.KernelIdeal.Gen
open Idealize.ShloMosaic

variable {F : FTy → Type} [FloatOps F] [Named F]

/-- The key block of tile `j`, head pair `h / 2`. -/
def kwin (K : S1x32x512x256.Idx → Elt F .bf16) (j h : ℕ) : Vec F S1x1x128x256 .bf16 :=
  fun y => K (fun d => match d with
    | 0 => ⟨0, by decide⟩
    | 1 => ⟨j % 32, Nat.mod_lt _ (by decide)⟩
    | 2 => ⟨(128 * (h / 2) + (y 2).val) % 512, Nat.mod_lt _ (by decide)⟩
    | 3 => y 3)

/-- The value block of tile `j`, head pair `h / 2`. -/
def vwin (V : S8192x512.Idx → Elt F .bf16) (j h : ℕ) : Vec F S256x128 .bf16 :=
  fun y => V (fun d => match d with
    | 0 => ⟨(256 * j + (y 0).val) % 8192, Nat.mod_lt _ (by decide)⟩
    | 1 => ⟨(128 * (h / 2) + (y 1).val) % 512, Nat.mod_lt _ (by decide)⟩)

/-- The query columns of a head pair. -/
def qwin (Q : S512x512.Idx → Elt F .f32) (o : ℕ) : Vec F S512x128 .f32 :=
  fun y => Q (fun d => match d with
    | 0 => y 0
    | 1 => ⟨(o + (y 1).val) % 512, Nat.mod_lt _ (by decide)⟩)

/-- A head's bias. -/
def bwin (B : S16.Idx → Elt F .f32) (n : ℕ) : Elt F .f32 := B (fun d => match d with | 0 => ⟨n % 16, Nat.mod_lt _ (by decide)⟩)

theorem kwin_eq (K : S1x32x512x256.Idx → Elt F .bf16) (o : Fin 4 → ℕ) (ho : ∀ a, o a + S1x1x128x256.size a ≤ S1x32x512x256.size a) (j h : ℕ)
    (e : o = ![0, j, 128 * (h / 2), 0]) : VecWindow.window K o S1x1x128x256.size ho = kwin K j h := by
  subst e
  have h1 := ho 1
  have h2 := ho 2
  simp [S1x1x128x256, S1x32x512x256] at h1 h2
  funext y
  have y0 : (y 0).val = 0 := lt_one_eq (y 0).isLt
  have y1 : (y 1).val = 0 := lt_one_eq (y 1).isLt
  have y2 : (y 2).val < 128 := (y 2).isLt
  simp only [VecWindow.window, kwin]
  congr 1
  funext d
  apply Fin.ext
  fin_cases d <;> simp [Rect.emb, Rect.unit, y0, y1] <;> omega

theorem vwin_eq (V : S8192x512.Idx → Elt F .bf16) (o : Fin 2 → ℕ) (ho : ∀ a, o a + S256x128.size a ≤ S8192x512.size a) (j h : ℕ)
    (e : o = ![256 * j, 128 * (h / 2)]) : VecWindow.window V o S256x128.size ho = vwin V j h := by
  subst e
  have h0 := ho 0
  have h1 := ho 1
  simp [S256x128, S8192x512] at h0 h1
  funext y
  have y0 : (y 0).val < 256 := (y 0).isLt
  have y1 : (y 1).val < 128 := (y 1).isLt
  simp only [VecWindow.window, vwin]
  congr 1
  funext d
  apply Fin.ext
  fin_cases d <;> simp [Rect.emb, Rect.unit] <;> omega

theorem qwin_eq (Q : S512x512.Idx → Elt F .f32) (o : ℕ) (ho : ∀ a, (![0, o] : Fin 2 → ℕ) a + S512x128.size a ≤ S512x512.size a) :
    VecWindow.window (s := S512x512) Q ![0, o] S512x128.size ho = qwin Q o := by
  have h1 := ho 1
  simp [S512x128, S512x512] at h1
  funext y
  have y1 : (y 1).val < 128 := (y 1).isLt
  simp only [VecWindow.window, qwin]
  congr 1
  funext d
  apply Fin.ext
  fin_cases d <;> simp [Rect.emb, Rect.unit] <;> omega

theorem bwin_eq (B : S16.Idx → Elt F .f32) (o : Fin 1 → ℕ) (ho : ∀ a, o a + S1.size a ≤ S16.size a) (x : (Rect.unit (s := S16) o S1.size ho).shape.Idx) (n : ℕ)
    (e : o = ![n]) : VecWindow.window B o S1.size ho x = bwin B n := by
  subst e
  have h0 := ho 0
  simp [S1, S16] at h0
  have x0 : (x 0).val = 0 := lt_one_eq (x 0).isLt
  simp only [VecWindow.window, bwin]
  congr 1
  funext d
  apply Fin.ext
  fin_cases d
  simp [Rect.emb, Rect.unit, x0]
  omega

section Walk

variable (i : grid0.Coords) (B : S16.Idx → Elt F .f32) (Q : S512x512.Idx → Elt F .f32) (K : S1x32x512x256.Idx → Elt F .bf16)
  (V : S8192x512.Idx → Elt F .bf16) (T : S256x256.Idx → Elt F .bf16)

/-- The eight heads' masked query blocks. -/
def qsOf : ℕ → FVec F S512x128 .bf16 :=
  pick8 (qEven (qwin Q 0)) (qOdd (qwin Q 0)) (qEven (qwin Q 128)) (qOdd (qwin Q 128)) (qEven (qwin Q 256)) (qOdd (qwin Q 256)) (qEven (qwin Q 384)) (qOdd (qwin Q 384))

/-- The eight heads' biases, in units of log 2. -/
def bsOf : ℕ → F .f32 :=
  pick8 (k0_pay331 (bwin B (8 * (i 1).val + 0))) (k0_pay331 (bwin B (8 * (i 1).val + 1))) (k0_pay331 (bwin B (8 * (i 1).val + 2))) (k0_pay331 (bwin B (8 * (i 1).val + 3)))
    (k0_pay331 (bwin B (8 * (i 1).val + 4))) (k0_pay331 (bwin B (8 * (i 1).val + 5))) (k0_pay331 (bwin B (8 * (i 1).val + 6))) (k0_pay331 (bwin B (8 * (i 1).val + 7)))

/-- The key tile at depth `d`. -/
def tile (d : ℕ) : ℕ := 2 * (i 2).val + 1 - d

def zD (d h : ℕ) : FVec F S1x1x512x256 .f32 :=
  if d = 0 then zmOf i (jTop i) (qsOf Q) (bsOf i B) h (kwin K (tile i 0) h)
  else if d = 1 then zmOf i (Scalar.subi (jTop i) 1#32) (qsOf Q) (bsOf i B) h (kwin K (tile i 1) h)
  else zOf (qsOf Q) (bsOf i B) h (kwin K (tile i d) h)

def spD (d h : ℕ) : FVec F S1x1x512x256 .bf16 :=
  if d = 0 then spmOf i (jTop i) (qsOf Q) (bsOf i B) h (kwin K (tile i 0) h)
  else if d = 1 then spmOf i (Scalar.subi (jTop i) 1#32) (qsOf Q) (bsOf i B) h (kwin K (tile i 1) h)
  else spOf (qsOf Q) (bsOf i B) h (kwin K (tile i d) h)

/-- Zero rows. -/
def zero3 : FVec F S1x512x128 .f32 := fun _ => Scalar.ofBits .f32 0x00000000#32

/-- The carried sum before depth `d`. -/
def rD : ℕ → ℕ → FVec F S1x512x128 .f32
  | 0, _ => zero3
  | d + 1, h => k0_pay24 (spD i B Q K d h) T (rD d h)

/-- The exponents at depth `d`. -/
def eD (d h : ℕ) : FVec F S1x1x512x256 .f32 := k0_pay23 (spD i B Q K d h) T (rD i B Q K T d h) (zD i B Q K d h)

/-- The accumulated rows before depth `d`. -/
def aD : ℕ → ℕ → FVec F S1x512x128 .f32
  | 0, _ => zero3
  | d + 1, h => k0_pay2 (vwin V (tile i d) h) (eD i B Q K T d h) (aD d h)

/-- The output block of a grid point. -/
def outD : S512x512.Idx → Elt F .bf16 := fun y =>
  k0_pay1 (iota .tc S1x128 32 [1] iota_S1x128_d1_w32) (aD i B Q K V T (2 * (i 2).val + 2) (2 * ((y 1).val / 128)))
    (aD i B Q K V T (2 * (i 2).val + 2) (2 * ((y 1).val / 128) + 1)) (fun d => match d with | 0 => y 0 | 1 => ⟨(y 1).val % 128, Nat.mod_lt _ (by decide)⟩)

end Walk

end Cert.Proof.Attn

end
-- ==== Proof.Pre.lean ====
/-
  The attention body's run before its loop.
-/
module

public import proofs.«01_k».proof.Proof.Depth

@[expose] public section

noncomputable section

namespace Cert.Proof.Attn

open Cert.KernelIdeal Cert.KernelIdeal.Gen
open Idealize.ShloMosaic Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (𝒱 : Variants) (c : Dev nD) (bd : Option 𝒱.V) (E : Set ℕ)

variable {𝒱 c bd E}

section Stages

variable {arg3 : Memref sig .tc .smem S16 .f32} {arg4 : Memref sig .tc .vmem S512x512 .f32}
  {arg5 : Memref sig .tc .vmem S1x32x512x256 .bf16} {arg6 : Memref sig .tc .vmem S8192x512 .bf16}
  {arg7 : Memref sig .tc .vmem S256x256 .bf16} {arg8 : Memref sig .tc .vmem S512x512 .bf16} {harg8 : arg8.IsWhole}
  {arg9 : Memref sig .tc .vmem S2x8x512x256 .f32} {arg10 : Memref sig .tc .vmem S2x8x512x256 .bf16} {harg10 : arg10.IsWhole}
  {arg11 : Memref sig .tc .vmem S2x8x512x256 .f32} {arg12 : Memref sig .tc .vmem S8x512x128 .f32}
  {arg13 : Memref sig .tc .vmem S8x512x128 .f32}

/-- Both halves of a two-tile buffer. -/
def two {β : Type} (a b : β) : ℕ → β := fun p => if p = 0 then a else b

theorem upd_two0 {β : Type} (a b x : β) : upd (two a b) 0 x = two x b := by
  funext p; simp only [upd, two]; split <;> simp_all

theorem upd_two1 {α : Type} (a b x : ℕ → S1x1x512x256.Idx → α) : stack4 (upd (two a b) 1 x) = stack4 (two a x) :=
  stack4_congr fun p hp k hk => by
    have : p = 0 ∨ p = 1 := by omega
    rcases this with rfl | rfl <;> simp [upd, two]

theorem stack4_two {α : Type} (z : ℕ → ℕ → S1x1x512x256.Idx → α) : stack4 z = stack4 (two (z 0) (z 1)) :=
  stack4_congr fun p hp k hk => by
    have : p = 0 ∨ p = 1 := by omega
    rcases this with rfl | rfl <;> simp [two]

theorem put_full3 {α : Type} (X w : S8x512x128.Idx → α) : VecWindow.put (s := S8x512x128) X ![0, 0, 0] S8x512x128.size w = w := by
  funext y
  have hin : ∀ d, (![0, 0, 0] : Fin 3 → ℕ) d ≤ (y d).val ∧ (y d).val < (![0, 0, 0] : Fin 3 → ℕ) d + S8x512x128.size d := by
    intro d
    have := (y d).isLt
    fin_cases d <;> simpa using this
  simp only [VecWindow.put]
  rw [dif_pos hin]
  congr 1
  funext d
  fin_cases d <;> apply Fin.ext <;> simp [Rect.unitLocal]

theorem pay339_eq : (k0_pay339 (F := F)) = stack3 fun _ => zero3 := rfl

theorem pay340_eq : (k0_pay340 (F := F)) = stack3 fun _ => zero3 := rfl

/-- The two sums are set to zero. -/
theorem wp_zeros (X12 X13 : S8x512x128.Idx → Elt F .f32) (Q' : PUnit → sProp (MT nD τ sig Unit (Elt F) ℕ (UR sig nD τ) ℕ)) :
    iprop(owns (c : Thread nD τ) arg12 fullShare (X12) ∗ owns (c : Thread nD τ) arg13 fullShare (X13))
      ⊢ iprop((owns (c : Thread nD τ) arg12 fullShare (stack3 fun _ => zero3) ∗ owns (c : Thread nD τ) arg13 fullShare (stack3 fun _ => zero3) -∗ Q' ⟨⟩)
        -∗ WP 𝒱 c bd E (zeros arg12 arg13) Q') := by
  unfold zeros
  simp only [WP, Prog.bind_lift]
  iintro ⟨Ha, Hr⟩ Hk
  iapply (wp_ld 𝒱 (c : Thread nD τ) bd E) $$ Ha
  iintro Ha
  iapply (wp_st 𝒱 (c : Thread nD τ) bd E) $$ Ha
  iintro Ha
  iapply (wp_ld 𝒱 (c : Thread nD τ) bd E) $$ Hr
  iintro Hr
  iapply (wp_st 𝒱 (c : Thread nD τ) bd E) $$ Hr
  iintro Hr
  rw [put_full3, put_full3, pay339_eq, pay340_eq]
  simp only [wp_ret]
  imodintro
  iapply Hk
  isplitl [Ha]
  · iexact Ha
  iexact Hr

variable (i : grid0.Coords) (B : S16.Idx → Elt F .f32) (Q : S512x512.Idx → Elt F .f32) (K : S1x32x512x256.Idx → Elt F .bf16)
  (V : S8192x512.Idx → Elt F .bf16) (T : S256x256.Idx → Elt F .bf16)

theorem kM0 (h : ℕ) (hh : h < 8) : VecWindow.window K (offM0 i h) S1x1x128x256.size (offM0_inb i h) = kwin K (tile i 0) h :=
  kwin_eq K _ _ _ h (offM0_eq i ⟨h, hh⟩)

theorem kM1 (h : ℕ) (hh : h < 8) : VecWindow.window K (offM1 i h) S1x1x128x256.size (offM1_inb i h) = kwin K (tile i 1) h :=
  kwin_eq K _ _ _ h (offM1_eq i ⟨h, hh⟩)

/-- Before the loop: the two diagonal tiles' scores, the first's exponents. -/
theorem wp_pre (z : ℕ → ℕ → S1x1x512x256.Idx → Elt F .f32) (sp : ℕ → ℕ → S1x1x512x256.Idx → Elt F .bf16) (e : ℕ → ℕ → S1x1x512x256.Idx → Elt F .f32)
    (X12 X13 : S8x512x128.Idx → Elt F .f32) (Q' : PUnit → sProp (MT nD τ sig Unit (Elt F) ℕ (UR sig nD τ) ℕ)) :
    iprop(owns (c : Thread nD τ) arg5 fullShare (K) ∗ owns (c : Thread nD τ) arg7 fullShare (T) ∗ owns (c : Thread nD τ) arg9 fullShare (stack4 z) ∗ owns (c : Thread nD τ) arg10 fullShare (stack4 sp) ∗ owns (c : Thread nD τ) arg11 fullShare (stack4 e) ∗ owns (c : Thread nD τ) arg12 fullShare (X12) ∗ owns (c : Thread nD τ) arg13 fullShare (X13))
      ⊢ iprop((owns (c : Thread nD τ) arg5 fullShare (K) ∗ owns (c : Thread nD τ) arg7 fullShare (T) ∗ owns (c : Thread nD τ) arg9 fullShare (stack4 (two (zD i B Q K 0) (zD i B Q K 1))) ∗ owns (c : Thread nD τ) arg10 fullShare (stack4 (two (spD i B Q K 0) (spD i B Q K 1))) ∗ owns (c : Thread nD τ) arg11 fullShare (stack4 (two (eD i B Q K T 0) (e 1))) ∗ owns (c : Thread nD τ) arg12 fullShare (stack3 (aD i B Q K V T 0)) ∗ owns (c : Thread nD τ) arg13 fullShare (stack3 (rD i B Q K T 1)) -∗ Q' ⟨⟩)
        -∗ WP 𝒱 c bd E (pre i arg5 arg7 arg9 arg10 harg10 arg11 arg12 arg13 (qsOf Q) (bsOf i B)) Q') := by
  unfold pre
  simp only [WP, wp_bind]
  iintro ⟨HK, HT, Hz, Hs, He, Ha, Hr⟩ Hk
  iapply (wp_zeros X12 X13 _) $$ [Ha Hr]
  · isplitl [Ha]
    · iexact Ha
    iexact Hr
  iintro ⟨Ha, Hr⟩
  iapply (wp_stageA 0 _ (offM0 i) (offM0_inb i) (zmOf i (jTop i) (qsOf Q) (bsOf i B)) (spmOf i (jTop i) (qsOf Q) (bsOf i B)) K z sp _) $$ [HK Hz Hs]
  · isplitl [HK]
    · iexact HK
    isplitl [Hz]
    · iexact Hz
    iexact Hs
  iintro ⟨HK, Hz, Hs⟩
  iapply (wp_stageB 0 _ T _ _ e _ _) $$ [HT Hz Hs He Hr]
  · isplitl [HT]
    · iexact HT
    isplitl [Hz]
    · iexact Hz
    isplitl [Hs]
    · iexact Hs
    isplitl [He]
    · iexact He
    iexact Hr
  iintro ⟨HT, Hz, Hs, He, Hr⟩
  iapply (wp_stageA 1 _ (offM1 i) (offM1_inb i) (zmOf i (Scalar.subi (jTop i) 1#32) (qsOf Q) (bsOf i B)) (spmOf i (Scalar.subi (jTop i) 1#32) (qsOf Q) (bsOf i B)) K _ _ _) $$ [HK Hz Hs]
  · isplitl [HK]
    · iexact HK
    isplitl [Hz]
    · iexact Hz
    iexact Hs
  iintro ⟨HK, Hz, Hs⟩
  have hz : stack4 (upd (upd z 0 fun h => zmOf i (jTop i) (qsOf Q) (bsOf i B) h (VecWindow.window K (offM0 i h) S1x1x128x256.size (offM0_inb i h))) 1
      fun h => zmOf i (Scalar.subi (jTop i) 1#32) (qsOf Q) (bsOf i B) h (VecWindow.window K (offM1 i h) S1x1x128x256.size (offM1_inb i h)))
      = stack4 (two (zD i B Q K 0) (zD i B Q K 1)) := stack4_congr fun p hp k hk => by
    have : p = 0 ∨ p = 1 := by omega
    rcases this with rfl | rfl <;> simp [upd, two, zD, kM0 i K k hk, kM1 i K k hk]
  have hs : stack4 (upd (upd sp 0 fun h => spmOf i (jTop i) (qsOf Q) (bsOf i B) h (VecWindow.window K (offM0 i h) S1x1x128x256.size (offM0_inb i h))) 1
      fun h => spmOf i (Scalar.subi (jTop i) 1#32) (qsOf Q) (bsOf i B) h (VecWindow.window K (offM1 i h) S1x1x128x256.size (offM1_inb i h)))
      = stack4 (two (spD i B Q K 0) (spD i B Q K 1)) := stack4_congr fun p hp k hk => by
    have : p = 0 ∨ p = 1 := by omega
    rcases this with rfl | rfl <;> simp [upd, two, spD, kM0 i K k hk, kM1 i K k hk]
  rw [hz, hs]
  iapply Hk
  isplitl [HK]
  · iexact HK
  isplitl [HT]
  · iexact HT
  isplitl [Hz]
  · iexact Hz
  isplitl [Hs]
  · iexact Hs
  isplitl [He]
  · have he : stack4 (upd e 0 fun h => k0_pay23
        (upd sp 0 (fun h => spmOf i (jTop i) (qsOf Q) (bsOf i B) h (VecWindow.window K (offM0 i h) S1x1x128x256.size (offM0_inb i h))) 0 h) T zero3
        (upd z 0 (fun h => zmOf i (jTop i) (qsOf Q) (bsOf i B) h (VecWindow.window K (offM0 i h) S1x1x128x256.size (offM0_inb i h))) 0 h))
        = stack4 (two (eD i B Q K T 0) (e 1)) := stack4_congr fun p hp k hk => by
      have : p = 0 ∨ p = 1 := by omega
      rcases this with rfl | rfl <;> simp [upd, two, eD, rD, zD, spD, kM0 i K k hk]
    rw [← he]
    iexact He
  isplitl [Ha]
  · iexact Ha
  have hr : (stack3 fun h => k0_pay24
        (upd sp 0 (fun h => spmOf i (jTop i) (qsOf Q) (bsOf i B) h (VecWindow.window K (offM0 i h) S1x1x128x256.size (offM0_inb i h))) 0 h) T zero3)
        = stack3 (rD i B Q K T 1) := stack3_congr fun k hk => by
      simp [upd, rD, spD, kM0 i K k hk]
  rw [← hr]
  iexact Hr

end Stages

end Cert.Proof.Attn

end
-- ==== Proof.TripEq.lean ====
/-
  The printed loop body is the clean trip.
-/
module

public import proofs.«01_k».proof.Proof.Clean

@[expose] public section

set_option maxRecDepth 100000

noncomputable section

namespace Cert.Proof.Attn

open Cert.KernelIdeal Cert.KernelIdeal.Gen
open Idealize.ShloMosaic Idealize.SL.Sem

variable {F : FTy → Type} [FloatOps F] [Named F]

set_option maxHeartbeats 4000000 in
/-- The printed trip of the loop is the clean one. -/
theorem t1_body_eq (i : grid0.Coords) (arg3 : Memref sig .tc .smem S16 .f32) (harg3 : arg3.IsWhole) (arg4 : Memref sig .tc .vmem S512x512 .f32) (harg4 : arg4.IsWhole)
  (arg5 : Memref sig .tc .vmem S1x32x512x256 .bf16) (harg5 : arg5.IsWhole) (arg6 : Memref sig .tc .vmem S8192x512 .bf16) (harg6 : arg6.IsWhole)
  (arg7 : Memref sig .tc .vmem S256x256 .bf16) (harg7 : arg7.IsWhole) (arg8 : Memref sig .tc .vmem S512x512 .bf16) (harg8 : arg8.IsWhole)
  (arg9 : Memref sig .tc .vmem S2x8x512x256 .f32) (harg9 : arg9.IsWhole) (arg10 : Memref sig .tc .vmem S2x8x512x256 .bf16) (harg10 : arg10.IsWhole)
  (arg11 : Memref sig .tc .vmem S2x8x512x256 .f32) (harg11 : arg11.IsWhole) (arg12 : Memref sig .tc .vmem S8x512x128 .f32) (harg12 : arg12.IsWhole)
  (arg13 : Memref sig .tc .vmem S8x512x128 .f32) (harg13 : arg13.IsWhole)
  (q0 q1 q2 q3 q4 q5 q6 q7 : FVec F S512x128 .bf16) (b0 b1 b2 b3 b4 b5 b6 b7 : F .f32) (v331 c1 c0 v1078 : BitVec 32)
  (t : Fin (k0_t1_loop i).trips) (acc : BitVec 32) :
  k0_t1_body i arg3 harg3 arg4 harg4 arg5 harg5 arg6 harg6 arg7 harg7 arg8 harg8 arg9 harg9 arg10 harg10 arg11 harg11 arg12 harg12 arg13 harg13
    q0 q1 q2 q3 q4 q5 q6 q7 b0 b1 b2 b3 b4 b5 b6 b7 v331 c1 c0 v1078 t acc
  = trip i arg5 arg6 arg7 arg9 arg10 harg10 arg11 arg12 arg13 (pick8 q0 q1 q2 q3 q4 q5 q6 q7) (pick8 b0 b1 b2 b3 b4 b5 b6 b7) t := by
  rfl

end Cert.Proof.Attn

end
-- ==== Proof.Loop.lean ====
/-
  The attention body's loop: a trip takes the walk two tiles deeper.
-/
module

public import proofs.«01_k».proof.Proof.Pre
public import proofs.«01_k».proof.Proof.TripEq

@[expose] public section

noncomputable section

namespace Cert.Proof.Attn

open Cert.KernelIdeal Cert.KernelIdeal.Gen
open Idealize.ShloMosaic Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (𝒱 : Variants) (c : Dev nD) (bd : Option 𝒱.V) (E : Set ℕ)

variable {𝒱 c bd E}

section Stages

variable {arg3 : Memref sig .tc .smem S16 .f32} {arg4 : Memref sig .tc .vmem S512x512 .f32}
  {arg5 : Memref sig .tc .vmem S1x32x512x256 .bf16} {arg6 : Memref sig .tc .vmem S8192x512 .bf16}
  {arg7 : Memref sig .tc .vmem S256x256 .bf16} {arg8 : Memref sig .tc .vmem S512x512 .bf16} {harg8 : arg8.IsWhole}
  {arg9 : Memref sig .tc .vmem S2x8x512x256 .f32} {arg10 : Memref sig .tc .vmem S2x8x512x256 .bf16} {harg10 : arg10.IsWhole}
  {arg11 : Memref sig .tc .vmem S2x8x512x256 .f32} {arg12 : Memref sig .tc .vmem S8x512x128 .f32}
  {arg13 : Memref sig .tc .vmem S8x512x128 .f32}

variable (i : grid0.Coords) (B : S16.Idx → Elt F .f32) (Q : S512x512.Idx → Elt F .f32) (K : S1x32x512x256.Idx → Elt F .bf16)
  (V : S8192x512.Idx → Elt F .bf16) (T : S256x256.Idx → Elt F .bf16)

theorem kA0 (t : Fin (k0_t1_loop i).trips) (h : ℕ) (hh : h < 8) :
    VecWindow.window K (offA0 i t h) S1x1x128x256.size (offA0_inb i t h) = kwin K (tile i (2 * t.val + 2)) h :=
  kwin_eq K _ _ _ h (offA0_eq i t ⟨h, hh⟩)

theorem kA1 (t : Fin (k0_t1_loop i).trips) (h : ℕ) (hh : h < 8) :
    VecWindow.window K (offA1 i t h) S1x1x128x256.size (offA1_inb i t h) = kwin K (tile i (2 * t.val + 3)) h :=
  kwin_eq K _ _ _ h (offA1_eq i t ⟨h, hh⟩)

theorem vC2 (t : Fin (k0_t1_loop i).trips) (h : ℕ) (hh : h < 8) :
    VecWindow.window V (offC i t 2#32 h) S256x128.size (offC_inb i t 1 h) = vwin V (tile i (2 * t.val)) h :=
  vwin_eq V _ _ _ h (offC2_eq i t ⟨h, hh⟩)

theorem vC1 (t : Fin (k0_t1_loop i).trips) (h : ℕ) (hh : h < 8) :
    VecWindow.window V (offC i t 1#32 h) S256x128.size (offC_inb i t 0 h) = vwin V (tile i (2 * t.val + 1)) h :=
  vwin_eq V _ _ _ h (offC1_eq i t ⟨h, hh⟩)

theorem zD_deep (d : ℕ) : zD i B Q K (d + 2) = fun h => zOf (qsOf Q) (bsOf i B) h (kwin K (tile i (d + 2)) h) := by
  funext h; simp [zD]

theorem spD_deep (d : ℕ) : spD i B Q K (d + 2) = fun h => spOf (qsOf Q) (bsOf i B) h (kwin K (tile i (d + 2)) h) := by
  funext h; simp [spD]

theorem stack4_two_congr {α : Type} {a b a' b' : ℕ → S1x1x512x256.Idx → α} (ha : ∀ k, k < 8 → a k = a' k) (hb : ∀ k, k < 8 → b k = b' k) :
    stack4 (two a b) = stack4 (two a' b') :=
  stack4_congr fun p _ k hk => by simp only [two]; split <;> simp [ha k hk, hb k hk]

/-- Stage C, its sums named. -/
theorem wp_stageC' (p : ℕ) (hp : p < 2) (o : ℕ → Fin 2 → ℕ) (ho : ∀ h a, o h a + S256x128.size a ≤ S8192x512.size a)
    (e : ℕ → ℕ → S1x1x512x256.Idx → Elt F .f32) (a a' : ℕ → S1x512x128.Idx → Elt F .f32)
    (ha : ∀ h, h < 8 → k0_pay2 (VecWindow.window V (o h) S256x128.size (ho h)) (e p h) (a h) = a' h) (Q : PUnit → sProp (MT nD τ sig Unit (Elt F) ℕ (UR sig nD τ) ℕ)) :
    iprop(owns (c : Thread nD τ) arg6 fullShare (V) ∗ owns (c : Thread nD τ) arg11 fullShare (stack4 e) ∗ owns (c : Thread nD τ) arg12 fullShare (stack3 a))
      ⊢ iprop((owns (c : Thread nD τ) arg6 fullShare (V) ∗ owns (c : Thread nD τ) arg11 fullShare (stack4 e) ∗ owns (c : Thread nD τ) arg12 fullShare (stack3 a') -∗ Q ⟨⟩)
        -∗ WP 𝒱 c bd E (stageC arg6 arg11 arg12 p hp o ho) Q) := by
  rw [← stack3_congr (a := fun h => k0_pay2 (VecWindow.window V (o h) S256x128.size (ho h)) (e p h) (a h)) ha]
  exact wp_stageC p hp o ho V e a Q

/-- Stage B, its exponents and sums named. -/
theorem wp_stageB' (p : ℕ) (hp : p < 2) (z : ℕ → ℕ → S1x1x512x256.Idx → Elt F .f32)
    (sp : ℕ → ℕ → S1x1x512x256.Idx → Elt F .bf16) (e e' : ℕ → ℕ → S1x1x512x256.Idx → Elt F .f32) (r r' : ℕ → S1x512x128.Idx → Elt F .f32)
    (he : stack4 (upd e p fun h => k0_pay23 (sp p h) T (r h) (z p h)) = stack4 e') (hr : ∀ h, h < 8 → k0_pay24 (sp p h) T (r h) = r' h) (Q : PUnit → sProp (MT nD τ sig Unit (Elt F) ℕ (UR sig nD τ) ℕ)) :
    iprop(owns (c : Thread nD τ) arg7 fullShare (T) ∗ owns (c : Thread nD τ) arg9 fullShare (stack4 z) ∗ owns (c : Thread nD τ) arg10 fullShare (stack4 sp)
        ∗ owns (c : Thread nD τ) arg11 fullShare (stack4 e) ∗ owns (c : Thread nD τ) arg13 fullShare (stack3 r))
      ⊢ iprop((owns (c : Thread nD τ) arg7 fullShare (T) ∗ owns (c : Thread nD τ) arg9 fullShare (stack4 z) ∗ owns (c : Thread nD τ) arg10 fullShare (stack4 sp)
          ∗ owns (c : Thread nD τ) arg11 fullShare (stack4 e') ∗ owns (c : Thread nD τ) arg13 fullShare (stack3 r') -∗ Q ⟨⟩)
        -∗ WP 𝒱 c bd E (stageB arg7 arg9 arg10 arg11 arg13 p hp) Q) := by
  rw [← he, ← stack3_congr (a := fun h => k0_pay24 (sp p h) T (r h)) hr]
  exact wp_stageB p hp T z sp e r Q

/-- Stage A, its scores and sums named. -/
theorem wp_stageA' (p : ℕ) (hp : p < 2) (o : ℕ → Fin 4 → ℕ) (ho : ∀ h a, o h a + S1x1x128x256.size a ≤ S1x32x512x256.size a)
    (pz : ℕ → Vec F S1x1x128x256 .bf16 → FVec F S1x1x512x256 .f32) (ps : ℕ → Vec F S1x1x128x256 .bf16 → FVec F S1x1x512x256 .bf16)
    (z z' : ℕ → ℕ → S1x1x512x256.Idx → Elt F .f32) (sp sp' : ℕ → ℕ → S1x1x512x256.Idx → Elt F .bf16)
    (hz : stack4 (upd z p fun h => pz h (VecWindow.window K (o h) S1x1x128x256.size (ho h))) = stack4 z')
    (hs : stack4 (upd sp p fun h => ps h (VecWindow.window K (o h) S1x1x128x256.size (ho h))) = stack4 sp') (Q : PUnit → sProp (MT nD τ sig Unit (Elt F) ℕ (UR sig nD τ) ℕ)) :
    iprop(owns (c : Thread nD τ) arg5 fullShare (K) ∗ owns (c : Thread nD τ) arg9 fullShare (stack4 z) ∗ owns (c : Thread nD τ) arg10 fullShare (stack4 sp))
      ⊢ iprop((owns (c : Thread nD τ) arg5 fullShare (K) ∗ owns (c : Thread nD τ) arg9 fullShare (stack4 z') ∗ owns (c : Thread nD τ) arg10 fullShare (stack4 sp') -∗ Q ⟨⟩)
        -∗ WP 𝒱 c bd E (stageA arg5 arg9 arg10 harg10 p hp o ho pz ps) Q) := by
  rw [← hz, ← hs]
  exact wp_stageA p hp o ho pz ps K z sp Q

theorem aD_succ (d h : ℕ) : k0_pay2 (vwin V (tile i d) h) (eD i B Q K T d h) (aD i B Q K V T d h) = aD i B Q K V T (d + 1) h := by rw [aD]

theorem rD_succ (d h : ℕ) : k0_pay24 (spD i B Q K d h) T (rD i B Q K T d h) = rD i B Q K T (d + 1) h := by rw [rD]

theorem eD_eq (d : ℕ) : (fun h => k0_pay23 (spD i B Q K d h) T (rD i B Q K T d h) (zD i B Q K d h)) = eD i B Q K T d := by funext h; rw [eD]

theorem two_zero {β : Type} (a b : β) : two a b 0 = a := if_pos rfl

theorem two_one {β : Type} (a b : β) : two a b 1 = b := if_neg (by decide)

theorem step_c0 (t : Fin (k0_t1_loop i).trips) (e1 : ℕ → S1x1x512x256.Idx → Elt F .f32) (h : ℕ) (hh : h < 8) :
    k0_pay2 (VecWindow.window V (offC i t 2#32 h) S256x128.size (offC_inb i t 1 h)) (two (eD i B Q K T (2 * t.val)) e1 0 h) (aD i B Q K V T (2 * t.val) h)
      = aD i B Q K V T (2 * t.val + 1) h := by
  rw [vC2 i V t h hh, two_zero, aD_succ]

theorem step_c1 (t : Fin (k0_t1_loop i).trips) (e0 : ℕ → S1x1x512x256.Idx → Elt F .f32) (h : ℕ) (hh : h < 8) :
    k0_pay2 (VecWindow.window V (offC i t 1#32 h) S256x128.size (offC_inb i t 0 h)) (two e0 (eD i B Q K T (2 * t.val + 1)) 1 h) (aD i B Q K V T (2 * t.val + 1) h)
      = aD i B Q K V T (2 * t.val + 2) h := by
  rw [vC1 i V t h hh, two_one, aD_succ]

theorem step_e1 (d : ℕ) (z0 e0 e1 : ℕ → S1x1x512x256.Idx → Elt F .f32) (s0 : ℕ → S1x1x512x256.Idx → Elt F .bf16) :
    stack4 (upd (two e0 e1) 1 fun h => k0_pay23 (two s0 (spD i B Q K d) 1 h) T (rD i B Q K T d h) (two z0 (zD i B Q K d) 1 h))
      = stack4 (two e0 (eD i B Q K T d)) := by
  rw [upd_two1, two_one, two_one, eD_eq]

theorem step_e0 (d : ℕ) (z1 e0 e1 : ℕ → S1x1x512x256.Idx → Elt F .f32) (s1 : ℕ → S1x1x512x256.Idx → Elt F .bf16) :
    stack4 (upd (two e0 e1) 0 fun h => k0_pay23 (two (spD i B Q K d) s1 0 h) T (rD i B Q K T d h) (two (zD i B Q K d) z1 0 h))
      = stack4 (two (eD i B Q K T d) e1) := by
  rw [upd_two0, two_zero, two_zero, eD_eq]

theorem step_r1 (d d' : ℕ) (hd : d' = d + 1) (s0 : ℕ → S1x1x512x256.Idx → Elt F .bf16) (h : ℕ) :
    k0_pay24 (two s0 (spD i B Q K d) 1 h) T (rD i B Q K T d h) = rD i B Q K T d' h := by
  rw [two_one, hd, rD_succ]

theorem step_r0 (d d' : ℕ) (hd : d' = d + 1) (s1 : ℕ → S1x1x512x256.Idx → Elt F .bf16) (h : ℕ) :
    k0_pay24 (two (spD i B Q K d) s1 0 h) T (rD i B Q K T d h) = rD i B Q K T d' h := by
  rw [two_zero, hd, rD_succ]

theorem trip_z0 (t : Fin (k0_t1_loop i).trips) :
    stack4 (upd (two (zD i B Q K (2 * t.val)) (zD i B Q K (2 * t.val + 1))) 0 fun h => zOf (qsOf Q) (bsOf i B) h (VecWindow.window K (offA0 i t h) S1x1x128x256.size (offA0_inb i t h))) = stack4 (two (zD i B Q K (2 * t.val + 2)) (zD i B Q K (2 * t.val + 1))) := by
  rw [upd_two0, zD_deep i B Q K (2 * t.val)]
  exact stack4_two_congr (fun k hk => by simp only [kA0 i K t k hk]) (fun k hk => rfl)

theorem trip_z1 (t : Fin (k0_t1_loop i).trips) :
    stack4 (upd (two (zD i B Q K (2 * t.val + 2)) (zD i B Q K (2 * t.val + 1))) 1 fun h => zOf (qsOf Q) (bsOf i B) h (VecWindow.window K (offA1 i t h) S1x1x128x256.size (offA1_inb i t h))) = stack4 (two (zD i B Q K (2 * t.val + 2)) (zD i B Q K (2 * t.val + 3))) := by
  rw [upd_two1, zD_deep i B Q K (2 * t.val + 1)]
  exact stack4_two_congr (fun k hk => rfl) (fun k hk => by simp only [kA1 i K t k hk])

theorem trip_s0 (t : Fin (k0_t1_loop i).trips) :
    stack4 (upd (two (spD i B Q K (2 * t.val)) (spD i B Q K (2 * t.val + 1))) 0 fun h => spOf (qsOf Q) (bsOf i B) h (VecWindow.window K (offA0 i t h) S1x1x128x256.size (offA0_inb i t h))) = stack4 (two (spD i B Q K (2 * t.val + 2)) (spD i B Q K (2 * t.val + 1))) := by
  rw [upd_two0, spD_deep i B Q K (2 * t.val)]
  exact stack4_two_congr (fun k hk => by simp only [kA0 i K t k hk]) (fun k hk => rfl)

theorem trip_s1 (t : Fin (k0_t1_loop i).trips) :
    stack4 (upd (two (spD i B Q K (2 * t.val + 2)) (spD i B Q K (2 * t.val + 1))) 1 fun h => spOf (qsOf Q) (bsOf i B) h (VecWindow.window K (offA1 i t h) S1x1x128x256.size (offA1_inb i t h))) = stack4 (two (spD i B Q K (2 * t.val + 2)) (spD i B Q K (2 * t.val + 3))) := by
  rw [upd_two1, spD_deep i B Q K (2 * t.val + 1)]
  exact stack4_two_congr (fun k hk => rfl) (fun k hk => by simp only [kA1 i K t k hk])

/-- A trip of the loop. -/
theorem wp_trip (t : Fin (k0_t1_loop i).trips) (e1 : ℕ → S1x1x512x256.Idx → Elt F .f32)
    (Q' : BitVec 32 → sProp (MT nD τ sig Unit (Elt F) ℕ (UR sig nD τ) ℕ)) :
    iprop(owns (c : Thread nD τ) arg5 fullShare (K) ∗ owns (c : Thread nD τ) arg6 fullShare (V) ∗ owns (c : Thread nD τ) arg7 fullShare (T) ∗ owns (c : Thread nD τ) arg9 fullShare (stack4 (two (zD i B Q K (2 * t.val)) (zD i B Q K (2 * t.val + 1)))) ∗ owns (c : Thread nD τ) arg10 fullShare (stack4 (two (spD i B Q K (2 * t.val)) (spD i B Q K (2 * t.val + 1)))) ∗ owns (c : Thread nD τ) arg11 fullShare (stack4 (two (eD i B Q K T (2 * t.val)) e1)) ∗ owns (c : Thread nD τ) arg12 fullShare (stack3 (aD i B Q K V T (2 * t.val))) ∗ owns (c : Thread nD τ) arg13 fullShare (stack3 (rD i B Q K T (2 * t.val + 1))))
      ⊢ iprop((∀ v, ∀ e1, owns (c : Thread nD τ) arg5 fullShare (K) ∗ owns (c : Thread nD τ) arg6 fullShare (V) ∗ owns (c : Thread nD τ) arg7 fullShare (T) ∗ owns (c : Thread nD τ) arg9 fullShare (stack4 (two (zD i B Q K (2 * t.val + 2)) (zD i B Q K (2 * t.val + 3)))) ∗ owns (c : Thread nD τ) arg10 fullShare (stack4 (two (spD i B Q K (2 * t.val + 2)) (spD i B Q K (2 * t.val + 3)))) ∗ owns (c : Thread nD τ) arg11 fullShare (stack4 (two (eD i B Q K T (2 * t.val + 2)) e1)) ∗ owns (c : Thread nD τ) arg12 fullShare (stack3 (aD i B Q K V T (2 * t.val + 2))) ∗ owns (c : Thread nD τ) arg13 fullShare (stack3 (rD i B Q K T (2 * t.val + 3))) -∗ Q' v)
        -∗ WP 𝒱 c bd E (trip i arg5 arg6 arg7 arg9 arg10 harg10 arg11 arg12 arg13 (qsOf Q) (bsOf i B) t) Q') := by
  unfold trip
  simp only [WP, wp_bind]
  iintro ⟨HK, HV, HT, Hz, Hs, He, Ha, Hr⟩ Hk
  iapply (wp_stageC' V 0 _ (offC i t 2#32) (offC_inb i t 1) (two (eD i B Q K T (2 * t.val)) e1) (aD i B Q K V T (2 * t.val)) (aD i B Q K V T (2 * t.val + 1))
    (step_c0 i B Q K V T t e1) _) $$ [HV He Ha]
  · isplitl [HV]
    · iexact HV
    isplitl [He]
    · iexact He
    iexact Ha
  iintro ⟨HV, He, Ha⟩
  iapply (wp_stageB' T 1 _ (two (zD i B Q K (2 * t.val)) (zD i B Q K (2 * t.val + 1))) (two (spD i B Q K (2 * t.val)) (spD i B Q K (2 * t.val + 1))) (two (eD i B Q K T (2 * t.val)) e1) (two (eD i B Q K T (2 * t.val)) (eD i B Q K T (2 * t.val + 1))) (rD i B Q K T (2 * t.val + 1)) (rD i B Q K T (2 * t.val + 2))
    (step_e1 i B Q K T (2 * t.val + 1) (zD i B Q K (2 * t.val)) (eD i B Q K T (2 * t.val)) e1 (spD i B Q K (2 * t.val))) (fun h _ => step_r1 i B Q K T (2 * t.val + 1) _ (by omega) (spD i B Q K (2 * t.val)) h) _) $$ [HT Hz Hs He Hr]
  · isplitl [HT]
    · iexact HT
    isplitl [Hz]
    · iexact Hz
    isplitl [Hs]
    · iexact Hs
    isplitl [He]
    · iexact He
    iexact Hr
  iintro ⟨HT, Hz, Hs, He, Hr⟩
  iapply (wp_stageA' K 0 _ (offA0 i t) (offA0_inb i t) (zOf (qsOf Q) (bsOf i B)) (spOf (qsOf Q) (bsOf i B)) (two (zD i B Q K (2 * t.val)) (zD i B Q K (2 * t.val + 1))) (two (zD i B Q K (2 * t.val + 2)) (zD i B Q K (2 * t.val + 1))) (two (spD i B Q K (2 * t.val)) (spD i B Q K (2 * t.val + 1))) (two (spD i B Q K (2 * t.val + 2)) (spD i B Q K (2 * t.val + 1)))
    (trip_z0 i B Q K t) (trip_s0 i B Q K t) _) $$ [HK Hz Hs]
  · isplitl [HK]
    · iexact HK
    isplitl [Hz]
    · iexact Hz
    iexact Hs
  iintro ⟨HK, Hz, Hs⟩
  iapply (wp_stageC' V 1 _ (offC i t 1#32) (offC_inb i t 0) (two (eD i B Q K T (2 * t.val)) (eD i B Q K T (2 * t.val + 1))) (aD i B Q K V T (2 * t.val + 1)) (aD i B Q K V T (2 * t.val + 2))
    (step_c1 i B Q K V T t (eD i B Q K T (2 * t.val))) _) $$ [HV He Ha]
  · isplitl [HV]
    · iexact HV
    isplitl [He]
    · iexact He
    iexact Ha
  iintro ⟨HV, He, Ha⟩
  iapply (wp_stageB' T 0 _ (two (zD i B Q K (2 * t.val + 2)) (zD i B Q K (2 * t.val + 1))) (two (spD i B Q K (2 * t.val + 2)) (spD i B Q K (2 * t.val + 1))) (two (eD i B Q K T (2 * t.val)) (eD i B Q K T (2 * t.val + 1))) (two (eD i B Q K T (2 * t.val + 2)) (eD i B Q K T (2 * t.val + 1))) (rD i B Q K T (2 * t.val + 2)) (rD i B Q K T (2 * t.val + 3))
    (step_e0 i B Q K T (2 * t.val + 2) (zD i B Q K (2 * t.val + 1)) (eD i B Q K T (2 * t.val)) (eD i B Q K T (2 * t.val + 1)) (spD i B Q K (2 * t.val + 1))) (fun h _ => step_r0 i B Q K T (2 * t.val + 2) _ (by omega) (spD i B Q K (2 * t.val + 1)) h) _) $$ [HT Hz Hs He Hr]
  · isplitl [HT]
    · iexact HT
    isplitl [Hz]
    · iexact Hz
    isplitl [Hs]
    · iexact Hs
    isplitl [He]
    · iexact He
    iexact Hr
  iintro ⟨HT, Hz, Hs, He, Hr⟩
  iapply (wp_stageA' K 1 _ (offA1 i t) (offA1_inb i t) (zOf (qsOf Q) (bsOf i B)) (spOf (qsOf Q) (bsOf i B)) (two (zD i B Q K (2 * t.val + 2)) (zD i B Q K (2 * t.val + 1))) (two (zD i B Q K (2 * t.val + 2)) (zD i B Q K (2 * t.val + 3))) (two (spD i B Q K (2 * t.val + 2)) (spD i B Q K (2 * t.val + 1))) (two (spD i B Q K (2 * t.val + 2)) (spD i B Q K (2 * t.val + 3)))
    (trip_z1 i B Q K t) (trip_s1 i B Q K t) _) $$ [HK Hz Hs]
  · isplitl [HK]
    · iexact HK
    isplitl [Hz]
    · iexact Hz
    iexact Hs
  iintro ⟨HK, Hz, Hs⟩
  simp only [Prog.pure_eq_ret, wp_ret]
  imodintro
  iapply Hk
  isplitl [HK]
  · iexact HK
  isplitl [HV]
  · iexact HV
  isplitl [HT]
  · iexact HT
  isplitl [Hz]
  · iexact Hz
  isplitl [Hs]
  · iexact Hs
  isplitl [He]
  · iexact He
  isplitl [Ha]
  · iexact Ha
  iexact Hr

end Stages

end Cert.Proof.Attn

end
-- ==== Proof.Post.lean ====
/-
  What the attention body does after its loop.
-/
module

public import proofs.«01_k».proof.Proof.Loop

@[expose] public section

noncomputable section

namespace Cert.Proof.Attn

open Cert.KernelIdeal Cert.KernelIdeal.Gen
open Idealize.ShloMosaic Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (𝒱 : Variants) (c : Dev nD) (bd : Option 𝒱.V) (E : Set ℕ)

variable {𝒱 c bd E}

section Stages

variable {arg3 : Memref sig .tc .smem S16 .f32} {arg4 : Memref sig .tc .vmem S512x512 .f32}
  {arg5 : Memref sig .tc .vmem S1x32x512x256 .bf16} {arg6 : Memref sig .tc .vmem S8192x512 .bf16}
  {arg7 : Memref sig .tc .vmem S256x256 .bf16} {arg8 : Memref sig .tc .vmem S512x512 .bf16} {harg8 : arg8.IsWhole}
  {arg9 : Memref sig .tc .vmem S2x8x512x256 .f32} {arg10 : Memref sig .tc .vmem S2x8x512x256 .bf16} {harg10 : arg10.IsWhole}
  {arg11 : Memref sig .tc .vmem S2x8x512x256 .f32} {arg12 : Memref sig .tc .vmem S8x512x128 .f32}
  {arg13 : Memref sig .tc .vmem S8x512x128 .f32}

variable (i : grid0.Coords) (B : S16.Idx → Elt F .f32) (Q : S512x512.Idx → Elt F .f32) (K : S1x32x512x256.Idx → Elt F .bf16)
  (V : S8192x512.Idx → Elt F .bf16) (T : S256x256.Idx → Elt F .bf16)

/-- A pair of heads' rows merged. -/
def pair (a b : S1x512x128.Idx → Elt F .f32) : S512x128.Idx → Elt F .bf16 := k0_pay1 (iota .tc S1x128 32 [1] iota_S1x128_d1_w32) a b

theorem wp_headO (o : ℕ) (ho : ∀ a, (![0, o] : Fin 2 → ℕ) a + S512x128.size a ≤ S512x512.size a) (hp : (rq o ho).PackedRows EltTy.bf16.packing)
    (h h' : ℕ) (hh : h < 8) (hh' : h' < 8) (a : ℕ → S1x512x128.Idx → Elt F .f32) (X : S512x512.Idx → Elt F .bf16)
    (Q' : PUnit → sProp (MT nD τ sig Unit (Elt F) ℕ (UR sig nD τ) ℕ)) :
    iprop(owns (c : Thread nD τ) arg8 fullShare (X) ∗ owns (c : Thread nD τ) arg12 fullShare (stack3 a))
      ⊢ iprop((owns (c : Thread nD τ) arg8 fullShare (VecWindow.put (s := S512x512) X ![0, o] S512x128.size (pair (a h) (a h'))) ∗ owns (c : Thread nD τ) arg12 fullShare (stack3 a) -∗ Q' ⟨⟩)
        -∗ WP 𝒱 c bd E (headO arg8 harg8 arg12 o ho hp h h' hh hh') Q') := by
  unfold headO
  simp only [WP, Prog.bind_lift]
  iintro ⟨Ho, Ha⟩ Hk
  iapply (wp_ld 𝒱 (c : Thread nD τ) bd E) $$ Ha
  iintro Ha
  iapply (wp_ld 𝒱 (c : Thread nD τ) bd E) $$ Ha
  iintro Ha
  iapply (wp_ld 𝒱 (c : Thread nD τ) bd E) $$ Ho
  iintro Ho
  iapply (wp_st 𝒱 (c : Thread nD τ) bd E) $$ Ho
  iintro Ho
  rw [stack3_window _ _ hh, stack3_window _ _ hh']
  simp only [wp_ret]
  imodintro
  iapply Hk
  isplitl [Ho]
  · iexact Ho
  iexact Ha

/-- Four pairs of heads' rows, side by side. -/
def side (a : ℕ → S1x512x128.Idx → Elt F .f32) : S512x512.Idx → Elt F .bf16 := fun y =>
  pair (a (2 * ((y 1).val / 128))) (a (2 * ((y 1).val / 128) + 1)) (fun d => match d with | 0 => y 0 | 1 => ⟨(y 1).val % 128, Nat.mod_lt _ (by decide)⟩)

theorem put_cols {α : Type} (X : S512x512.Idx → α) (o : ℕ) (w : S512x128.Idx → α) (y : S512x512.Idx) :
    VecWindow.put (s := S512x512) X ![0, o] S512x128.size w y
      = if h : o ≤ (y 1).val ∧ (y 1).val < o + 128 then w (fun d => match d with | 0 => y 0 | 1 => ⟨(y 1).val - o, by show _ < 128; omega⟩) else X y := by
  have y0 : (y 0).val < 512 := (y 0).isLt
  by_cases hy : o ≤ (y 1).val ∧ (y 1).val < o + 128
  · have hin : ∀ d, (![0, o] : Fin 2 → ℕ) d ≤ (y d).val ∧ (y d).val < (![0, o] : Fin 2 → ℕ) d + S512x128.size d := by
      intro d
      fin_cases d
      · simpa [S512x128] using y0
      · simpa [S512x128] using hy
    rw [dif_pos hy]
    simp only [VecWindow.put]
    rw [dif_pos hin]
    congr 1
    funext d
    fin_cases d <;> apply Fin.ext <;> simp [Rect.unitLocal]
  · have hin : ¬ ∀ d, (![0, o] : Fin 2 → ℕ) d ≤ (y d).val ∧ (y d).val < (![0, o] : Fin 2 → ℕ) d + S512x128.size d := by
      intro hall
      have h1 := hall 1
      simp [S512x128] at h1
      exact hy h1
    rw [dif_neg hy]
    simp only [VecWindow.put]
    rw [dif_neg hin]

theorem puts_side (X : S512x512.Idx → Elt F .bf16) (a : ℕ → S1x512x128.Idx → Elt F .f32) :
    VecWindow.put (s := S512x512) (VecWindow.put (s := S512x512) (VecWindow.put (s := S512x512) (VecWindow.put (s := S512x512) X ![0, 0] S512x128.size (pair (a 0) (a 1)))
      ![0, 128] S512x128.size (pair (a 2) (a 3))) ![0, 256] S512x128.size (pair (a 4) (a 5))) ![0, 384] S512x128.size (pair (a 6) (a 7)) = side a := by
  funext y
  have y1 : (y 1).val < 512 := (y 1).isLt
  have key : ∀ k, k < 4 → (y 1).val / 128 = k → ∀ hm, pair (a (2 * k)) (a (2 * k + 1)) (fun d => match d with | 0 => y 0 | 1 => ⟨(y 1).val - 128 * k, hm⟩) = side a y := by
    intro k hk e hm
    unfold side
    rw [e]
    congr 1
    funext d
    fin_cases d
    · rfl
    · apply Fin.ext; show (y 1).val - 128 * k = (y 1).val % 128; omega
  rw [put_cols, put_cols, put_cols, put_cols]
  split
  · exact key 3 (by omega) (by omega) _
  split
  · exact key 2 (by omega) (by omega) _
  split
  · exact key 1 (by omega) (by omega) _
  split
  · exact key 0 (by omega) (by omega) _
  · omega

theorem wp_stageO (a : ℕ → S1x512x128.Idx → Elt F .f32) (X : S512x512.Idx → Elt F .bf16)
    (Q' : PUnit → sProp (MT nD τ sig Unit (Elt F) ℕ (UR sig nD τ) ℕ)) :
    iprop(owns (c : Thread nD τ) arg8 fullShare (X) ∗ owns (c : Thread nD τ) arg12 fullShare (stack3 a))
      ⊢ iprop((owns (c : Thread nD τ) arg8 fullShare (side a) ∗ owns (c : Thread nD τ) arg12 fullShare (stack3 a) -∗ Q' ⟨⟩)
        -∗ WP 𝒱 c bd E (stageO arg8 harg8 arg12) Q') := by
  rw [← puts_side X a]
  unfold stageO
  simp only [WP, wp_bind]
  iintro H Hk
  iapply (wp_headO _ _ _ _ _ _ _ a X _) $$ H
  iintro H
  iapply (wp_headO _ _ _ _ _ _ _ a _ _) $$ H
  iintro H
  iapply (wp_headO _ _ _ _ _ _ _ a _ _) $$ H
  iintro H
  iapply (wp_headO _ _ _ _ _ _ _ a _ _) $$ H
  iexact Hk

theorem vE1 (h : ℕ) (hh : h < 8) :
    VecWindow.window V (offE 256 h) S256x128.size (offE_inb 256 (by omega) h) = vwin V (tile i (2 * (i 2).val)) h := by
  refine vwin_eq V _ _ _ h ?_
  rw [offE_eq 256 ⟨h, hh⟩]
  have e : tile i (2 * (i 2).val) = 1 := by unfold tile; omega
  rw [e]

theorem vE0 (h : ℕ) (hh : h < 8) :
    VecWindow.window V (offE 0 h) S256x128.size (offE_inb 0 (by omega) h) = vwin V (tile i (2 * (i 2).val + 1)) h := by
  refine vwin_eq V _ _ _ h ?_
  rw [offE_eq 0 ⟨h, hh⟩]
  have e : tile i (2 * (i 2).val + 1) = 0 := by unfold tile; omega
  rw [e]

theorem post_c0 (e1 : ℕ → S1x1x512x256.Idx → Elt F .f32) (h : ℕ) (hh : h < 8) :
    k0_pay2 (VecWindow.window V (offE 256 h) S256x128.size (offE_inb 256 (by omega) h)) (two (eD i B Q K T (2 * (i 2).val)) e1 0 h) (aD i B Q K V T (2 * (i 2).val) h)
      = aD i B Q K V T (2 * (i 2).val + 1) h := by
  rw [vE1 i V h hh, two_zero, aD_succ]

theorem post_c1 (e0 : ℕ → S1x1x512x256.Idx → Elt F .f32) (h : ℕ) (hh : h < 8) :
    k0_pay2 (VecWindow.window V (offE 0 h) S256x128.size (offE_inb 0 (by omega) h)) (two e0 (eD i B Q K T (2 * (i 2).val + 1)) 1 h) (aD i B Q K V T (2 * (i 2).val + 1) h)
      = aD i B Q K V T (2 * (i 2).val + 2) h := by
  rw [vE0 i V h hh, two_one, aD_succ]

theorem side_eq : side (aD i B Q K V T (2 * (i 2).val + 2)) = outD i B Q K V T := rfl

/-- After the loop: the last two tiles' values, and the rows stored. -/
theorem wp_post (e1 : ℕ → S1x1x512x256.Idx → Elt F .f32) (X : S512x512.Idx → Elt F .bf16)
    (Q' : PUnit → sProp (MT nD τ sig Unit (Elt F) ℕ (UR sig nD τ) ℕ)) :
    iprop(owns (c : Thread nD τ) arg5 fullShare (K) ∗ owns (c : Thread nD τ) arg6 fullShare (V) ∗ owns (c : Thread nD τ) arg7 fullShare (T) ∗ owns (c : Thread nD τ) arg9 fullShare (stack4 (two (zD i B Q K (2 * (i 2).val)) (zD i B Q K (2 * (i 2).val + 1)))) ∗ owns (c : Thread nD τ) arg10 fullShare (stack4 (two (spD i B Q K (2 * (i 2).val)) (spD i B Q K (2 * (i 2).val + 1)))) ∗ owns (c : Thread nD τ) arg11 fullShare (stack4 (two (eD i B Q K T (2 * (i 2).val)) e1)) ∗ owns (c : Thread nD τ) arg12 fullShare (stack3 (aD i B Q K V T (2 * (i 2).val))) ∗ owns (c : Thread nD τ) arg13 fullShare (stack3 (rD i B Q K T (2 * (i 2).val + 1))) ∗ owns (c : Thread nD τ) arg8 fullShare (X))
      ⊢ iprop((owns (c : Thread nD τ) arg5 fullShare (K) ∗ owns (c : Thread nD τ) arg6 fullShare (V) ∗ owns (c : Thread nD τ) arg7 fullShare (T) ∗ owns (c : Thread nD τ) arg9 fullShare (stack4 (two (zD i B Q K (2 * (i 2).val)) (zD i B Q K (2 * (i 2).val + 1)))) ∗ owns (c : Thread nD τ) arg10 fullShare (stack4 (two (spD i B Q K (2 * (i 2).val)) (spD i B Q K (2 * (i 2).val + 1)))) ∗ owns (c : Thread nD τ) arg11 fullShare (stack4 (two (eD i B Q K T (2 * (i 2).val)) (eD i B Q K T (2 * (i 2).val + 1)))) ∗ owns (c : Thread nD τ) arg12 fullShare (stack3 (aD i B Q K V T (2 * (i 2).val + 2))) ∗ owns (c : Thread nD τ) arg13 fullShare (stack3 (rD i B Q K T (2 * (i 2).val + 2))) ∗ owns (c : Thread nD τ) arg8 fullShare (outD i B Q K V T) -∗ Q' ⟨⟩)
        -∗ WP 𝒱 c bd E (post arg6 arg7 arg8 harg8 arg9 arg10 arg11 arg12 arg13) Q') := by
  unfold post
  simp only [WP, wp_bind]
  iintro ⟨HK, HV, HT, Hz, Hs, He, Ha, Hr, Ho⟩ Hk
  iapply (wp_stageC' V 0 _ (offE 256) (offE_inb 256 (by omega)) (two (eD i B Q K T (2 * (i 2).val)) e1) (aD i B Q K V T (2 * (i 2).val)) (aD i B Q K V T (2 * (i 2).val + 1))
    (post_c0 i B Q K V T e1) _) $$ [HV He Ha]
  · isplitl [HV]
    · iexact HV
    isplitl [He]
    · iexact He
    iexact Ha
  iintro ⟨HV, He, Ha⟩
  iapply (wp_stageB' T 1 _ (two (zD i B Q K (2 * (i 2).val)) (zD i B Q K (2 * (i 2).val + 1))) (two (spD i B Q K (2 * (i 2).val)) (spD i B Q K (2 * (i 2).val + 1))) (two (eD i B Q K T (2 * (i 2).val)) e1) (two (eD i B Q K T (2 * (i 2).val)) (eD i B Q K T (2 * (i 2).val + 1))) (rD i B Q K T (2 * (i 2).val + 1)) (rD i B Q K T (2 * (i 2).val + 2))
    (step_e1 i B Q K T (2 * (i 2).val + 1) (zD i B Q K (2 * (i 2).val)) (eD i B Q K T (2 * (i 2).val)) e1 (spD i B Q K (2 * (i 2).val))) (fun h _ => step_r1 i B Q K T (2 * (i 2).val + 1) _ (by omega) (spD i B Q K (2 * (i 2).val)) h) _) $$ [HT Hz Hs He Hr]
  · isplitl [HT]
    · iexact HT
    isplitl [Hz]
    · iexact Hz
    isplitl [Hs]
    · iexact Hs
    isplitl [He]
    · iexact He
    iexact Hr
  iintro ⟨HT, Hz, Hs, He, Hr⟩
  iapply (wp_stageC' V 1 _ (offE 0) (offE_inb 0 (by omega)) (two (eD i B Q K T (2 * (i 2).val)) (eD i B Q K T (2 * (i 2).val + 1))) (aD i B Q K V T (2 * (i 2).val + 1)) (aD i B Q K V T (2 * (i 2).val + 2))
    (post_c1 i B Q K V T (eD i B Q K T (2 * (i 2).val))) _) $$ [HV He Ha]
  · isplitl [HV]
    · iexact HV
    isplitl [He]
    · iexact He
    iexact Ha
  iintro ⟨HV, He, Ha⟩
  iapply (wp_stageO (aD i B Q K V T (2 * (i 2).val + 2)) X _) $$ [Ho Ha]
  · isplitl [Ho]
    · iexact Ho
    iexact Ha
  rw [side_eq]
  iintro ⟨Ho, Ha⟩
  iapply Hk
  isplitl [HK]
  · iexact HK
  isplitl [HV]
  · iexact HV
  isplitl [HT]
  · iexact HT
  isplitl [Hz]
  · iexact Hz
  isplitl [Hs]
  · iexact Hs
  isplitl [He]
  · iexact He
  isplitl [Ha]
  · iexact Ha
  isplitl [Hr]
  · iexact Hr
  iexact Ho

end Stages

end Cert.Proof.Attn

end
-- ==== Proof.Tail.lean ====
/-
  What the printed body does from its loops on.
-/
module

public import proofs.«01_k».proof.Proof.Clean

@[expose] public section

set_option maxRecDepth 200000

noncomputable section

namespace Cert.Proof.Attn

open Cert.KernelIdeal Cert.KernelIdeal.Gen
open Idealize.ShloMosaic Idealize.SL.Sem

variable {F : FTy → Type} [FloatOps F] [Named F]

/-- The printed program from its loops on. -/
def tail (i : grid0.Coords) (arg3 : Memref sig .tc .smem S16 .f32) (harg3 : arg3.IsWhole) (arg4 : Memref sig .tc .vmem S512x512 .f32) (harg4 : arg4.IsWhole) (arg5 : Memref sig .tc .vmem S1x32x512x256 .bf16) (harg5 : arg5.IsWhole) (arg6 : Memref sig .tc .vmem S8192x512 .bf16) (harg6 : arg6.IsWhole) (arg7 : Memref sig .tc .vmem S256x256 .bf16) (harg7 : arg7.IsWhole) (arg8 : Memref sig .tc .vmem S512x512 .bf16) (harg8 : arg8.IsWhole) (arg9 : Memref sig .tc .vmem S2x8x512x256 .f32) (harg9 : arg9.IsWhole) (arg10 : Memref sig .tc .vmem S2x8x512x256 .bf16) (harg10 : arg10.IsWhole) (arg11 : Memref sig .tc .vmem S2x8x512x256 .f32) (harg11 : arg11.IsWhole) (arg12 : Memref sig .tc .vmem S8x512x128 .f32) (harg12 : arg12.IsWhole) (arg13 : Memref sig .tc .vmem S8x512x128 .f32) (harg13 : arg13.IsWhole)
  (v35 v70 v105 v140 v175 v210 v245 v280 : FVec F S512x128 .bf16) (v285 v290 v295 v300 v305 v310 v315 v320 : F .f32) : Pg F PUnit := do
  let ⟨v0, v1510⟩ : Σ' (v0 : IVec S1x128 32), FVec F S512x128 .bf16 ← (do
    let v331 := jTop i
    let v1078 := Scalar.subi (Scalar.addi (BitVec.ofNat 32 (i 2).val) 1#32) 1#32
    let c1_i32_581 := 1#32
    let c0_i32_582 := 0#32
    let v0 := iota .tc S1x128 32 [1] iota_S1x128_d1_w32
    let ⟨v1085, v1110⟩ : Σ' (v1085 : BitVec 32), FVec F S512x128 .f32 ← k0_part92 i arg3 harg3 arg4 harg4 arg5 harg5 arg6 harg6 arg7 harg7 arg8 harg8 arg9 harg9 arg10 harg10 arg11 harg11 arg12 harg12 arg13 harg13 v35 v70 v105 v140 v175 v210 v245 v280 v285 v290 v295 v300 v305 v310 v315 v320 v331 c1_i32_581 c0_i32_582 v1078
    k0_part93 i arg3 harg3 arg4 harg4 arg5 harg5 arg6 harg6 arg7 harg7 arg8 harg8 arg9 harg9 arg10 harg10 arg11 harg11 arg12 harg12 arg13 harg13 v1085 v1110
    let v1172 : FVec F S256x128 .bf16 ← k0_part94 i arg3 harg3 arg4 harg4 arg5 harg5 arg6 harg6 arg7 harg7 arg8 harg8 arg9 harg9 arg10 harg10 arg11 harg11 arg12 harg12 arg13 harg13 v1085
    let v1202 : FVec F S512x256 .f32 ← k0_part95 i arg3 harg3 arg4 harg4 arg5 harg5 arg6 harg6 arg7 harg7 arg8 harg8 arg9 harg9 arg10 harg10 arg11 harg11 arg12 harg12 arg13 harg13 v1085 v1172
    let ⟨v1223, v1225, v1230⟩ : Σ' (v1223 : FVec F S512x256 .f32) (v1225 : FVec F S512x128 .f32), FVec F S512x256 .f32 ← k0_part96 i arg3 harg3 arg4 harg4 arg5 harg5 arg6 harg6 arg7 harg7 arg8 harg8 arg9 harg9 arg10 harg10 arg11 harg11 arg12 harg12 arg13 harg13 v1202
    k0_part97 i arg3 harg3 arg4 harg4 arg5 harg5 arg6 harg6 arg7 harg7 arg8 harg8 arg9 harg9 arg10 harg10 arg11 harg11 arg12 harg12 arg13 harg13 v1223 v1225 v1230
    let ⟨v1286, v1288⟩ : Σ' (v1286 : FVec F S512x256 .f32), FVec F S512x128 .f32 ← k0_part98 i arg3 harg3 arg4 harg4 arg5 harg5 arg6 harg6 arg7 harg7 arg8 harg8 arg9 harg9 arg10 harg10 arg11 harg11 arg12 harg12 arg13 harg13
    let ⟨v1307, v1309⟩ : Σ' (v1307 : FVec F S512x256 .f32), FVec F S512x128 .f32 ← k0_part99 i arg3 harg3 arg4 harg4 arg5 harg5 arg6 harg6 arg7 harg7 arg8 harg8 arg9 harg9 arg10 harg10 arg11 harg11 arg12 harg12 arg13 harg13 v1286 v1288
    let v1346 : FVec F S512x256 .bf16 ← k0_part100 i arg3 harg3 arg4 harg4 arg5 harg5 arg6 harg6 arg7 harg7 arg8 harg8 arg9 harg9 arg10 harg10 arg11 harg11 arg12 harg12 arg13 harg13 v1307 v1309
    let ⟨v1366, v1377⟩ : Σ' (v1366 : BitVec 32), FVec F S512x128 .f32 ← k0_part101 i arg3 harg3 arg4 harg4 arg5 harg5 arg6 harg6 arg7 harg7 arg8 harg8 arg9 harg9 arg10 harg10 arg11 harg11 arg12 harg12 arg13 harg13 v1346
    let v1408 : FVec F S1x512x128 .f32 ← k0_part102 i arg3 harg3 arg4 harg4 arg5 harg5 arg6 harg6 arg7 harg7 arg8 harg8 arg9 harg9 arg10 harg10 arg11 harg11 arg12 harg12 arg13 harg13 v1366 v1377
    let v1439 : FVec F S256x128 .bf16 ← k0_part103 i arg3 harg3 arg4 harg4 arg5 harg5 arg6 harg6 arg7 harg7 arg8 harg8 arg9 harg9 arg10 harg10 arg11 harg11 arg12 harg12 arg13 harg13 v1366 v1408
    let ⟨v1467, v1470⟩ : Σ' (v1467 : FVec F S256x128 .bf16), FVec F S512x256 .f32 ← k0_part104 i arg3 harg3 arg4 harg4 arg5 harg5 arg6 harg6 arg7 harg7 arg8 harg8 arg9 harg9 arg10 harg10 arg11 harg11 arg12 harg12 arg13 harg13 v1366 v1439
    let v1501 : IVec S1x128 32 ← k0_part105 i arg3 harg3 arg4 harg4 arg5 harg5 arg6 harg6 arg7 harg7 arg8 harg8 arg9 harg9 arg10 harg10 arg11 harg11 arg12 harg12 arg13 harg13 v0 v1467 v1470
    let v1503 : Vec F S1x512x128 .f32 ← Prog.lift (.load arg12 (Rect.unit (s := S8x512x128) ![4, 0, 0] S1x512x128.size inb_S8x512x128_S1x512x128_4_0_0).toLoadRect (View.loadsAt_vmem h_S1x512x128))
    let v1505 : Vec F S1x512x128 .f32 ← Prog.lift (.load arg12 (Rect.unit (s := S8x512x128) ![5, 0, 0] S1x512x128.size inb_S8x512x128_S1x512x128_5_0_0).toLoadRect (View.loadsAt_vmem h_S1x512x128))
    pure ⟨v0, k0_pay504 v0 v1501 v1503 v1505⟩)
  let v1511 : Vec F S512x128 .bf16 ← Prog.lift (.load arg8 (Rect.unit (s := S512x512) ![0, 256] S512x128.size inb_S512x512_S512x128_0_256).toLoadRect (View.loadsAt_vmem h_S512x128))
  Prog.lift (.store arg8 (Rect.unit (s := S512x512) ![0, 256] S512x128.size inb_S512x512_S512x128_0_256) v1510 Finset.univ (View.stores_vmem h_S512x128 (harg8.storeExact_slice rfl _ packedbf16_S512x512_S512x128_0_256) (fun _ => rfl)) (.inl rfl))
  let v1514 : Vec F S1x512x128 .f32 ← Prog.lift (.load arg12 (Rect.unit (s := S8x512x128) ![6, 0, 0] S1x512x128.size inb_S8x512x128_S1x512x128_6_0_0).toLoadRect (View.loadsAt_vmem h_S1x512x128))
  let v1516 : Vec F S1x512x128 .f32 ← Prog.lift (.load arg12 (Rect.unit (s := S8x512x128) ![7, 0, 0] S1x512x128.size inb_S8x512x128_S1x512x128_7_0_0).toLoadRect (View.loadsAt_vmem h_S1x512x128))
  let v1522 : Vec F S512x128 .bf16 ← Prog.lift (.load arg8 (Rect.unit (s := S512x512) ![0, 384] S512x128.size inb_S512x512_S512x128_0_384).toLoadRect (View.loadsAt_vmem h_S512x128))
  Prog.lift (.store arg8 (Rect.unit (s := S512x512) ![0, 384] S512x128.size inb_S512x512_S512x128_0_384) (k0_pay1 v0 v1514 v1516) Finset.univ (View.stores_vmem h_S512x128 (harg8.storeExact_slice rfl _ packedbf16_S512x512_S512x128_0_384) (fun _ => rfl)) (.inl rfl))
  pure ⟨⟩

/-- The loops and what goes after them. -/
def loops (i : grid0.Coords) (arg3 : Memref sig .tc .smem S16 .f32) (harg3 : arg3.IsWhole) (arg4 : Memref sig .tc .vmem S512x512 .f32) (harg4 : arg4.IsWhole) (arg5 : Memref sig .tc .vmem S1x32x512x256 .bf16) (harg5 : arg5.IsWhole) (arg6 : Memref sig .tc .vmem S8192x512 .bf16) (harg6 : arg6.IsWhole) (arg7 : Memref sig .tc .vmem S256x256 .bf16) (harg7 : arg7.IsWhole) (arg8 : Memref sig .tc .vmem S512x512 .bf16) (harg8 : arg8.IsWhole) (arg9 : Memref sig .tc .vmem S2x8x512x256 .f32) (harg9 : arg9.IsWhole) (arg10 : Memref sig .tc .vmem S2x8x512x256 .bf16) (harg10 : arg10.IsWhole) (arg11 : Memref sig .tc .vmem S2x8x512x256 .f32) (harg11 : arg11.IsWhole) (arg12 : Memref sig .tc .vmem S8x512x128 .f32) (harg12 : arg12.IsWhole) (arg13 : Memref sig .tc .vmem S8x512x128 .f32) (harg13 : arg13.IsWhole)
  (v35 v70 v105 v140 v175 v210 v245 v280 : FVec F S512x128 .bf16) (v285 v290 v295 v300 v305 v310 v315 v320 : F .f32) : Pg F PUnit := do
  let v : BitVec 32 ← Scf.Loop.for (k0_t1_loop i) (k0_t1_ok i) 0#32 (k0_t1_body i arg3 harg3 arg4 harg4 arg5 harg5 arg6 harg6 arg7 harg7 arg8 harg8 arg9 harg9 arg10 harg10 arg11 harg11 arg12 harg12 arg13 harg13
    v35 v70 v105 v140 v175 v210 v245 v280 v285 v290 v295 v300 v305 v310 v315 v320 (jTop i) 1#32 0#32 (Scalar.subi (Scalar.addi (BitVec.ofNat 32 (i 2).val) 1#32) 1#32))
  let _ : BitVec 32 ← Scf.Loop.for (k0_t2_loop i) (k0_t2_ok i) v (k0_t2_body i arg3 harg3 arg4 harg4 arg5 harg5 arg6 harg6 arg7 harg7 arg8 harg8 arg9 harg9 arg10 harg10 arg11 harg11 arg12 harg12 arg13 harg13
    v35 v70 v105 v140 v175 v210 v245 v280 v285 v290 v295 v300 v305 v310 v315 v320 (jTop i) 1#32 0#32 (Scalar.subi (Scalar.addi (BitVec.ofNat 32 (i 2).val) 1#32) 1#32)
    (Scalar.addi 1#32 (Scalar.muli (Scalar.divsi (Scalar.subi (Scalar.addi (BitVec.ofNat 32 (i 2).val) 1#32) 1#32) 1#32) 1#32)))
  post arg6 arg7 arg8 harg8 arg9 arg10 arg11 arg12 arg13

set_option maxHeartbeats 8000000 in
/-- Sequencing is associative, so the printed nesting around the loops is of no account. -/
theorem tail_eq (i : grid0.Coords) (arg3 : Memref sig .tc .smem S16 .f32) (harg3 : arg3.IsWhole) (arg4 : Memref sig .tc .vmem S512x512 .f32) (harg4 : arg4.IsWhole) (arg5 : Memref sig .tc .vmem S1x32x512x256 .bf16) (harg5 : arg5.IsWhole) (arg6 : Memref sig .tc .vmem S8192x512 .bf16) (harg6 : arg6.IsWhole) (arg7 : Memref sig .tc .vmem S256x256 .bf16) (harg7 : arg7.IsWhole) (arg8 : Memref sig .tc .vmem S512x512 .bf16) (harg8 : arg8.IsWhole) (arg9 : Memref sig .tc .vmem S2x8x512x256 .f32) (harg9 : arg9.IsWhole) (arg10 : Memref sig .tc .vmem S2x8x512x256 .bf16) (harg10 : arg10.IsWhole) (arg11 : Memref sig .tc .vmem S2x8x512x256 .f32) (harg11 : arg11.IsWhole) (arg12 : Memref sig .tc .vmem S8x512x128 .f32) (harg12 : arg12.IsWhole) (arg13 : Memref sig .tc .vmem S8x512x128 .f32) (harg13 : arg13.IsWhole)
  (v35 v70 v105 v140 v175 v210 v245 v280 : FVec F S512x128 .bf16) (v285 v290 v295 v300 v305 v310 v315 v320 : F .f32) :
  tail i arg3 harg3 arg4 harg4 arg5 harg5 arg6 harg6 arg7 harg7 arg8 harg8 arg9 harg9 arg10 harg10 arg11 harg11 arg12 harg12 arg13 harg13 v35 v70 v105 v140 v175 v210 v245 v280 v285 v290 v295 v300 v305 v310 v315 v320 = loops i arg3 harg3 arg4 harg4 arg5 harg5 arg6 harg6 arg7 harg7 arg8 harg8 arg9 harg9 arg10 harg10 arg11 harg11 arg12 harg12 arg13 harg13 v35 v70 v105 v140 v175 v210 v245 v280 v285 v290 v295 v300 v305 v310 v315 v320 := by
  unfold tail loops
  rw [k0_part92_eq_skeleton]
  unfold k0_part92_skel
  refine ((congrArg (fun p => Prog.bind p _) (Prog.bind_assoc _ _ _)).trans (Prog.bind_assoc _ _ _)).trans ?_
  congr 1; funext v
  refine ((congrArg (fun p => Prog.bind p _) (Prog.bind_assoc _ _ _)).trans (Prog.bind_assoc _ _ _)).trans ?_
  congr 1

end Cert.Proof.Attn

end
-- ==== Proof.BodyEq.lean ====
/-
  The printed body of a grid point is the clean one around its loop.
-/
module

public import proofs.«01_k».proof.Proof.Tail

@[expose] public section

set_option maxRecDepth 200000
set_option pp.maxSteps 300

noncomputable section

namespace Cert.Proof.Attn

open Cert.KernelIdeal Cert.KernelIdeal.Gen
open Idealize.ShloMosaic Idealize.SL.Sem

variable {F : FTy → Type} [FloatOps F] [Named F]

/-- A grid point's work: the queries and biases, the two masked tiles, the loop (the remainder loop makes no trip), the last
    two tiles, the merged output. -/
def body (i : grid0.Coords) (arg3 : Memref sig .tc .smem S16 .f32) (harg3 : arg3.IsWhole) (arg4 : Memref sig .tc .vmem S512x512 .f32) (harg4 : arg4.IsWhole)
  (arg5 : Memref sig .tc .vmem S1x32x512x256 .bf16) (harg5 : arg5.IsWhole) (arg6 : Memref sig .tc .vmem S8192x512 .bf16) (harg6 : arg6.IsWhole)
  (arg7 : Memref sig .tc .vmem S256x256 .bf16) (harg7 : arg7.IsWhole) (arg8 : Memref sig .tc .vmem S512x512 .bf16) (harg8 : arg8.IsWhole)
  (arg9 : Memref sig .tc .vmem S2x8x512x256 .f32) (harg9 : arg9.IsWhole) (arg10 : Memref sig .tc .vmem S2x8x512x256 .bf16) (harg10 : arg10.IsWhole)
  (arg11 : Memref sig .tc .vmem S2x8x512x256 .f32) (harg11 : arg11.IsWhole) (arg12 : Memref sig .tc .vmem S8x512x128 .f32) (harg12 : arg12.IsWhole)
  (arg13 : Memref sig .tc .vmem S8x512x128 .f32) (harg13 : arg13.IsWhole) : Pg F PUnit := do
  let x0 ← ldq arg4 0 inb_S512x512_S512x128_0_0
  let x1 ← ldq arg4 0 inb_S512x512_S512x128_0_0
  let x2 ← ldq arg4 128 inb_S512x512_S512x128_0_128
  let x3 ← ldq arg4 128 inb_S512x512_S512x128_0_128
  let x4 ← ldq arg4 256 inb_S512x512_S512x128_0_256
  let x5 ← ldq arg4 256 inb_S512x512_S512x128_0_256
  let x6 ← ldq arg4 384 inb_S512x512_S512x128_0_384
  let x7 ← ldq arg4 384 inb_S512x512_S512x128_0_384
  let b0 ← ldb i arg3 0
  let b1 ← ldb i arg3 1
  let b2 ← ldb i arg3 2
  let b3 ← ldb i arg3 3
  let b4 ← ldb i arg3 4
  let b5 ← ldb i arg3 5
  let b6 ← ldb i arg3 6
  let b7 ← ldb i arg3 7
  pre i arg5 arg7 arg9 arg10 harg10 arg11 arg12 arg13 (pick8 (qEven x0) (qOdd x1) (qEven x2) (qOdd x3) (qEven x4) (qOdd x5) (qEven x6) (qOdd x7))
    (pick8 (k0_pay331 b0) (k0_pay331 b1) (k0_pay331 b2) (k0_pay331 b3) (k0_pay331 b4) (k0_pay331 b5) (k0_pay331 b6) (k0_pay331 b7))
  loops i arg3 harg3 arg4 harg4 arg5 harg5 arg6 harg6 arg7 harg7 arg8 harg8 arg9 harg9 arg10 harg10 arg11 harg11 arg12 harg12 arg13 harg13
    (qEven x0) (qOdd x1) (qEven x2) (qOdd x3) (qEven x4) (qOdd x5) (qEven x6) (qOdd x7)
    (k0_pay331 b0) (k0_pay331 b1) (k0_pay331 b2) (k0_pay331 b3) (k0_pay331 b4) (k0_pay331 b5) (k0_pay331 b6) (k0_pay331 b7)

/-- A grid point's work with the printed tail. -/
def bodyTail (i : grid0.Coords) (arg3 : Memref sig .tc .smem S16 .f32) (harg3 : arg3.IsWhole) (arg4 : Memref sig .tc .vmem S512x512 .f32) (harg4 : arg4.IsWhole)
  (arg5 : Memref sig .tc .vmem S1x32x512x256 .bf16) (harg5 : arg5.IsWhole) (arg6 : Memref sig .tc .vmem S8192x512 .bf16) (harg6 : arg6.IsWhole)
  (arg7 : Memref sig .tc .vmem S256x256 .bf16) (harg7 : arg7.IsWhole) (arg8 : Memref sig .tc .vmem S512x512 .bf16) (harg8 : arg8.IsWhole)
  (arg9 : Memref sig .tc .vmem S2x8x512x256 .f32) (harg9 : arg9.IsWhole) (arg10 : Memref sig .tc .vmem S2x8x512x256 .bf16) (harg10 : arg10.IsWhole)
  (arg11 : Memref sig .tc .vmem S2x8x512x256 .f32) (harg11 : arg11.IsWhole) (arg12 : Memref sig .tc .vmem S8x512x128 .f32) (harg12 : arg12.IsWhole)
  (arg13 : Memref sig .tc .vmem S8x512x128 .f32) (harg13 : arg13.IsWhole) : Pg F PUnit := do
  let x0 ← ldq arg4 0 inb_S512x512_S512x128_0_0
  let x1 ← ldq arg4 0 inb_S512x512_S512x128_0_0
  let x2 ← ldq arg4 128 inb_S512x512_S512x128_0_128
  let x3 ← ldq arg4 128 inb_S512x512_S512x128_0_128
  let x4 ← ldq arg4 256 inb_S512x512_S512x128_0_256
  let x5 ← ldq arg4 256 inb_S512x512_S512x128_0_256
  let x6 ← ldq arg4 384 inb_S512x512_S512x128_0_384
  let x7 ← ldq arg4 384 inb_S512x512_S512x128_0_384
  let b0 ← ldb i arg3 0
  let b1 ← ldb i arg3 1
  let b2 ← ldb i arg3 2
  let b3 ← ldb i arg3 3
  let b4 ← ldb i arg3 4
  let b5 ← ldb i arg3 5
  let b6 ← ldb i arg3 6
  let b7 ← ldb i arg3 7
  pre i arg5 arg7 arg9 arg10 harg10 arg11 arg12 arg13 (pick8 (qEven x0) (qOdd x1) (qEven x2) (qOdd x3) (qEven x4) (qOdd x5) (qEven x6) (qOdd x7))
    (pick8 (k0_pay331 b0) (k0_pay331 b1) (k0_pay331 b2) (k0_pay331 b3) (k0_pay331 b4) (k0_pay331 b5) (k0_pay331 b6) (k0_pay331 b7))
  tail i arg3 harg3 arg4 harg4 arg5 harg5 arg6 harg6 arg7 harg7 arg8 harg8 arg9 harg9 arg10 harg10 arg11 harg11 arg12 harg12 arg13 harg13
    (qEven x0) (qOdd x1) (qEven x2) (qOdd x3) (qEven x4) (qOdd x5) (qEven x6) (qOdd x7)
    (k0_pay331 b0) (k0_pay331 b1) (k0_pay331 b2) (k0_pay331 b3) (k0_pay331 b4) (k0_pay331 b5) (k0_pay331 b6) (k0_pay331 b7)

set_option maxHeartbeats 8000000 in
theorem cc0_eq_tail (i : grid0.Coords) (arg3 : Memref sig .tc .smem S16 .f32) (harg3 : arg3.IsWhole) (arg4 : Memref sig .tc .vmem S512x512 .f32) (harg4 : arg4.IsWhole)
  (arg5 : Memref sig .tc .vmem S1x32x512x256 .bf16) (harg5 : arg5.IsWhole) (arg6 : Memref sig .tc .vmem S8192x512 .bf16) (harg6 : arg6.IsWhole)
  (arg7 : Memref sig .tc .vmem S256x256 .bf16) (harg7 : arg7.IsWhole) (arg8 : Memref sig .tc .vmem S512x512 .bf16) (harg8 : arg8.IsWhole)
  (arg9 : Memref sig .tc .vmem S2x8x512x256 .f32) (harg9 : arg9.IsWhole) (arg10 : Memref sig .tc .vmem S2x8x512x256 .bf16) (harg10 : arg10.IsWhole)
  (arg11 : Memref sig .tc .vmem S2x8x512x256 .f32) (harg11 : arg11.IsWhole) (arg12 : Memref sig .tc .vmem S8x512x128 .f32) (harg12 : arg12.IsWhole)
  (arg13 : Memref sig .tc .vmem S8x512x128 .f32) (harg13 : arg13.IsWhole) :
  cc0_attn_prompt (F := F) i arg3 harg3 arg4 harg4 arg5 harg5 arg6 harg6 arg7 harg7 arg8 harg8 arg9 harg9 arg10 harg10 arg11 harg11 arg12 harg12 arg13 harg13
  = bodyTail i arg3 harg3 arg4 harg4 arg5 harg5 arg6 harg6 arg7 harg7 arg8 harg8 arg9 harg9 arg10 harg10 arg11 harg11 arg12 harg12 arg13 harg13 := by
  rfl

/-- The printed body is the clean one. -/
theorem cc0_eq (i : grid0.Coords) (arg3 : Memref sig .tc .smem S16 .f32) (harg3 : arg3.IsWhole) (arg4 : Memref sig .tc .vmem S512x512 .f32) (harg4 : arg4.IsWhole)
  (arg5 : Memref sig .tc .vmem S1x32x512x256 .bf16) (harg5 : arg5.IsWhole) (arg6 : Memref sig .tc .vmem S8192x512 .bf16) (harg6 : arg6.IsWhole)
  (arg7 : Memref sig .tc .vmem S256x256 .bf16) (harg7 : arg7.IsWhole) (arg8 : Memref sig .tc .vmem S512x512 .bf16) (harg8 : arg8.IsWhole)
  (arg9 : Memref sig .tc .vmem S2x8x512x256 .f32) (harg9 : arg9.IsWhole) (arg10 : Memref sig .tc .vmem S2x8x512x256 .bf16) (harg10 : arg10.IsWhole)
  (arg11 : Memref sig .tc .vmem S2x8x512x256 .f32) (harg11 : arg11.IsWhole) (arg12 : Memref sig .tc .vmem S8x512x128 .f32) (harg12 : arg12.IsWhole)
  (arg13 : Memref sig .tc .vmem S8x512x128 .f32) (harg13 : arg13.IsWhole) :
  cc0_attn_prompt (F := F) i arg3 harg3 arg4 harg4 arg5 harg5 arg6 harg6 arg7 harg7 arg8 harg8 arg9 harg9 arg10 harg10 arg11 harg11 arg12 harg12 arg13 harg13
  = body i arg3 harg3 arg4 harg4 arg5 harg5 arg6 harg6 arg7 harg7 arg8 harg8 arg9 harg9 arg10 harg10 arg11 harg11 arg12 harg12 arg13 harg13 := by
  rw [cc0_eq_tail]
  unfold bodyTail body
  simp only [tail_eq]

end Cert.Proof.Attn

end
-- ==== Proof.Run.lean ====
/-
  The attention body run: from any scratch to its output block.
-/
module

public import proofs.«01_k».proof.Proof.Post
public import proofs.«01_k».proof.Proof.BodyEq

@[expose] public section

noncomputable section

namespace Cert.Proof.Attn

open Cert.KernelIdeal Cert.KernelIdeal.Gen
open Idealize.ShloMosaic Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (𝒱 : Variants) (c : Dev nD) (bd : Option 𝒱.V) (E : Set ℕ)

variable {𝒱 c bd E}

section Stages

variable {arg3 : Memref sig .tc .smem S16 .f32} {harg3 : arg3.IsWhole} {arg4 : Memref sig .tc .vmem S512x512 .f32} {harg4 : arg4.IsWhole}
  {arg5 : Memref sig .tc .vmem S1x32x512x256 .bf16} {harg5 : arg5.IsWhole} {arg6 : Memref sig .tc .vmem S8192x512 .bf16} {harg6 : arg6.IsWhole}
  {arg7 : Memref sig .tc .vmem S256x256 .bf16} {harg7 : arg7.IsWhole} {arg8 : Memref sig .tc .vmem S512x512 .bf16} {harg8 : arg8.IsWhole}
  {arg9 : Memref sig .tc .vmem S2x8x512x256 .f32} {harg9 : arg9.IsWhole} {arg10 : Memref sig .tc .vmem S2x8x512x256 .bf16} {harg10 : arg10.IsWhole}
  {arg11 : Memref sig .tc .vmem S2x8x512x256 .f32} {harg11 : arg11.IsWhole} {arg12 : Memref sig .tc .vmem S8x512x128 .f32} {harg12 : arg12.IsWhole}
  {arg13 : Memref sig .tc .vmem S8x512x128 .f32} {harg13 : arg13.IsWhole}

variable (i : grid0.Coords) (B : S16.Idx → Elt F .f32) (Q : S512x512.Idx → Elt F .f32) (K : S1x32x512x256.Idx → Elt F .bf16)
  (V : S8192x512.Idx → Elt F .bf16) (T : S256x256.Idx → Elt F .bf16)

/-- The head of a program left by a loop of no trips. -/
theorem wp_loop2 {β : Type} (v : BitVec 32) (f : Fin (k0_t2_loop i).trips → BitVec 32 → Pg F (BitVec 32)) (kk : BitVec 32 → Pg F β)
    (P : sProp (MT nD τ sig Unit (Elt F) ℕ (UR sig nD τ) ℕ)) (Q' : β → sProp (MT nD τ sig Unit (Elt F) ℕ (UR sig nD τ) ℕ))
    (h : ∀ v, P ⊢ WP 𝒱 c bd E (kk v) Q') : P ⊢ WP 𝒱 c bd E (Scf.Loop.for (k0_t2_loop i) (k0_t2_ok i) v f >>= kk) Q' := by
  have e := Scf.wp_for_bind (M := 𝕄) frame (wpE (defs₀ (F := F)) 𝒱 (c : Thread nD τ) bd) E (k0_t2_loop i).lb (k0_t2_loop i).ub (k0_t2_loop i).st (k0_t2_ok i) v f
    (fun _ _ => P) (fun k _ => (Nat.not_lt_zero k.val (lt_of_lt_of_eq k.isLt (t2_trips i))).elim) (kk := kk) (Q := Q')
  iintro H
  iapply e $$ H
  iintro %acc H
  iapply (h acc) $$ H

/-- The walk's state after `n` trips. -/
def St (arg5 : Memref sig .tc .vmem S1x32x512x256 .bf16) (arg6 : Memref sig .tc .vmem S8192x512 .bf16) (arg7 : Memref sig .tc .vmem S256x256 .bf16)
    (arg9 : Memref sig .tc .vmem S2x8x512x256 .f32) (arg10 : Memref sig .tc .vmem S2x8x512x256 .bf16) (arg11 : Memref sig .tc .vmem S2x8x512x256 .f32)
    (arg12 : Memref sig .tc .vmem S8x512x128 .f32) (arg13 : Memref sig .tc .vmem S8x512x128 .f32) (c : Dev nD) (n : ℕ) : sProp (MT nD τ sig Unit (Elt F) ℕ (UR sig nD τ) ℕ) :=
  iprop(∃ e1, owns (c : Thread nD τ) arg5 fullShare (K) ∗ owns (c : Thread nD τ) arg6 fullShare (V) ∗ owns (c : Thread nD τ) arg7 fullShare (T) ∗ owns (c : Thread nD τ) arg9 fullShare (stack4 (two (zD i B Q K (2 * n)) (zD i B Q K (2 * n + 1)))) ∗ owns (c : Thread nD τ) arg10 fullShare (stack4 (two (spD i B Q K (2 * n)) (spD i B Q K (2 * n + 1)))) ∗ owns (c : Thread nD τ) arg11 fullShare (stack4 (two (eD i B Q K T (2 * n)) e1)) ∗ owns (c : Thread nD τ) arg12 fullShare (stack3 (aD i B Q K V T (2 * n))) ∗ owns (c : Thread nD τ) arg13 fullShare (stack3 (rD i B Q K T (2 * n + 1))))

theorem wp_loop1 {β : Type} (v : BitVec 32) (f : Fin (k0_t1_loop i).trips → BitVec 32 → Pg F (BitVec 32))
    (hf : ∀ t acc, f t acc = trip i arg5 arg6 arg7 arg9 arg10 harg10 arg11 arg12 arg13 (qsOf Q) (bsOf i B) t) (kk : BitVec 32 → Pg F β)
    (Q' : β → sProp (MT nD τ sig Unit (Elt F) ℕ (UR sig nD τ) ℕ)) :
    St i B Q K V T arg5 arg6 arg7 arg9 arg10 arg11 arg12 arg13 c 0 ⊢ iprop((∀ v, St i B Q K V T arg5 arg6 arg7 arg9 arg10 arg11 arg12 arg13 c (i 2).val -∗ WP 𝒱 c bd E (kk v) Q')
      -∗ WP 𝒱 c bd E (Scf.Loop.for (k0_t1_loop i) (k0_t1_ok i) v f >>= kk) Q') := by
  have e := Scf.wp_for_bind (M := 𝕄) frame (wpE (defs₀ (F := F)) 𝒱 (c : Thread nD τ) bd) E (k0_t1_loop i).lb (k0_t1_loop i).ub (k0_t1_loop i).st (k0_t1_ok i) v f
    (fun n _ => St i B Q K V T arg5 arg6 arg7 arg9 arg10 arg11 arg12 arg13 c n) (fun k acc => by
      rw [hf]
      unfold St
      iintro ⟨%e1, H⟩
      iapply (wp_trip i B Q K V T k e1 _) $$ H
      iintro %v %e2 H
      iexists e2
      iexact H) (kk := kk) (Q := Q')
  have ht : Scf.trips (k0_t1_loop i).lb (k0_t1_loop i).ub (k0_t1_loop i).st = (i 2).val := t1_trips i
  rw [ht] at e
  exact e

/-- The loops and what goes after them. -/
theorem wp_loops (X : S512x512.Idx → Elt F .bf16) (Q' : PUnit → sProp (MT nD τ sig Unit (Elt F) ℕ (UR sig nD τ) ℕ)) :
    iprop(St i B Q K V T arg5 arg6 arg7 arg9 arg10 arg11 arg12 arg13 c 0 ∗ owns (c : Thread nD τ) arg8 fullShare (X))
      ⊢ iprop(((owns (c : Thread nD τ) arg5 fullShare (K) ∗ owns (c : Thread nD τ) arg6 fullShare (V) ∗ owns (c : Thread nD τ) arg7 fullShare (T)) ∗ owns (c : Thread nD τ) arg8 fullShare (outD i B Q K V T) ∗ (∃ X9, owns (c : Thread nD τ) arg9 fullShare (X9)) ∗ (∃ X10, owns (c : Thread nD τ) arg10 fullShare (X10)) ∗ (∃ X11, owns (c : Thread nD τ) arg11 fullShare (X11)) ∗ (∃ X12, owns (c : Thread nD τ) arg12 fullShare (X12)) ∗ (∃ X13, owns (c : Thread nD τ) arg13 fullShare (X13)) -∗ Q' ⟨⟩)
        -∗ WP 𝒱 c bd E (loops i arg3 harg3 arg4 harg4 arg5 harg5 arg6 harg6 arg7 harg7 arg8 harg8 arg9 harg9 arg10 harg10 arg11 harg11 arg12 harg12 arg13 harg13
    (qEven (qwin Q 0)) (qOdd (qwin Q 0)) (qEven (qwin Q 128)) (qOdd (qwin Q 128)) (qEven (qwin Q 256)) (qOdd (qwin Q 256)) (qEven (qwin Q 384)) (qOdd (qwin Q 384))
    (k0_pay331 (bwin B (8 * (i 1).val + 0))) (k0_pay331 (bwin B (8 * (i 1).val + 1))) (k0_pay331 (bwin B (8 * (i 1).val + 2))) (k0_pay331 (bwin B (8 * (i 1).val + 3))) (k0_pay331 (bwin B (8 * (i 1).val + 4))) (k0_pay331 (bwin B (8 * (i 1).val + 5))) (k0_pay331 (bwin B (8 * (i 1).val + 6))) (k0_pay331 (bwin B (8 * (i 1).val + 7)))) Q') := by
  unfold loops
  iintro ⟨H, Ho⟩ Hk
  iapply (wp_loop1 (harg10 := harg10) i B Q K V T _ _ (fun t acc => t1_body_eq i arg3 harg3 arg4 harg4 arg5 harg5 arg6 harg6 arg7 harg7 arg8 harg8 arg9 harg9 arg10 harg10 arg11 harg11 arg12 harg12 arg13 harg13
    (qEven (qwin Q 0)) (qOdd (qwin Q 0)) (qEven (qwin Q 128)) (qOdd (qwin Q 128)) (qEven (qwin Q 256)) (qOdd (qwin Q 256)) (qEven (qwin Q 384)) (qOdd (qwin Q 384))
    (k0_pay331 (bwin B (8 * (i 1).val + 0))) (k0_pay331 (bwin B (8 * (i 1).val + 1))) (k0_pay331 (bwin B (8 * (i 1).val + 2))) (k0_pay331 (bwin B (8 * (i 1).val + 3))) (k0_pay331 (bwin B (8 * (i 1).val + 4))) (k0_pay331 (bwin B (8 * (i 1).val + 5))) (k0_pay331 (bwin B (8 * (i 1).val + 6))) (k0_pay331 (bwin B (8 * (i 1).val + 7))) _ _ _ _ t acc) _ _) $$ H
  iintro %v H
  iapply (wp_loop2 i v _ _ iprop(St i B Q K V T arg5 arg6 arg7 arg9 arg10 arg11 arg12 arg13 c (i 2).val ∗ owns (c : Thread nD τ) arg8 fullShare (X) ∗ ((owns (c : Thread nD τ) arg5 fullShare (K) ∗ owns (c : Thread nD τ) arg6 fullShare (V) ∗ owns (c : Thread nD τ) arg7 fullShare (T)) ∗ owns (c : Thread nD τ) arg8 fullShare (outD i B Q K V T) ∗ (∃ X9, owns (c : Thread nD τ) arg9 fullShare (X9)) ∗ (∃ X10, owns (c : Thread nD τ) arg10 fullShare (X10)) ∗ (∃ X11, owns (c : Thread nD τ) arg11 fullShare (X11)) ∗ (∃ X12, owns (c : Thread nD τ) arg12 fullShare (X12)) ∗ (∃ X13, owns (c : Thread nD τ) arg13 fullShare (X13)) -∗ Q' ⟨⟩)) Q' ?_) $$ [H Ho Hk]
  · intro v
    unfold St
    iintro ⟨⟨%e1, HK, HV, HT, Hz, Hs, He, Ha, Hr⟩, Ho, Hk⟩
    iapply (wp_post i B Q K V T e1 X _) $$ [HK HV HT Hz Hs He Ha Hr Ho]
    · isplitl [HK]
      · iexact HK
      isplitl [HV]
      · iexact HV
      isplitl [HT]
      · iexact HT
      isplitl [Hz]
      · iexact Hz
      isplitl [Hs]
      · iexact Hs
      isplitl [He]
      · iexact He
      isplitl [Ha]
      · iexact Ha
      isplitl [Hr]
      · iexact Hr
      iexact Ho
    iintro ⟨HK, HV, HT, Hz, Hs, He, Ha, Hr, Ho⟩
    iapply Hk
    isplitl [HK HV HT]
    · isplitl [HK]
      · iexact HK
      isplitl [HV]
      · iexact HV
      iexact HT
    isplitl [Ho]
    · iexact Ho
    isplitl [Hz]
    · iexists _; iexact Hz
    isplitl [Hs]
    · iexists _; iexact Hs
    isplitl [He]
    · iexists _; iexact He
    isplitl [Ha]
    · iexists _; iexact Ha
    iexists _; iexact Hr
  isplitl [H]
  · iexact H
  isplitl [Ho]
  · iexact Ho
  iexact Hk

/-- A load of a pair of query columns. -/
theorem wp_ldq {β : Type} (o : ℕ) (ho : ∀ a, (![0, o] : Fin 2 → ℕ) a + S512x128.size a ≤ S512x512.size a) (kk : Vec F S512x128 .f32 → Pg F β)
    (Q' : β → sProp (MT nD τ sig Unit (Elt F) ℕ (UR sig nD τ) ℕ)) :
    (owns (c : Thread nD τ) arg4 fullShare (Q) : sProp 𝕄) ⊢ iprop((owns (c : Thread nD τ) arg4 fullShare (Q) -∗ WP 𝒱 c bd E (kk (qwin Q o)) Q') -∗ WP 𝒱 c bd E (ldq arg4 o ho >>= kk) Q') := by
  unfold ldq
  simp only [WP, Prog.bind_lift]
  iintro HQ Hk
  iapply (wp_ld 𝒱 (c : Thread nD τ) bd E) $$ HQ
  rw [qwin_eq]
  iexact Hk

/-- A load of a head's bias. -/
theorem wp_ldb {β : Type} (h : Fin 8) (kk : Elt F .f32 → Pg F β) (Q' : β → sProp (MT nD τ sig Unit (Elt F) ℕ (UR sig nD τ) ℕ)) :
    (owns (c : Thread nD τ) arg3 fullShare (B) : sProp 𝕄) ⊢ iprop((owns (c : Thread nD τ) arg3 fullShare (B) -∗ WP 𝒱 c bd E (kk (bwin B (8 * (i 1).val + h.val))) Q') -∗ WP 𝒱 c bd E (ldb i arg3 h >>= kk) Q') := by
  have e : ∀ x, VecWindow.window B (k0_off1 i (BitVec.ofNat 32 h.val)) S1.size (k0_off1_inb i h) x = bwin B (8 * (i 1).val + h.val) :=
    fun x => bwin_eq B _ _ x _ (off1_eq i h)
  have key := wp_lds (defs := defs₀ (F := F)) 𝒱 (c : Thread nD τ) bd E (m := arg3) (off := k0_off1 i (BitVec.ofNat 32 h.val)) (size := S1.size) (inb := k0_off1_inb i h)
    (hw := View.loads_smem_one rfl numel1_S1) (x := Shape.Idx.first (Nat.lt_of_lt_of_eq Nat.one_pos (Eq.symm numel1_S1))) (q := fullShare) (X := B) (k := kk) (Q := Q')
  rw [e] at key
  exact key

/-- The body, from its operands and any scratch to its output block. -/
theorem wp_body (X : S512x512.Idx → Elt F .bf16) (Q' : PUnit → sProp (MT nD τ sig Unit (Elt F) ℕ (UR sig nD τ) ℕ)) :
    iprop(owns (c : Thread nD τ) arg3 fullShare (B) ∗ owns (c : Thread nD τ) arg4 fullShare (Q) ∗ owns (c : Thread nD τ) arg5 fullShare (K) ∗ owns (c : Thread nD τ) arg6 fullShare (V) ∗ owns (c : Thread nD τ) arg7 fullShare (T) ∗ owns (c : Thread nD τ) arg8 fullShare (X) ∗ (∃ X9, owns (c : Thread nD τ) arg9 fullShare (X9)) ∗ (∃ X10, owns (c : Thread nD τ) arg10 fullShare (X10)) ∗ (∃ X11, owns (c : Thread nD τ) arg11 fullShare (X11)) ∗ (∃ X12, owns (c : Thread nD τ) arg12 fullShare (X12)) ∗ (∃ X13, owns (c : Thread nD τ) arg13 fullShare (X13)))
      ⊢ iprop((owns (c : Thread nD τ) arg3 fullShare (B) ∗ owns (c : Thread nD τ) arg4 fullShare (Q) ∗ owns (c : Thread nD τ) arg5 fullShare (K) ∗ owns (c : Thread nD τ) arg6 fullShare (V) ∗ owns (c : Thread nD τ) arg7 fullShare (T) ∗ owns (c : Thread nD τ) arg8 fullShare (outD i B Q K V T) ∗ (∃ X9, owns (c : Thread nD τ) arg9 fullShare (X9)) ∗ (∃ X10, owns (c : Thread nD τ) arg10 fullShare (X10)) ∗ (∃ X11, owns (c : Thread nD τ) arg11 fullShare (X11)) ∗ (∃ X12, owns (c : Thread nD τ) arg12 fullShare (X12)) ∗ (∃ X13, owns (c : Thread nD τ) arg13 fullShare (X13)) -∗ Q' ⟨⟩)
        -∗ WP 𝒱 c bd E (body i arg3 harg3 arg4 harg4 arg5 harg5 arg6 harg6 arg7 harg7 arg8 harg8 arg9 harg9 arg10 harg10 arg11 harg11 arg12 harg12 arg13 harg13) Q') := by
  unfold body
  iintro ⟨HB, HQ, HK, HV, HT, Ho, ⟨%X9, H9⟩, ⟨%X10, H10⟩, ⟨%X11, H11⟩, ⟨%X12, H12⟩, ⟨%X13, H13⟩⟩ Hk
  obtain ⟨z, rfl⟩ := stack4_surj X9
  obtain ⟨sp, rfl⟩ := stack4_surj X10
  obtain ⟨e, rfl⟩ := stack4_surj X11
  iapply (wp_ldq Q _ _ _ _) $$ HQ
  iintro HQ
  iapply (wp_ldq Q _ _ _ _) $$ HQ
  iintro HQ
  iapply (wp_ldq Q _ _ _ _) $$ HQ
  iintro HQ
  iapply (wp_ldq Q _ _ _ _) $$ HQ
  iintro HQ
  iapply (wp_ldq Q _ _ _ _) $$ HQ
  iintro HQ
  iapply (wp_ldq Q _ _ _ _) $$ HQ
  iintro HQ
  iapply (wp_ldq Q _ _ _ _) $$ HQ
  iintro HQ
  iapply (wp_ldq Q _ _ _ _) $$ HQ
  iintro HQ
  iapply (wp_ldb i B 0 _ _) $$ HB
  iintro HB
  iapply (wp_ldb i B 1 _ _) $$ HB
  iintro HB
  iapply (wp_ldb i B 2 _ _) $$ HB
  iintro HB
  iapply (wp_ldb i B 3 _ _) $$ HB
  iintro HB
  iapply (wp_ldb i B 4 _ _) $$ HB
  iintro HB
  iapply (wp_ldb i B 5 _ _) $$ HB
  iintro HB
  iapply (wp_ldb i B 6 _ _) $$ HB
  iintro HB
  iapply (wp_ldb i B 7 _ _) $$ HB
  iintro HB
  simp only [WP, wp_bind]
  iapply (wp_pre i B Q K V T z sp e X12 X13 _) $$ [HK HT H9 H10 H11 H12 H13]
  · isplitl [HK]
    · iexact HK
    isplitl [HT]
    · iexact HT
    isplitl [H9]
    · iexact H9
    isplitl [H10]
    · iexact H10
    isplitl [H11]
    · iexact H11
    isplitl [H12]
    · iexact H12
    iexact H13
  iintro ⟨HK, HT, H9, H10, H11, H12, H13⟩
  iapply (wp_loops i B Q K V T X _) $$ [HK HV HT H9 H10 H11 H12 H13 Ho]
  · isplitr [Ho]
    · unfold St
      iexists (e 1)
      isplitl [HK]
      · iexact HK
      isplitl [HV]
      · iexact HV
      isplitl [HT]
      · iexact HT
      isplitl [H9]
      · iexact H9
      isplitl [H10]
      · iexact H10
      isplitl [H11]
      · iexact H11
      isplitl [H12]
      · iexact H12
      iexact H13
    iexact Ho
  iintro ⟨⟨HK, HV, HT⟩, Ho, Hs⟩
  iapply Hk
  isplitl [HB]
  · iexact HB
  isplitl [HQ]
  · iexact HQ
  isplitl [HK]
  · iexact HK
  isplitl [HV]
  · iexact HV
  isplitl [HT]
  · iexact HT
  isplitl [Ho]
  · iexact Ho
  iexact Hs

end Stages

end Cert.Proof.Attn

end
-- ==== Proof.FrameRun.lean ====
/-
  The call run: every grid point leaves its output block, nothing faults, the arguments stay.
-/
module

public import proofs.«01_k».proof.Proof.Run
public import proofs.«01_k».proof.Proof.Gen.KernelIdeal.Frame
public import Idealize.ShloMosaic.Lib.Claim

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.ShloMosaic.Pipeline (Dat Cfg Window BodyObligation cellOf)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data: the arrays as the call finds them, each input's block left in place, the output's block the walk's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outD (grid0.coords t) (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = outD (grid0.coords t) (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at a point, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The five scratch buffers, at anything. -/
theorem phi_eq (c : Dev nD) : (Pipeline.ΦA spec0 c : sProp 𝕄)
    = iprop(((∃ X, owns (c : Thread nD τ) (Memref.whole cc0_scratch0) fullShare X) ∗ (∃ X, owns (c : Thread nD τ) (Memref.whole cc0_scratch1) fullShare X)
      ∗ (∃ X, owns (c : Thread nD τ) (Memref.whole cc0_scratch2) fullShare X) ∗ (∃ X, owns (c : Thread nD τ) (Memref.whole cc0_scratch3) fullShare X)
      ∗ (∃ X, owns (c : Thread nD τ) (Memref.whole cc0_scratch4) fullShare X)) ∗ ∃ r, prngReg c r) := by
  unfold Pipeline.ΦA
  rw [scopedRest0_eq]
  simp only [owns_whole]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (Pipeline.ΦA spec0 c : sProp 𝕄) from rfl, show (dats m 0 c).Φ t.castSucc = (Pipeline.ΦA spec0 c : sProp 𝕄) from rfl,
    show (dats m 0 c).owesAt () t.succ = (dats m 0 c).owesAt () t.castSucc from rfl,
    after0_0, after0_1, after0_2, after0_3, after0_4, after0_5, phi_eq, cc0_eq]
  iintro ⟨⟨Hs, Hp⟩, Ho, ⟨%d0, H0⟩, ⟨%d1, H1⟩, ⟨%d2, H2⟩, ⟨%d3, H3⟩, ⟨%d4, H4⟩, ⟨%d5, H5⟩⟩
  iapply (wp_body (𝒱 := Variants.none) (c := c) (bd := none) (E := Set.univ) (grid0.coords t) (iblk m c 0 t) (iblk m c 1 t) (iblk m c 2 t) (iblk m c 3 t) (iblk m c 4 t) ((dats m 0 c).before 5 t d5) _) $$ [H0 H1 H2 H3 H4 H5 Hs]
  · isplitl [H0]; · iexact H0
    isplitl [H1]; · iexact H1
    isplitl [H2]; · iexact H2
    isplitl [H3]; · iexact H3
    isplitl [H4]; · iexact H4
    isplitl [H5]; · iexact H5
    iexact Hs
  iintro ⟨H0, H1, H2, H3, H4, H5, Hs⟩
  isplitl [Hs Hp]
  · isplitl [Hs]; · iexact Hs
    iexact Hp
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the four arguments stay, and every counter ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Proof.Attn

end
-- ==== Proof.KernelFrame.lean ====
/-
  The kernel's frame: its program is the idealized one read at machine floats, each named constant its own pattern.
-/
module

public import proofs.«01_k».proof.Defs
public import proofs.«01_k».proof.Proof.Gen.Kernel
public import proofs.«01_k».proof.Proof.FrameRun

@[expose] public section

set_option maxRecDepth 100000

noncomputable section

namespace Cert.Proof.Attn

open Idealize.ShloMosaic Idealize.SL.Sem

/-- At machine floats a named constant is the pattern the program writes. -/
instance namedBits : Named Bits where
  named _ _ {φ} bits := Scalar.ofBits φ bits

instance : Cert.Kernel.Facts := Cert.Kernel.Gen.facts

/-! The two programs, part by part. -/

set_option maxHeartbeats 4000000 in
theorem body_eq : Cert.Kernel.cc0_attn_prompt (F := Bits)  = Cert.KernelIdeal.cc0_attn_prompt (F := Bits) := rfl

set_option maxHeartbeats 4000000 in
theorem main_eq : Cert.Kernel.main (F := Bits) = Cert.KernelIdeal.main (F := Bits) := rfl

set_option maxHeartbeats 4000000 in
theorem defs₀_eq : Cert.Kernel.defs₀ (F := Bits) = Cert.KernelIdeal.defs₀ (F := Bits) := by
  refine congrArg Defs.onTc (funext fun l => funext fun a => ?_)
  obtain ⟨l, hl⟩ := l
  match l, hl, a with
  | 0, _, (t, s) =>
    exact congrFun (congrFun (congrFun (congrFun (congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _) _) _) _) _
  | _ + 1, h, _ => exact absurd h (Nat.not_lt.2 (Nat.le_add_left _ _))

theorem defs_eq : Cert.Kernel.defs (F := Bits)  = Cert.KernelIdeal.defs (F := Bits) :=
  congrArg (Pipeline.defs Cert.KernelIdeal.pcfgs) defs₀_eq

theorem frame_kernel : Cert.quiescent_Kernel (hKernel := Cert.Kernel.Gen.facts) := fun m ρ _ => by
  have h := frame_run (F := Bits) m ρ
  rw [← defs_eq, ← main_eq] at h
  exact h
theorem frame_ideal : Cert.quiescent_KernelIdeal (hKernelIdeal := Cert.KernelIdeal.Gen.facts) :=
  fun m ρ _ => frame_run (F := Ideal) m ρ

end Cert.Proof.Attn

end
-- ==== Proof.RefFrame.lean ====
/-
  The reference's frame: its run leaves the four arguments, and it declares no semaphore.
-/
module

public import proofs.«01_k».proof.Defs
public import proofs.«01_k».proof.Proof.Gen.ReferenceIdeal.Run
public import Idealize.ShloMosaic.Lib.Quiescent

@[expose] public section

noncomputable section

namespace Cert.Proof.Attn

open Idealize.ShloMosaic Idealize.SL.Sem

theorem frame_reference : Cert.quiescent_ReferenceIdeal (hReferenceIdeal := Cert.ReferenceIdeal.Gen.facts) := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

/-- Each named constant: its pattern's name carries the value the rule states. -/
theorem preserves : Cert.preserves_Kernel_KernelIdeal :=
  ⟨IdealRules.named_const.statement Cert.KernelIdeal.κ "scale_log2e" .f32 0x3E38AA3B#32 _ rfl,
   IdealRules.named_const.statement Cert.KernelIdeal.κ "log2e" .f32 0x3FB8AA3B#32 _ rfl,
   IdealRules.named_const.statement Cert.KernelIdeal.κ "masked" .f32 0xF149F2CA#32 _ rfl⟩

end Cert.Proof.Attn

end
-- ==== Proof.Soft.lean ====
/-
  Softplus over the reals, read in units of log 2 and in natural units, at the extended reals.
-/
module

public import Idealize.ShloMosaic.Lib.Pointwise
public import Mathlib.Analysis.SpecialFunctions.Pow.Real

@[expose] public section

noncomputable section

namespace Cert.Proof.Attn

open Idealize.ShloMosaic

/-- log (1 + exp z), as both programs compute it. -/
def spR (z : ℝ) : ℝ := max z 0 + Real.log (1 + Real.exp (-|z|))

theorem spR_neg (z : ℝ) : spR (-z) = spR z - z := by
  unfold spR
  rw [abs_neg]
  rcases le_total 0 z with h | h
  · rw [max_eq_left h, max_eq_right (by linarith)]; ring
  · rw [max_eq_right h, max_eq_left (by linarith)]; ring

theorem ln2_pos : (0 : ℝ) < Real.log 2 := Real.log_pos (by norm_num)

/-- The kernel's softplus, in units of log 2. -/
def sp2E (z : EReal) : EReal := max z 0 + Ideal.log (1 + Ideal.exp2 (0 - max z (-z))) * (((Real.log 2)⁻¹ : ℝ) : EReal)

theorem exp2_coe (y : ℝ) : Ideal.exp2 (y : EReal) = ((Real.exp (y * Real.log 2) : ℝ) : EReal) := by
  show ((Real.rpow 2 y : ℝ) : EReal) = _
  congr 1
  rw [mul_comm]
  exact Real.rpow_def_of_pos (by norm_num) y

theorem log_coe (y : ℝ) (h : 0 < y) : Ideal.log (y : EReal) = ((Real.log y : ℝ) : EReal) := by
  show (if y ≤ 0 then (⊥ : EReal) else _) = _
  rw [if_neg (not_le.2 h)]

theorem coe_max (x y : ℝ) : ((max x y : ℝ) : EReal) = max (x : EReal) (y : EReal) := EReal.coe_strictMono.monotone.map_max

theorem max_neg_coe (y : ℝ) : max (y : EReal) (-(y : EReal)) = ((|y| : ℝ) : EReal) := by
  rw [← EReal.coe_neg, ← coe_max, abs_eq_max_neg]

theorem max_zero_coe (y : ℝ) : max (y : EReal) 0 = ((max y 0 : ℝ) : EReal) := by
  rw [← EReal.coe_zero, ← coe_max]

theorem sp2E_coe (z : ℝ) : sp2E ((z * (Real.log 2)⁻¹ : ℝ) : EReal) = ((spR z * (Real.log 2)⁻¹ : ℝ) : EReal) := by
  have h2 := ln2_pos
  have hi : (0 : ℝ) < (Real.log 2)⁻¹ := inv_pos.2 h2
  unfold sp2E spR
  rw [max_neg_coe, max_zero_coe, zero_sub, ← EReal.coe_neg, exp2_coe, ← EReal.coe_one, ← EReal.coe_add, log_coe _ (by positivity),
    ← EReal.coe_mul, ← EReal.coe_add]
  congr 1
  have e1 : -|z * (Real.log 2)⁻¹| * Real.log 2 = -|z| := by
    rw [abs_mul, abs_of_pos hi]; field_simp
  have e2 : max (z * (Real.log 2)⁻¹) 0 = max z 0 * (Real.log 2)⁻¹ := by
    rw [max_mul_of_nonneg _ _ hi.le, zero_mul]
  rw [e1, e2]; ring

theorem sp2E_bot : sp2E ⊥ = 0 := by
  unfold sp2E
  have h1 : max (⊥ : EReal) (-⊥) = ⊤ := by simp
  have h2 : (0 : EReal) - ⊤ = ⊥ := by simp
  rw [h1, h2]
  show max (⊥ : EReal) 0 + Ideal.log (1 + 0) * _ = 0
  rw [add_zero, ← EReal.coe_one, log_coe 1 one_pos, Real.log_one]
  simp

/-- The reference's softplus. -/
def spE (z : EReal) : EReal := max z 0 + Ideal.log (1 + Ideal.exp (-max z (-z)))

theorem exp_coe (y : ℝ) : Ideal.exp (y : EReal) = ((Real.exp y : ℝ) : EReal) := rfl

theorem spE_coe (z : ℝ) : spE (z : EReal) = ((spR z : ℝ) : EReal) := by
  unfold spE spR
  rw [max_neg_coe, max_zero_coe, ← EReal.coe_neg, exp_coe, ← EReal.coe_one, ← EReal.coe_add, log_coe _ (by positivity), ← EReal.coe_add]

theorem exp2_bot : Ideal.exp2 ⊥ = 0 := rfl

/-- A real sum, taken at the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

end Cert.Proof.Attn

end
-- ==== Proof.Pay.lean ====
/-
  The body's payloads read at an index, at the ideal instance.
-/
module

public import proofs.«01_k».proof.Proof.Depth
public import proofs.«01_k».proof.Proof.Soft
public import Idealize.ShloMosaic.Lib.Pointwise
public import Idealize.ShloMosaic.Lib.WordCmp

@[expose] public section

set_option maxRecDepth 16384

noncomputable section

namespace Cert.Proof.Attn

open Cert.KernelIdeal Cert.KernelIdeal.Gen
open Idealize.ShloMosaic Idealize.ShloMosaic.WordCmp

theorem log2e_val (b : BitVec 32) : Named.named (F := Ideal) κ "log2e" (φ := .f32) b = (((Real.log 2)⁻¹ : ℝ) : EReal) :=
  IdealRules.named_const.ideal_named_scalar _ _ _ _ rfl

theorem scale_val (b : BitVec 32) : Named.named (F := Ideal) κ "scale_log2e" (φ := .f32) b = (((1 / 8) * (Real.log 2)⁻¹ : ℝ) : EReal) :=
  IdealRules.named_const.ideal_named_scalar _ _ _ _ rfl

theorem masked_val (b : BitVec 32) : Named.named (F := Ideal) κ "masked" (φ := .f32) b = (⊥ : EReal) :=
  IdealRules.named_const.ideal_named_scalar _ _ _ _ rfl

theorem sel_ofBool {α : Type} (p : Prop) [Decidable p] (a b : α) : Scalar.select (BitVec.ofBool (decide p)) a b = if p then a else b := by
  by_cases h : p <;> simp [Scalar.select, h]

theorem exp2_def' (x : Ideal .f32) : FloatOps.exp2 x = Ideal.exp2 x := rfl

/-- A tile's weighted values join the sum. -/
theorem pay2_at (v : Vec Ideal S256x128 .bf16) (e : Vec Ideal S1x1x512x256 .f32) (a : Vec Ideal S1x512x128 .f32) (r : Fin 512) (l : Fin 128) :
    k0_pay2 v e a (ix3 0 r l) = a (ix3 0 r l) + ∑ x : Fin 256, Ideal.exp2 (e (ix4 0 0 r x)) * v (ix2 x l) := by
  pointwise [k0_pay2]
  rfl

/-- A head pair's rows: the even head's lanes, then the odd head's. -/
theorem pay1_at (a b : Vec Ideal S1x512x128 .f32) (r : Fin 512) (l : Fin 128) :
    k0_pay1 (iota .tc S1x128 32 [1] iota_S1x128_d1_w32) a b (ix2 r l) = if l.val < 64 then a (ix3 0 r l) else b (ix3 0 r l) := by
  pointwise [k0_pay1]
  rw [show IntOp.cmpi CmpIPredicate.slt (BitVec.ofNat 32 l.val) 64#32 = BitVec.ofBool (decide (l.val < 64)) from
    cmpi_slt_ofNat (by have := l.isLt; omega) (by norm_num)]
  rw [sel_ofBool]

/-- The carried sum takes the tile's whole sum. -/
theorem pay24_at (s : Vec Ideal S1x1x512x256 .bf16) (T : Vec Ideal S256x256 .bf16) (a : Vec Ideal S1x512x128 .f32) (r : Fin 512) (l : Fin 128) :
    k0_pay24 s T a (ix3 0 r l) = a (ix3 0 r l) + ∑ x : Fin 256, s (ix4 0 0 r x) * T (ix2 x 0) := by
  unfold_payloads
  pointwise

/-- The exponents: the scores less the sums at and after each key. -/
theorem pay23_at (s : Vec Ideal S1x1x512x256 .bf16) (T : Vec Ideal S256x256 .bf16) (a : Vec Ideal S1x512x128 .f32) (z : Vec Ideal S1x1x512x256 .f32)
    (r : Fin 512) (l : Fin 256) :
    k0_pay23 s T a z (ix4 0 0 r l) = z (ix4 0 0 r l) - (∑ x : Fin 256, s (ix4 0 0 r x) * T (ix2 x l)
      + a (ix3 0 r ⟨l.val % 128, Nat.mod_lt _ (by decide)⟩)) := by
  unfold_payloads
  pointwise
  have hl := l.isLt
  by_cases h : l.val < 128
  · rw [dif_pos h]; congr 5; omega
  · rw [dif_neg h]; congr 5; omega

/-- A tile's score. -/
def score (q : FVec Ideal S512x128 .bf16) (b : Ideal .f32) (k : Vec Ideal S1x1x128x256 .bf16) (r : Fin 512) (x : Fin 256) : EReal :=
  ∑ l : Fin 128, q (ix2 r l) * k (ix4 0 0 l x) + b

theorem pay48_at (q : FVec Ideal S512x128 .bf16) (b : Ideal .f32) (k : Vec Ideal S1x1x128x256 .bf16) (r : Fin 512) (x : Fin 256) :
    k0_pay48 q b k (ix4 0 0 r x) = score q b k r x := by
  unfold_payloads
  pointwise
  rfl

theorem pay57_at (q : FVec Ideal S512x128 .bf16) (b : Ideal .f32) (k : Vec Ideal S1x1x128x256 .bf16) (r : Fin 512) (x : Fin 256) :
    k0_pay57 q b k (ix4 0 0 r x) = sp2E (score q b k r x) := by
  unfold_payloads
  pointwise
  rw [log2e_val]
  rfl

theorem pay341_at (q : FVec Ideal S512x128 .bf16) (b : Ideal .f32) (k : Vec Ideal S1x1x128x256 .bf16) (r : Fin 512) (x : Fin 256) :
    k0_pay341 q b k (ix2 r x) = score q b k r x := by
  unfold_payloads
  pointwise
  rfl

/-- Key `256 j + x` lies before query `512 i + r`, at the words the body computes them in. -/
theorem before_word (n i : ℕ) (hn : n < 32) (hi : i < 16) (r : Fin 512) (x : Fin 256) :
    IntOp.cmpi CmpIPredicate.slt (IntOp.addi (Scalar.muli (BitVec.ofNat 32 n) 256#32) (BitVec.ofNat 32 x.val))
        (IntOp.addi (Scalar.muli (BitVec.ofNat 32 i) 512#32) (BitVec.ofNat 32 r.val)) = BitVec.ofBool (decide (256 * n + x.val < 512 * i + r.val)) := by
  have hx := x.isLt
  have hr := r.isLt
  have e1 : IntOp.addi (Scalar.muli (BitVec.ofNat 32 n) 256#32) (BitVec.ofNat 32 x.val) = BitVec.ofNat 32 (256 * n + x.val) := by
    show BitVec.ofNat 32 n * 256#32 + BitVec.ofNat 32 x.val = _
    rw [BitVec.ofNat_add, BitVec.ofNat_mul, BitVec.mul_comm]
  have e2 : IntOp.addi (Scalar.muli (BitVec.ofNat 32 i) 512#32) (BitVec.ofNat 32 r.val) = BitVec.ofNat 32 (512 * i + r.val) := by
    show BitVec.ofNat 32 i * 512#32 + BitVec.ofNat 32 r.val = _
    rw [BitVec.ofNat_add, BitVec.ofNat_mul, BitVec.mul_comm]
  rw [e1, e2]
  exact cmpi_slt_ofNat (by norm_num; omega) (by norm_num; omega)

theorem pay343_at (n i : ℕ) (hn : n < 32) (hi : i < 16) (z : FVec Ideal S512x256 .f32) (r : Fin 512) (x : Fin 256) :
    k0_pay343 (F := Ideal) (BitVec.ofNat 32 n) z (Scalar.muli (BitVec.ofNat 32 i) 512#32) (ix4 0 0 r x)
      = if 256 * n + x.val < 512 * i + r.val then z (ix2 r x) else (⊥ : EReal) := by
  unfold_payloads
  pointwise
  rw [before_word n i hn hi, masked_val]
  rw [sel_ofBool]

theorem pay344_at (n i : ℕ) (hn : n < 32) (hi : i < 16) (z : FVec Ideal S512x256 .f32) (r : Fin 512) (x : Fin 256) :
    k0_pay344 (F := Ideal) (BitVec.ofNat 32 n) z (Scalar.muli (BitVec.ofNat 32 i) 512#32) (ix4 0 0 r x)
      = sp2E (if 256 * n + x.val < 512 * i + r.val then z (ix2 r x) else (⊥ : EReal)) := by
  unfold_payloads
  pointwise
  rw [before_word n i hn hi, masked_val, log2e_val]
  rw [sel_ofBool]
  rfl

/-- The even head's lanes of a pair's queries, scaled. -/
theorem qEven_at (x : Vec Ideal S512x128 .f32) (r : Fin 512) (l : Fin 128) :
    qEven x (ix2 r l) = if l.val < 64 then x (ix2 r l) * (((1 / 8) * (Real.log 2)⁻¹ : ℝ) : EReal) else 0 := by
  unfold qEven
  unfold_payloads
  pointwise
  rw [scale_val]
  have key : ∀ l : Fin 128, IntOp.cmpi CmpIPredicate.eq
        (Scalar.select
          (IntOp.andi
            (IntOp.cmpi CmpIPredicate.ne
              (IntOp.subi (BitVec.setWidth 32 (IntOp.cmpi CmpIPredicate.sgt (BitVec.ofNat 32 l.val) 0#32))
                (BitVec.setWidth 32 (IntOp.cmpi CmpIPredicate.slt (BitVec.ofNat 32 l.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 l.val) 64#32) 0#32))
          (IntOp.subi (IntOp.divsi ArithUnit.vector (BitVec.ofNat 32 l.val) 64#32) 1#32)
          (IntOp.divsi ArithUnit.vector (BitVec.ofNat 32 l.val) 64#32))
        0#32 = BitVec.ofBool (decide (l.val < 64)) := by decide +kernel
  rw [key]
  by_cases h : l.val < 64 <;> simp [Scalar.select, h]

/-- The odd head's lanes of a pair's queries, scaled. -/
theorem qOdd_at (x : Vec Ideal S512x128 .f32) (r : Fin 512) (l : Fin 128) :
    qOdd x (ix2 r l) = if l.val < 64 then 0 else x (ix2 r l) * (((1 / 8) * (Real.log 2)⁻¹ : ℝ) : EReal) := by
  unfold qOdd
  unfold_payloads
  pointwise
  rw [scale_val]
  have key : ∀ l : Fin 128, IntOp.cmpi CmpIPredicate.eq
        (Scalar.select
          (IntOp.andi
            (IntOp.cmpi CmpIPredicate.ne
              (IntOp.subi (BitVec.setWidth 32 (IntOp.cmpi CmpIPredicate.sgt (BitVec.ofNat 32 l.val) 0#32))
                (BitVec.setWidth 32 (IntOp.cmpi CmpIPredicate.slt (BitVec.ofNat 32 l.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 l.val) 64#32) 0#32))
          (IntOp.subi (IntOp.divsi ArithUnit.vector (BitVec.ofNat 32 l.val) 64#32) 1#32)
          (IntOp.divsi ArithUnit.vector (BitVec.ofNat 32 l.val) 64#32))
        1#32 = BitVec.ofBool (decide (¬ l.val < 64)) := by decide +kernel
  rw [key]
  by_cases h : l.val < 64 <;> simp [Scalar.select, h]

/-- A bias in units of log 2. -/
theorem pay331_at (b : Elt Ideal .f32) : k0_pay331 (F := Ideal) b = (b : EReal) * (((Real.log 2)⁻¹ : ℝ) : EReal) := by
  unfold k0_pay331
  rw [log2e_val]
  rfl

end Cert.Proof.Attn

end
-- ==== Proof.Scores.lean ====
/-
  A grid point's scores over the reals: what its buffers hold at each depth, from finite queries, keys and biases.
-/
module

public import proofs.«01_k».proof.Proof.Pay

@[expose] public section

set_option maxRecDepth 16384

noncomputable section

namespace Cert.Proof.Attn

open Cert.KernelIdeal Cert.KernelIdeal.Gen
open Idealize.ShloMosaic

/-- A sum over a head pair's lanes where only one head's are nonzero. -/
theorem sum_half (p : ℕ) (hp : p < 2) (g : ℕ → EReal) :
    ∑ l : Fin 128, (if l.val / 64 = p then g l.val else 0) = ∑ d : Fin 64, g (64 * p + d.val) := by
  rw [show (∑ l : Fin 128, (if l.val / 64 = p then g l.val else 0)) = ∑ l : Fin (64 + 64), (if l.val / 64 = p then g l.val else 0) from rfl,
    Fin.sum_univ_add]
  have h1 : ∀ d : Fin 64, (Fin.castAdd 64 d).val / 64 = 0 := fun d => by have := d.isLt; simp only [Fin.val_castAdd]; omega
  have h2 : ∀ d : Fin 64, (Fin.natAdd 64 d).val / 64 = 1 := fun d => by have := d.isLt; simp only [Fin.val_natAdd]; omega
  simp only [h1, h2]
  interval_cases p
  · simp
  · simp [add_comm]

section Point

variable (i : grid0.Coords) (B : S16.Idx → Elt Ideal .f32) (Q : S512x512.Idx → Elt Ideal .f32) (K : S1x32x512x256.Idx → Elt Ideal .bf16)
  (V : S8192x512.Idx → Elt Ideal .bf16) (T : S256x256.Idx → Elt Ideal .bf16)
  (qf : Fin 512 → ℕ → ℝ) (kf : ℕ → ℕ → ℝ) (bf : ℕ → ℝ)

/-- What a grid point's input blocks hold: finite queries, keys and biases, and the lower triangle of ones. -/
structure Holds : Prop where
  q : ∀ (r : Fin 512) (c : Fin 512), Q (ix2 r c) = ((qf r c.val : ℝ) : EReal)
  k : ∀ (j : Fin 32) (c : Fin 512) (x : Fin 256), K (ix4 0 j c x) = ((kf (256 * j.val + x.val) c.val : ℝ) : EReal)
  b : ∀ h, h < 8 → bwin B (8 * (i 1).val + h) = ((bf h : ℝ) : EReal)
  t : ∀ y x : Fin 256, T (ix2 y x) = if x.val ≤ y.val then (1 : EReal) else 0

/-- The score of query row `r` and key `s`, head `h`. -/
def zz (r : Fin 512) (h s : ℕ) : ℝ := (∑ d : Fin 64, qf r (64 * h + d.val) * kf s (64 * h + d.val)) * (1 / 8) + bf h

/-- Its softplus, where the key lies before the query. -/
def sg (r : Fin 512) (h s : ℕ) : ℝ := if s < 512 * (i 2).val + r.val then spR (zz qf kf bf r h s) else 0

/-- One past the last key a grid point walks. -/
def top : ℕ := 256 * (2 * (i 2).val + 2)

/-- The weight of key `s`. -/
def wt (r : Fin 512) (h s : ℕ) : ℝ :=
  if s < 512 * (i 2).val + r.val then Real.exp (zz qf kf bf r h s - ∑ s' ∈ Finset.Ico s (top i), sg i qf kf bf r h s') else 0

variable {i B Q K V T qf kf bf}

theorem i2_lt (i : grid0.Coords) : (i 2).val < 16 := (i 2).isLt

theorem qs_at (H : Holds i B Q K T qf kf bf) (h : ℕ) (hh : h < 8) (r : Fin 512) (l : Fin 128) :
    qsOf Q h (ix2 r l) = if l.val / 64 = h % 2 then ((qf r (128 * (h / 2) + l.val) * ((1 / 8) * (Real.log 2)⁻¹) : ℝ) : EReal) else 0 := by
  have hl := l.isLt
  have e : ∀ o, o + 128 ≤ 512 → qwin Q o (ix2 r l) = ((qf r (o + l.val) : ℝ) : EReal) := fun o ho => by
    have := H.q r ⟨o + l.val, by omega⟩
    rw [← this]
    unfold qwin
    congr 1
    funext d
    apply Fin.ext
    fin_cases d
    · rfl
    · show (o + l.val) % 512 = o + l.val
      omega
  rcases Nat.lt_or_ge l.val 64 with hc | hc
  · have h0 : l.val / 64 = 0 := by omega
    interval_cases h <;> simp only [qsOf, pick8, qEven_at, qOdd_at] <;> try rw [e _ (by norm_num)]
    all_goals simp [hc, h0, EReal.coe_mul]
  · have h0 : l.val / 64 = 1 := by omega
    have hn : ¬ l.val < 64 := by omega
    interval_cases h <;> simp only [qsOf, pick8, qEven_at, qOdd_at] <;> try rw [e _ (by norm_num)]
    all_goals simp [hn, h0, EReal.coe_mul]

theorem bs_at (H : Holds i B Q K T qf kf bf) (h : ℕ) (hh : h < 8) : bsOf i B h = ((bf h * (Real.log 2)⁻¹ : ℝ) : EReal) := by
  have := H.b h hh
  interval_cases h <;> simp only [bsOf, pick8, pay331_at] <;> rw [this, ← EReal.coe_mul]

theorem score_at (H : Holds i B Q K T qf kf bf) (h j : ℕ) (hh : h < 8) (hj : j < 32) (r : Fin 512) (x : Fin 256) :
    score (qsOf Q h) (bsOf i B h) (kwin K j h) r x = ((zz qf kf bf r h (256 * j + x.val) * (Real.log 2)⁻¹ : ℝ) : EReal) := by
  have ek : ∀ l : Fin 128, kwin K j h (ix4 0 0 l x) = ((kf (256 * j + x.val) (128 * (h / 2) + l.val) : ℝ) : EReal) := fun l => by
    have hl := l.isLt
    have := H.k ⟨j, hj⟩ ⟨128 * (h / 2) + l.val, by omega⟩ x
    rw [← this]
    unfold kwin
    congr 1
    funext d
    apply Fin.ext
    fin_cases d
    · rfl
    · show j % 32 = j
      omega
    · show (128 * (h / 2) + l.val) % 512 = 128 * (h / 2) + l.val
      omega
    · rfl
  unfold score
  rw [bs_at H h hh]
  have e : ∀ l : Fin 128, qsOf Q h (ix2 r l) * kwin K j h (ix4 0 0 l x)
      = if l.val / 64 = h % 2 then (((qf r (128 * (h / 2) + l.val) * ((1 / 8) * (Real.log 2)⁻¹)) * kf (256 * j + x.val) (128 * (h / 2) + l.val) : ℝ) : EReal) else 0 := fun l => by
    rw [qs_at H h hh, ek]
    split
    · rw [← EReal.coe_mul]
    · rw [zero_mul]
  rw [Finset.sum_congr rfl fun l _ => e l,
    sum_half (h % 2) (by omega) (fun l => (((qf r (128 * (h / 2) + l) * ((1 / 8) * (Real.log 2)⁻¹)) * kf (256 * j + x.val) (128 * (h / 2) + l) : ℝ) : EReal)),
    ← coe_sum, ← EReal.coe_add]
  congr 1
  have eh : ∀ d : ℕ, 128 * (h / 2) + (64 * (h % 2) + d) = 64 * h + d := fun d => by omega
  simp only [eh, zz]
  rw [add_mul, Finset.sum_mul, Finset.sum_mul]
  congr 1
  refine Finset.sum_congr rfl fun d _ => ?_
  ring

theorem jTop_eq (i : grid0.Coords) : jTop i = BitVec.ofNat 32 (tile i 0) := by
  have : ∀ n : Fin 16, Scalar.subi (Scalar.muli 2#32 (Scalar.addi (BitVec.ofNat 32 n.val) 1#32)) 1#32 = BitVec.ofNat 32 (2 * n.val + 1 - 0) := by decide +kernel
  exact this (i 2)

theorem jTop_pred (i : grid0.Coords) : Scalar.subi (jTop i) 1#32 = BitVec.ofNat 32 (tile i 1) := by
  have : ∀ n : Fin 16, Scalar.subi (Scalar.subi (Scalar.muli 2#32 (Scalar.addi (BitVec.ofNat 32 n.val) 1#32)) 1#32) 1#32 = BitVec.ofNat 32 (2 * n.val + 1 - 1) := by decide +kernel
  exact this (i 2)

/-- The score at depth `d`, −∞ at keys not before the query. -/
theorem zD_at (H : Holds i B Q K T qf kf bf) (d h : ℕ) (hd : d < 2 * (i 2).val + 2) (hh : h < 8) (r : Fin 512) (x : Fin 256) :
    zD i B Q K d h (ix4 0 0 r x) = if 256 * tile i d + x.val < 512 * (i 2).val + r.val
      then ((zz qf kf bf r h (256 * tile i d + x.val) * (Real.log 2)⁻¹ : ℝ) : EReal) else ⊥ := by
  have hi := i2_lt i
  have ht : tile i d < 32 := by unfold tile; omega
  unfold zD
  split
  · next h0 =>
    subst h0
    unfold zmOf
    rw [jTop_eq]
    exact (pay343_at _ _ ht hi _ r x).trans (by rw [pay341_at, score_at H h _ hh ht])
  · split
    · next h0 h1 =>
      subst h1
      unfold zmOf
      rw [jTop_pred]
      exact (pay343_at _ _ ht hi _ r x).trans (by rw [pay341_at, score_at H h _ hh ht])
    · next h0 h1 =>
      unfold zOf
      rw [pay48_at, score_at H h _ hh ht, if_pos]
      have hx := x.isLt
      unfold tile
      omega

/-- The softplus at depth `d`, in units of log 2. -/
theorem spD_at (H : Holds i B Q K T qf kf bf) (d h : ℕ) (hd : d < 2 * (i 2).val + 2) (hh : h < 8) (r : Fin 512) (x : Fin 256) :
    spD i B Q K d h (ix4 0 0 r x) = ((sg i qf kf bf r h (256 * tile i d + x.val) * (Real.log 2)⁻¹ : ℝ) : EReal) := by
  have hi := i2_lt i
  have ht : tile i d < 32 := by unfold tile; omega
  have fin : sp2E (if 256 * tile i d + x.val < 512 * (i 2).val + r.val
      then ((zz qf kf bf r h (256 * tile i d + x.val) * (Real.log 2)⁻¹ : ℝ) : EReal) else ⊥) = ((sg i qf kf bf r h (256 * tile i d + x.val) * (Real.log 2)⁻¹ : ℝ) : EReal) := by
    unfold sg
    split
    · rw [sp2E_coe]
    · rw [sp2E_bot, zero_mul, EReal.coe_zero]
  rw [← fin]
  unfold spD
  split
  · next h0 =>
    subst h0
    unfold spmOf
    rw [jTop_eq]
    exact (pay344_at _ _ ht hi _ r x).trans (by rw [pay341_at, score_at H h _ hh ht])
  · split
    · next h0 h1 =>
      subst h1
      unfold spmOf
      rw [jTop_pred]
      exact (pay344_at _ _ ht hi _ r x).trans (by rw [pay341_at, score_at H h _ hh ht])
    · next h0 h1 =>
      unfold spOf
      rw [pay57_at, score_at H h _ hh ht, if_pos]
      have hx := x.isLt
      unfold tile
      omega

/-- A tile's sum at and after column `x`. -/
theorem sum_after (g : ℕ → ℝ) (b x : ℕ) (hx : x < 256) :
    ∑ y : Fin 256, ((g (b + y.val) : ℝ) : EReal) * (if x ≤ y.val then (1 : EReal) else 0) = ((∑ s ∈ Finset.Ico (b + x) (b + 256), g s : ℝ) : EReal) := by
  have e : ∀ y : Fin 256, ((g (b + y.val) : ℝ) : EReal) * (if x ≤ y.val then (1 : EReal) else 0) = (((if x ≤ y.val then g (b + y.val) else 0 : ℝ)) : EReal) := fun y => by
    split <;> simp
  rw [Finset.sum_congr rfl fun y _ => e y, ← coe_sum]
  congr 1
  rw [Fin.sum_univ_eq_sum_range (fun y => if x ≤ y then g (b + y) else 0) 256, ← Finset.sum_filter, Finset.sum_Ico_eq_sum_range,
    show (Finset.range 256).filter (fun y => x ≤ y) = Finset.Ico x 256 from by ext y; simp; tauto, Finset.sum_Ico_eq_sum_range]
  refine Finset.sum_congr (by congr 1; omega) fun y _ => ?_
  rw [add_assoc]

theorem tile_succ (i : grid0.Coords) (d : ℕ) (hd : d < 2 * (i 2).val + 2) : top i - 256 * (d + 1) = 256 * tile i d ∧ top i - 256 * d = 256 * tile i d + 256 := by
  unfold top tile
  omega

/-- The carried sum before depth `d`. -/
theorem rD_at (H : Holds i B Q K T qf kf bf) (h : ℕ) (hh : h < 8) (r : Fin 512) (l : Fin 128) : ∀ d, d ≤ 2 * (i 2).val + 2 →
    rD i B Q K T d h (ix3 0 r l) = (((∑ s ∈ Finset.Ico (top i - 256 * d) (top i), sg i qf kf bf r h s) * (Real.log 2)⁻¹ : ℝ) : EReal)
  | 0, _ => by
    simp only [rD, zero3, Nat.mul_zero, Nat.sub_zero, Finset.Ico_self, Finset.sum_empty, zero_mul, EReal.coe_zero]
    exact Ideal.ofBits_zero_f32
  | d + 1, hd => by
    obtain ⟨e1, e2⟩ := tile_succ i d hd
    rw [rD, pay24_at, rD_at H h hh r l d (by omega)]
    have e : ∀ y : Fin 256, spD i B Q K d h (ix4 0 0 r y) * T (ix2 y 0)
        = ((sg i qf kf bf r h (256 * tile i d + y.val) * (Real.log 2)⁻¹ : ℝ) : EReal) * (if 0 ≤ y.val then (1 : EReal) else 0) := fun y => by
      rw [spD_at H d h (by omega) hh, H.t]
      rfl
    rw [Finset.sum_congr rfl fun y _ => e y, sum_after (fun s => sg i qf kf bf r h s * (Real.log 2)⁻¹) (256 * tile i d) 0 (by norm_num), ← EReal.coe_add,
      e1, e2, add_zero (256 * tile i d), ← Finset.sum_mul, ← add_mul, add_comm (∑ s ∈ Finset.Ico _ (top i), _),
      Finset.sum_Ico_consecutive _ (by omega) (by unfold top tile at *; omega)]

/-- The weight of a key at depth `d`. -/
theorem eD_at (H : Holds i B Q K T qf kf bf) (d h : ℕ) (hd : d < 2 * (i 2).val + 2) (hh : h < 8) (r : Fin 512) (x : Fin 256) :
    Ideal.exp2 (eD i B Q K T d h (ix4 0 0 r x)) = ((wt i qf kf bf r h (256 * tile i d + x.val) : ℝ) : EReal) := by
  obtain ⟨e1, e2⟩ := tile_succ i d hd
  have hx := x.isLt
  have e : ∀ y : Fin 256, spD i B Q K d h (ix4 0 0 r y) * T (ix2 y x)
      = ((sg i qf kf bf r h (256 * tile i d + y.val) * (Real.log 2)⁻¹ : ℝ) : EReal) * (if x.val ≤ y.val then (1 : EReal) else 0) := fun y => by
    rw [spD_at H d h (by omega) hh, H.t]
  rw [eD, pay23_at, rD_at H h hh r _ d (by omega), Finset.sum_congr rfl fun y _ => e y,
    sum_after (fun s => sg i qf kf bf r h s * (Real.log 2)⁻¹) (256 * tile i d) x.val hx, ← EReal.coe_add, ← Finset.sum_mul, ← add_mul, e2,
    Finset.sum_Ico_consecutive _ (by omega) (by unfold top tile at *; omega), zD_at H d h hd hh]
  unfold wt
  split
  · rw [← EReal.coe_sub, exp2_coe, ← sub_mul, inv_mul_cancel_right₀ ln2_pos.ne']
  · rw [EReal.bot_sub, exp2_bot, EReal.coe_zero]

/-- The accumulated rows before depth `d`. -/
theorem aD_at (H : Holds i B Q K T qf kf bf) (h : ℕ) (hh : h < 8) (r : Fin 512) (l : Fin 128) : ∀ d, d ≤ 2 * (i 2).val + 2 →
    aD i B Q K V T d h (ix3 0 r l) = ∑ s ∈ Finset.Ico (top i - 256 * d) (top i),
      ((wt i qf kf bf r h s : ℝ) : EReal) * V (ix2 ⟨s % 8192, Nat.mod_lt _ (by decide)⟩ ⟨(128 * (h / 2) + l.val) % 512, Nat.mod_lt _ (by decide)⟩)
  | 0, _ => by
    simp only [aD, zero3, Nat.mul_zero, Nat.sub_zero, Finset.Ico_self, Finset.sum_empty]
    exact Ideal.ofBits_zero_f32
  | d + 1, hd => by
    obtain ⟨e1, e2⟩ := tile_succ i d hd
    rw [aD, pay2_at, aD_at H h hh r l d (by omega), e1, e2, add_comm,
      ← Finset.sum_Ico_consecutive _ (show 256 * tile i d ≤ 256 * tile i d + 256 by omega) (show 256 * tile i d + 256 ≤ top i by unfold top tile at *; omega)]
    congr 1
    rw [Finset.sum_Ico_eq_sum_range, show 256 * tile i d + 256 - 256 * tile i d = 256 by omega, ← Fin.sum_univ_eq_sum_range
      (fun s => ((wt i qf kf bf r h (256 * tile i d + s) : ℝ) : EReal) * V (ix2 ⟨(256 * tile i d + s) % 8192, Nat.mod_lt _ (by decide)⟩ ⟨(128 * (h / 2) + l.val) % 512, Nat.mod_lt _ (by decide)⟩))]
    refine Finset.sum_congr rfl fun y _ => ?_
    rw [eD_at H d h (by omega) hh]
    congr 1
    unfold vwin
    congr 1
    funext a
    fin_cases a <;> rfl

/-- The output block: each row's weighted values. -/
theorem outD_at (H : Holds i B Q K T qf kf bf) (r c : Fin 512) :
    outD i B Q K V T (ix2 r c) = ∑ s ∈ Finset.range (top i), ((wt i qf kf bf r (c.val / 64) s : ℝ) : EReal) * V (ix2 ⟨s % 8192, Nat.mod_lt _ (by decide)⟩ c) := by
  have hc := c.isLt
  have e0 : top i - 256 * (2 * (i 2).val + 2) = 0 := by unfold top; omega
  have key : ∀ h, h = c.val / 64 → ((128 * (h / 2) + c.val % 128) % 512) = c.val := fun h hh => by omega
  have fin : ∀ h, h = c.val / 64 → aD i B Q K V T (2 * (i 2).val + 2) h (ix3 0 r ⟨c.val % 128, Nat.mod_lt _ (by decide)⟩)
      = ∑ s ∈ Finset.range (top i), ((wt i qf kf bf r (c.val / 64) s : ℝ) : EReal) * V (ix2 ⟨s % 8192, Nat.mod_lt _ (by decide)⟩ c) := fun h hh => by
    rw [aD_at H h (by omega) r _ _ le_rfl, e0, Finset.range_eq_Ico]
    refine Finset.sum_congr rfl fun s _ => ?_
    rw [hh]
    congr 3
    exact Fin.ext (key _ rfl)
  unfold outD
  refine (congrArg (k0_pay1 (iota .tc S1x128 32 [1] iota_S1x128_d1_w32) (aD i B Q K V T (2 * (i 2).val + 2) (2 * (c.val / 128)))
    (aD i B Q K V T (2 * (i 2).val + 2) (2 * (c.val / 128) + 1))) (a₂ := ix2 r ⟨c.val % 128, Nat.mod_lt _ (by decide)⟩)
    (funext fun d => by fin_cases d <;> rfl)).trans ?_
  rw [pay1_at]
  show (if c.val % 128 < 64 then _ else _) = _
  split
  · exact fin _ (by omega)
  · exact fin _ (by omega)

end Point

end Cert.Proof.Attn

end
-- ==== Proof.Entry.lean ====
/-
  The arrays as the call finds them: queries and values as rows, keys transposed in tiles, and the triangle of ones.
-/
module

public import proofs.«01_k».proof.Proof.FrameRun
public import proofs.«01_k».proof.Proof.Scores
public import Idealize.ShloMosaic.Lib.Pointwise
public import Idealize.ShloMosaic.Lib.Claim
public import Idealize.ShloMosaic.Lib.WordCmp
public import Idealize.ShloMosaic.Lib.Pipeline.ValueKit.Point

@[expose] public section

set_option maxRecDepth 16384

noncomputable section

namespace Cert.Proof.Attn

open Cert.KernelIdeal Cert.KernelIdeal.Gen
open Idealize.ShloMosaic Idealize.ShloMosaic.TcCoe Idealize.ShloMosaic.WordCmp

variable (m : (ℓ : Loc nD τ sig) → Buf (Elt Ideal) ℓ)

theorem rows_q (c : Dev nD) (e : Fin 2) (t : Fin 8192) (h : Fin 16) (d : Fin 64) :
    V m c main_v5 (ix2 ⟨8192 * e.val + t.val, by omega⟩ ⟨64 * h.val + d.val, by omega⟩) = m ((c.tc : Thread nD τ).loc main_arg0) (ix4 e t h d) := by
  simp only [V, hostOps0, hostOps0_1, List.flatten_cons, List.flatten_nil, List.append_nil, List.cons_append, List.nil_append]
  entry_read
  pointwise

theorem rows_v (c : Dev nD) (e : Fin 2) (t : Fin 8192) (h : Fin 16) (d : Fin 64) :
    V m c main_v4 (ix2 ⟨8192 * e.val + t.val, by omega⟩ ⟨64 * h.val + d.val, by omega⟩) = m ((c.tc : Thread nD τ).loc main_arg2) (ix4 e t h d) := by
  simp only [V, hostOps0, hostOps0_1, List.flatten_cons, List.flatten_nil, List.append_nil, List.cons_append, List.nil_append]
  entry_read
  pointwise
  refine congrArg (m ((c.tc : Thread nD τ).loc main_arg2)) ?_
  congr 1 <;> (apply Fin.ext; dsimp only; omega)

theorem tiles_k (c : Dev nD) (e : Fin 2) (j : Fin 32) (x : Fin 256) (h : Fin 16) (d : Fin 64) :
    V m c main_v2 (ix4 e j ⟨64 * h.val + d.val, by omega⟩ x) = m ((c.tc : Thread nD τ).loc main_arg1) (ix4 e ⟨256 * j.val + x.val, by omega⟩ h d) := by
  simp only [V, hostOps0, hostOps0_1, List.flatten_cons, List.flatten_nil, List.append_nil, List.cons_append, List.nil_append]
  entry_read
  pointwise
  refine congrArg (m ((c.tc : Thread nD τ).loc main_arg1)) ?_
  congr 1 <;> (apply Fin.ext; dsimp only; omega)

theorem tri_ones (c : Dev nD) (y x : Fin 256) :
    V m c main_v7 (ix2 y x) = if x.val ≤ y.val then (1 : EReal) else 0 := by
  simp only [V, hostOps0, hostOps0_1, List.flatten_cons, List.flatten_nil, List.append_nil, List.cons_append, List.nil_append]
  entry_read
  show select (cmpi .sge (addi (iotaInDim S256x256 32 0) (broadcastInDim S256x256 ![] bcast_S_S256x256 (constantI S_ 32 0#32))) (iotaInDim S256x256 32 1))
    (broadcastInDim S256x256 ![] bcast_S_S256x256 (constant (F := Ideal) S_ .bf16 16256#16)) (broadcastInDim S256x256 ![] bcast_S_S256x256 (constant (F := Ideal) S_ .bf16 0#16)) (ix2 y x) = _
  pointwise
  show Scalar.select (IntOp.cmpi .sge (BitVec.ofNat 32 y.val + 0#32) (BitVec.ofNat 32 x.val)) (1 : EReal) 0 = _
  rw [BitVec.add_zero, cmpi_sge_ofNat (by have := y.isLt; omega) (by have := x.isLt; omega), sel_ofBool]

theorem e0 : ∀ t : Fin cfg0.N, win0_0.index t = ![0] := (by decide +kernel : ∀ t : Fin grid0.N, _)
theorem e1 : ∀ t : Fin cfg0.N, win0_1.index t = ![16 * (grid0.coords t 0).val + (grid0.coords t 2).val, (grid0.coords t 1).val] := (by decide +kernel : ∀ t : Fin grid0.N, _)
theorem e2 : ∀ t : Fin cfg0.N, win0_2.index t = ![(grid0.coords t 0).val, 0, (grid0.coords t 1).val, 0] := (by decide +kernel : ∀ t : Fin grid0.N, _)
theorem e3 : ∀ t : Fin cfg0.N, win0_3.index t = ![(grid0.coords t 0).val, (grid0.coords t 1).val] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![16 * (grid0.coords t 0).val + (grid0.coords t 2).val, (grid0.coords t 1).val] := (by decide +kernel : ∀ t : Fin grid0.N, _)

theorem blk_q (c : Dev nD) (t : Fin cfg0.N) (r cc : Fin 512) :
    iblk m c 1 t (ix2 r cc) = m ((c.tc : Thread nD τ).loc main_arg0) (ix4 (grid0.coords t 0) ⟨512 * (grid0.coords t 2).val + r.val, by have : (grid0.coords t 2).val < 16 := (grid0.coords t 2).isLt; omega⟩
      ⟨8 * (grid0.coords t 1).val + cc.val / 64, by have : (grid0.coords t 1).val < 2 := (grid0.coords t 1).isLt; omega⟩ ⟨cc.val % 64, by omega⟩) := by
  refine Eq.trans ?_ (rows_q m c _ _ _ _)
  show V m c main_v5 ((win0_1.blk t).view.emb (ix2 r cc)) = _
  congr 1
  blk_ext [e1 t]

theorem blk_v (c : Dev nD) (t : Fin cfg0.N) (s : Fin 8192) (cc : Fin 512) :
    iblk m c 3 t (ix2 s cc) = m ((c.tc : Thread nD τ).loc main_arg2) (ix4 (grid0.coords t 0) s
      ⟨8 * (grid0.coords t 1).val + cc.val / 64, by have : (grid0.coords t 1).val < 2 := (grid0.coords t 1).isLt; omega⟩ ⟨cc.val % 64, by omega⟩) := by
  refine Eq.trans ?_ (rows_v m c _ _ _ _)
  show V m c main_v4 ((win0_3.blk t).view.emb (ix2 s cc)) = _
  congr 1
  blk_ext [e3 t]

theorem blk_k (c : Dev nD) (t : Fin cfg0.N) (j : Fin 32) (cc : Fin 512) (x : Fin 256) :
    iblk m c 2 t (ix4 0 j cc x) = m ((c.tc : Thread nD τ).loc main_arg1) (ix4 (grid0.coords t 0) ⟨256 * j.val + x.val, by omega⟩
      ⟨8 * (grid0.coords t 1).val + cc.val / 64, by have : (grid0.coords t 1).val < 2 := (grid0.coords t 1).isLt; omega⟩ ⟨cc.val % 64, by omega⟩) := by
  refine Eq.trans ?_ (tiles_k m c _ _ _ _ _)
  show V m c main_v2 ((win0_2.blk t).view.emb (ix4 0 j cc x)) = _
  congr 1
  blk_ext [e2 t]

theorem blk_b (c : Dev nD) (t : Fin cfg0.N) (h : Fin 16) : iblk m c 0 t (ix1 h) = m ((c.tc : Thread nD τ).loc main_arg3) (ix1 h) := by
  refine Eq.trans ?_ (congrFun (V_main_arg3 m c) _)
  show V m c main_arg3 ((win0_0.blk t).view.emb (ix1 h)) = _
  congr 1
  blk_ext [e0 t]

theorem blk_tri (c : Dev nD) (t : Fin cfg0.N) (y x : Fin 256) : iblk m c 4 t (ix2 y x) = if x.val ≤ y.val then (1 : EReal) else 0 := by
  refine Eq.trans ?_ (tri_ones m c y x)
  show V m c main_v7 ((win0_4.blk t).view.emb (ix2 y x)) = _
  congr 1
  blk_ext [e4 t]

end Cert.Proof.Attn

end
-- ==== Proof.RefValue.lean ====
/-
  What the reference computes: at finite queries, keys and biases, each row's values weighted over the keys before it.
-/
module

public import proofs.«01_k».proof.Proof.Gen.ReferenceIdeal.Run
public import proofs.«01_k».proof.Proof.Soft
public import Idealize.ShloMosaic.Lib.Pointwise
public import Idealize.ShloMosaic.Lib.WordCmp

@[expose] public section

set_option maxRecDepth 16384

noncomputable section

namespace Cert.Proof.Attn.Ref

open Cert.ReferenceIdeal Cert.ReferenceIdeal.Gen Cert.ReferenceIdeal.Value
open Idealize.ShloMosaic Idealize.ShloMosaic.WordCmp Cert.Proof.Attn

variable (q k v : FVec Ideal S2x8192x16x64 .f32) (b : FVec Ideal S16 .f32)

def zeros : FVec Ideal S2x16x8192x8192 .f32 := broadcastInDim S2x16x8192x8192 ![] bcast_S_S2x16x8192x8192 (constant S_ .f32 0x00000000#32)

/-- The logits. -/
def zA : FVec Ideal S2x16x8192x8192 .f32 :=
  addf (mulf (Host.dotGeneral dot_S2x8192x16x64_S2x8192x16x64_S2x16x8192x8192_3_3_1_1_02_02 none q k) (broadcastInDim S2x16x8192x8192 ![] bcast_S_S2x16x8192x8192 (constant S_ .f32 0x3E000000#32)))
    (broadcastInDim S2x16x8192x8192 ![0, 1, 2, 3] bcast_S1x16x1x1_S2x16x8192x8192_0_1_2_3 (broadcastInDim S1x16x1x1 ![1] bcast_S16_S1x16x1x1_1 b))

/-- The keys before each query. -/
def mA : IVec S2x16x8192x8192 1 :=
  broadcastInDim S2x16x8192x8192 ![2, 3] bcast_S8192x8192_S2x16x8192x8192_2_3 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

def softA (x : FVec Ideal S2x16x8192x8192 .f32) : FVec Ideal S2x16x8192x8192 .f32 :=
  select (cmpf .une (subf x zeros) (subf x zeros)) (addf x zeros) (addf (maximumf x zeros) (Host.log1p (Host.exp (Host.negf (Host.absf (subf x zeros))))))

def spA : FVec Ideal S2x16x8192x8192 .f32 := select mA (softA (zA q k b)) zeros

def cumA (x : FVec Ideal S2x16x8192x8192 .f32) : FVec Ideal S2x16x8192x8192 .f32 :=
  Host.reduceWindowAdd ![1, 1, 1, 8192] ![1, 1, 1, 1] ![0, 0, 0, 0] ![0, 0, 0, 8191] x (broadcastInDim S_ ![] bcast_S_S_ (constant S_ .f32 0x00000000#32)) reduceWindows_S2x16x8192x8192_S2x16x8192x8192_w1s1p0_0_w1s1p0_0_w1s1p0_0_w8192s1p0_8191 h_S_

def wA : FVec Ideal S2x16x8192x8192 .f32 :=
  select mA (Host.exp (subf (Host.negf (softA (Host.negf (zA q k b)))) (subf (cumA (spA q k b)) (spA q k b)))) zeros

def outA (w : FVec Ideal S2x16x8192x8192 .f32) : FVec Ideal S16384x1024 .bf16 :=
  truncf .bf16 (shapeCast S16384x1024 (transpose S2x8192x16x64 [0, 3, 1, 2] (Host.dotGeneral dot_S2x8192x16x64_S2x16x8192x8192_S2x16x64x8192_1_3_3_2_02_01 none v w) transposes_S2x16x64x8192_S2x8192x16x64_0_3_1_2) shapeCasts_S2x8192x16x64_S16384x1024) bitsLt_bf16_f32

theorem res_eq (m : (ℓ : Loc nD τ sig) → Buf (Elt Ideal) ℓ) (c : Dev nD) :
    res_main_v23 m c = outA (m ((c.tc : Thread nD τ).loc main_arg2)) (wA (m ((c.tc : Thread nD τ).loc main_arg0)) (m ((c.tc : Thread nD τ).loc main_arg1)) (m ((c.tc : Thread nD τ).loc main_arg3))) := rfl

theorem eighth : Ideal.ofBits .f32 0x3E000000#32 = ((1 / 8 : ℝ) : EReal) := by
  simp [Ideal.ofBits, Ideal.ieee, -EReal.coe_mul]
  norm_num

theorem sel_of (p : Prop) [Decidable p] (a b : EReal) : Scalar.select (BitVec.ofBool (decide p)) a b = if p then a else b := by
  by_cases h : p <;> simp [Scalar.select, h]

theorem zA_at (e : Fin 2) (h : Fin 16) (t s : Fin 8192) :
    zA q k b (ix4 e h t s) = (∑ d : Fin 64, q (ix4 e t h d) * k (ix4 e s h d)) * ((1 / 8 : ℝ) : EReal) + b (ix1 h) := by
  pointwise [zA]
  rw [eighth]

theorem softA_at (x : FVec Ideal S2x16x8192x8192 .f32) (e : Fin 2) (h : Fin 16) (t s : Fin 8192) :
    softA x (ix4 e h t s) = spE (x (ix4 e h t s)) := by
  pointwise [softA, zeros]
  simp
  rfl

theorem mA_at (e : Fin 2) (h : Fin 16) (t s : Fin 8192) : mA (ix4 e h t s) = BitVec.ofBool (decide (s.val < t.val)) := by
  pointwise [mA]
  exact cmpi_slt_ofNat (by have := s.isLt; omega) (by have := t.isLt; omega)

theorem zeros_at (i : S2x16x8192x8192.Idx) : zeros i = (0 : EReal) := by
  pointwise [zeros]

theorem spA_at (e : Fin 2) (h : Fin 16) (t s : Fin 8192) :
    spA q k b (ix4 e h t s) = if s.val < t.val then spE (zA q k b (ix4 e h t s)) else 0 := by
  show Scalar.select (mA (ix4 e h t s)) (softA _ (ix4 e h t s)) (zeros (ix4 e h t s)) = _
  rw [mA_at, softA_at, zeros_at]
  exact sel_of _ _ _

theorem outA_at (w : FVec Ideal S2x16x8192x8192 .f32) (e : Fin 2) (h : Fin 16) (t : Fin 8192) (d : Fin 64) :
    outA v w (ix2 ⟨8192 * e.val + t.val, by omega⟩ ⟨64 * h.val + d.val, by omega⟩) = ∑ s : Fin 8192, v (ix4 e s h d) * w (ix4 e h t s) := by
  pointwise [outA]

theorem foldl_add {ι : Type} (g : ι → EReal) : ∀ (L : List ι) (a : EReal), L.foldl (fun r n => r + g n) a = a + (L.map g).sum
  | [], a => by simp
  | n :: L, a => by simp [foldl_add g L, add_assoc]

/-- A window sum is the sum over the window's positions. -/
theorem window_sum {s t : Shape} (window strides lo hi : Fin s.rank → Nat) (h : s.ReduceWindows window strides lo hi t)
    (x : s.Idx → EReal) (v : EReal) (j : t.Idx) :
    Ideal.hostReduceWindowAdd window strides lo hi h x v j = v + ∑ w : (⟨s.rank, window⟩ : Shape).Idx,
      if hin : ∀ a, lo a ≤ (j (a.cast h.1.symm)).val * strides a + (w a).val ∧ (j (a.cast h.1.symm)).val * strides a + (w a).val - lo a < s.size a
      then x (fun a => ⟨(j (a.cast h.1.symm)).val * strides a + (w a).val - lo a, (hin a).2⟩) else v := by
  refine (foldl_add _ _ _).trans ?_
  rw [← Fin.sum_univ_def]
  exact congrArg (v + ·) ((Finset.sum_congr rfl fun n _ => dite_congr rfl (fun _ => rfl) (fun _ => rfl)).trans (Equiv.sum_comp (Shape.rowMajor ⟨s.rank, window⟩).symm (fun w => if hin : ∀ a, lo a ≤ (j (a.cast h.1.symm)).val * strides a + (w a).val ∧ (j (a.cast h.1.symm)).val * strides a + (w a).val - lo a < s.size a
      then x (fun a => ⟨(j (a.cast h.1.symm)).val * strides a + (w a).val - lo a, (hin a).2⟩) else v)))

/-- The window's positions, one for each distance. -/
def pos (n : Fin 8192) : (⟨4, ![1, 1, 1, 8192]⟩ : Shape).Idx := ix4 0 0 0 n

theorem pos_bij : Function.Bijective pos := by
  constructor
  · intro a c h
    exact congrFun h 3
  · intro i
    refine ⟨i 3, funext fun a => ?_⟩
    fin_cases a
    · exact Subsingleton.elim (α := Fin 1) _ _
    · exact Subsingleton.elim (α := Fin 1) _ _
    · exact Subsingleton.elim (α := Fin 1) _ _
    · rfl

/-- The sum over a window of 8192 keys starting at this one. -/
theorem cumA_at (x : FVec Ideal S2x16x8192x8192 .f32) (e : Fin 2) (h : Fin 16) (t s : Fin 8192) :
    cumA x (ix4 e h t s) = ∑ n : Fin 8192, if hn : s.val + n.val < 8192 then x (ix4 e h t ⟨s.val + n.val, hn⟩) else 0 := by
  have h0 : broadcastInDim S_ ![] bcast_S_S_ (constant (F := Ideal) S_ .f32 0x00000000#32) (Shape.Idx.first h_S_) = (0 : EReal) := Ideal.ofBits_zero_f32
  have h1 : cumA x (ix4 e h t s) = Ideal.hostReduceWindowAdd ![1, 1, 1, 8192] ![1, 1, 1, 1] ![0, 0, 0, 0] ![0, 0, 0, 8191]
      reduceWindows_S2x16x8192x8192_S2x16x8192x8192_w1s1p0_0_w1s1p0_0_w1s1p0_0_w8192s1p0_8191 x 0 (ix4 e h t s) := by
    unfold cumA Host.reduceWindowAdd
    rw [h0]
    rfl
  rw [h1]
  rw [window_sum]
  rw [zero_add]
  refine (Function.Bijective.sum_comp pos_bij _).symm.trans ?_
  refine Finset.sum_congr rfl fun n _ => ?_
  have hc : (∀ a : Fin 4, (![0, 0, 0, 0] : Fin 4 → Nat) a ≤ (ix4 e h t s a).val * (![1, 1, 1, 1] : Fin 4 → Nat) a + (pos n a).val ∧ (ix4 e h t s a).val * (![1, 1, 1, 1] : Fin 4 → Nat) a + (pos n a).val - (![0, 0, 0, 0] : Fin 4 → Nat) a < S2x16x8192x8192.size a) ↔ s.val + n.val < 8192 := by
    constructor
    · intro H
      have := (H 3).2
      change s.val * 1 + n.val - 0 < 8192 at this
      omega
    · intro H a
      fin_cases a
      · show 0 ≤ e.val * 1 + 0 ∧ e.val * 1 + 0 - 0 < 2
        omega
      · show 0 ≤ h.val * 1 + 0 ∧ h.val * 1 + 0 - 0 < 16
        omega
      · show 0 ≤ t.val * 1 + 0 ∧ t.val * 1 + 0 - 0 < 8192
        omega
      · show 0 ≤ s.val * 1 + n.val ∧ s.val * 1 + n.val - 0 < 8192
        omega
  by_cases hn : s.val + n.val < 8192
  · rw [dif_pos hn]
    refine (dif_pos (hc.2 hn)).trans ?_
    refine congrArg x (funext fun a => Fin.ext ?_)
    fin_cases a
    · show e.val * 1 + 0 - 0 = e.val
      omega
    · show h.val * 1 + 0 - 0 = h.val
      omega
    · show t.val * 1 + 0 - 0 = t.val
      omega
    · show s.val * 1 + n.val - 0 = s.val + n.val
      omega
  · rw [dif_neg hn]
    exact dif_neg (fun H => hn (hc.1 H))

/-! The values at finite arguments. -/

/-- A key's number. -/
def key (s : ℕ) : Fin 8192 := ⟨s % 8192, Nat.mod_lt _ (by norm_num)⟩

/-- The logit of a query and a key. -/
def zG (qr kr : S2x8192x16x64.Idx → ℝ) (br : S16.Idx → ℝ) (e : Fin 2) (h : Fin 16) (t : Fin 8192) (s : ℕ) : ℝ :=
  (∑ d : Fin 64, qr (ix4 e t h d) * kr (ix4 e (key s) h d)) * (1 / 8) + br (ix1 h)

/-- What a key takes from those before it. -/
def sG (qr kr : S2x8192x16x64.Idx → ℝ) (br : S16.Idx → ℝ) (e : Fin 2) (h : Fin 16) (t : Fin 8192) (s : ℕ) : ℝ :=
  if s < t.val then spR (zG qr kr br e h t s) else 0

/-- The weight of a key. -/
def wG (qr kr : S2x8192x16x64.Idx → ℝ) (br : S16.Idx → ℝ) (e : Fin 2) (h : Fin 16) (t : Fin 8192) (s : ℕ) : ℝ :=
  if s < t.val then Real.exp (zG qr kr br e h t s - ∑ x ∈ Finset.Ico s 8192, sG qr kr br e h t x) else 0

theorem key_val (s : Fin 8192) : key s.val = s := Fin.ext (Nat.mod_eq_of_lt s.isLt)

section Real

variable {q k b} {qr kr : S2x8192x16x64.Idx → ℝ} {br : S16.Idx → ℝ}
  (hq : ∀ y, q y = ((qr y : ℝ) : EReal)) (hk : ∀ y, k y = ((kr y : ℝ) : EReal)) (hb : ∀ y, b y = ((br y : ℝ) : EReal))
include hq hk hb

theorem zA_real (e : Fin 2) (h : Fin 16) (t s : Fin 8192) : zA q k b (ix4 e h t s) = ((zG qr kr br e h t s.val : ℝ) : EReal) := by
  rw [zA_at, hb]
  simp only [hq, hk, ← EReal.coe_mul, ← coe_sum, ← EReal.coe_add]
  rw [zG, key_val]

theorem spA_real (e : Fin 2) (h : Fin 16) (t s : Fin 8192) : spA q k b (ix4 e h t s) = ((sG qr kr br e h t s.val : ℝ) : EReal) := by
  rw [spA_at, zA_real hq hk hb, spE_coe, sG]
  split <;> rfl

theorem cum_real (e : Fin 2) (h : Fin 16) (t s : Fin 8192) :
    cumA (spA q k b) (ix4 e h t s) = ((∑ x ∈ Finset.Ico s.val 8192, sG qr kr br e h t x : ℝ) : EReal) := by
  have hs := s.isLt
  rw [cumA_at]
  have : ∀ n : Fin 8192, (if hn : s.val + n.val < 8192 then spA q k b (ix4 e h t ⟨s.val + n.val, hn⟩) else (0 : EReal)) = ((if s.val + n.val < 8192 then sG qr kr br e h t (s.val + n.val) else 0 : ℝ) : EReal) := by
    intro n
    by_cases hn : s.val + n.val < 8192
    · rw [dif_pos hn, if_pos hn, spA_real hq hk hb]
    · rw [dif_neg hn, if_neg hn]
      rfl
  simp only [this]
  rw [← coe_sum, EReal.coe_eq_coe_iff]
  rw [Fin.sum_univ_eq_sum_range (fun n => if s.val + n < 8192 then sG qr kr br e h t (s.val + n) else 0) 8192, Finset.sum_Ico_eq_sum_range, ← Finset.sum_filter]
  refine Finset.sum_congr ?_ fun _ _ => rfl
  ext n
  simp only [Finset.mem_filter, Finset.mem_range]
  omega

theorem wA_real (e : Fin 2) (h : Fin 16) (t s : Fin 8192) : wA q k b (ix4 e h t s) = ((wG qr kr br e h t s.val : ℝ) : EReal) := by
  show Scalar.select (mA (ix4 e h t s)) (Ideal.exp (-softA (Host.negf (zA q k b)) (ix4 e h t s) - (cumA (spA q k b) (ix4 e h t s) - spA q k b (ix4 e h t s)))) (zeros (ix4 e h t s)) = _
  rw [mA_at, softA_at, zeros_at, cum_real hq hk hb, spA_real hq hk hb]
  show Scalar.select _ (Ideal.exp (-spE (-zA q k b (ix4 e h t s)) - _)) _ = _
  rw [zA_real hq hk hb, ← EReal.coe_neg, spE_coe, spR_neg, ← EReal.coe_neg, ← EReal.coe_sub, ← EReal.coe_sub, exp_coe, sel_of, wG, sG]
  split
  · congr 2
    ring
  · rfl

/-- The reference's result: the values weighted. -/
theorem out_real (e : Fin 2) (h : Fin 16) (t : Fin 8192) (d : Fin 64) :
    outA v (wA q k b) (ix2 ⟨8192 * e.val + t.val, by omega⟩ ⟨64 * h.val + d.val, by omega⟩) = ∑ s : Fin 8192, v (ix4 e s h d) * ((wG qr kr br e h t s.val : ℝ) : EReal) := by
  rw [outA_at]
  simp only [wA_real hq hk hb]

end Real

end Cert.Proof.Attn.Ref

end
-- ==== Proof.ArrayValue.lean ====
/-
  The result array after the call, and the equation with the reference's result.
-/
module

public import proofs.«01_k».proof.Proof.Entry
public import proofs.«01_k».proof.Proof.RefValue

@[expose] public section

set_option maxRecDepth 16384

noncomputable section

namespace Cert.Proof.Attn

open Cert.KernelIdeal Cert.KernelIdeal.Gen Cert.Proof.Attn.Ref
open Idealize.ShloMosaic Idealize.ShloMosaic.TcCoe Idealize.ShloMosaic.WordCmp

/-- The head a point's local head is. -/
def hd (i : grid0.Coords) (h : ℕ) : Fin 16 := ⟨(8 * (i 1).val + h) % 16, Nat.mod_lt _ (by norm_num)⟩

/-- The query a point's local row is. -/
def qrow (i : grid0.Coords) (r : Fin 512) : Fin 8192 := ⟨512 * (i 2).val + r.val, by have : (i 2).val < 16 := (i 2).isLt; omega⟩

def lane (c : ℕ) : Fin 64 := ⟨c % 64, Nat.mod_lt _ (by norm_num)⟩

section Blocks

variable (qr kr : Cert.ReferenceIdeal.S2x8192x16x64.Idx → ℝ) (br : Cert.ReferenceIdeal.S16.Idx → ℝ)

def qf (i : grid0.Coords) (r : Fin 512) (c : ℕ) : ℝ := qr (ix4 (i 0) (qrow i r) (hd i (c / 64)) (lane c))
def kf (i : grid0.Coords) (s c : ℕ) : ℝ := kr (ix4 (i 0) (key s) (hd i (c / 64)) (lane c))
def bf (i : grid0.Coords) (h : ℕ) : ℝ := br (ix1 (hd i h))

theorem zz_eq (i : grid0.Coords) (r : Fin 512) (h s : ℕ) :
    zz (qf qr i) (kf kr i) (bf br i) r h s = zG qr kr br (i 0) (hd i h) (qrow i r) s := by
  have e1 : ∀ d : Fin 64, (64 * h + d.val) / 64 = h := fun d => by omega
  have e2 : ∀ d : Fin 64, lane (64 * h + d.val) = d := fun d => Fin.ext (by show (64 * h + d.val) % 64 = d.val; omega)
  simp only [zz, zG, qf, kf, bf, e1, e2]

theorem sg_eq (i : grid0.Coords) (r : Fin 512) (h s : ℕ) :
    sg i (qf qr i) (kf kr i) (bf br i) r h s = sG qr kr br (i 0) (hd i h) (qrow i r) s := by
  rw [sg, zz_eq]
  rfl

theorem wt_eq (i : grid0.Coords) (r : Fin 512) (h s : ℕ) :
    wt i (qf qr i) (kf kr i) (bf br i) r h s = wG qr kr br (i 0) (hd i h) (qrow i r) s := by
  have hi : (i 2).val < 16 := (i 2).isLt
  have hr := r.isLt
  rw [wt, zz_eq]
  simp only [sg_eq]
  have e : ∑ x ∈ Finset.Ico s (top i), sG qr kr br (i 0) (hd i h) (qrow i r) x = ∑ x ∈ Finset.Ico s 8192, sG qr kr br (i 0) (hd i h) (qrow i r) x := by
    refine Finset.sum_subset (Finset.Ico_subset_Ico_right (by unfold top; omega)) fun x hx hn => ?_
    refine if_neg ?_
    rw [Finset.mem_Ico] at hx hn
    show ¬ x < 512 * (i 2).val + r.val
    unfold top at hn
    omega
  rw [e]
  rfl

theorem wG_top (i : grid0.Coords) (r : Fin 512) (h s : ℕ) (hs : top i ≤ s) : wG qr kr br (i 0) (hd i h) (qrow i r) s = 0 := by
  have hr := r.isLt
  refine if_neg ?_
  show ¬ s < 512 * (i 2).val + r.val
  unfold top at hs
  omega

theorem sum_keys (v : S2x8192x16x64.Idx → EReal) (e : Fin 2) (h : Fin 16) (t : Fin 8192) (d : Fin 64) :
    ∑ s : Fin 8192, v (ix4 e s h d) * ((wG qr kr br e h t s.val : ℝ) : EReal) = ∑ s ∈ Finset.range 8192, v (ix4 e (key s) h d) * ((wG qr kr br e h t s : ℝ) : EReal) := by
  rw [← Fin.sum_univ_eq_sum_range (fun s => v (ix4 e (key s) h d) * ((wG qr kr br e h t s : ℝ) : EReal)) 8192]
  simp only [key_val]

end Blocks

variable (m : (ℓ : Loc nD τ sig) → Buf (Elt Ideal) ℓ) (c : Dev nD)
  {qr kr : Cert.ReferenceIdeal.S2x8192x16x64.Idx → ℝ} {br : Cert.ReferenceIdeal.S16.Idx → ℝ}
  (hq : ∀ y, m ((c.tc : Thread nD τ).loc main_arg0) y = ((qr y : ℝ) : EReal))
  (hk : ∀ y, m ((c.tc : Thread nD τ).loc main_arg1) y = ((kr y : ℝ) : EReal))
  (hb : ∀ y, m ((c.tc : Thread nD τ).loc main_arg3) y = ((br y : ℝ) : EReal))
include hq hk hb

theorem holds (t : Fin cfg0.N) : Holds (grid0.coords t) (iblk m c 0 t) (iblk m c 1 t) (iblk m c 2 t) (iblk m c 4 t)
    (qf qr (grid0.coords t)) (kf kr (grid0.coords t)) (bf br (grid0.coords t)) := by
  have h1 : (grid0.coords t 1).val < 2 := (grid0.coords t 1).isLt
  refine ⟨fun r cc => ?_, fun j cc x => ?_, fun h hh => ?_, blk_tri m c t⟩
  · rw [blk_q, hq, qf]
    congr 3
    exact Fin.ext (by show 8 * (grid0.coords t 1).val + cc.val / 64 = (8 * (grid0.coords t 1).val + cc.val / 64) % 16; omega)
  · rw [blk_k, hk, kf]
    congr 3
    · exact Fin.ext (by show 256 * j.val + x.val = (256 * j.val + x.val) % 8192; omega)
    · exact Fin.ext (by show 8 * (grid0.coords t 1).val + cc.val / 64 = (8 * (grid0.coords t 1).val + cc.val / 64) % 16; omega)
  · have e : bwin (iblk m c 0 t) (8 * (grid0.coords t 1).val + h) = iblk m c 0 t (ix1 (hd (grid0.coords t) h)) :=
      congrArg (iblk m c 0 t) (funext fun d => by fin_cases d; rfl)
    rw [e, blk_b, hb, bf]

/-- The result array, row by row and head by head: the values weighted over the keys before. -/
theorem final (v : S2x8192x16x64.Idx → EReal) (hv : ∀ y, m ((c.tc : Thread nD τ).loc main_arg2) y = v y) (G : S16384x1024.Idx → EReal)
    (hG : ∀ (e : Fin 2) (h : Fin 16) (t : Fin 8192) (d : Fin 64), G (ix2 ⟨8192 * e.val + t.val, by omega⟩ ⟨64 * h.val + d.val, by omega⟩)
      = ∑ s : Fin 8192, v (ix4 e s h d) * ((wG qr kr br e h t s.val : ℝ) : EReal)) :
    (dats m 0 c).arrAt 5 cfg0.N = G := by
  refine (dats m 0 c).arrAt_eq_of_covers 5 _ (by decide +kernel) fun t hf y => ?_
  blk_simp
  rw [after0_5]
  obtain ⟨r, cc, rfl⟩ : ∃ r cc : Fin 512, y = ix2 r cc := ⟨y 0, y 1, funext fun a => by fin_cases a <;> rfl⟩
  have h1 : (grid0.coords t 1).val < 2 := (grid0.coords t 1).isLt
  have h2 : (grid0.coords t 2).val < 16 := (grid0.coords t 2).isLt
  have hr := r.isLt
  have hc := cc.isLt
  have he : (win0_5.blk t).view.emb (ix2 r cc) = ix2 ⟨8192 * (grid0.coords t 0).val + (qrow (grid0.coords t) r).val, by
        have : (grid0.coords t 0).val < 2 := (grid0.coords t 0).isLt
        have := (qrow (grid0.coords t) r).isLt
        omega⟩ ⟨64 * (hd (grid0.coords t) (cc.val / 64)).val + (lane cc.val).val, by
        have := (hd (grid0.coords t) (cc.val / 64)).isLt
        have := (lane cc.val).isLt
        omega⟩ := by
    unfold qrow hd lane
    blk_ext [e5 t]
  rw [he]
  refine (outD_at (holds m c hq hk hb t) r cc).trans (Eq.trans ?_ (hG _ _ _ _).symm)
  simp only [wt_eq]
  refine Eq.trans ?_ (sum_keys qr kr br v (grid0.coords t 0) (hd (grid0.coords t) (cc.val / 64)) (qrow (grid0.coords t) r) (lane cc.val)).symm
  refine Eq.trans ?_ (Finset.sum_subset (s₁ := Finset.range (top (grid0.coords t))) (Finset.range_subset_range.2 (by unfold top; omega)) fun s _ hn => ?_)
  · refine Finset.sum_congr rfl fun s _ => ?_
    rw [mul_comm, blk_v]
    refine congrArg (· * _) ((hv _).trans (congrArg v ?_))
    show ix4 (grid0.coords t 0) (key s) _ _ = _
    congr 1
    exact Fin.ext (by show 8 * (grid0.coords t 1).val + cc.val / 64 = (8 * (grid0.coords t 1).val + cc.val / 64) % 16; omega)
  · rw [wG_top _ _ _ _ _ _ _ (by simpa using hn)]
    exact mul_zero _

end Cert.Proof.Attn

end
-- ==== Proof.PreValue.lean ====
/-
  The precondition read: every query, key and bias is a real number.
-/
module

public import proofs.«01_k».proof.Pre_finite_logits
public import Idealize.ShloMosaic.Lib.ReduceAll
public import Idealize.ShloMosaic.Lib.Pointwise

@[expose] public section

set_option maxRecDepth 16384

noncomputable section

namespace Cert.Proof.Attn.Finite

open Cert.Pre_finite_logits
open Idealize.ShloMosaic

theorem facts : Cert.Pre_finite_logits.Facts := ⟨by decide, by decide, by decide, by decide, by decide⟩

attribute [local instance] facts

theorem infty : Ideal.ofBits .f32 0x7F800000#32 = (⊤ : EReal) := by
  simp [Ideal.ofBits, Ideal.ieee]

/-- An extended real whose absolute value is below +∞ is a real. -/
theorem real_of_lt (x : EReal) (h : BitVec.ofBool (decide (max x (-x) < ⊤)) = 1#1) : x = ((x.toReal : ℝ) : EReal) := by
  induction x using EReal.rec with
  | bot => simp at h
  | top => simp at h
  | coe r => simp

theorem elt {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) : x i = (((x i).toReal : ℝ) : EReal) := by
  change BitVec.ofBool (decide (max (x i) (-x i) < Ideal.ofBits .f32 0x7F800000#32)) = 1#1 at h
  rw [infty] at h
  exact real_of_lt _ h

instance : Subsingleton S_.Idx := ⟨fun _ _ => funext fun a => a.elim0⟩

theorem and_one {a b : BitVec 1} (h : IntOp.andi a b = 1#1) : a = 1#1 ∧ b = 1#1 := by
  revert a b
  decide

theorem real_of_fn (q k v : FVec Ideal S2x8192x16x64 .f32) (b : FVec Ideal S16 .f32) (h : fn q k v b (Shape.Idx.first Facts.h_S_) = 1#1) :
    (∀ y, q y = (((q y).toReal : ℝ) : EReal)) ∧ (∀ y, k y = (((k y).toReal : ℝ) : EReal)) ∧ (∀ y, b y = (((b y).toReal : ℝ) : EReal)) := by
  unfold fn at h
  obtain ⟨h1, h3⟩ := and_one h
  obtain ⟨h1, h2⟩ := and_one h1
  refine ⟨fun y => elt q _ y (Host.reduce_andi_all _ _ _ _ _ h1 y), fun y => elt k _ y (Host.reduce_andi_all _ _ _ _ _ h2 y), fun y => elt b _ y (Host.reduce_andi_all _ _ _ _ _ h3 y)⟩

end Cert.Proof.Attn.Finite

end
-- ==== Proof.Equation.lean ====
/-
  The claim: on finite queries, keys and biases the kernel and the reference compute the same array.
-/
module

public import proofs.«01_k».proof.Defs
public import proofs.«01_k».proof.Proof.ArrayValue
public import proofs.«01_k».proof.Proof.PreValue
public import proofs.«01_k».proof.Proof.RefFrame
public import proofs.«01_k».proof.Proof.KernelFrame

@[expose] public section

noncomputable section

namespace Cert.Proof.Attn

open Idealize.ShloMosaic Idealize.ShloMosaic.TcCoe Idealize.SL.Sem
open Cert.KernelIdeal Cert.KernelIdeal.Gen

/-- The run's result array and arguments. -/
theorem value_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v8) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 5, (h.2.1 c)⟩) (θ_run_and (run_main m ρ) (frame_run m ρ))

theorem algebraic : Cert.algebraic_KernelIdeal_ReferenceIdeal_pre_finite_logits (hKernelIdeal := Cert.KernelIdeal.Gen.facts)
    (hReferenceIdeal := Cert.ReferenceIdeal.Gen.facts) (hPre_finite_logits := Finite.facts) := by
  intro m g m' g' hpre hagree
  refine ⟨fun c => Cert.ReferenceIdeal.Value.res_main_v23 m' c, ?_, Cert.ReferenceIdeal.Value.run (F := Ideal) m' g'⟩
  refine (θ_run defs _ _).mono (fun _ h c => ⟨(h c).1.trans ?_, (h c).2⟩) (value_run m g)
  obtain ⟨hq, hk, hb⟩ := Finite.real_of_fn _ _ _ _ (congrFun (hpre c) _)
  obtain ⟨a0, a1, a2, a3⟩ := hagree c
  refine final m c hq hk hb (m ((c.tc : Thread nD τ).loc main_arg2)) (fun _ => rfl) _ fun e h t d => ?_
  refine (congrFun (Ref.res_eq m' c) _).trans ?_
  have e0 : m' ((c.tc : Thread Cert.ReferenceIdeal.nD Cert.ReferenceIdeal.τ).loc Cert.ReferenceIdeal.main_arg0) = m ((c.tc : Thread nD τ).loc main_arg0) := a0
  have e1 : m' ((c.tc : Thread Cert.ReferenceIdeal.nD Cert.ReferenceIdeal.τ).loc Cert.ReferenceIdeal.main_arg1) = m ((c.tc : Thread nD τ).loc main_arg1) := a1
  have e2 : m' ((c.tc : Thread Cert.ReferenceIdeal.nD Cert.ReferenceIdeal.τ).loc Cert.ReferenceIdeal.main_arg2) = m ((c.tc : Thread nD τ).loc main_arg2) := a2
  have e3 : m' ((c.tc : Thread Cert.ReferenceIdeal.nD Cert.ReferenceIdeal.τ).loc Cert.ReferenceIdeal.main_arg3) = m ((c.tc : Thread nD τ).loc main_arg3) := a3
  rw [e0, e1, e2, e3]
  exact Ref.out_real _ hq hk hb e h t d

theorem frame_ideal_pre : Cert.quiescent_KernelIdeal_pre_finite_logits (hKernelIdeal := Cert.KernelIdeal.Gen.facts) (hPre_finite_logits := Finite.facts) :=
  fun m g _ => frame_ideal m g trivial

theorem frame_reference_pre : Cert.quiescent_ReferenceIdeal_pre_finite_logits (hReferenceIdeal := Cert.ReferenceIdeal.Gen.facts) (hPre_finite_logits := Finite.facts) :=
  fun m g _ => frame_reference m g trivial

end Cert.Proof.Attn

end
-- ==== Proof.FfnRow.lean ====
/-
  One row through the gated feed-forward layer, over the extended reals.
-/
module

public import Idealize.ShloMosaic.PureOps.Ideal
public import Mathlib.Algebra.BigOperators.Fin

@[expose] public section

noncomputable section

namespace Cert.Proof.Ffn

open Idealize.ShloMosaic

/-- The row over its root mean square, times the gain. -/
def rms (x g : Fin 1024 → EReal) (k : Fin 1024) : EReal :=
  x k * Ideal.rsqrt (Ideal.div (∑ j : Fin 1024, x j * x j) (Ideal.ofBits .f32 0x44800000#32) + Ideal.ofBits .f32 0x358637BD#32) * g k

/-- A row times the weights' column. -/
def dot (h : Fin 1024 → EReal) (w : Fin 1024 → Fin 5632 → EReal) (f : Fin 5632) : EReal := ∑ k : Fin 1024, h k * w k f

/-- The gate's column `f`, times its logistic, times the column `f` of the second half. -/
def act (h : Fin 1024 → EReal) (w : Fin 1024 → Fin 5632 → EReal) (f : Fin 2816) : EReal :=
  dot h w ⟨f.val, by omega⟩ * Ideal.logistic (dot h w ⟨f.val, by omega⟩) * dot h w ⟨2816 + f.val, by omega⟩

/-- The layer's row: half the feed-forward of the normalized row, added to the row. -/
def row (x g : Fin 1024 → EReal) (w : Fin 1024 → Fin 5632 → EReal) (u : Fin 2816 → Fin 1024 → EReal) (c : Fin 1024) : EReal :=
  x c + Ideal.ofBits .f32 0x3F000000#32 * ∑ f : Fin 2816, act (rms x g) w f * u f c

/-- A sum over the 2816 columns in the three pieces the kernel takes it in. -/
theorem sum_pieces (g : Fin 2816 → EReal) :
    ∑ f : Fin 2816, g f = (∑ a : Fin 1024, g ⟨a.val, by omega⟩) + (∑ a : Fin 1024, g ⟨1024 + a.val, by omega⟩) + ∑ a : Fin 768, g ⟨2048 + a.val, by omega⟩ := by
  rw [Fin.sum_univ_add (a := 2048) (b := 768) g, Fin.sum_univ_add (a := 1024) (b := 1024) fun i => g (Fin.castAdd 768 i)]
  rfl

end Cert.Proof.Ffn

end
-- ==== Proof.FfnAPay.lean ====
/-
  What the layer's body computes from its blocks, row by row.
-/
module

public import proofs.«01_k».proof.Proof.Gen.KernelFfnAIdeal.Frame
public import proofs.«01_k».proof.Proof.FfnRow
public import Idealize.ShloMosaic.Lib.Pointwise
public import Idealize.ShloMosaic.Lib.Pipeline.ValueKit.Tiles

@[expose] public section

set_option maxRecDepth 16384

noncomputable section

namespace Cert.Proof.FfnA

open Cert.KernelFfnAIdeal Cert.KernelFfnAIdeal.Gen Cert.Proof.Ffn
open Idealize.ShloMosaic

variable (x : FVec Ideal S688x1024 .f32) (g : FVec Ideal S1x1024 .f32)

theorem norm_at (r : Fin 688) (k : Fin 1024) :
    k0_pay2 (F := Ideal) x g (ix2 r k) = rms (fun j => x (ix2 r j)) (fun j => g (ix2 0 j)) k := by
  pointwise [k0_pay2, rms]

theorem gate_at (w : FVec Ideal S1x1024x1024 .bf16) (W : Fin 1024 → EReal) (r : Fin 688) (f : Fin 1024) (hw : ∀ k, w (ix3 0 k f) = W k) :
    k0_pay4 (F := Ideal) x g w (ix2 r f) = ∑ k : Fin 1024, rms (fun j => x (ix2 r j)) (fun j => g (ix2 0 j)) k * W k := by
  pointwise [k0_pay4]
  simp only [norm_at, hw]

theorem first_at (w w' u : FVec Ideal S1x1024x1024 .bf16) (W W' : Fin 1024 → Fin 1024 → EReal) (U : Fin 1024 → EReal) (r : Fin 688) (c : Fin 1024)
    (hw : ∀ k f, w (ix3 0 k f) = W k f) (hw' : ∀ k f, w' (ix3 0 k f) = W' k f) (hu : ∀ f, u (ix3 0 f c) = U f) :
    k0_pay3 (F := Ideal) x g w w' u (ix2 r c) = ∑ f : Fin 1024, (let h := rms (fun j => x (ix2 r j)) (fun j => g (ix2 0 j))
      (∑ k : Fin 1024, h k * W k f) * Ideal.logistic (∑ k : Fin 1024, h k * W k f) * (∑ k : Fin 1024, h k * W' k f)) * U f := by
  pointwise [k0_pay3]
  simp only [norm_at, hw, hw', hu]

theorem last_at (h : FVec Ideal S688x1024 .bf16) (p z : FVec Ideal S688x1024 .f32) (w' u : FVec Ideal S1x1024x1024 .bf16)
    (w2 w2' : FVec Ideal S1x1024x768 .bf16) (u2 : FVec Ideal S1x768x1024 .bf16) (r : Fin 688) (c : Fin 1024)
    (H : Fin 1024 → EReal) (P : EReal) (Z U : Fin 1024 → EReal) (W' : Fin 1024 → Fin 1024 → EReal) (W2 W2' : Fin 1024 → Fin 768 → EReal) (U2 : Fin 768 → EReal)
    (hh : ∀ k, h (ix2 r k) = H k) (hp : p (ix2 r c) = P) (hz : ∀ f, z (ix2 r f) = Z f) (hw' : ∀ k f, w' (ix3 0 k f) = W' k f) (hu : ∀ f, u (ix3 0 f c) = U f)
    (hw2 : ∀ k f, w2 (ix3 0 k f) = W2 k f) (hw2' : ∀ k f, w2' (ix3 0 k f) = W2' k f) (hu2 : ∀ f, u2 (ix3 0 f c) = U2 f) :
    k0_pay1 (F := Ideal) x h p z w' u w2 w2' u2 (ix2 r c) = x (ix2 r c) + Ideal.ofBits .f32 0x3F000000#32 * (P
      + (∑ f : Fin 1024, Z f * Ideal.logistic (Z f) * (∑ k : Fin 1024, H k * W' k f) * U f)
      + (∑ f : Fin 768, (∑ k : Fin 1024, H k * W2 k f) * Ideal.logistic (∑ k : Fin 1024, H k * W2 k f)
          * (∑ k : Fin 1024, H k * W2' k f) * U2 f)) := by
  pointwise [k0_pay1]
  simp only [hh, hp, hz, hw', hu, hw2, hw2', hu2]

theorem hz : (![0, 0] : Fin 2 → Nat) = fun _ => 0 := funext fun a => by fin_cases a <;> rfl

theorem ld_w (w : FVec Ideal S1x1024x5632 .bf16) (o n : Nat) (hi) (k : Fin 1024) (f : Fin n) (e : Fin 5632) (he : e.val = o + f.val) :
    View.ld (Val := Elt Ideal) (e' := .bf16) w (Rect.unit (s := S1x1024x5632) ![0, 0, o] ![1, 1024, n] hi) (ix3 0 k f) = w (ix3 0 k e) := by
  refine congrArg w (funext fun a => ?_)
  match a with
  | ⟨0, _⟩ => rfl
  | ⟨1, _⟩ => exact Fin.ext ((Rect.idx_unit_val _ _ _ _ _).trans (by show 0 + k.val = k.val; omega))
  | ⟨2, _⟩ => exact Fin.ext ((Rect.idx_unit_val _ _ _ _ _).trans (by show o + f.val = e.val; omega))

theorem ld_u (u : FVec Ideal S1x2816x1024 .bf16) (o n : Nat) (hi) (f : Fin n) (c : Fin 1024) (e : Fin 2816) (he : e.val = o + f.val) :
    View.ld (Val := Elt Ideal) (e' := .bf16) u (Rect.unit (s := S1x2816x1024) ![0, o, 0] ![1, n, 1024] hi) (ix3 0 f c) = u (ix3 0 e c) := by
  refine congrArg u (funext fun a => ?_)
  match a with
  | ⟨0, _⟩ => rfl
  | ⟨1, _⟩ => exact Fin.ext ((Rect.idx_unit_val _ _ _ _ _).trans (by show o + f.val = e.val; omega))
  | ⟨2, _⟩ => exact Fin.ext ((Rect.idx_unit_val _ _ _ _ _).trans (by show 0 + c.val = c.val; omega))

section Loads

variable (w : FVec Ideal S1x1024x5632 .bf16) (u : FVec Ideal S1x2816x1024 .bf16) (k c f : Fin 1024) (f' : Fin 768)

theorem ld2 : View.ld (Val := Elt Ideal) (e' := .bf16) w r0_2 (ix3 0 k f) = w (ix3 0 k ⟨f.val, by omega⟩) := ld_w w 0 1024 _ k f _ (by show f.val = 0 + f.val; omega)
theorem ld3 : View.ld (Val := Elt Ideal) (e' := .bf16) w r0_3 (ix3 0 k f) = w (ix3 0 k ⟨2816 + f.val, by omega⟩) := ld_w w 2816 1024 _ k f _ rfl
theorem ld5 : View.ld (Val := Elt Ideal) (e' := .bf16) w r0_5 (ix3 0 k f) = w (ix3 0 k ⟨1024 + f.val, by omega⟩) := ld_w w 1024 1024 _ k f _ rfl
theorem ld6 : View.ld (Val := Elt Ideal) (e' := .bf16) w r0_6 (ix3 0 k f) = w (ix3 0 k ⟨2816 + (1024 + f.val), by omega⟩) := ld_w w 3840 1024 _ k f _ (by show 2816 + (1024 + f.val) = 3840 + f.val; omega)
theorem ld8 : View.ld (Val := Elt Ideal) (e' := .bf16) w r0_8 (ix3 0 k f') = w (ix3 0 k ⟨2048 + f'.val, by omega⟩) := ld_w w 2048 768 _ k f' _ rfl
theorem ld9 : View.ld (Val := Elt Ideal) (e' := .bf16) w r0_9 (ix3 0 k f') = w (ix3 0 k ⟨2816 + (2048 + f'.val), by omega⟩) := ld_w w 4864 768 _ k f' _ (by show 2816 + (2048 + f'.val) = 4864 + f'.val; omega)
theorem ld4 : View.ld (Val := Elt Ideal) (e' := .bf16) u r0_4 (ix3 0 f c) = u (ix3 0 ⟨f.val, by omega⟩ c) := ld_u u 0 1024 _ f c _ (by show f.val = 0 + f.val; omega)
theorem ld7 : View.ld (Val := Elt Ideal) (e' := .bf16) u r0_7 (ix3 0 f c) = u (ix3 0 ⟨1024 + f.val, by omega⟩ c) := ld_u u 1024 1024 _ f c _ rfl
theorem ld10 : View.ld (Val := Elt Ideal) (e' := .bf16) u r0_10 (ix3 0 f' c) = u (ix3 0 ⟨2048 + f'.val, by omega⟩ c) := ld_u u 2048 768 _ f' c _ rfl

end Loads

/-- The block the body leaves: each of its rows through the layer. -/
theorem out_at (w : FVec Ideal S1x1024x5632 .bf16) (u : FVec Ideal S1x2816x1024 .bf16) (r : Fin 688) (c : Fin 1024) :
    out0_4 (F := Ideal) x g w u (ix2 r c)
      = row (fun j => x (ix2 r j)) (fun j => g (ix2 0 j)) (fun k f => w (ix3 0 k f)) (fun f k => u (ix3 0 f k)) c := by
  unfold out0_4
  rw [View.canon_unit_zero hz, View.ld_unit_zero hz, View.ld_unit_zero hz]
  refine (last_at x _ _ _ _ _ _ _ _ r c _ _ _ _ _ _ _ _ (norm_at x g r) (first_at x g _ _ _ _ _ _ r c (ld2 w) (ld3 w) (ld4 u c))
    (fun f => gate_at x g _ _ r f fun k => ld5 w k f) (ld6 w) (ld7 u c) (ld8 w) (ld9 w) (ld10 u c)).trans ?_
  unfold row
  rw [sum_pieces]
  rfl

end Cert.Proof.FfnA

end
-- ==== Proof.FfnAValue.lean ====
/-
  The result array of the layer's call: every row of the argument through the layer.
-/
module

public import proofs.«01_k».proof.Proof.FfnAPay
public import Idealize.ShloMosaic.Lib.Claim
public import Idealize.ShloMosaic.Lib.Pipeline.ValueKit.Point

@[expose] public section

set_option maxRecDepth 16384

noncomputable section

namespace Cert.Proof.FfnA

open Cert.KernelFfnAIdeal Cert.KernelFfnAIdeal.Gen Cert.Proof.Ffn
open Idealize.ShloMosaic Idealize.ShloMosaic.TcCoe

variable (m : (ℓ : Loc nD τ sig) → Buf (Elt Ideal) ℓ)

theorem gain (c : Dev nD) (j : Fin 1024) : V m c main_v4 (ix2 0 j) = m ((c.tc : Thread nD τ).loc main_arg1) (ix2 1 j) := by
  entry_read
  pointwise

theorem weights (c : Dev nD) (k : Fin 1024) (f : Fin 5632) : V m c main_v2 (ix3 1 k f) = m ((c.tc : Thread nD τ).loc main_arg2) (ix3 1 k f) := by
  entry_read
  pointwise

theorem out_weights (c : Dev nD) (f : Fin 2816) (k : Fin 1024) : V m c main_v3 (ix3 1 f k) = m ((c.tc : Thread nD τ).loc main_arg3) (ix3 1 f k) := by
  entry_read
  pointwise

theorem e0 : ∀ t : Fin cfg0.N, win0_0.index t = ![(grid0.coords t 0).val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![1, 0, 0] := (by decide +kernel : ∀ t : Fin grid0.N, _)
theorem e3 : ∀ t : Fin cfg0.N, win0_3.index t = ![1, 0, 0] := (by decide +kernel : ∀ t : Fin grid0.N, _)
theorem e4 : ∀ t : Fin cfg0.N, win0_4.index t = ![(grid0.coords t 0).val, 0] := (by decide +kernel : ∀ t : Fin grid0.N, _)

/-- The array's row that a point's local row is. -/
def rowOf (t : Fin cfg0.N) (r : Fin 688) : Fin 16512 :=
  ⟨688 * (grid0.coords t 0).val + r.val, by have : (grid0.coords t 0).val < 24 := (grid0.coords t 0).isLt; omega⟩

theorem blk_x (c : Dev nD) (t : Fin cfg0.N) (r : Fin 688) (j : Fin 1024) :
    iblk m c 0 t (ix2 r j) = m ((c.tc : Thread nD τ).loc main_arg0) (ix2 (rowOf t r) j) := by
  refine Eq.trans ?_ (congrFun (V_main_arg0 m c) _)
  show V m c main_arg0 ((win0_0.blk t).view.emb (ix2 r j)) = _
  congr 1
  unfold rowOf
  blk_ext [e0 t]

theorem blk_g (c : Dev nD) (t : Fin cfg0.N) (j : Fin 1024) : iblk m c 1 t (ix2 0 j) = m ((c.tc : Thread nD τ).loc main_arg1) (ix2 1 j) := by
  refine Eq.trans ?_ (gain m c j)
  show V m c main_v4 ((win0_1.blk t).view.emb (ix2 0 j)) = _
  congr 1
  blk_ext [e1 t]

theorem blk_w (c : Dev nD) (t : Fin cfg0.N) (k : Fin 1024) (f : Fin 5632) :
    iblk m c 2 t (ix3 0 k f) = m ((c.tc : Thread nD τ).loc main_arg2) (ix3 1 k f) := by
  refine Eq.trans ?_ (weights m c k f)
  show V m c main_v2 ((win0_2.blk t).view.emb (ix3 0 k f)) = _
  congr 1
  blk_ext [e2 t]

theorem blk_u (c : Dev nD) (t : Fin cfg0.N) (f : Fin 2816) (k : Fin 1024) :
    iblk m c 3 t (ix3 0 f k) = m ((c.tc : Thread nD τ).loc main_arg3) (ix3 1 f k) := by
  refine Eq.trans ?_ (out_weights m c f k)
  show V m c main_v3 ((win0_3.blk t).view.emb (ix3 0 f k)) = _
  congr 1
  blk_ext [e3 t]

/-- The call's result is any array whose rows are the argument's rows through the layer. -/
theorem final (c : Dev nD) (G : FVec Ideal S16512x1024 .f32)
    (hG : ∀ (r : Fin 16512) (k : Fin 1024), G (ix2 r k) = row (fun j => m ((c.tc : Thread nD τ).loc main_arg0) (ix2 r j))
      (fun j => m ((c.tc : Thread nD τ).loc main_arg1) (ix2 1 j)) (fun k f => m ((c.tc : Thread nD τ).loc main_arg2) (ix3 1 k f))
      (fun f k => m ((c.tc : Thread nD τ).loc main_arg3) (ix3 1 f k)) k) :
    (dats m 0 c).arrAt 4 cfg0.N = G := by
  refine (dats m 0 c).arrAt_eq_of_covers 4 _ (by decide +kernel) fun t hf y => ?_
  blk_simp
  rw [after0_4]
  obtain ⟨r, k, rfl⟩ : ∃ (r : Fin 688) (k : Fin 1024), y = ix2 r k := ⟨y 0, y 1, funext fun a => by fin_cases a <;> rfl⟩
  have he : (win0_4.blk t).view.emb (ix2 r k) = ix2 (rowOf t r) k := by
    unfold rowOf
    blk_ext [e4 t]
  rw [he, hG]
  refine (out_at _ _ _ _ r k).trans ?_
  simp only [blk_x, blk_g, blk_w, blk_u]

end Cert.Proof.FfnA

end
-- ==== Proof.FfnARef.lean ====
/-
  What the layer's reference computes: every row of the argument through the layer.
-/
module

public import proofs.«01_k».proof.Proof.Gen.ReferenceFfnAIdeal.Run
public import proofs.«01_k».proof.Proof.FfnRow
public import Idealize.ShloMosaic.Lib.Pointwise

@[expose] public section

set_option maxRecDepth 16384

noncomputable section

namespace Cert.Proof.FfnA.Ref

open Cert.ReferenceFfnAIdeal Cert.ReferenceFfnAIdeal.Gen Cert.ReferenceFfnAIdeal.Value Cert.Proof.Ffn
open Idealize.ShloMosaic

variable (x : FVec Ideal S16512x1024 .f32) (g : FVec Ideal S4x1024 .f32) (w : FVec Ideal S4x1024x5632 .f32) (u : FVec Ideal S4x2816x1024 .f32)

/-- The normalized rows. -/
def normA : FVec Ideal S16512x1024 .f32 :=
  mulf (mulf x (broadcastInDim S16512x1024 ![0, 1] bcast_S16512x1_S16512x1024_0_1 (Host.rsqrt (addf (Host.divf (broadcastInDim S16512x1 ![0] bcast_S16512_S16512x1_0 (Host.reduceAdd (mulf x x) (constant S_ .f32 0x00000000#32) reducesTo_S16512x1024_S16512_d1 h_S_)) (broadcastInDim S16512x1 ![] bcast_S_S16512x1 (constant S_ .f32 0x44800000#32))) (broadcastInDim S16512x1 ![] bcast_S_S16512x1 (constant S_ .f32 0x358637BD#32))))))
    (broadcastInDim S16512x1024 ![0, 1] bcast_S1x1024_S16512x1024_0_1 (broadcastInDim S1x1024 ![1] bcast_S1024_S1x1024_1 (shapeCast _ (extractStridedSlice S1x1024 ![1, 0] g slices_S4x1024_S1x1024_1_0) shapeCasts_S1x1024_S1024)))

/-- Both halves of the first product. -/
def bothA (h : FVec Ideal S16512x1024 .f32) : FVec Ideal S16512x5632 .f32 :=
  Host.dotGeneral dot_S16512x1024_S1024x5632_S16512x5632_1_0_0_1_n_n none h (shapeCast _ (extractStridedSlice S1x1024x5632 ![1, 0, 0] w slices_S4x1024x5632_S1x1024x5632_1_0_0) shapeCasts_S1x1024x5632_S1024x5632)

def ones : FVec Ideal S16512x2816 .f32 := broadcastInDim S16512x2816 ![] bcast_S_S16512x2816 (constant S_ .f32 0x3F800000#32)

/-- The gated half. -/
def actA (p : FVec Ideal S16512x5632 .f32) : FVec Ideal S16512x2816 .f32 :=
  mulf (mulf (extractStridedSlice S16512x2816 ![0, 0] p slices_S16512x5632_S16512x2816_0_0)
      (Host.divf ones (addf ones (Host.exp (Host.negf (extractStridedSlice S16512x2816 ![0, 0] p slices_S16512x5632_S16512x2816_0_0))))))
    (extractStridedSlice S16512x2816 ![0, 2816] p slices_S16512x5632_S16512x2816_0_2816)

def outA (a : FVec Ideal S16512x2816 .f32) : FVec Ideal S16512x1024 .f32 :=
  addf x (mulf (broadcastInDim S16512x1024 ![] bcast_S_S16512x1024 (constant S_ .f32 0x3F000000#32)) (Host.dotGeneral dot_S16512x2816_S2816x1024_S16512x1024_1_0_0_1_n_n none a (shapeCast _ (extractStridedSlice S1x2816x1024 ![1, 0, 0] u slices_S4x2816x1024_S1x2816x1024_1_0_0) shapeCasts_S1x2816x1024_S2816x1024)))

theorem res_eq (m : (ℓ : Loc nD τ sig) → Buf (Elt Ideal) ℓ) (c : Dev nD) :
    res_main_v27 m c = outA (m ((c.tc : Thread nD τ).loc main_arg0)) (m ((c.tc : Thread nD τ).loc main_arg3)) (actA (bothA (m ((c.tc : Thread nD τ).loc main_arg2)) (normA (m ((c.tc : Thread nD τ).loc main_arg0)) (m ((c.tc : Thread nD τ).loc main_arg1))))) := rfl

theorem norm_at (r : Fin 16512) (k : Fin 1024) : normA x g (ix2 r k) = rms (fun j => x (ix2 r j)) (fun j => g (ix2 1 j)) k := by
  pointwise [normA, rms]

theorem both_at (h : FVec Ideal S16512x1024 .f32) (r : Fin 16512) (f : Fin 5632) :
    bothA w h (ix2 r f) = dot (fun k => h (ix2 r k)) (fun k f => w (ix3 1 k f)) f := by
  pointwise [bothA, dot]

theorem act_at (p : FVec Ideal S16512x5632 .f32) (r : Fin 16512) (f : Fin 2816) :
    actA p (ix2 r f) = p (ix2 r ⟨f.val, by omega⟩) * Ideal.logistic (p (ix2 r ⟨f.val, by omega⟩)) * p (ix2 r ⟨2816 + f.val, by omega⟩) := by
  pointwise [actA, ones]
  rfl

theorem out_at (a : FVec Ideal S16512x2816 .f32) (r : Fin 16512) (c : Fin 1024) :
    outA x u a (ix2 r c) = x (ix2 r c) + Ideal.ofBits .f32 0x3F000000#32 * ∑ f : Fin 2816, a (ix2 r f) * u (ix3 1 f c) := by
  pointwise [outA]

/-- The reference's rows. -/
theorem ref_at (r : Fin 16512) (c : Fin 1024) :
    outA x u (actA (bothA w (normA x g))) (ix2 r c)
      = row (fun j => x (ix2 r j)) (fun j => g (ix2 1 j)) (fun k f => w (ix3 1 k f)) (fun f k => u (ix3 1 f k)) c := by
  rw [out_at]
  simp only [act_at, both_at, norm_at]
  rfl

end Cert.Proof.FfnA.Ref

end
-- ==== Proof.FfnA.lean ====
/-
  The claims of the plain feed-forward call: the frames, and the equation of the kernel's result with the reference's.
-/
module

public import proofs.«01_k».proof.Defs
public import proofs.«01_k».proof.Proof.FfnAValue
public import proofs.«01_k».proof.Proof.FfnARef
public import proofs.«01_k».proof.Proof.Gen.KernelFfnA
public import proofs.«01_k».proof.Proof.Gen.KernelFfnAIdeal.Value
public import Idealize.ShloMosaic.Lib.Quiescent

@[expose] public section

noncomputable section

namespace Cert.Proof.FfnA

open Idealize.ShloMosaic Idealize.ShloMosaic.TcCoe Idealize.SL.Sem

instance : Cert.KernelFfnA.Facts := Cert.KernelFfnA.Gen.facts

/-! The two programs are the same text. -/

theorem main_eq : Cert.KernelFfnA.main (F := Bits) = Cert.KernelFfnAIdeal.main (F := Bits) := rfl

theorem body_eq : Cert.KernelFfnA.cc0_ffn (F := Bits) = Cert.KernelFfnAIdeal.cc0_ffn (F := Bits) := rfl

theorem defs₀_eq : Cert.KernelFfnA.defs₀ (F := Bits) = Cert.KernelFfnAIdeal.defs₀ (F := Bits) := by
  refine congrArg Defs.onTc (funext fun l => funext fun a => ?_)
  obtain ⟨l, hl⟩ := l
  match l, hl, a with
  | 0, _, (t, s) => exact congrFun (congrFun (congrFun (congrFun (congrFun (congrFun (congrFun (congrFun (congrFun (congrFun (congrFun body_eq _) _) _) _) _) _) _) _) _) _) _
  | _ + 1, h, _ => exact absurd h (Nat.not_lt.2 (Nat.le_add_left _ _))

theorem defs_eq : Cert.KernelFfnA.defs (F := Bits) = Cert.KernelFfnAIdeal.defs (F := Bits) :=
  congrArg (Pipeline.defs Cert.KernelFfnAIdeal.pcfgs) defs₀_eq

theorem frame_kernel : Cert.quiescent_KernelFfnA (hKernelFfnA := Cert.KernelFfnA.Gen.facts) := fun m ρ _ => by
  have h := Cert.KernelFfnAIdeal.Gen.frame (F := Bits) m ρ
  rw [← defs_eq, ← main_eq] at h
  exact h

theorem frame_ideal : Cert.quiescent_KernelFfnAIdeal (hKernelFfnAIdeal := Cert.KernelFfnAIdeal.Gen.facts) :=
  fun m ρ _ => Cert.KernelFfnAIdeal.Gen.frame (F := Ideal) m ρ

theorem frame_reference : Cert.quiescent_ReferenceFfnAIdeal (hReferenceFfnAIdeal := Cert.ReferenceFfnAIdeal.Gen.facts) := fun m ρ _ =>
  (θ_run (Cert.ReferenceFfnAIdeal.defs (F := Ideal)) _ _).mono
    (fun r h => ⟨fun c => (h c).2, Idealize.ShloMosaic.sem_eq_zero_of_no_sems (by decide) r.2⟩)
    (Cert.ReferenceFfnAIdeal.Value.run (F := Ideal) m ρ)

theorem preserves : Cert.preserves_KernelFfnA_KernelFfnAIdeal := trivial

open Cert.KernelFfnAIdeal Cert.KernelFfnAIdeal.Gen

theorem algebraic : Cert.algebraic_KernelFfnAIdeal_ReferenceFfnAIdeal (hKernelFfnAIdeal := Cert.KernelFfnAIdeal.Gen.facts)
    (hReferenceFfnAIdeal := Cert.ReferenceFfnAIdeal.Gen.facts) := by
  intro m g m' g' _ hagree
  refine ⟨fun c => Cert.ReferenceFfnAIdeal.Value.res_out0 m' c, ?_, Cert.ReferenceFfnAIdeal.Value.run (F := Ideal) m' g'⟩
  refine (θ_run defs _ _).mono (fun _ h c => ⟨(h c).1.trans ?_, (h c).2⟩) (Cert.KernelFfnAIdeal.Value.run_blocks m g)
  obtain ⟨a0, a1, a2, a3⟩ := hagree c
  refine final m c _ fun r k => ?_
  refine (congrFun (Ref.res_eq m' c) _).trans ((Ref.ref_at _ _ _ _ r k).trans ?_)
  rw [a0, a1, a2, a3]

end Cert.Proof.FfnA

end
-- ==== Proof.FfnFBody.lean ====
/-
  The last layer's body as loads, one store and named parts of its arithmetic.
-/
module

public import proofs.«01_k».proof.Proof.Gen.KernelFfnIdeal.Frame
public import Idealize.ShloMosaic.Lib.Exec
public import Idealize.ShloMosaic.Lib.Tactic

@[expose] public section

set_option maxRecDepth 65536

noncomputable section

namespace Cert.Proof.FfnF

open Cert.KernelFfnIdeal Cert.KernelFfnIdeal.Gen
open Idealize.ShloMosaic Idealize.SL.Sem

variable {F : FTy → Type} [FloatOps F]

/-- The attention's rows: the last block's rows past the array come from the samples'. -/
def joined (i : grid0.Coords) (o : Vec F S688x1024 .bf16) (s : Vec F S128x1024 .bf16) : FVec F S688x1024 .bf16 :=
  Scalar.select (Scalar.cmpi .eq (BitVec.ofNat 32 (i 0).val) 23#32)
    (concatenate S688x1024 0 [⟨S560x1024, extractStridedSlice S560x1024 ![0, 0] o slices_S688x1024_o0_0_S560x1024⟩, ⟨S128x1024, shapeCast S128x1024 s shapeCasts_S128x1024_S128x1024⟩] concatenates_S560x1024_S128x1024_S688x1024_d0) o

/-- The residual rows with the attention's projection added. -/
def added (x : Vec F S688x1024 .f32) (j : FVec F S688x1024 .bf16) (wo : Vec F S1024x1024 .bf16) : FVec F S688x1024 .f32 :=
  addf x (matmul dot_S688x1024_S1024x1024_S688x1024_1_0_0_1_n_n none j (shapeCast S1024x1024 wo shapeCasts_S1024x1024_S1024x1024) (constant S688x1024 .f32 0x00000000#32))

/-- Rows over their root mean square, times the gain. -/
def normed (x : FVec F S688x1024 .f32) (g : Vec F S1x1024 .f32) : FVec F S688x1024 .f32 :=
  mulf (mulf x (broadcastTo S688x1024 (rsqrt (addf (divf (shapeCast S688x1 (multiReduction .add [1] S688 (mulf x x) 0x00000000#32 reduces_S688x1024_S688 (.inl rfl) rfl) shapeCasts_S688_S688x1) (broadcast S688x1 (Scalar.ofBits .f32 0x44800000#32))) (broadcast S688x1 (Scalar.ofBits .f32 0x358637BD#32)))) broadcasts_S688x1_S688x1024))
    (broadcastTo S688x1024 (shapeCast S1x1024 g shapeCasts_S1x1024_S1x1024) broadcasts_S1x1024_S688x1024)

def gate (p q : FVec F S688x1024 .f32) : FVec F S688x1024 .f32 := mulf (mulf p (logistic p)) q

/-- A product with 1024 of the first weights' columns. -/
def wide (h : FVec F S688x1024 .bf16) (w : Vec F S1x1024x1024 .bf16) : FVec F S688x1024 .f32 :=
  matmul dot_S688x1024_S1024x1024_S688x1024_1_0_0_1_n_n none h (shapeCast S1024x1024 w shapeCasts_S1x1024x1024_S1024x1024) (constant S688x1024 .f32 0x00000000#32)

/-- A product with the last 768 of a half's columns. -/
def narrow (h : FVec F S688x1024 .bf16) (w : Vec F S1x1024x768 .bf16) : FVec F S688x768 .f32 :=
  matmul dot_S688x1024_S1024x768_S688x768_1_0_0_1_n_n none h (shapeCast S1024x768 w shapeCasts_S1x1024x768_S1024x768) (constant S688x768 .f32 0x00000000#32)

def gateN (p q : FVec F S688x768 .f32) : FVec F S688x768 .f32 := mulf (mulf p (logistic p)) q

def back (a : FVec F S688x1024 .f32) (u : Vec F S1x1024x1024 .bf16) : FVec F S688x1024 .f32 := wide (truncf .bf16 a bitsLt_bf16_f32) u

def backN (a : FVec F S688x768 .f32) (u : Vec F S1x768x1024 .bf16) : FVec F S688x1024 .f32 :=
  matmul dot_S688x768_S768x1024_S688x1024_1_0_0_1_n_n none (truncf .bf16 a bitsLt_bf16_f32) (shapeCast S768x1024 u shapeCasts_S1x768x1024_S768x1024) (constant S688x1024 .f32 0x00000000#32)

/-- Half the feed-forward's sum added to the rows. -/
def halved (x acc : FVec F S688x1024 .f32) : FVec F S688x1024 .f32 := addf x (mulf (broadcast S688x1024 (Scalar.ofBits .f32 0x3F000000#32)) acc)

/-- The three pieces' sum. -/
def pieces (h : FVec F S688x1024 .bf16) (a : FVec F S688x1024 .f32) (u w1 w1' u1 : Vec F S1x1024x1024 .bf16) (w2 w2' : Vec F S1x1024x768 .bf16) (u2 : Vec F S1x768x1024 .bf16) : FVec F S688x1024 .f32 :=
  addf (addf (back a u) (back (gate (wide h w1) (wide h w1')) u1)) (backN (gateN (narrow h w2) (narrow h w2')) u2)

def part1 (i : grid0.Coords) (arg1 : Memref sig .tc .vmem S688x1024 .f32) (harg1 : arg1.IsWhole) (arg2 : Memref sig .tc .vmem S688x1024 .bf16) (harg2 : arg2.IsWhole) (arg3 : Memref sig .tc .vmem S128x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024x5632 .bf16) (harg6 : arg6.IsWhole) (arg7 : Memref sig .tc .vmem S1x2816x1024 .bf16) (harg7 : arg7.IsWhole) (arg8 : Memref sig .tc .vmem S1x1024 .f32) (harg8 : arg8.IsWhole) (arg9 : Memref sig .tc .vmem S688x1024 .f32) (harg9 : arg9.IsWhole) :
    Prog (TpuEff nD τ sig (Elt F) Λ₀ .tc) (Σ' (v11 : FVec F S688x1024 .f32) (v26 : FVec F S688x1024 .bf16), FVec F S688x1024 .f32) := do
  let x : Vec F S688x1024 .f32 ← Prog.lift (.load arg1 (Rect.unit (s := S688x1024) ![0, 0] S688x1024.size inb_S688x1024_S688x1024_0_0).toLoadRect (View.loadsAt_vmem h_S688x1024))
  let o : Vec F S688x1024 .bf16 ← Prog.lift (.load arg2 (Rect.unit (s := S688x1024) ![0, 0] S688x1024.size inb_S688x1024_S688x1024_0_0).toLoadRect (View.loadsAt_vmem h_S688x1024))
  let s : Vec F S128x1024 .bf16 ← Prog.lift (.load arg3 (Rect.unit (s := S128x1024) ![0, 0] S128x1024.size inb_S128x1024_S128x1024_0_0).toLoadRect (View.loadsAt_vmem h_S128x1024))
  let wo : Vec F S1024x1024 .bf16 ← Prog.lift (.load arg4 (Rect.unit (s := S1024x1024) ![0, 0] S1024x1024.size inb_S1024x1024_S1024x1024_0_0).toLoadRect (View.loadsAt_vmem h_S1024x1024))
  let g : Vec F S1x1024 .f32 ← Prog.lift (.load arg5 (Rect.unit (s := S1x1024) ![0, 0] S1x1024.size inb_S1x1024_S1x1024_0_0).toLoadRect (View.loadsAt_vmem h_S1x1024))
  let w : Vec F S1x1024x1024 .bf16 ← Prog.lift (.load arg6 (Rect.unit (s := S1x1024x5632) ![0, 0, 0] S1x1024x1024.size inb_S1x1024x5632_S1x1024x1024_0_0_0).toLoadRect (View.loadsAt_vmem h_S1x1024x1024))
  let w' : Vec F S1x1024x1024 .bf16 ← Prog.lift (.load arg6 (Rect.unit (s := S1x1024x5632) ![0, 0, 2816] S1x1024x1024.size inb_S1x1024x5632_S1x1024x1024_0_0_2816).toLoadRect (View.loadsAt_vmem h_S1x1024x1024))
  pure ⟨added x (joined i o s) wo, truncf .bf16 (normed (added x (joined i o s) wo) g) bitsLt_bf16_f32,
    gate (wide (truncf .bf16 (normed (added x (joined i o s) wo) g) bitsLt_bf16_f32) w) (wide (truncf .bf16 (normed (added x (joined i o s) wo) g) bitsLt_bf16_f32) w')⟩

theorem part1_eq : k0_part1 (F := F) = part1 (F := F) := rfl

def part2 (i : grid0.Coords) (arg1 : Memref sig .tc .vmem S688x1024 .f32) (harg1 : arg1.IsWhole) (arg2 : Memref sig .tc .vmem S688x1024 .bf16) (harg2 : arg2.IsWhole) (arg3 : Memref sig .tc .vmem S128x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024x5632 .bf16) (harg6 : arg6.IsWhole) (arg7 : Memref sig .tc .vmem S1x2816x1024 .bf16) (harg7 : arg7.IsWhole) (arg8 : Memref sig .tc .vmem S1x1024 .f32) (harg8 : arg8.IsWhole) (arg9 : Memref sig .tc .vmem S688x1024 .f32) (harg9 : arg9.IsWhole) (h : FVec F S688x1024 .bf16) (a : FVec F S688x1024 .f32) :
    Prog (TpuEff nD τ sig (Elt F) Λ₀ .tc) (FVec F S688x1024 .f32) := do
  let u : Vec F S1x1024x1024 .bf16 ← Prog.lift (.load arg7 (Rect.unit (s := S1x2816x1024) ![0, 0, 0] S1x1024x1024.size inb_S1x2816x1024_S1x1024x1024_0_0_0).toLoadRect (View.loadsAt_vmem h_S1x1024x1024))
  let w1 : Vec F S1x1024x1024 .bf16 ← Prog.lift (.load arg6 (Rect.unit (s := S1x1024x5632) ![0, 0, 1024] S1x1024x1024.size inb_S1x1024x5632_S1x1024x1024_0_0_1024).toLoadRect (View.loadsAt_vmem h_S1x1024x1024))
  let w1' : Vec F S1x1024x1024 .bf16 ← Prog.lift (.load arg6 (Rect.unit (s := S1x1024x5632) ![0, 0, 3840] S1x1024x1024.size inb_S1x1024x5632_S1x1024x1024_0_0_3840).toLoadRect (View.loadsAt_vmem h_S1x1024x1024))
  let u1 : Vec F S1x1024x1024 .bf16 ← Prog.lift (.load arg7 (Rect.unit (s := S1x2816x1024) ![0, 1024, 0] S1x1024x1024.size inb_S1x2816x1024_S1x1024x1024_0_1024_0).toLoadRect (View.loadsAt_vmem h_S1x1024x1024))
  let w2 : Vec F S1x1024x768 .bf16 ← Prog.lift (.load arg6 (Rect.unit (s := S1x1024x5632) ![0, 0, 2048] S1x1024x768.size inb_S1x1024x5632_S1x1024x768_0_0_2048).toLoadRect (View.loadsAt_vmem h_S1x1024x768))
  let w2' : Vec F S1x1024x768 .bf16 ← Prog.lift (.load arg6 (Rect.unit (s := S1x1024x5632) ![0, 0, 4864] S1x1024x768.size inb_S1x1024x5632_S1x1024x768_0_0_4864).toLoadRect (View.loadsAt_vmem h_S1x1024x768))
  let u2 : Vec F S1x768x1024 .bf16 ← Prog.lift (.load arg7 (Rect.unit (s := S1x2816x1024) ![0, 2048, 0] S1x768x1024.size inb_S1x2816x1024_S1x768x1024_0_2048_0).toLoadRect (View.loadsAt_vmem h_S1x768x1024))
  pure (pieces h a u w1 w1' u1 w2 w2' u2)

theorem part2_eq : k0_part2 (F := F) = part2 (F := F) := rfl

def whole (i : grid0.Coords) (arg1 : Memref sig .tc .vmem S688x1024 .f32) (harg1 : arg1.IsWhole) (arg2 : Memref sig .tc .vmem S688x1024 .bf16) (harg2 : arg2.IsWhole) (arg3 : Memref sig .tc .vmem S128x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024x5632 .bf16) (harg6 : arg6.IsWhole) (arg7 : Memref sig .tc .vmem S1x2816x1024 .bf16) (harg7 : arg7.IsWhole) (arg8 : Memref sig .tc .vmem S1x1024 .f32) (harg8 : arg8.IsWhole) (arg9 : Memref sig .tc .vmem S688x1024 .f32) (harg9 : arg9.IsWhole) :
    Prog (TpuEff nD τ sig (Elt F) Λ₀ .tc) PUnit := do
  let ⟨x, h, a⟩ : Σ' (v11 : FVec F S688x1024 .f32) (v26 : FVec F S688x1024 .bf16), FVec F S688x1024 .f32 ← k0_part1 i arg1 harg1 arg2 harg2 arg3 harg3 arg4 harg4 arg5 harg5 arg6 harg6 arg7 harg7 arg8 harg8 arg9 harg9
  let acc : FVec F S688x1024 .f32 ← k0_part2 i arg1 harg1 arg2 harg2 arg3 harg3 arg4 harg4 arg5 harg5 arg6 harg6 arg7 harg7 arg8 harg8 arg9 harg9 h a
  let gf : Vec F S1x1024 .f32 ← Prog.lift (.load arg8 (Rect.unit (s := S1x1024) ![0, 0] S1x1024.size inb_S1x1024_S1x1024_0_0).toLoadRect (View.loadsAt_vmem h_S1x1024))
  let _ : Vec F S688x1024 .f32 ← Prog.lift (.load arg9 (Rect.unit (s := S688x1024) ![0, 0] S688x1024.size inb_S688x1024_S688x1024_0_0).toLoadRect (View.loadsAt_vmem h_S688x1024))
  Prog.lift (.store arg9 (Rect.unit (s := S688x1024) ![0, 0] S688x1024.size inb_S688x1024_S688x1024_0_0) (normed (halved x acc) gf) Finset.univ (View.stores_vmem_bits_univ h_S688x1024 rfl) (.inl rfl))
  pure ⟨⟩

theorem whole_eq : cc0_ffn (F := F) = whole (F := F) := rfl

end Cert.Proof.FfnF

end
-- ==== Proof.FfnFRows.lean ====
/-
  The last block's rows past the attention's array: the body takes the samples' rows in their place.
-/
module

public import proofs.«01_k».proof.Proof.FfnFBody
public import Idealize.ShloMosaic.Lib.Pointwise
public import Idealize.ShloMosaic.Lib.WordCmp

@[expose] public section

set_option maxRecDepth 16384

noncomputable section

namespace Cert.Proof.FfnF

open Cert.KernelFfnIdeal Cert.KernelFfnIdeal.Gen
open Idealize.ShloMosaic Idealize.ShloMosaic.WordCmp

variable {F : FTy → Type} [FloatOps F]

theorem last_iff (i : grid0.Coords) : Scalar.cmpi .eq (BitVec.ofNat 32 (i 0).val) 23#32 = BitVec.ofBool (decide ((i 0).val = 23)) := by
  have h : (i 0).val < 24 := (i 0).isLt
  exact cmpi_eq_ofNat (by omega) (by norm_num)

theorem stacked_at (o : Vec F S688x1024 .bf16) (s : Vec F S128x1024 .bf16) (r : Fin 688) (k : Fin 1024) :
    concatenate S688x1024 0 [⟨S560x1024, extractStridedSlice S560x1024 ![0, 0] o slices_S688x1024_o0_0_S560x1024⟩, ⟨S128x1024, shapeCast S128x1024 s shapeCasts_S128x1024_S128x1024⟩] concatenates_S560x1024_S128x1024_S688x1024_d0 (ix2 r k)
      = if h : r.val < 560 then o (ix2 r k) else s (ix2 ⟨r.val - 560, by omega⟩ k) := by
  pointwise

theorem joined_at (i : grid0.Coords) (o : Vec F S688x1024 .bf16) (s : Vec F S128x1024 .bf16) (r : Fin 688) (k : Fin 1024) :
    joined i o s (ix2 r k) = if h : (i 0).val = 23 ∧ ¬ r.val < 560 then s (ix2 ⟨r.val - 560, by omega⟩ k) else o (ix2 r k) := by
  unfold joined
  rw [last_iff]
  by_cases h : (i 0).val = 23
  · rw [decide_eq_true h]
    refine (stacked_at o s r k).trans ?_
    by_cases h' : r.val < 560 <;> simp [h, h']
  · rw [decide_eq_false h]
    simp [h, Scalar.select]

/-- A point's rows inside the attention's array. -/
theorem moved_rows (t : Fin cfg0.N) : win0_1.xsize (grid0.coords t) = ![if (grid0.coords t 0).val = 23 then 560 else 688, 1024] :=
  (by decide +kernel : ∀ t : Fin grid0.N, win0_1.xsize (grid0.coords t) = ![if (grid0.coords t 0).val = 23 then 560 else 688, 1024]) t

theorem moved_of (t : Fin cfg0.N) (r : Fin 688) (k : Fin 1024) (h : ¬ ((grid0.coords t 0).val = 23 ∧ ¬ r.val < 560)) :
    win0_1.moved (grid0.coords t) (ix2 r k) = true := by
  refine (win0_1.moved_iff _ _).mpr fun a => ?_
  rw [moved_rows]
  match a with
  | ⟨0, _⟩ =>
    show r.val < if (grid0.coords t 0).val = 23 then 560 else 688
    have := r.isLt
    split <;> omega
  | ⟨1, _⟩ => exact k.isLt

/-- What the buffer holds past the array does not reach the joined rows. -/
theorem joined_fill (t : Fin cfg0.N) (d d' : Vec F S688x1024 .bf16) (b : (win0_1.xblock (grid0.coords t)).Idx → Elt F .bf16) (s : Vec F S128x1024 .bf16) :
    joined (grid0.coords t) (win0_1.fill (grid0.coords t) d b) s = joined (grid0.coords t) (win0_1.fill (grid0.coords t) d' b) s := by
  funext y
  obtain ⟨r, k, rfl⟩ : ∃ (r : Fin 688) (k : Fin 1024), y = ix2 r k := ⟨y 0, y 1, funext fun a => by fin_cases a <;> rfl⟩
  rw [joined_at, joined_at]
  by_cases h : (grid0.coords t 0).val = 23 ∧ ¬ r.val < 560
  · rw [dif_pos h, dif_pos h]
  · rw [dif_neg h, dif_neg h]
    unfold Pipeline.Window.fill
    rw [dif_pos (moved_of t r k h), dif_pos (moved_of t r k h)]

end Cert.Proof.FfnF

end
-- ==== Proof.FfnFRun.lean ====
/-
  The feed-forward call with the final norm, run: every grid point leaves its output block, nothing faults, the arguments stay.
-/
module

public import proofs.«01_k».proof.Proof.FfnFRows
public import proofs.«01_k».proof.Proof.Gen.KernelFfnIdeal.Frame
public import Idealize.ShloMosaic.Lib.Claim
public import Idealize.ShloMosaic.Lib.Pipeline.ValueKit

@[expose] public section

set_option maxRecDepth 16384

noncomputable section

namespace Cert.Proof.FfnF

open Cert.KernelFfnIdeal Cert.KernelFfnIdeal.Gen
open Idealize.ShloMosaic Idealize.ShloMosaic.TcCoe Idealize.ShloMosaic.Tactic
open Idealize.ShloMosaic.Pipeline (Dat Cfg Window BodyObligationLoose cellOf)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev rX : Rect S688x1024 := Rect.unit (s := S688x1024) ![0, 0] S688x1024.size inb_S688x1024_S688x1024_0_0
abbrev rS : Rect S128x1024 := Rect.unit (s := S128x1024) ![0, 0] S128x1024.size inb_S128x1024_S128x1024_0_0
abbrev rO : Rect S1024x1024 := Rect.unit (s := S1024x1024) ![0, 0] S1024x1024.size inb_S1024x1024_S1024x1024_0_0
abbrev rG : Rect S1x1024 := Rect.unit (s := S1x1024) ![0, 0] S1x1024.size inb_S1x1024_S1x1024_0_0
abbrev rW0 : Rect S1x1024x5632 := Rect.unit (s := S1x1024x5632) ![0, 0, 0] S1x1024x1024.size inb_S1x1024x5632_S1x1024x1024_0_0_0
abbrev rW2816 : Rect S1x1024x5632 := Rect.unit (s := S1x1024x5632) ![0, 0, 2816] S1x1024x1024.size inb_S1x1024x5632_S1x1024x1024_0_0_2816
abbrev rW1024 : Rect S1x1024x5632 := Rect.unit (s := S1x1024x5632) ![0, 0, 1024] S1x1024x1024.size inb_S1x1024x5632_S1x1024x1024_0_0_1024
abbrev rW3840 : Rect S1x1024x5632 := Rect.unit (s := S1x1024x5632) ![0, 0, 3840] S1x1024x1024.size inb_S1x1024x5632_S1x1024x1024_0_0_3840
abbrev rW2048 : Rect S1x1024x5632 := Rect.unit (s := S1x1024x5632) ![0, 0, 2048] S1x1024x768.size inb_S1x1024x5632_S1x1024x768_0_0_2048
abbrev rW4864 : Rect S1x1024x5632 := Rect.unit (s := S1x1024x5632) ![0, 0, 4864] S1x1024x768.size inb_S1x1024x5632_S1x1024x768_0_0_4864
abbrev rU0 : Rect S1x2816x1024 := Rect.unit (s := S1x2816x1024) ![0, 0, 0] S1x1024x1024.size inb_S1x2816x1024_S1x1024x1024_0_0_0
abbrev rU1024 : Rect S1x2816x1024 := Rect.unit (s := S1x2816x1024) ![0, 1024, 0] S1x1024x1024.size inb_S1x2816x1024_S1x1024x1024_0_1024_0
abbrev rU2048 : Rect S1x2816x1024 := Rect.unit (s := S1x2816x1024) ![0, 2048, 0] S1x768x1024.size inb_S1x2816x1024_S1x768x1024_0_2048_0

/-- The rows the first norm reads, -/
def firstRows (x : Vec F S688x1024 .f32) (j : FVec F S688x1024 .bf16) (wo : Vec F S1024x1024 .bf16) (g : Vec F S1x1024 .f32) : FVec F S688x1024 .bf16 :=
  truncf .bf16 (normed (added x j wo) g) bitsLt_bf16_f32

/-- the output's rows from what the body reads, -/
def rowsOut (x : Vec F S688x1024 .f32) (j : FVec F S688x1024 .bf16) (wo : Vec F S1024x1024 .bf16) (g : Vec F S1x1024 .f32)
    (w w' u w1 w1' u1 : Vec F S1x1024x1024 .bf16) (w2 w2' : Vec F S1x1024x768 .bf16) (u2 : Vec F S1x768x1024 .bf16) (gf : Vec F S1x1024 .f32) : FVec F S688x1024 .f32 :=
  normed (halved (added x j wo) (pieces (firstRows x j wo g) (gate (wide (firstRows x j wo g) w) (wide (firstRows x j wo g) w')) u w1 w1' u1 w2 w2' u2)) gf

/-- and the block the body stores. -/
def outF (i : grid0.Coords) (x0 : Vec F S688x1024 .f32) (x1 : Vec F S688x1024 .bf16) (x2 : Vec F S128x1024 .bf16) (x3 : Vec F S1024x1024 .bf16) (x4 : Vec F S1x1024 .f32) (x5 : Vec F S1x1024x5632 .bf16) (x6 : Vec F S1x2816x1024 .bf16) (x7 : Vec F S1x1024 .f32) : Vec F S688x1024 .f32 :=
  View.canon [⟨rX, rowsOut (View.ld x0 rX) (joined i (View.ld x1 rX) (View.ld x2 rS)) (View.ld x3 rO) (View.ld x4 rG)
    (View.ld x5 rW0) (View.ld x5 rW2816) (View.ld x6 rU0) (View.ld x5 rW1024) (View.ld x5 rW3840) (View.ld x6 rU1024) (View.ld x5 rW2048) (View.ld x5 rW4864) (View.ld x6 rU2048) (View.ld x7 rG)⟩]

theorem cover_out (p0 : Vec F S688x1024 .f32) (y : S688x1024.Idx) :
    ∃ pc ∈ ([⟨rX, p0⟩] : List (View.Piece (Elt F) S688x1024 .f32)), y ∈ pc.1.set :=
  View.cover_of_tiled [⟨rX, p0⟩] S688x1024.size (by rfl) y

set_option maxHeartbeats 1000000 in
/-- The body's triple: the inputs' buffers stay, the output's holds its block. -/
theorem sound_kernel (c : Dev nD) (E : Set ℕ) (i : grid0.Coords) (arg1 : Memref sig .tc .vmem S688x1024 .f32) (harg1 : arg1.IsWhole) (arg2 : Memref sig .tc .vmem S688x1024 .bf16) (harg2 : arg2.IsWhole) (arg3 : Memref sig .tc .vmem S128x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024x5632 .bf16) (harg6 : arg6.IsWhole) (arg7 : Memref sig .tc .vmem S1x2816x1024 .bf16) (harg7 : arg7.IsWhole) (arg8 : Memref sig .tc .vmem S1x1024 .f32) (harg8 : arg8.IsWhole) (arg9 : Memref sig .tc .vmem S688x1024 .f32) (harg9 : arg9.IsWhole)
    (x0 : Vec F S688x1024 .f32) (x1 : Vec F S688x1024 .bf16) (x2 : Vec F S128x1024 .bf16) (x3 : Vec F S1024x1024 .bf16) (x4 : Vec F S1x1024 .f32) (x5 : Vec F S1x1024x5632 .bf16) (x6 : Vec F S1x2816x1024 .bf16) (x7 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outF i x0 x1 x2 x3 x4 x5 x6 x7)) -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9) K := by
  simp only [whole_eq]; unfold whole
  simp only [part1_eq, part2_eq]; unfold part1 part2
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover_out _)

variable (m : (ℓ : Loc nD τ sig) → Buf (Elt F) ℓ) (ρ : Dev nD → PrngReg)

/-- The attention's block, anything past the array. -/
def oblk (c : Dev nD) (t : Fin cfg0.N) : Vec F S688x1024 .bf16 :=
  win0_1.fill (grid0.coords t) (fun _ => Scalar.ofBits .bf16 0#16) (iblk m c 1 t)

/-- The proof data: each input's block left in place, the output's block the body's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => oblk m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outF (grid0.coords t) (iblk m c 0 t) (oblk m c t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = oblk m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outF (grid0.coords t) (iblk m c 0 t) (oblk m c t) (iblk m c 2 t) (iblk m c 3 t) (iblk m c 4 t) (iblk m c 5 t) (iblk m c 6 t) (iblk m c 7 t) := by dsimp only [dats]

theorem before_0 (c : Dev nD) (t : Fin cfg0.N) (d) : (dats m 0 c).before 0 t d = iblk m c 0 t :=
  before0_0_of m (dats m 0 c) (A_eq m c 0) (after_0 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- The attention's buffer just fetched: its block on the rows inside the array. -/
theorem before_1 (c : Dev nD) (t : Fin cfg0.N) (d) : (dats m 0 c).before 1 t d = win0_1.fill (grid0.coords t) d (iblk m c 1 t) := by
  unfold Dat.before; rw [if_pos (fetch0_1 t)]; rfl

theorem hz : (![0, 0] : Fin 2 → Nat) = fun _ => 0 := funext fun a => by fin_cases a <;> rfl

theorem ld_whole (x : Vec F S688x1024 .bf16) : View.ld x rX = x := by
  rw [View.ld_unit_zero hz]

/-- What lies past the array does not reach the output. -/
theorem out_fill (t : Fin cfg0.N) (d d' : Vec F S688x1024 .bf16) (b : (win0_1.xblock (grid0.coords t)).Idx → Elt F .bf16) (x0 : Vec F S688x1024 .f32) (x2 : Vec F S128x1024 .bf16) (x3 : Vec F S1024x1024 .bf16) (x4 : Vec F S1x1024 .f32) (x5 : Vec F S1x1024x5632 .bf16) (x6 : Vec F S1x2816x1024 .bf16) (x7 : Vec F S1x1024 .f32) :
    outF (grid0.coords t) x0 (win0_1.fill (grid0.coords t) d b) x2 x3 x4 x5 x6 x7 = outF (grid0.coords t) x0 (win0_1.fill (grid0.coords t) d' b) x2 x3 x4 x5 x6 x7 := by
  unfold outF
  rw [ld_whole, ld_whole, joined_fill t d d']

theorem out_blk (c : Dev nD) (t : Fin cfg0.N) (d : Vec F S688x1024 .bf16) :
    outF (grid0.coords t) (iblk m c 0 t) (win0_1.fill (grid0.coords t) d (iblk m c 1 t)) (iblk m c 2 t) (iblk m c 3 t) (iblk m c 4 t) (iblk m c 5 t) (iblk m c 6 t) (iblk m c 7 t) = (dats m 0 c).after 8 t :=
  (out_fill t d (fun _ => Scalar.ofBits .bf16 0#16) _ _ _ _ _ _ _ _).trans (after_8 m c t).symm

theorem defs₀_row (t : Fin cfg0.N) :
    defs₀ (F := F) .tc cfg0.body (cfg0.bodyArgs t (cfg0.slots t)) = bodyAt0 t := by
  unfold defs₀; rw [Defs.onTc_tc]

set_option maxHeartbeats 1000000 in
theorem body_obligation (c : Dev nD) : BodyObligationLoose (dats (F := F) m 0 c) (defs₀ (F := F)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before_0 m c t d0, before_1 m c t d1, before_2 m c t d2, before_3 m c t d3, before_4 m c t d4, before_5 m c t d5, before_6 m c t d6, before_7 m c t d7]
  iapply (sound_kernel c Set.univ (grid0.coords t) _ _ _ _ _ _ _ _ _ _ _ _ _ _ _ _ _ _ (iblk m c 0 t) (win0_1.fill (grid0.coords t) d1 (iblk m c 1 t)) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  have hx : win0_1.cut (grid0.coords t) (oblk m c t) = iblk m c 1 t := win0_1.cut_fill _ _ _
  isplitl [H0]; · iexact H0
  isplitl [H1]
  · iexists d1
    change _ ⊢ owns (c : Thread nD τ) (st0_1 t) fullShare (win0_1.fill (grid0.coords t) d1 (win0_1.cut (grid0.coords t) (oblk m c t)))
    rw [hx]
  isplitl [H2]; · iexact H2
  isplitl [H3]; · iexact H3
  isplitl [H4]; · iexact H4
  isplitl [H5]; · iexact H5
  isplitl [H6]; · iexact H6
  isplitl [H7]; · iexact H7
  rw [out_blk m c t d1]
  iexact H8

set_option backward.isDefEq.respectTransparency.types false in
set_option maxHeartbeats 800000 in
/-- The run, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments stay, and every counter ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.Proof.FfnF

end
-- ==== Proof.FfnBBody.lean ====
/-
  An inner layer's body, with the attention's projection, as loads, one store and the last layer's parts.
-/
module

public import proofs.«01_k».proof.Proof.Gen.KernelFfnBIdeal.Frame
public import proofs.«01_k».proof.Proof.FfnFRun
public import Idealize.ShloMosaic.Lib.Exec
public import Idealize.ShloMosaic.Lib.Tactic

@[expose] public section

set_option maxRecDepth 65536

noncomputable section

namespace Cert.Proof.FfnB

open Cert.KernelFfnBIdeal Cert.KernelFfnBIdeal.Gen
open Cert.Proof.FfnF (joined added normed gate wide narrow gateN back backN halved pieces firstRows)
open Idealize.ShloMosaic Idealize.SL.Sem

variable {F : FTy → Type} [FloatOps F]

def part1 (i : grid0.Coords) (arg1 : Memref sig .tc .vmem S688x1024 .f32) (harg1 : arg1.IsWhole) (arg2 : Memref sig .tc .vmem S688x1024 .bf16) (harg2 : arg2.IsWhole) (arg3 : Memref sig .tc .vmem S128x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024x5632 .bf16) (harg6 : arg6.IsWhole) (arg7 : Memref sig .tc .vmem S1x2816x1024 .bf16) (harg7 : arg7.IsWhole) (arg8 : Memref sig .tc .vmem S688x1024 .f32) (harg8 : arg8.IsWhole) :
    Prog (TpuEff nD τ sig (Elt F) Λ₀ .tc) (Σ' (v11 : FVec F S688x1024 .f32) (v26 : FVec F S688x1024 .bf16), FVec F S688x1024 .f32) := do
  let x : Vec F S688x1024 .f32 ← Prog.lift (.load arg1 (Rect.unit (s := S688x1024) ![0, 0] S688x1024.size inb_S688x1024_S688x1024_0_0).toLoadRect (View.loadsAt_vmem h_S688x1024))
  let o : Vec F S688x1024 .bf16 ← Prog.lift (.load arg2 (Rect.unit (s := S688x1024) ![0, 0] S688x1024.size inb_S688x1024_S688x1024_0_0).toLoadRect (View.loadsAt_vmem h_S688x1024))
  let s : Vec F S128x1024 .bf16 ← Prog.lift (.load arg3 (Rect.unit (s := S128x1024) ![0, 0] S128x1024.size inb_S128x1024_S128x1024_0_0).toLoadRect (View.loadsAt_vmem h_S128x1024))
  let wo : Vec F S1024x1024 .bf16 ← Prog.lift (.load arg4 (Rect.unit (s := S1024x1024) ![0, 0] S1024x1024.size inb_S1024x1024_S1024x1024_0_0).toLoadRect (View.loadsAt_vmem h_S1024x1024))
  let g : Vec F S1x1024 .f32 ← Prog.lift (.load arg5 (Rect.unit (s := S1x1024) ![0, 0] S1x1024.size inb_S1x1024_S1x1024_0_0).toLoadRect (View.loadsAt_vmem h_S1x1024))
  let w : Vec F S1x1024x1024 .bf16 ← Prog.lift (.load arg6 (Rect.unit (s := S1x1024x5632) ![0, 0, 0] S1x1024x1024.size inb_S1x1024x5632_S1x1024x1024_0_0_0).toLoadRect (View.loadsAt_vmem h_S1x1024x1024))
  let w' : Vec F S1x1024x1024 .bf16 ← Prog.lift (.load arg6 (Rect.unit (s := S1x1024x5632) ![0, 0, 2816] S1x1024x1024.size inb_S1x1024x5632_S1x1024x1024_0_0_2816).toLoadRect (View.loadsAt_vmem h_S1x1024x1024))
  pure ⟨added x (joined i o s) wo, truncf .bf16 (normed (added x (joined i o s) wo) g) bitsLt_bf16_f32,
    gate (wide (truncf .bf16 (normed (added x (joined i o s) wo) g) bitsLt_bf16_f32) w) (wide (truncf .bf16 (normed (added x (joined i o s) wo) g) bitsLt_bf16_f32) w')⟩

theorem part1_eq : k0_part1 (F := F) = part1 (F := F) := rfl

def part2 (i : grid0.Coords) (arg1 : Memref sig .tc .vmem S688x1024 .f32) (harg1 : arg1.IsWhole) (arg2 : Memref sig .tc .vmem S688x1024 .bf16) (harg2 : arg2.IsWhole) (arg3 : Memref sig .tc .vmem S128x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024x5632 .bf16) (harg6 : arg6.IsWhole) (arg7 : Memref sig .tc .vmem S1x2816x1024 .bf16) (harg7 : arg7.IsWhole) (arg8 : Memref sig .tc .vmem S688x1024 .f32) (harg8 : arg8.IsWhole) (h : FVec F S688x1024 .bf16) (a : FVec F S688x1024 .f32) :
    Prog (TpuEff nD τ sig (Elt F) Λ₀ .tc) (FVec F S688x1024 .f32) := do
  let u : Vec F S1x1024x1024 .bf16 ← Prog.lift (.load arg7 (Rect.unit (s := S1x2816x1024) ![0, 0, 0] S1x1024x1024.size inb_S1x2816x1024_S1x1024x1024_0_0_0).toLoadRect (View.loadsAt_vmem h_S1x1024x1024))
  let w1 : Vec F S1x1024x1024 .bf16 ← Prog.lift (.load arg6 (Rect.unit (s := S1x1024x5632) ![0, 0, 1024] S1x1024x1024.size inb_S1x1024x5632_S1x1024x1024_0_0_1024).toLoadRect (View.loadsAt_vmem h_S1x1024x1024))
  let w1' : Vec F S1x1024x1024 .bf16 ← Prog.lift (.load arg6 (Rect.unit (s := S1x1024x5632) ![0, 0, 3840] S1x1024x1024.size inb_S1x1024x5632_S1x1024x1024_0_0_3840).toLoadRect (View.loadsAt_vmem h_S1x1024x1024))
  let u1 : Vec F S1x1024x1024 .bf16 ← Prog.lift (.load arg7 (Rect.unit (s := S1x2816x1024) ![0, 1024, 0] S1x1024x1024.size inb_S1x2816x1024_S1x1024x1024_0_1024_0).toLoadRect (View.loadsAt_vmem h_S1x1024x1024))
  let w2 : Vec F S1x1024x768 .bf16 ← Prog.lift (.load arg6 (Rect.unit (s := S1x1024x5632) ![0, 0, 2048] S1x1024x768.size inb_S1x1024x5632_S1x1024x768_0_0_2048).toLoadRect (View.loadsAt_vmem h_S1x1024x768))
  let w2' : Vec F S1x1024x768 .bf16 ← Prog.lift (.load arg6 (Rect.unit (s := S1x1024x5632) ![0, 0, 4864] S1x1024x768.size inb_S1x1024x5632_S1x1024x768_0_0_4864).toLoadRect (View.loadsAt_vmem h_S1x1024x768))
  let u2 : Vec F S1x768x1024 .bf16 ← Prog.lift (.load arg7 (Rect.unit (s := S1x2816x1024) ![0, 2048, 0] S1x768x1024.size inb_S1x2816x1024_S1x768x1024_0_2048_0).toLoadRect (View.loadsAt_vmem h_S1x768x1024))
  pure (pieces h a u w1 w1' u1 w2 w2' u2)

theorem part2_eq : k0_part2 (F := F) = part2 (F := F) := rfl

def whole (i : grid0.Coords) (arg1 : Memref sig .tc .vmem S688x1024 .f32) (harg1 : arg1.IsWhole) (arg2 : Memref sig .tc .vmem S688x1024 .bf16) (harg2 : arg2.IsWhole) (arg3 : Memref sig .tc .vmem S128x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024x5632 .bf16) (harg6 : arg6.IsWhole) (arg7 : Memref sig .tc .vmem S1x2816x1024 .bf16) (harg7 : arg7.IsWhole) (arg8 : Memref sig .tc .vmem S688x1024 .f32) (harg8 : arg8.IsWhole) :
    Prog (TpuEff nD τ sig (Elt F) Λ₀ .tc) PUnit := do
  let ⟨x, h, a⟩ : Σ' (v11 : FVec F S688x1024 .f32) (v26 : FVec F S688x1024 .bf16), FVec F S688x1024 .f32 ← k0_part1 i arg1 harg1 arg2 harg2 arg3 harg3 arg4 harg4 arg5 harg5 arg6 harg6 arg7 harg7 arg8 harg8
  let acc : FVec F S688x1024 .f32 ← k0_part2 i arg1 harg1 arg2 harg2 arg3 harg3 arg4 harg4 arg5 harg5 arg6 harg6 arg7 harg7 arg8 harg8 h a
  let _ : Vec F S688x1024 .f32 ← Prog.lift (.load arg8 (Rect.unit (s := S688x1024) ![0, 0] S688x1024.size inb_S688x1024_S688x1024_0_0).toLoadRect (View.loadsAt_vmem h_S688x1024))
  Prog.lift (.store arg8 (Rect.unit (s := S688x1024) ![0, 0] S688x1024.size inb_S688x1024_S688x1024_0_0) (halved x acc) Finset.univ (View.stores_vmem_bits_univ h_S688x1024 rfl) (.inl rfl))
  pure ⟨⟩

theorem whole_eq : cc0_ffn (F := F) = whole (F := F) := rfl

end Cert.Proof.FfnB

end
-- ==== Proof.FfnBRows.lean ====
/-
  The last block's rows past the attention's array: the body takes the samples' rows in their place.
-/
module

public import proofs.«01_k».proof.Proof.FfnBBody
public import proofs.«01_k».proof.Proof.FfnFRows
public import Idealize.ShloMosaic.Lib.Pointwise
public import Idealize.ShloMosaic.Lib.WordCmp

@[expose] public section

set_option maxRecDepth 16384

noncomputable section

namespace Cert.Proof.FfnB

open Cert.KernelFfnBIdeal Cert.KernelFfnBIdeal.Gen
open Cert.Proof.FfnF (joined joined_at)
open Idealize.ShloMosaic Idealize.ShloMosaic.WordCmp

variable {F : FTy → Type} [FloatOps F]

/-- A point's rows inside the attention's array. -/
theorem moved_rows (t : Fin cfg0.N) : win0_1.xsize (grid0.coords t) = ![if (grid0.coords t 0).val = 23 then 560 else 688, 1024] :=
  (by decide +kernel : ∀ t : Fin grid0.N, win0_1.xsize (grid0.coords t) = ![if (grid0.coords t 0).val = 23 then 560 else 688, 1024]) t

theorem moved_of (t : Fin cfg0.N) (r : Fin 688) (k : Fin 1024) (h : ¬ ((grid0.coords t 0).val = 23 ∧ ¬ r.val < 560)) :
    win0_1.moved (grid0.coords t) (ix2 r k) = true := by
  refine (win0_1.moved_iff _ _).mpr fun a => ?_
  rw [moved_rows]
  match a with
  | ⟨0, _⟩ =>
    show r.val < if (grid0.coords t 0).val = 23 then 560 else 688
    have := r.isLt
    split <;> omega
  | ⟨1, _⟩ => exact k.isLt

/-- What the buffer holds past the array does not reach the joined rows. -/
theorem joined_fill (t : Fin cfg0.N) (d d' : Vec F S688x1024 .bf16) (b : (win0_1.xblock (grid0.coords t)).Idx → Elt F .bf16) (s : Vec F S128x1024 .bf16) :
    joined (grid0.coords t) (win0_1.fill (grid0.coords t) d b) s = joined (grid0.coords t) (win0_1.fill (grid0.coords t) d' b) s := by
  funext y
  obtain ⟨r, k, rfl⟩ : ∃ (r : Fin 688) (k : Fin 1024), y = ix2 r k := ⟨y 0, y 1, funext fun a => by fin_cases a <;> rfl⟩
  rw [joined_at, joined_at]
  by_cases h : (grid0.coords t 0).val = 23 ∧ ¬ r.val < 560
  · rw [dif_pos h, dif_pos h]
  · rw [dif_neg h, dif_neg h]
    unfold Pipeline.Window.fill
    rw [dif_pos (moved_of t r k h), dif_pos (moved_of t r k h)]

end Cert.Proof.FfnB

end
-- ==== Proof.FfnBRun.lean ====
/-
  An inner layer's feed-forward call with the attention's projection, run: every grid point leaves its output block, nothing faults, the arguments stay.
-/
module

public import proofs.«01_k».proof.Proof.FfnBRows
public import proofs.«01_k».proof.Proof.Gen.KernelFfnBIdeal.Frame
public import Idealize.ShloMosaic.Lib.Claim
public import Idealize.ShloMosaic.Lib.Pipeline.ValueKit

@[expose] public section

set_option maxRecDepth 16384

noncomputable section

namespace Cert.Proof.FfnB

open Cert.KernelFfnBIdeal Cert.KernelFfnBIdeal.Gen
open Cert.Proof.FfnF (joined added normed gate wide narrow back backN gateN halved pieces firstRows)
open Idealize.ShloMosaic Idealize.ShloMosaic.TcCoe Idealize.ShloMosaic.Tactic
open Idealize.ShloMosaic.Pipeline (Dat Cfg Window BodyObligationLoose cellOf)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev rX : Rect S688x1024 := Rect.unit (s := S688x1024) ![0, 0] S688x1024.size inb_S688x1024_S688x1024_0_0
abbrev rS : Rect S128x1024 := Rect.unit (s := S128x1024) ![0, 0] S128x1024.size inb_S128x1024_S128x1024_0_0
abbrev rO : Rect S1024x1024 := Rect.unit (s := S1024x1024) ![0, 0] S1024x1024.size inb_S1024x1024_S1024x1024_0_0
abbrev rG : Rect S1x1024 := Rect.unit (s := S1x1024) ![0, 0] S1x1024.size inb_S1x1024_S1x1024_0_0
abbrev rW0 : Rect S1x1024x5632 := Rect.unit (s := S1x1024x5632) ![0, 0, 0] S1x1024x1024.size inb_S1x1024x5632_S1x1024x1024_0_0_0
abbrev rW2816 : Rect S1x1024x5632 := Rect.unit (s := S1x1024x5632) ![0, 0, 2816] S1x1024x1024.size inb_S1x1024x5632_S1x1024x1024_0_0_2816
abbrev rW1024 : Rect S1x1024x5632 := Rect.unit (s := S1x1024x5632) ![0, 0, 1024] S1x1024x1024.size inb_S1x1024x5632_S1x1024x1024_0_0_1024
abbrev rW3840 : Rect S1x1024x5632 := Rect.unit (s := S1x1024x5632) ![0, 0, 3840] S1x1024x1024.size inb_S1x1024x5632_S1x1024x1024_0_0_3840
abbrev rW2048 : Rect S1x1024x5632 := Rect.unit (s := S1x1024x5632) ![0, 0, 2048] S1x1024x768.size inb_S1x1024x5632_S1x1024x768_0_0_2048
abbrev rW4864 : Rect S1x1024x5632 := Rect.unit (s := S1x1024x5632) ![0, 0, 4864] S1x1024x768.size inb_S1x1024x5632_S1x1024x768_0_0_4864
abbrev rU0 : Rect S1x2816x1024 := Rect.unit (s := S1x2816x1024) ![0, 0, 0] S1x1024x1024.size inb_S1x2816x1024_S1x1024x1024_0_0_0
abbrev rU1024 : Rect S1x2816x1024 := Rect.unit (s := S1x2816x1024) ![0, 1024, 0] S1x1024x1024.size inb_S1x2816x1024_S1x1024x1024_0_1024_0
abbrev rU2048 : Rect S1x2816x1024 := Rect.unit (s := S1x2816x1024) ![0, 2048, 0] S1x768x1024.size inb_S1x2816x1024_S1x768x1024_0_2048_0

/-- The output's rows from what the body reads, -/
def rowsOut (x : Vec F S688x1024 .f32) (j : FVec F S688x1024 .bf16) (wo : Vec F S1024x1024 .bf16) (g : Vec F S1x1024 .f32)
    (w w' u w1 w1' u1 : Vec F S1x1024x1024 .bf16) (w2 w2' : Vec F S1x1024x768 .bf16) (u2 : Vec F S1x768x1024 .bf16) : FVec F S688x1024 .f32 :=
  halved (added x j wo) (pieces (firstRows x j wo g) (gate (wide (firstRows x j wo g) w) (wide (firstRows x j wo g) w')) u w1 w1' u1 w2 w2' u2)

/-- and the block the body stores. -/
def outF (i : grid0.Coords) (x0 : Vec F S688x1024 .f32) (x1 : Vec F S688x1024 .bf16) (x2 : Vec F S128x1024 .bf16) (x3 : Vec F S1024x1024 .bf16) (x4 : Vec F S1x1024 .f32) (x5 : Vec F S1x1024x5632 .bf16) (x6 : Vec F S1x2816x1024 .bf16) : Vec F S688x1024 .f32 :=
  View.canon [⟨rX, rowsOut (View.ld x0 rX) (joined i (View.ld x1 rX) (View.ld x2 rS)) (View.ld x3 rO) (View.ld x4 rG)
    (View.ld x5 rW0) (View.ld x5 rW2816) (View.ld x6 rU0) (View.ld x5 rW1024) (View.ld x5 rW3840) (View.ld x6 rU1024) (View.ld x5 rW2048) (View.ld x5 rW4864) (View.ld x6 rU2048)⟩]

theorem cover_out (p0 : Vec F S688x1024 .f32) (y : S688x1024.Idx) :
    ∃ pc ∈ ([⟨rX, p0⟩] : List (View.Piece (Elt F) S688x1024 .f32)), y ∈ pc.1.set :=
  View.cover_of_tiled [⟨rX, p0⟩] S688x1024.size (by rfl) y

set_option maxHeartbeats 1000000 in
/-- The body's triple: the inputs' buffers stay, the output's holds its block. -/
theorem sound_kernel (c : Dev nD) (E : Set ℕ) (i : grid0.Coords) (arg1 : Memref sig .tc .vmem S688x1024 .f32) (harg1 : arg1.IsWhole) (arg2 : Memref sig .tc .vmem S688x1024 .bf16) (harg2 : arg2.IsWhole) (arg3 : Memref sig .tc .vmem S128x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024x5632 .bf16) (harg6 : arg6.IsWhole) (arg7 : Memref sig .tc .vmem S1x2816x1024 .bf16) (harg7 : arg7.IsWhole) (arg8 : Memref sig .tc .vmem S688x1024 .f32) (harg8 : arg8.IsWhole)
    (x0 : Vec F S688x1024 .f32) (x1 : Vec F S688x1024 .bf16) (x2 : Vec F S128x1024 .bf16) (x3 : Vec F S1024x1024 .bf16) (x4 : Vec F S1x1024 .f32) (x5 : Vec F S1x1024x5632 .bf16) (x6 : Vec F S1x2816x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outF i x0 x1 x2 x3 x4 x5 x6)) -∗ K ⟨⟩))
      ⊢ wp frame (wpE (defs₀ (F := F)) Variants.none c none) E (cc0_ffn i arg1 harg1 arg2 harg2 arg3 harg3 arg4 harg4 arg5 harg5 arg6 harg6 arg7 harg7 arg8 harg8) K := by
  simp only [whole_eq]; unfold whole
  simp only [part1_eq, part2_eq]; unfold part1 part2
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_out _)

variable (m : (ℓ : Loc nD τ sig) → Buf (Elt F) ℓ) (ρ : Dev nD → PrngReg)

/-- The attention's block, anything past the array. -/
def oblk (c : Dev nD) (t : Fin cfg0.N) : Vec F S688x1024 .bf16 :=
  win0_1.fill (grid0.coords t) (fun _ => Scalar.ofBits .bf16 0#16) (iblk m c 1 t)

/-- The proof data: each input's block left in place, the output's block the body's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => oblk m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outF (grid0.coords t) (iblk m c 0 t) (oblk m c t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = oblk m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outF (grid0.coords t) (iblk m c 0 t) (oblk m c t) (iblk m c 2 t) (iblk m c 3 t) (iblk m c 4 t) (iblk m c 5 t) (iblk m c 6 t) := by dsimp only [dats]

theorem before_0 (c : Dev nD) (t : Fin cfg0.N) (d) : (dats m 0 c).before 0 t d = iblk m c 0 t :=
  before0_0_of m (dats m 0 c) (A_eq m c 0) (after_0 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- The attention's buffer just fetched: its block on the rows inside the array. -/
theorem before_1 (c : Dev nD) (t : Fin cfg0.N) (d) : (dats m 0 c).before 1 t d = win0_1.fill (grid0.coords t) d (iblk m c 1 t) := by
  unfold Dat.before; rw [if_pos (fetch0_1 t)]; rfl

theorem hz : (![0, 0] : Fin 2 → Nat) = fun _ => 0 := funext fun a => by fin_cases a <;> rfl

theorem ld_whole (x : Vec F S688x1024 .bf16) : View.ld x rX = x := by
  rw [View.ld_unit_zero hz]

/-- What lies past the array does not reach the output. -/
theorem out_fill (t : Fin cfg0.N) (d d' : Vec F S688x1024 .bf16) (b : (win0_1.xblock (grid0.coords t)).Idx → Elt F .bf16) (x0 : Vec F S688x1024 .f32) (x2 : Vec F S128x1024 .bf16) (x3 : Vec F S1024x1024 .bf16) (x4 : Vec F S1x1024 .f32) (x5 : Vec F S1x1024x5632 .bf16) (x6 : Vec F S1x2816x1024 .bf16) :
    outF (grid0.coords t) x0 (win0_1.fill (grid0.coords t) d b) x2 x3 x4 x5 x6 = outF (grid0.coords t) x0 (win0_1.fill (grid0.coords t) d' b) x2 x3 x4 x5 x6 := by
  unfold outF
  rw [ld_whole, ld_whole, joined_fill t d d']

theorem out_blk (c : Dev nD) (t : Fin cfg0.N) (d : Vec F S688x1024 .bf16) :
    outF (grid0.coords t) (iblk m c 0 t) (win0_1.fill (grid0.coords t) d (iblk m c 1 t)) (iblk m c 2 t) (iblk m c 3 t) (iblk m c 4 t) (iblk m c 5 t) (iblk m c 6 t) = (dats m 0 c).after 7 t :=
  (out_fill t d (fun _ => Scalar.ofBits .bf16 0#16) _ _ _ _ _ _ _).trans (after_7 m c t).symm

theorem defs₀_row (t : Fin cfg0.N) :
    defs₀ (F := F) .tc cfg0.body (cfg0.bodyArgs t (cfg0.slots t)) = bodyAt0 t := by
  unfold defs₀; rw [Defs.onTc_tc]

set_option maxHeartbeats 1000000 in
theorem body_obligation (c : Dev nD) : BodyObligationLoose (dats (F := F) m 0 c) (defs₀ (F := F)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before_0 m c t d0, before_1 m c t d1, before_2 m c t d2, before_3 m c t d3, before_4 m c t d4, before_5 m c t d5, before_6 m c t d6]
  iapply (sound_kernel c Set.univ (grid0.coords t) _ _ _ _ _ _ _ _ _ _ _ _ _ _ _ _ (iblk m c 0 t) (win0_1.fill (grid0.coords t) d1 (iblk m c 1 t)) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  have hx : win0_1.cut (grid0.coords t) (oblk m c t) = iblk m c 1 t := win0_1.cut_fill _ _ _
  isplitl [H0]; · iexact H0
  isplitl [H1]
  · iexists d1
    change _ ⊢ owns (c : Thread nD τ) (st0_1 t) fullShare (win0_1.fill (grid0.coords t) d1 (win0_1.cut (grid0.coords t) (oblk m c t)))
    rw [hx]
  isplitl [H2]; · iexact H2
  isplitl [H3]; · iexact H3
  isplitl [H4]; · iexact H4
  isplitl [H5]; · iexact H5
  isplitl [H6]; · iexact H6
  rw [out_blk m c t d1]
  iexact H7

set_option backward.isDefEq.respectTransparency.types false in
set_option maxHeartbeats 800000 in
/-- The run, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments stay, and every counter ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Proof.FfnB

end
-- ==== Proof.FfnFPay.lean ====
/-
  The block the feed-forward call with the final norm leaves: each of its rows through the attention's projection, the layer and the norm.
-/
module

public import proofs.«01_k».proof.Proof.FfnFRun
public import proofs.«01_k».proof.Proof.FfnRow
public import Idealize.ShloMosaic.Lib.Pipeline.ValueKit.Tiles

@[expose] public section

set_option maxRecDepth 16384

noncomputable section

namespace Cert.Proof.FfnF

open Cert.KernelFfnIdeal Cert.KernelFfnIdeal.Gen Cert.Proof.Ffn
open Idealize.ShloMosaic

/-- The attention's row projected, added to the residual row. -/
def mixed (x o : Fin 1024 → EReal) (w : Fin 1024 → Fin 1024 → EReal) (c : Fin 1024) : EReal := x c + ∑ k : Fin 1024, o k * w k c

/-- The whole call's row. -/
def last (x o : Fin 1024 → EReal) (wo : Fin 1024 → Fin 1024 → EReal) (g : Fin 1024 → EReal) (w : Fin 1024 → Fin 5632 → EReal)
    (u : Fin 2816 → Fin 1024 → EReal) (gf : Fin 1024 → EReal) (c : Fin 1024) : EReal :=
  rms (row (mixed x o wo) g w u) gf c

variable (x : FVec Ideal S688x1024 .f32) (g : FVec Ideal S1x1024 .f32)

theorem added_at (j : FVec Ideal S688x1024 .bf16) (wo : FVec Ideal S1024x1024 .bf16) (r : Fin 688) (c : Fin 1024) :
    added (F := Ideal) x j wo (ix2 r c) = mixed (fun k => x (ix2 r k)) (fun k => j (ix2 r k)) (fun k c => wo (ix2 k c)) c := by
  pointwise [added, mixed]

theorem normed_at (r : Fin 688) (k : Fin 1024) :
    normed (F := Ideal) x g (ix2 r k) = rms (fun j => x (ix2 r j)) (fun j => g (ix2 0 j)) k := by
  pointwise [normed, rms]

theorem cut_at (r : Fin 688) (k : Fin 1024) :
    (truncf .bf16 x bitsLt_bf16_f32 : FVec Ideal S688x1024 .bf16) (ix2 r k) = x (ix2 r k) := by
  pointwise

theorem wide_at (h : FVec Ideal S688x1024 .bf16) (w : FVec Ideal S1x1024x1024 .bf16) (r : Fin 688) (f : Fin 1024) :
    wide (F := Ideal) h w (ix2 r f) = ∑ k : Fin 1024, h (ix2 r k) * w (ix3 0 k f) := by
  pointwise [wide]

theorem narrow_at (h : FVec Ideal S688x1024 .bf16) (w : FVec Ideal S1x1024x768 .bf16) (r : Fin 688) (f : Fin 768) :
    narrow (F := Ideal) h w (ix2 r f) = ∑ k : Fin 1024, h (ix2 r k) * w (ix3 0 k f) := by
  pointwise [narrow]

theorem back_at (a : FVec Ideal S688x1024 .f32) (u : FVec Ideal S1x1024x1024 .bf16) (r : Fin 688) (c : Fin 1024) :
    back (F := Ideal) a u (ix2 r c) = ∑ f : Fin 1024, a (ix2 r f) * u (ix3 0 f c) := by
  pointwise [back, wide]

theorem backN_at (a : FVec Ideal S688x768 .f32) (u : FVec Ideal S1x768x1024 .bf16) (r : Fin 688) (c : Fin 1024) :
    backN (F := Ideal) a u (ix2 r c) = ∑ f : Fin 768, a (ix2 r f) * u (ix3 0 f c) := by
  pointwise [backN]

theorem gate_at (p q : FVec Ideal S688x1024 .f32) (r : Fin 688) (f : Fin 1024) :
    gate (F := Ideal) p q (ix2 r f) = p (ix2 r f) * Ideal.logistic (p (ix2 r f)) * q (ix2 r f) := by
  pointwise [gate]

theorem gateN_at (p q : FVec Ideal S688x768 .f32) (r : Fin 688) (f : Fin 768) :
    gateN (F := Ideal) p q (ix2 r f) = p (ix2 r f) * Ideal.logistic (p (ix2 r f)) * q (ix2 r f) := by
  pointwise [gateN]

theorem halved_at (acc : FVec Ideal S688x1024 .f32) (r : Fin 688) (c : Fin 1024) :
    halved (F := Ideal) x acc (ix2 r c) = x (ix2 r c) + Ideal.ofBits .f32 0x3F000000#32 * acc (ix2 r c) := by
  pointwise [halved]

theorem ld_w (w : FVec Ideal S1x1024x5632 .bf16) (o n : Nat) (hi) (k : Fin 1024) (f : Fin n) (e : Fin 5632) (he : e.val = o + f.val) :
    View.ld (Val := Elt Ideal) (e' := .bf16) w (Rect.unit (s := S1x1024x5632) ![0, 0, o] ![1, 1024, n] hi) (ix3 0 k f) = w (ix3 0 k e) := by
  refine congrArg w (funext fun a => ?_)
  match a with
  | ⟨0, _⟩ => rfl
  | ⟨1, _⟩ => exact Fin.ext ((Rect.idx_unit_val _ _ _ _ _).trans (by show 0 + k.val = k.val; omega))
  | ⟨2, _⟩ => exact Fin.ext ((Rect.idx_unit_val _ _ _ _ _).trans (by show o + f.val = e.val; omega))

theorem ld_u (u : FVec Ideal S1x2816x1024 .bf16) (o n : Nat) (hi) (f : Fin n) (c : Fin 1024) (e : Fin 2816) (he : e.val = o + f.val) :
    View.ld (Val := Elt Ideal) (e' := .bf16) u (Rect.unit (s := S1x2816x1024) ![0, o, 0] ![1, n, 1024] hi) (ix3 0 f c) = u (ix3 0 e c) := by
  refine congrArg u (funext fun a => ?_)
  match a with
  | ⟨0, _⟩ => rfl
  | ⟨1, _⟩ => exact Fin.ext ((Rect.idx_unit_val _ _ _ _ _).trans (by show o + f.val = e.val; omega))
  | ⟨2, _⟩ => exact Fin.ext ((Rect.idx_unit_val _ _ _ _ _).trans (by show 0 + c.val = c.val; omega))

/-- The three pieces' sum, its operands read at an index. -/
theorem pieces_at (h : FVec Ideal S688x1024 .bf16) (w w' u w1 w1' u1 : FVec Ideal S1x1024x1024 .bf16) (w2 w2' : FVec Ideal S1x1024x768 .bf16)
    (u2 : FVec Ideal S1x768x1024 .bf16) (r : Fin 688) (c : Fin 1024) (H : Fin 1024 → EReal) (W : Fin 1024 → Fin 5632 → EReal) (U : Fin 2816 → Fin 1024 → EReal)
    (hh : ∀ k, h (ix2 r k) = H k)
    (hw : ∀ k (f : Fin 1024), w (ix3 0 k f) = W k ⟨f.val, by omega⟩) (hw' : ∀ k (f : Fin 1024), w' (ix3 0 k f) = W k ⟨2816 + f.val, by omega⟩)
    (hu : ∀ f : Fin 1024, u (ix3 0 f c) = U ⟨f.val, by omega⟩ c)
    (hw1 : ∀ k (f : Fin 1024), w1 (ix3 0 k f) = W k ⟨1024 + f.val, by omega⟩) (hw1' : ∀ k (f : Fin 1024), w1' (ix3 0 k f) = W k ⟨2816 + (1024 + f.val), by omega⟩)
    (hu1 : ∀ f : Fin 1024, u1 (ix3 0 f c) = U ⟨1024 + f.val, by omega⟩ c)
    (hw2 : ∀ k (f : Fin 768), w2 (ix3 0 k f) = W k ⟨2048 + f.val, by omega⟩) (hw2' : ∀ k (f : Fin 768), w2' (ix3 0 k f) = W k ⟨2816 + (2048 + f.val), by omega⟩)
    (hu2 : ∀ f : Fin 768, u2 (ix3 0 f c) = U ⟨2048 + f.val, by omega⟩ c) :
    pieces (F := Ideal) h (gate (wide h w) (wide h w')) u w1 w1' u1 w2 w2' u2 (ix2 r c) = ∑ f : Fin 2816, act H W f * U f c := by
  rw [sum_pieces]
  pointwise [pieces]
  simp only [back_at, backN_at, gate_at, gateN_at, wide_at, narrow_at, hh, hw, hw', hu, hw1, hw1', hu1, hw2, hw2', hu2]
  rfl

/-- The block the body leaves. -/
theorem out_at (i : grid0.Coords) (o : FVec Ideal S688x1024 .bf16) (s : FVec Ideal S128x1024 .bf16) (wo : FVec Ideal S1024x1024 .bf16)
    (w : FVec Ideal S1x1024x5632 .bf16) (u : FVec Ideal S1x2816x1024 .bf16) (gf : FVec Ideal S1x1024 .f32) (r : Fin 688) (c : Fin 1024) :
    outF (F := Ideal) i x o s wo g w u gf (ix2 r c)
      = last (fun j => x (ix2 r j)) (fun j => joined (F := Ideal) i o s (ix2 r j)) (fun k c => wo (ix2 k c)) (fun j => g (ix2 0 j)) (fun k f => w (ix3 0 k f))
          (fun f k => u (ix3 0 f k)) (fun j => gf (ix2 0 j)) c := by
  unfold outF
  rw [View.canon_unit_zero hz, View.ld_unit_zero hz, View.ld_unit_zero hz, View.ld_unit_zero hz, View.ld_unit_zero hz, View.ld_unit_zero hz, View.ld_unit_zero hz]
  unfold rowsOut
  refine (normed_at _ _ r c).trans ?_
  refine congrArg (fun y => rms y (fun j => gf (ix2 0 j)) c) (funext fun k => ?_)
  refine (halved_at _ _ r k).trans ?_
  rw [added_at]
  refine congrArg (fun z => mixed _ _ _ k + Ideal.ofBits .f32 0x3F000000#32 * z) ?_
  refine pieces_at _ _ _ _ _ _ _ _ _ _ r k _ (fun k f => w (ix3 0 k f)) (fun f k => u (ix3 0 f k)) (fun k => ?_)
    (fun k f => ld_w w 0 1024 _ k f _ (by show f.val = 0 + f.val; omega)) (fun k f => ld_w w 2816 1024 _ k f _ rfl) (fun f => ld_u u 0 1024 _ f k _ (by show f.val = 0 + f.val; omega))
    (fun k f => ld_w w 1024 1024 _ k f _ rfl) (fun k f => ld_w w 3840 1024 _ k f _ (by show 2816 + (1024 + f.val) = 3840 + f.val; omega)) (fun f => ld_u u 1024 1024 _ f k _ rfl)
    (fun k f => ld_w w 2048 768 _ k f _ rfl) (fun k f => ld_w w 4864 768 _ k f _ (by show 2816 + (2048 + f.val) = 4864 + f.val; omega)) (fun f => ld_u u 2048 768 _ f k _ rfl)
  unfold firstRows
  refine (cut_at _ r k).trans ((normed_at _ _ r k).trans ?_)
  simp only [added_at]

end Cert.Proof.FfnF

end
-- ==== Proof.FfnBPay.lean ====
/-
  The block an inner layer's call leaves: each of its rows through the attention's projection and the layer.
-/
module

public import proofs.«01_k».proof.Proof.FfnBRun
public import proofs.«01_k».proof.Proof.FfnFPay
public import proofs.«01_k».proof.Proof.FfnRow
public import Idealize.ShloMosaic.Lib.Pipeline.ValueKit.Tiles

@[expose] public section

set_option maxRecDepth 16384

noncomputable section

namespace Cert.Proof.FfnB

open Cert.KernelFfnBIdeal Cert.KernelFfnBIdeal.Gen Cert.Proof.Ffn
open Cert.Proof.FfnF (joined added normed gate wide narrow gateN back backN halved pieces firstRows mixed added_at normed_at cut_at halved_at ld_w ld_u pieces_at)
open Idealize.ShloMosaic

/-- The block the body leaves. -/
theorem out_at (x : FVec Ideal S688x1024 .f32) (g : FVec Ideal S1x1024 .f32) (i : grid0.Coords) (o : FVec Ideal S688x1024 .bf16) (s : FVec Ideal S128x1024 .bf16) (wo : FVec Ideal S1024x1024 .bf16)
    (w : FVec Ideal S1x1024x5632 .bf16) (u : FVec Ideal S1x2816x1024 .bf16) (r : Fin 688) (c : Fin 1024) :
    outF (F := Ideal) i x o s wo g w u (ix2 r c)
      = row (mixed (fun j => x (ix2 r j)) (fun j => joined (F := Ideal) i o s (ix2 r j)) (fun k c => wo (ix2 k c))) (fun j => g (ix2 0 j)) (fun k f => w (ix3 0 k f))
          (fun f k => u (ix3 0 f k)) c := by
  unfold outF
  rw [View.canon_unit_zero hz, View.ld_unit_zero hz, View.ld_unit_zero hz, View.ld_unit_zero hz, View.ld_unit_zero hz, View.ld_unit_zero hz]
  unfold rowsOut
  refine (halved_at _ _ r c).trans ?_
  rw [added_at]
  refine congrArg (fun z => mixed _ _ _ c + Ideal.ofBits .f32 0x3F000000#32 * z) ?_
  refine pieces_at _ _ _ _ _ _ _ _ _ _ r c _ (fun k f => w (ix3 0 k f)) (fun f k => u (ix3 0 f k)) (fun k => ?_)
    (fun k f => ld_w w 0 1024 _ k f _ (by show f.val = 0 + f.val; omega)) (fun k f => ld_w w 2816 1024 _ k f _ rfl) (fun f => ld_u u 0 1024 _ f c _ (by show f.val = 0 + f.val; omega))
    (fun k f => ld_w w 1024 1024 _ k f _ rfl) (fun k f => ld_w w 3840 1024 _ k f _ (by show 2816 + (1024 + f.val) = 3840 + f.val; omega)) (fun f => ld_u u 1024 1024 _ f c _ rfl)
    (fun k f => ld_w w 2048 768 _ k f _ rfl) (fun k f => ld_w w 4864 768 _ k f _ (by show 2816 + (2048 + f.val) = 4864 + f.val; omega)) (fun f => ld_u u 2048 768 _ f c _ rfl)
  unfold firstRows
  refine (cut_at _ r k).trans ((normed_at _ _ r k).trans ?_)
  simp only [added_at]

end Cert.Proof.FfnB

end
-- ==== Proof.FfnFValue.lean ====
/-
  The feed-forward call with the final norm leaves each row of the residual with its attention row through the layer and the norm.
-/
module

public import proofs.«01_k».proof.Proof.FfnFPay
public import Idealize.ShloMosaic.Lib.Claim
public import Idealize.ShloMosaic.Lib.Pipeline.ValueKit.Point

@[expose] public section

set_option maxRecDepth 16384

noncomputable section

namespace Cert.Proof.FfnF

open Cert.KernelFfnIdeal Cert.KernelFfnIdeal.Gen Cert.Proof.Ffn
open Idealize.ShloMosaic Idealize.ShloMosaic.TcCoe Idealize.SL.Sem

variable (m : (ℓ : Loc nD τ sig) → Buf (Elt Ideal) ℓ)

theorem samples (c : Dev nD) (r : Fin 128) (k : Fin 1024) : V m c main_v0 (ix2 r k) = m ((c.tc : Thread nD τ).loc main_arg2) (ix2 r k) := by
  entry_read
  pointwise

theorem proj (c : Dev nD) (j k : Fin 1024) : V m c main_v3 (ix2 j k) = m ((c.tc : Thread nD τ).loc main_arg3) (ix3 1 j k) := by
  entry_read
  pointwise

theorem gain (c : Dev nD) (j : Fin 1024) : V m c main_v8 (ix2 0 j) = m ((c.tc : Thread nD τ).loc main_arg4) (ix2 3 j) := by
  entry_read
  pointwise

theorem weights (c : Dev nD) (k : Fin 1024) (f : Fin 5632) : V m c main_v6 (ix3 3 k f) = m ((c.tc : Thread nD τ).loc main_arg5) (ix3 3 k f) := by
  entry_read
  pointwise

theorem out_weights (c : Dev nD) (f : Fin 2816) (k : Fin 1024) : V m c main_v7 (ix3 3 f k) = m ((c.tc : Thread nD τ).loc main_arg6) (ix3 3 f k) := by
  entry_read
  pointwise

theorem last_gain (c : Dev nD) (j : Fin 1024) : V m c main_v9 (ix2 0 j) = m ((c.tc : Thread nD τ).loc main_arg7) (ix1 j) := by
  entry_read
  pointwise

theorem e0 : ∀ t : Fin cfg0.N, win0_0.index t = ![(grid0.coords t 0).val, 0] := (by decide +kernel : ∀ t : Fin grid0.N, _)
theorem e1 : ∀ t : Fin cfg0.N, win0_1.index t = ![(grid0.coords t 0).val, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![3, 0, 0] := (by decide +kernel : ∀ t : Fin grid0.N, _)
theorem e6 : ∀ t : Fin cfg0.N, win0_6.index t = ![3, 0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![(grid0.coords t 0).val, 0] := (by decide +kernel : ∀ t : Fin grid0.N, _)

/-- The array's row that a point's local row is. -/
def rowOf (t : Fin cfg0.N) (r : Fin 688) : Fin 16512 :=
  ⟨688 * (grid0.coords t 0).val + r.val, by have : (grid0.coords t 0).val < 24 := (grid0.coords t 0).isLt; omega⟩

theorem blk_x (c : Dev nD) (t : Fin cfg0.N) (r : Fin 688) (j : Fin 1024) :
    iblk m c 0 t (ix2 r j) = m ((c.tc : Thread nD τ).loc main_arg0) (ix2 (rowOf t r) j) := by
  refine Eq.trans ?_ (congrFun (V_main_arg0 m c) _)
  show V m c main_arg0 ((win0_0.blk t).view.emb (ix2 r j)) = _
  congr 1
  unfold rowOf
  blk_ext [e0 t]

theorem blk_s (c : Dev nD) (t : Fin cfg0.N) (r : Fin 128) (j : Fin 1024) : iblk m c 2 t (ix2 r j) = m ((c.tc : Thread nD τ).loc main_arg2) (ix2 r j) := by
  refine Eq.trans ?_ (samples m c r j)
  show V m c main_v0 ((win0_2.blk t).view.emb (ix2 r j)) = _
  congr 1
  blk_ext [e2 t]

theorem blk_wo (c : Dev nD) (t : Fin cfg0.N) (j k : Fin 1024) : iblk m c 3 t (ix2 j k) = m ((c.tc : Thread nD τ).loc main_arg3) (ix3 1 j k) := by
  refine Eq.trans ?_ (proj m c j k)
  show V m c main_v3 ((win0_3.blk t).view.emb (ix2 j k)) = _
  congr 1
  blk_ext [e3 t]

theorem blk_g (c : Dev nD) (t : Fin cfg0.N) (j : Fin 1024) : iblk m c 4 t (ix2 0 j) = m ((c.tc : Thread nD τ).loc main_arg4) (ix2 3 j) := by
  refine Eq.trans ?_ (gain m c j)
  show V m c main_v8 ((win0_4.blk t).view.emb (ix2 0 j)) = _
  congr 1
  blk_ext [e4 t]

theorem blk_w (c : Dev nD) (t : Fin cfg0.N) (k : Fin 1024) (f : Fin 5632) :
    iblk m c 5 t (ix3 0 k f) = m ((c.tc : Thread nD τ).loc main_arg5) (ix3 3 k f) := by
  refine Eq.trans ?_ (weights m c k f)
  show V m c main_v6 ((win0_5.blk t).view.emb (ix3 0 k f)) = _
  congr 1
  blk_ext [e5 t]

theorem blk_u (c : Dev nD) (t : Fin cfg0.N) (f : Fin 2816) (k : Fin 1024) :
    iblk m c 6 t (ix3 0 f k) = m ((c.tc : Thread nD τ).loc main_arg6) (ix3 3 f k) := by
  refine Eq.trans ?_ (out_weights m c f k)
  show V m c main_v7 ((win0_6.blk t).view.emb (ix3 0 f k)) = _
  congr 1
  blk_ext [e6 t]

theorem blk_gf (c : Dev nD) (t : Fin cfg0.N) (j : Fin 1024) : iblk m c 7 t (ix2 0 j) = m ((c.tc : Thread nD τ).loc main_arg7) (ix1 j) := by
  refine Eq.trans ?_ (last_gain m c j)
  show V m c main_v9 ((win0_7.blk t).view.emb (ix2 0 j)) = _
  congr 1
  blk_ext [e7 t]

/-- Both attentions' rows, the prompt's first. -/
def both (o : FVec Ideal S16384x1024 .bf16) (s : FVec Ideal S128x1024 .f32) (r : Fin 16512) (k : Fin 1024) : EReal :=
  if h : r.val < 16384 then o (ix2 ⟨r.val, h⟩ k) else s (ix2 ⟨r.val - 16384, by omega⟩ k)

theorem blk_o (c : Dev nD) (t : Fin cfg0.N) (r : Fin 688) (k : Fin 1024) (h : ¬ ((grid0.coords t 0).val = 23 ∧ ¬ r.val < 560)) (hr : (rowOf t r).val < 16384) :
    oblk m c t (ix2 r k) = m ((c.tc : Thread nD τ).loc main_arg1) (ix2 ⟨(rowOf t r).val, hr⟩ k) := by
  unfold oblk Pipeline.Window.fill
  rw [dif_pos (moved_of t r k h)]
  refine Eq.trans ?_ (congrFun (V_main_arg1 m c) _)
  show V m c main_arg1 ((win0_1.blk t).view.emb _) = _
  congr 1
  unfold rowOf
  blk_ext [e1 t]

theorem joined_blk (c : Dev nD) (t : Fin cfg0.N) (r : Fin 688) (k : Fin 1024) :
    joined (F := Ideal) (grid0.coords t) (oblk m c t) (iblk m c 2 t) (ix2 r k)
      = both (m ((c.tc : Thread nD τ).loc main_arg1)) (m ((c.tc : Thread nD τ).loc main_arg2)) (rowOf t r) k := by
  have hv : (rowOf t r).val = 688 * (grid0.coords t 0).val + r.val := rfl
  have ht : (grid0.coords t 0).val < 24 := (grid0.coords t 0).isLt
  have hr : r.val < 688 := r.isLt
  rw [joined_at]
  unfold both
  by_cases h : (grid0.coords t 0).val = 23 ∧ ¬ r.val < 560
  · rw [dif_pos h, dif_neg (by omega)]
    refine (blk_s m c t _ k).trans (congrArg (fun z => m ((c.tc : Thread nD τ).loc main_arg2) (ix2 z k)) (Fin.ext ?_))
    show r.val - 560 = (rowOf t r).val - 16384
    omega
  · have hlt : (rowOf t r).val < 16384 := by omega
    rw [dif_neg h, dif_pos hlt]
    exact blk_o m c t r k h hlt

/-- The call's result is any array whose rows are the argument's rows through the call. -/
theorem final (c : Dev nD) (G : FVec Ideal S16512x1024 .f32)
    (hG : ∀ (r : Fin 16512) (k : Fin 1024), G (ix2 r k) = last (fun j => m ((c.tc : Thread nD τ).loc main_arg0) (ix2 r j))
      (both (m ((c.tc : Thread nD τ).loc main_arg1)) (m ((c.tc : Thread nD τ).loc main_arg2)) r)
      (fun j k => m ((c.tc : Thread nD τ).loc main_arg3) (ix3 1 j k))
      (fun j => m ((c.tc : Thread nD τ).loc main_arg4) (ix2 3 j)) (fun k f => m ((c.tc : Thread nD τ).loc main_arg5) (ix3 3 k f))
      (fun f k => m ((c.tc : Thread nD τ).loc main_arg6) (ix3 3 f k)) (fun j => m ((c.tc : Thread nD τ).loc main_arg7) (ix1 j)) k) :
    (dats m 0 c).arrAt 8 cfg0.N = G := by
  refine (dats m 0 c).arrAt_eq_of_covers 8 _ (by decide +kernel) fun t hf y => ?_
  blk_simp
  rw [after_8]
  obtain ⟨r, k, rfl⟩ : ∃ (r : Fin 688) (k : Fin 1024), y = ix2 r k := ⟨y 0, y 1, funext fun a => by fin_cases a <;> rfl⟩
  have he : (win0_8.blk t).view.emb (ix2 r k) = ix2 (rowOf t r) k := by
    unfold rowOf
    blk_ext [e8 t]
  rw [he, hG]
  refine (out_at _ _ _ _ _ _ _ _ _ r k).trans ?_
  simp only [blk_x, blk_g, blk_w, blk_u, blk_wo, blk_gf, joined_blk]

/-- The run with the output array named, the arguments unchanged. -/
theorem run_value (ρ : Dev nD → PrngReg) : θ_run defs (onTc (τ := τ) (main (F := Ideal))) ⟨m, fun _ => 0, ρ⟩ (fun r =>
      (∀ c : Dev nD, r.2.mem ((c.tc : Thread nD τ).loc main_v10) = (dats m 0 c).arrAt 8 cfg0.N) ∧ ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  θ_run_and ((θ_run defs _ _).mono (fun _ h c => (h c).1 8) (run_main m ρ)) (frame_of m ρ (dats m) (A_eq m) (run_main m ρ))

end Cert.Proof.FfnF

end
-- ==== Proof.FfnBValue.lean ====
/-
  An inner layer's feed-forward call leaves each row of the residual with its attention row through the layer.
-/
module

public import proofs.«01_k».proof.Proof.FfnBPay
public import proofs.«01_k».proof.Proof.FfnFValue
public import Idealize.ShloMosaic.Lib.Claim
public import Idealize.ShloMosaic.Lib.Pipeline.ValueKit.Point

@[expose] public section

set_option maxRecDepth 16384

noncomputable section

namespace Cert.Proof.FfnB

open Cert.KernelFfnBIdeal Cert.KernelFfnBIdeal.Gen Cert.Proof.Ffn
open Cert.Proof.FfnF (joined joined_at mixed both)
open Idealize.ShloMosaic Idealize.ShloMosaic.TcCoe Idealize.SL.Sem

variable (m : (ℓ : Loc nD τ sig) → Buf (Elt Ideal) ℓ)

theorem samples (c : Dev nD) (r : Fin 128) (k : Fin 1024) : V m c main_v0 (ix2 r k) = m ((c.tc : Thread nD τ).loc main_arg2) (ix2 r k) := by
  entry_read
  pointwise

theorem proj (c : Dev nD) (j k : Fin 1024) : V m c main_v3 (ix2 j k) = m ((c.tc : Thread nD τ).loc main_arg3) (ix3 0 j k) := by
  entry_read
  pointwise

theorem gain (c : Dev nD) (j : Fin 1024) : V m c main_v8 (ix2 0 j) = m ((c.tc : Thread nD τ).loc main_arg4) (ix2 1 j) := by
  entry_read
  pointwise

theorem weights (c : Dev nD) (k : Fin 1024) (f : Fin 5632) : V m c main_v6 (ix3 1 k f) = m ((c.tc : Thread nD τ).loc main_arg5) (ix3 1 k f) := by
  entry_read
  pointwise

theorem out_weights (c : Dev nD) (f : Fin 2816) (k : Fin 1024) : V m c main_v7 (ix3 1 f k) = m ((c.tc : Thread nD τ).loc main_arg6) (ix3 1 f k) := by
  entry_read
  pointwise

theorem e0 : ∀ t : Fin cfg0.N, win0_0.index t = ![(grid0.coords t 0).val, 0] := (by decide +kernel : ∀ t : Fin grid0.N, _)
theorem e1 : ∀ t : Fin cfg0.N, win0_1.index t = ![(grid0.coords t 0).val, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![1, 0, 0] := (by decide +kernel : ∀ t : Fin grid0.N, _)
theorem e6 : ∀ t : Fin cfg0.N, win0_6.index t = ![1, 0, 0] := (by decide +kernel : ∀ t : Fin grid0.N, _)
theorem e7 : ∀ t : Fin cfg0.N, win0_7.index t = ![(grid0.coords t 0).val, 0] := (by decide +kernel : ∀ t : Fin grid0.N, _)

/-- The array's row that a point's local row is. -/
def rowOf (t : Fin cfg0.N) (r : Fin 688) : Fin 16512 :=
  ⟨688 * (grid0.coords t 0).val + r.val, by have : (grid0.coords t 0).val < 24 := (grid0.coords t 0).isLt; omega⟩

theorem blk_x (c : Dev nD) (t : Fin cfg0.N) (r : Fin 688) (j : Fin 1024) :
    iblk m c 0 t (ix2 r j) = m ((c.tc : Thread nD τ).loc main_arg0) (ix2 (rowOf t r) j) := by
  refine Eq.trans ?_ (congrFun (V_main_arg0 m c) _)
  show V m c main_arg0 ((win0_0.blk t).view.emb (ix2 r j)) = _
  congr 1
  unfold rowOf
  blk_ext [e0 t]

theorem blk_s (c : Dev nD) (t : Fin cfg0.N) (r : Fin 128) (j : Fin 1024) : iblk m c 2 t (ix2 r j) = m ((c.tc : Thread nD τ).loc main_arg2) (ix2 r j) := by
  refine Eq.trans ?_ (samples m c r j)
  show V m c main_v0 ((win0_2.blk t).view.emb (ix2 r j)) = _
  congr 1
  blk_ext [e2 t]

theorem blk_wo (c : Dev nD) (t : Fin cfg0.N) (j k : Fin 1024) : iblk m c 3 t (ix2 j k) = m ((c.tc : Thread nD τ).loc main_arg3) (ix3 0 j k) := by
  refine Eq.trans ?_ (proj m c j k)
  show V m c main_v3 ((win0_3.blk t).view.emb (ix2 j k)) = _
  congr 1
  blk_ext [e3 t]

theorem blk_g (c : Dev nD) (t : Fin cfg0.N) (j : Fin 1024) : iblk m c 4 t (ix2 0 j) = m ((c.tc : Thread nD τ).loc main_arg4) (ix2 1 j) := by
  refine Eq.trans ?_ (gain m c j)
  show V m c main_v8 ((win0_4.blk t).view.emb (ix2 0 j)) = _
  congr 1
  blk_ext [e4 t]

theorem blk_w (c : Dev nD) (t : Fin cfg0.N) (k : Fin 1024) (f : Fin 5632) :
    iblk m c 5 t (ix3 0 k f) = m ((c.tc : Thread nD τ).loc main_arg5) (ix3 1 k f) := by
  refine Eq.trans ?_ (weights m c k f)
  show V m c main_v6 ((win0_5.blk t).view.emb (ix3 0 k f)) = _
  congr 1
  blk_ext [e5 t]

theorem blk_u (c : Dev nD) (t : Fin cfg0.N) (f : Fin 2816) (k : Fin 1024) :
    iblk m c 6 t (ix3 0 f k) = m ((c.tc : Thread nD τ).loc main_arg6) (ix3 1 f k) := by
  refine Eq.trans ?_ (out_weights m c f k)
  show V m c main_v7 ((win0_6.blk t).view.emb (ix3 0 f k)) = _
  congr 1
  blk_ext [e6 t]

theorem blk_o (c : Dev nD) (t : Fin cfg0.N) (r : Fin 688) (k : Fin 1024) (h : ¬ ((grid0.coords t 0).val = 23 ∧ ¬ r.val < 560)) (hr : (rowOf t r).val < 16384) :
    oblk m c t (ix2 r k) = m ((c.tc : Thread nD τ).loc main_arg1) (ix2 ⟨(rowOf t r).val, hr⟩ k) := by
  unfold oblk Pipeline.Window.fill
  rw [dif_pos (moved_of t r k h)]
  refine Eq.trans ?_ (congrFun (V_main_arg1 m c) _)
  show V m c main_arg1 ((win0_1.blk t).view.emb _) = _
  congr 1
  unfold rowOf
  blk_ext [e1 t]

theorem joined_blk (c : Dev nD) (t : Fin cfg0.N) (r : Fin 688) (k : Fin 1024) :
    joined (F := Ideal) (grid0.coords t) (oblk m c t) (iblk m c 2 t) (ix2 r k)
      = both (m ((c.tc : Thread nD τ).loc main_arg1)) (m ((c.tc : Thread nD τ).loc main_arg2)) (rowOf t r) k := by
  have hv : (rowOf t r).val = 688 * (grid0.coords t 0).val + r.val := rfl
  have ht : (grid0.coords t 0).val < 24 := (grid0.coords t 0).isLt
  have hr : r.val < 688 := r.isLt
  rw [joined_at]
  unfold both
  by_cases h : (grid0.coords t 0).val = 23 ∧ ¬ r.val < 560
  · rw [dif_pos h, dif_neg (by omega)]
    refine (blk_s m c t _ k).trans (congrArg (fun z => m ((c.tc : Thread nD τ).loc main_arg2) (ix2 z k)) (Fin.ext ?_))
    show r.val - 560 = (rowOf t r).val - 16384
    omega
  · have hlt : (rowOf t r).val < 16384 := by omega
    rw [dif_neg h, dif_pos hlt]
    exact blk_o m c t r k h hlt

/-- The call's result is any array whose rows are the argument's rows through the call. -/
theorem final (c : Dev nD) (G : FVec Ideal S16512x1024 .f32)
    (hG : ∀ (r : Fin 16512) (k : Fin 1024), G (ix2 r k) = row (mixed (fun j => m ((c.tc : Thread nD τ).loc main_arg0) (ix2 r j))
      (both (m ((c.tc : Thread nD τ).loc main_arg1)) (m ((c.tc : Thread nD τ).loc main_arg2)) r)
      (fun j k => m ((c.tc : Thread nD τ).loc main_arg3) (ix3 0 j k)))
      (fun j => m ((c.tc : Thread nD τ).loc main_arg4) (ix2 1 j)) (fun k f => m ((c.tc : Thread nD τ).loc main_arg5) (ix3 1 k f))
      (fun f k => m ((c.tc : Thread nD τ).loc main_arg6) (ix3 1 f k)) k) :
    (dats m 0 c).arrAt 7 cfg0.N = G := by
  refine (dats m 0 c).arrAt_eq_of_covers 7 _ (by decide +kernel) fun t hf y => ?_
  blk_simp
  rw [after_7]
  obtain ⟨r, k, rfl⟩ : ∃ (r : Fin 688) (k : Fin 1024), y = ix2 r k := ⟨y 0, y 1, funext fun a => by fin_cases a <;> rfl⟩
  have he : (win0_7.blk t).view.emb (ix2 r k) = ix2 (rowOf t r) k := by
    unfold rowOf
    blk_ext [e7 t]
  rw [he, hG]
  refine (out_at _ _ _ _ _ _ _ _ r k).trans ?_
  simp only [blk_x, blk_g, blk_w, blk_u, blk_wo, joined_blk]

/-- The run with the output array named, the arguments unchanged. -/
theorem run_value (ρ : Dev nD → PrngReg) : θ_run defs (onTc (τ := τ) (main (F := Ideal))) ⟨m, fun _ => 0, ρ⟩ (fun r =>
      (∀ c : Dev nD, r.2.mem ((c.tc : Thread nD τ).loc main_v9) = (dats m 0 c).arrAt 7 cfg0.N) ∧ ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  θ_run_and ((θ_run defs _ _).mono (fun _ h c => (h c).1 7) (run_main m ρ)) (frame_of m ρ (dats m) (A_eq m) (run_main m ρ))

end Cert.Proof.FfnB

end
-- ==== Proof.FfnBRef.lean ====
/-
  The reference of an inner layer's call, read at a row.
-/
module

public import proofs.«01_k».proof.Proof.Gen.ReferenceFfnBIdeal.Run
public import proofs.«01_k».proof.Proof.FfnBValue
public import Idealize.ShloMosaic.Lib.Pointwise

@[expose] public section

set_option maxRecDepth 16384

noncomputable section

namespace Cert.Proof.FfnB.Ref

open Cert.ReferenceFfnBIdeal Cert.ReferenceFfnBIdeal.Gen Cert.ReferenceFfnBIdeal.Value Cert.Proof.Ffn
open Cert.Proof.FfnF (mixed both)
open Idealize.ShloMosaic

variable (x : FVec Ideal S16512x1024 .f32) (w : FVec Ideal S4x1024x5632 .f32) (u : FVec Ideal S4x2816x1024 .f32)

/-- The residual with both attentions' rows projected. -/
def mixF (o : FVec Ideal S16384x1024 .bf16) (s : FVec Ideal S128x1024 .f32) (wo : FVec Ideal S2x1024x1024 .f32) : FVec Ideal S16512x1024 .f32 :=
  addf x (Host.dotGeneral dot_S16512x1024_S1024x1024_S16512x1024_1_0_0_1_n_n none (concatenate S16512x1024 0 [⟨S16384x1024, (extf .f32 o bitsLt_bf16_f32)⟩, ⟨S128x1024, s⟩] concatenates_S16384x1024_S128x1024_S16512x1024_d0) (shapeCast _ (extractStridedSlice S1x1024x1024 ![0, 0, 0] wo slices_S2x1024x1024_S1x1024x1024_0_0_0) shapeCasts_S1x1024x1024_S1024x1024))

/-- The layer's gain. -/
def gainF (g : FVec Ideal S4x1024 .f32) : FVec Ideal S1024 .f32 :=
  shapeCast _ (extractStridedSlice S1x1024 ![1, 0] g slices_S4x1024_S1x1024_1_0) shapeCasts_S1x1024_S1024

/-- The normalized rows. -/
def normF (g : FVec Ideal S1024 .f32) : FVec Ideal S16512x1024 .f32 :=
  mulf (mulf x (broadcastInDim S16512x1024 ![0, 1] bcast_S16512x1_S16512x1024_0_1 (Host.rsqrt (addf (Host.divf (broadcastInDim S16512x1 ![0] bcast_S16512_S16512x1_0 (Host.reduceAdd (mulf x x) (constant S_ .f32 0x00000000#32) reducesTo_S16512x1024_S16512_d1 h_S_)) (broadcastInDim S16512x1 ![] bcast_S_S16512x1 (constant S_ .f32 0x44800000#32))) (broadcastInDim S16512x1 ![] bcast_S_S16512x1 (constant S_ .f32 0x358637BD#32))))))
    (broadcastInDim S16512x1024 ![0, 1] bcast_S1x1024_S16512x1024_0_1 (broadcastInDim S1x1024 ![1] bcast_S1024_S1x1024_1 g))

/-- Both halves of the first product. -/
def bothF (h : FVec Ideal S16512x1024 .f32) : FVec Ideal S16512x5632 .f32 :=
  Host.dotGeneral dot_S16512x1024_S1024x5632_S16512x5632_1_0_0_1_n_n none h (shapeCast _ (extractStridedSlice S1x1024x5632 ![1, 0, 0] w slices_S4x1024x5632_S1x1024x5632_1_0_0) shapeCasts_S1x1024x5632_S1024x5632)

def ones : FVec Ideal S16512x2816 .f32 := broadcastInDim S16512x2816 ![] bcast_S_S16512x2816 (constant S_ .f32 0x3F800000#32)

/-- The gated half. -/
def actF (p : FVec Ideal S16512x5632 .f32) : FVec Ideal S16512x2816 .f32 :=
  mulf (mulf (extractStridedSlice S16512x2816 ![0, 0] p slices_S16512x5632_S16512x2816_0_0)
      (Host.divf ones (addf ones (Host.exp (Host.negf (extractStridedSlice S16512x2816 ![0, 0] p slices_S16512x5632_S16512x2816_0_0))))))
    (extractStridedSlice S16512x2816 ![0, 2816] p slices_S16512x5632_S16512x2816_0_2816)

def outF (a : FVec Ideal S16512x2816 .f32) : FVec Ideal S16512x1024 .f32 :=
  addf x (mulf (broadcastInDim S16512x1024 ![] bcast_S_S16512x1024 (constant S_ .f32 0x3F000000#32)) (Host.dotGeneral dot_S16512x2816_S2816x1024_S16512x1024_1_0_0_1_n_n none a (shapeCast _ (extractStridedSlice S1x2816x1024 ![1, 0, 0] u slices_S4x2816x1024_S1x2816x1024_1_0_0) shapeCasts_S1x2816x1024_S2816x1024)))

/-- The whole reference. -/
def wholeF (o : FVec Ideal S16384x1024 .bf16) (s : FVec Ideal S128x1024 .f32) (wo : FVec Ideal S2x1024x1024 .f32) (g : FVec Ideal S4x1024 .f32) : FVec Ideal S16512x1024 .f32 :=
  outF (mixF x o s wo) u (actF (bothF w (normF (mixF x o s wo) (gainF g))))

theorem res_eq (m : (ℓ : Loc nD τ sig) → Buf (Elt Ideal) ℓ) (c : Dev nD) :
    res_main_v33 m c = wholeF (m ((c.tc : Thread nD τ).loc main_arg0)) (m ((c.tc : Thread nD τ).loc main_arg5)) (m ((c.tc : Thread nD τ).loc main_arg6)) (m ((c.tc : Thread nD τ).loc main_arg1))
      (m ((c.tc : Thread nD τ).loc main_arg2)) (m ((c.tc : Thread nD τ).loc main_arg3)) (m ((c.tc : Thread nD τ).loc main_arg4)) := rfl

theorem stack_at (o : FVec Ideal S16384x1024 .bf16) (s : FVec Ideal S128x1024 .f32) (r : Fin 16512) (k : Fin 1024) :
    concatenate S16512x1024 0 [⟨S16384x1024, (extf .f32 o bitsLt_bf16_f32)⟩, ⟨S128x1024, s⟩] concatenates_S16384x1024_S128x1024_S16512x1024_d0 (ix2 r k) = both o s r k := by
  unfold both
  pointwise

theorem mix_at (o : FVec Ideal S16384x1024 .bf16) (s : FVec Ideal S128x1024 .f32) (wo : FVec Ideal S2x1024x1024 .f32) (r : Fin 16512) (c : Fin 1024) :
    mixF x o s wo (ix2 r c) = mixed (fun k => x (ix2 r k)) (both o s r) (fun j k => wo (ix3 0 j k)) c := by
  unfold mixed
  pointwise [mixF, both]

theorem gain_at (g : FVec Ideal S4x1024 .f32) (k : Fin 1024) : gainF g (ix1 k) = g (ix2 1 k) := by
  pointwise [gainF]

theorem norm_at (g : FVec Ideal S1024 .f32) (r : Fin 16512) (k : Fin 1024) : normF x g (ix2 r k) = rms (fun j => x (ix2 r j)) (fun j => g (ix1 j)) k := by
  pointwise [normF, rms]

theorem both_at (h : FVec Ideal S16512x1024 .f32) (r : Fin 16512) (f : Fin 5632) :
    bothF w h (ix2 r f) = dot (fun k => h (ix2 r k)) (fun k f => w (ix3 1 k f)) f := by
  pointwise [bothF, dot]

theorem act_at (p : FVec Ideal S16512x5632 .f32) (r : Fin 16512) (f : Fin 2816) :
    actF p (ix2 r f) = p (ix2 r ⟨f.val, by omega⟩) * Ideal.logistic (p (ix2 r ⟨f.val, by omega⟩)) * p (ix2 r ⟨2816 + f.val, by omega⟩) := by
  pointwise [actF, ones]
  rfl

theorem out_at (a : FVec Ideal S16512x2816 .f32) (r : Fin 16512) (c : Fin 1024) :
    outF x u a (ix2 r c) = x (ix2 r c) + Ideal.ofBits .f32 0x3F000000#32 * ∑ f : Fin 2816, a (ix2 r f) * u (ix3 1 f c) := by
  pointwise [outF]

/-- The reference's rows. -/
theorem ref_at (o : FVec Ideal S16384x1024 .bf16) (s : FVec Ideal S128x1024 .f32) (wo : FVec Ideal S2x1024x1024 .f32) (g : FVec Ideal S4x1024 .f32) (r : Fin 16512) (c : Fin 1024) :
    wholeF x w u o s wo g (ix2 r c) = row (mixed (fun j => x (ix2 r j)) (both o s r) (fun j k => wo (ix3 0 j k))) (fun j => g (ix2 1 j)) (fun k f => w (ix3 1 k f))
      (fun f k => u (ix3 1 f k)) c := by
  unfold wholeF
  simp only [out_at, act_at, both_at, norm_at, mix_at, gain_at]
  rfl

end Cert.Proof.FfnB.Ref

end
-- ==== Proof.FfnB.lean ====
/-
  The claims of an inner layer's feed-forward call with the attention's projection: the frames, and the equation of the kernel's result with the reference's.
-/
module

public import proofs.«01_k».proof.Defs
public import proofs.«01_k».proof.Proof.FfnBValue
public import proofs.«01_k».proof.Proof.FfnBRef
public import proofs.«01_k».proof.Proof.Gen.KernelFfnB
public import Idealize.ShloMosaic.Lib.Quiescent

@[expose] public section

noncomputable section

namespace Cert.Proof.FfnB

open Idealize.ShloMosaic Idealize.ShloMosaic.TcCoe Idealize.SL.Sem

instance : Cert.KernelFfnB.Facts := Cert.KernelFfnB.Gen.facts

/-! The two programs are the same text. -/

theorem main_eq : Cert.KernelFfnB.main (F := Bits) = Cert.KernelFfnBIdeal.main (F := Bits) := rfl

theorem body_eq : Cert.KernelFfnB.cc0_ffn (F := Bits) = Cert.KernelFfnBIdeal.cc0_ffn (F := Bits) := rfl

theorem defs₀_eq : Cert.KernelFfnB.defs₀ (F := Bits) = Cert.KernelFfnBIdeal.defs₀ (F := Bits) := by
  refine congrArg Defs.onTc (funext fun l => funext fun a => ?_)
  obtain ⟨l, hl⟩ := l
  match l, hl, a with
  | 0, _, (t, s) => exact congrFun (congrFun (congrFun (congrFun (congrFun (congrFun (congrFun (congrFun (congrFun (congrFun (congrFun (congrFun (congrFun (congrFun (congrFun (congrFun (congrFun body_eq _) _) _) _) _) _) _) _) _) _) _) _) _) _) _) _) _
  | _ + 1, h, _ => exact absurd h (Nat.not_lt.2 (Nat.le_add_left _ _))

theorem defs_eq : Cert.KernelFfnB.defs (F := Bits) = Cert.KernelFfnBIdeal.defs (F := Bits) :=
  congrArg (Pipeline.defs Cert.KernelFfnBIdeal.pcfgs) defs₀_eq

theorem frame_kernel : Cert.quiescent_KernelFfnB (hKernelFfnB := Cert.KernelFfnB.Gen.facts) := fun m ρ _ => by
  have h := frame_run (F := Bits) m ρ
  rw [← defs_eq, ← main_eq] at h
  exact h

theorem frame_ideal : Cert.quiescent_KernelFfnBIdeal (hKernelFfnBIdeal := Cert.KernelFfnBIdeal.Gen.facts) :=
  fun m ρ _ => frame_run (F := Ideal) m ρ

theorem frame_reference : Cert.quiescent_ReferenceFfnBIdeal (hReferenceFfnBIdeal := Cert.ReferenceFfnBIdeal.Gen.facts) := fun m ρ _ =>
  (θ_run (Cert.ReferenceFfnBIdeal.defs (F := Ideal)) _ _).mono
    (fun r h => ⟨fun c => (h c).2, Idealize.ShloMosaic.sem_eq_zero_of_no_sems (by decide) r.2⟩)
    (Cert.ReferenceFfnBIdeal.Value.run (F := Ideal) m ρ)

theorem preserves : Cert.preserves_KernelFfnB_KernelFfnBIdeal := trivial

open Cert.KernelFfnBIdeal Cert.KernelFfnBIdeal.Gen

theorem algebraic : Cert.algebraic_KernelFfnBIdeal_ReferenceFfnBIdeal (hKernelFfnBIdeal := Cert.KernelFfnBIdeal.Gen.facts)
    (hReferenceFfnBIdeal := Cert.ReferenceFfnBIdeal.Gen.facts) := by
  intro m g m' g' _ hagree
  refine ⟨fun c => Cert.ReferenceFfnBIdeal.Value.res_out0 m' c, ?_, Cert.ReferenceFfnBIdeal.Value.run (F := Ideal) m' g'⟩
  refine (θ_run defs _ _).mono (fun _ h c => ⟨(h.1 c).trans ?_, h.2 c⟩) (run_value m g)
  obtain ⟨a0, a1, a2, a3, a4, a5, a6⟩ := hagree c
  refine final m c _ fun r k => ?_
  refine (congrFun (Ref.res_eq m' c) _).trans ((Ref.ref_at _ _ _ _ _ _ _ r k).trans ?_)
  rw [a0, a1, a2, a3, a4, a5, a6]

end Cert.Proof.FfnB

end
-- ==== Proof.Ffn0Body.lean ====
/-
  The first feed-forward body as loads, one store and the last layer's parts.
-/
module

public import proofs.«01_k».proof.Proof.Gen.KernelFfn0Ideal.Frame
public import proofs.«01_k».proof.Proof.FfnFRun
public import Idealize.ShloMosaic.Lib.Exec
public import Idealize.ShloMosaic.Lib.Tactic

@[expose] public section

set_option maxRecDepth 65536

noncomputable section

namespace Cert.Proof.Ffn0

open Cert.KernelFfn0Ideal Cert.KernelFfn0Ideal.Gen
open Cert.Proof.FfnF (normed gate wide narrow gateN back backN halved pieces)
open Idealize.ShloMosaic Idealize.SL.Sem

variable {F : FTy → Type} [FloatOps F]

/-- The rows: the last block's rows past the prompt's array come from the samples'. -/
def joined (i : grid0.Coords) (x : Vec F S688x1024 .f32) (s : Vec F S128x1024 .f32) : FVec F S688x1024 .f32 :=
  Scalar.select (Scalar.cmpi .eq (BitVec.ofNat 32 (i 0).val) 23#32)
    (concatenate S688x1024 0 [⟨S560x1024, extractStridedSlice S560x1024 ![0, 0] x slices_S688x1024_o0_0_S560x1024⟩, ⟨S128x1024, s⟩] concatenates_S560x1024_S128x1024_S688x1024_d0) x

/-- The normalized rows. -/
def firstRows (x : FVec F S688x1024 .f32) (g : Vec F S1x1024 .f32) : FVec F S688x1024 .bf16 := truncf .bf16 (normed x g) bitsLt_bf16_f32

def part1 (i : grid0.Coords) (arg1 : Memref sig .tc .vmem S688x1024 .f32) (harg1 : arg1.IsWhole) (arg2 : Memref sig .tc .vmem S128x1024 .f32) (harg2 : arg2.IsWhole) (arg3 : Memref sig .tc .vmem S1x1024 .f32) (harg3 : arg3.IsWhole) (arg4 : Memref sig .tc .vmem S1x1024x5632 .bf16) (harg4 : arg4.IsWhole) (arg5 : Memref sig .tc .vmem S1x2816x1024 .bf16) (harg5 : arg5.IsWhole) (arg6 : Memref sig .tc .vmem S688x1024 .f32) (harg6 : arg6.IsWhole) :
    Prog (TpuEff nD τ sig (Elt F) Λ₀ .tc) (Σ' (v5 : FVec F S688x1024 .f32) (v20 : FVec F S688x1024 .bf16), FVec F S688x1024 .f32) := do
  let x : Vec F S688x1024 .f32 ← Prog.lift (.load arg1 (Rect.unit (s := S688x1024) ![0, 0] S688x1024.size inb_S688x1024_S688x1024_0_0).toLoadRect (View.loadsAt_vmem h_S688x1024))
  let s : Vec F S128x1024 .f32 ← Prog.lift (.load arg2 (Rect.unit (s := S128x1024) ![0, 0] S128x1024.size inb_S128x1024_S128x1024_0_0).toLoadRect (View.loadsAt_vmem h_S128x1024))
  let g : Vec F S1x1024 .f32 ← Prog.lift (.load arg3 (Rect.unit (s := S1x1024) ![0, 0] S1x1024.size inb_S1x1024_S1x1024_0_0).toLoadRect (View.loadsAt_vmem h_S1x1024))
  let w : Vec F S1x1024x1024 .bf16 ← Prog.lift (.load arg4 (Rect.unit (s := S1x1024x5632) ![0, 0, 0] S1x1024x1024.size inb_S1x1024x5632_S1x1024x1024_0_0_0).toLoadRect (View.loadsAt_vmem h_S1x1024x1024))
  let w' : Vec F S1x1024x1024 .bf16 ← Prog.lift (.load arg4 (Rect.unit (s := S1x1024x5632) ![0, 0, 2816] S1x1024x1024.size inb_S1x1024x5632_S1x1024x1024_0_0_2816).toLoadRect (View.loadsAt_vmem h_S1x1024x1024))
  let u : Vec F S1x1024x1024 .bf16 ← Prog.lift (.load arg5 (Rect.unit (s := S1x2816x1024) ![0, 0, 0] S1x1024x1024.size inb_S1x2816x1024_S1x1024x1024_0_0_0).toLoadRect (View.loadsAt_vmem h_S1x1024x1024))
  pure ⟨joined i x s, firstRows (joined i x s) g, back (gate (wide (firstRows (joined i x s) g) w) (wide (firstRows (joined i x s) g) w')) u⟩

theorem part1_eq : k0_part1 (F := F) = part1 (F := F) := rfl

def whole (i : grid0.Coords) (arg1 : Memref sig .tc .vmem S688x1024 .f32) (harg1 : arg1.IsWhole) (arg2 : Memref sig .tc .vmem S128x1024 .f32) (harg2 : arg2.IsWhole) (arg3 : Memref sig .tc .vmem S1x1024 .f32) (harg3 : arg3.IsWhole) (arg4 : Memref sig .tc .vmem S1x1024x5632 .bf16) (harg4 : arg4.IsWhole) (arg5 : Memref sig .tc .vmem S1x2816x1024 .bf16) (harg5 : arg5.IsWhole) (arg6 : Memref sig .tc .vmem S688x1024 .f32) (harg6 : arg6.IsWhole) :
    Prog (TpuEff nD τ sig (Elt F) Λ₀ .tc) PUnit := do
  let ⟨x, h, b⟩ : Σ' (v5 : FVec F S688x1024 .f32) (v20 : FVec F S688x1024 .bf16), FVec F S688x1024 .f32 ← k0_part1 i arg1 harg1 arg2 harg2 arg3 harg3 arg4 harg4 arg5 harg5 arg6 harg6
  let w1 : Vec F S1x1024x1024 .bf16 ← Prog.lift (.load arg4 (Rect.unit (s := S1x1024x5632) ![0, 0, 1024] S1x1024x1024.size inb_S1x1024x5632_S1x1024x1024_0_0_1024).toLoadRect (View.loadsAt_vmem h_S1x1024x1024))
  let w1' : Vec F S1x1024x1024 .bf16 ← Prog.lift (.load arg4 (Rect.unit (s := S1x1024x5632) ![0, 0, 3840] S1x1024x1024.size inb_S1x1024x5632_S1x1024x1024_0_0_3840).toLoadRect (View.loadsAt_vmem h_S1x1024x1024))
  let u1 : Vec F S1x1024x1024 .bf16 ← Prog.lift (.load arg5 (Rect.unit (s := S1x2816x1024) ![0, 1024, 0] S1x1024x1024.size inb_S1x2816x1024_S1x1024x1024_0_1024_0).toLoadRect (View.loadsAt_vmem h_S1x1024x1024))
  let w2 : Vec F S1x1024x768 .bf16 ← Prog.lift (.load arg4 (Rect.unit (s := S1x1024x5632) ![0, 0, 2048] S1x1024x768.size inb_S1x1024x5632_S1x1024x768_0_0_2048).toLoadRect (View.loadsAt_vmem h_S1x1024x768))
  let w2' : Vec F S1x1024x768 .bf16 ← Prog.lift (.load arg4 (Rect.unit (s := S1x1024x5632) ![0, 0, 4864] S1x1024x768.size inb_S1x1024x5632_S1x1024x768_0_0_4864).toLoadRect (View.loadsAt_vmem h_S1x1024x768))
  let u2 : Vec F S1x768x1024 .bf16 ← Prog.lift (.load arg5 (Rect.unit (s := S1x2816x1024) ![0, 2048, 0] S1x768x1024.size inb_S1x2816x1024_S1x768x1024_0_2048_0).toLoadRect (View.loadsAt_vmem h_S1x768x1024))
  let _ : Vec F S688x1024 .f32 ← Prog.lift (.load arg6 (Rect.unit (s := S688x1024) ![0, 0] S688x1024.size inb_S688x1024_S688x1024_0_0).toLoadRect (View.loadsAt_vmem h_S688x1024))
  Prog.lift (.store arg6 (Rect.unit (s := S688x1024) ![0, 0] S688x1024.size inb_S688x1024_S688x1024_0_0)
    (halved x (addf (addf b (back (gate (wide h w1) (wide h w1')) u1)) (backN (gateN (narrow h w2) (narrow h w2')) u2))) Finset.univ (View.stores_vmem_bits_univ h_S688x1024 rfl) (.inl rfl))
  pure ⟨⟩

theorem whole_eq : cc0_ffn (F := F) = whole (F := F) := rfl

end Cert.Proof.Ffn0

end
-- ==== Proof.Ffn0Rows.lean ====
/-
  The last block's rows past the prompt's array: the body takes the samples' rows in their place.
-/
module

public import proofs.«01_k».proof.Proof.Ffn0Body
public import proofs.«01_k».proof.Proof.FfnFRows
public import Idealize.ShloMosaic.Lib.Pointwise
public import Idealize.ShloMosaic.Lib.WordCmp

@[expose] public section

set_option maxRecDepth 16384

noncomputable section

namespace Cert.Proof.Ffn0

open Cert.KernelFfn0Ideal Cert.KernelFfn0Ideal.Gen
open Cert.Proof.FfnF (last_iff)
open Idealize.ShloMosaic Idealize.ShloMosaic.WordCmp

variable {F : FTy → Type} [FloatOps F]

theorem stacked_at (o : Vec F S688x1024 .f32) (s : Vec F S128x1024 .f32) (r : Fin 688) (k : Fin 1024) :
    concatenate S688x1024 0 [⟨S560x1024, extractStridedSlice S560x1024 ![0, 0] o slices_S688x1024_o0_0_S560x1024⟩, ⟨S128x1024, s⟩] concatenates_S560x1024_S128x1024_S688x1024_d0 (ix2 r k)
      = if h : r.val < 560 then o (ix2 r k) else s (ix2 ⟨r.val - 560, by omega⟩ k) := by
  pointwise

theorem joined_at (i : grid0.Coords) (o : Vec F S688x1024 .f32) (s : Vec F S128x1024 .f32) (r : Fin 688) (k : Fin 1024) :
    joined i o s (ix2 r k) = if h : (i 0).val = 23 ∧ ¬ r.val < 560 then s (ix2 ⟨r.val - 560, by omega⟩ k) else o (ix2 r k) := by
  unfold joined
  rw [last_iff]
  by_cases h : (i 0).val = 23
  · rw [decide_eq_true h]
    refine (stacked_at o s r k).trans ?_
    by_cases h' : r.val < 560 <;> simp [h, h']
  · rw [decide_eq_false h]
    simp [h, Scalar.select]

/-- A point's rows inside the prompt's array. -/
theorem moved_rows (t : Fin cfg0.N) : win0_0.xsize (grid0.coords t) = ![if (grid0.coords t 0).val = 23 then 560 else 688, 1024] :=
  (by decide +kernel : ∀ t : Fin grid0.N, win0_0.xsize (grid0.coords t) = ![if (grid0.coords t 0).val = 23 then 560 else 688, 1024]) t

theorem moved_of (t : Fin cfg0.N) (r : Fin 688) (k : Fin 1024) (h : ¬ ((grid0.coords t 0).val = 23 ∧ ¬ r.val < 560)) :
    win0_0.moved (grid0.coords t) (ix2 r k) = true := by
  refine (win0_0.moved_iff _ _).mpr fun a => ?_
  rw [moved_rows]
  match a with
  | ⟨0, _⟩ =>
    show r.val < if (grid0.coords t 0).val = 23 then 560 else 688
    have := r.isLt
    split <;> omega
  | ⟨1, _⟩ => exact k.isLt

/-- What the buffer holds past the array does not reach the joined rows. -/
theorem joined_fill (t : Fin cfg0.N) (d d' : Vec F S688x1024 .f32) (b : (win0_0.xblock (grid0.coords t)).Idx → Elt F .f32) (s : Vec F S128x1024 .f32) :
    joined (grid0.coords t) (win0_0.fill (grid0.coords t) d b) s = joined (grid0.coords t) (win0_0.fill (grid0.coords t) d' b) s := by
  funext y
  obtain ⟨r, k, rfl⟩ : ∃ (r : Fin 688) (k : Fin 1024), y = ix2 r k := ⟨y 0, y 1, funext fun a => by fin_cases a <;> rfl⟩
  rw [joined_at, joined_at]
  by_cases h : (grid0.coords t 0).val = 23 ∧ ¬ r.val < 560
  · rw [dif_pos h, dif_pos h]
  · rw [dif_neg h, dif_neg h]
    unfold Pipeline.Window.fill
    rw [dif_pos (moved_of t r k h), dif_pos (moved_of t r k h)]

end Cert.Proof.Ffn0

end
-- ==== Proof.Ffn0Run.lean ====
/-
  The first feed-forward call, run: every grid point leaves its output block, nothing faults, the arguments stay.
-/
module

public import proofs.«01_k».proof.Proof.Ffn0Rows
public import proofs.«01_k».proof.Proof.Gen.KernelFfn0Ideal.Frame
public import Idealize.ShloMosaic.Lib.Claim
public import Idealize.ShloMosaic.Lib.Pipeline.ValueKit

@[expose] public section

set_option maxRecDepth 16384

noncomputable section

namespace Cert.Proof.Ffn0

open Cert.KernelFfn0Ideal Cert.KernelFfn0Ideal.Gen
open Cert.Proof.FfnF (normed gate wide narrow back backN gateN halved pieces)
open Idealize.ShloMosaic Idealize.ShloMosaic.TcCoe Idealize.ShloMosaic.Tactic
open Idealize.ShloMosaic.Pipeline (Dat Cfg Window BodyObligationLoose cellOf)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev rX : Rect S688x1024 := Rect.unit (s := S688x1024) ![0, 0] S688x1024.size inb_S688x1024_S688x1024_0_0
abbrev rS : Rect S128x1024 := Rect.unit (s := S128x1024) ![0, 0] S128x1024.size inb_S128x1024_S128x1024_0_0
abbrev rG : Rect S1x1024 := Rect.unit (s := S1x1024) ![0, 0] S1x1024.size inb_S1x1024_S1x1024_0_0
abbrev rW0 : Rect S1x1024x5632 := Rect.unit (s := S1x1024x5632) ![0, 0, 0] S1x1024x1024.size inb_S1x1024x5632_S1x1024x1024_0_0_0
abbrev rW2816 : Rect S1x1024x5632 := Rect.unit (s := S1x1024x5632) ![0, 0, 2816] S1x1024x1024.size inb_S1x1024x5632_S1x1024x1024_0_0_2816
abbrev rW1024 : Rect S1x1024x5632 := Rect.unit (s := S1x1024x5632) ![0, 0, 1024] S1x1024x1024.size inb_S1x1024x5632_S1x1024x1024_0_0_1024
abbrev rW3840 : Rect S1x1024x5632 := Rect.unit (s := S1x1024x5632) ![0, 0, 3840] S1x1024x1024.size inb_S1x1024x5632_S1x1024x1024_0_0_3840
abbrev rW2048 : Rect S1x1024x5632 := Rect.unit (s := S1x1024x5632) ![0, 0, 2048] S1x1024x768.size inb_S1x1024x5632_S1x1024x768_0_0_2048
abbrev rW4864 : Rect S1x1024x5632 := Rect.unit (s := S1x1024x5632) ![0, 0, 4864] S1x1024x768.size inb_S1x1024x5632_S1x1024x768_0_0_4864
abbrev rU0 : Rect S1x2816x1024 := Rect.unit (s := S1x2816x1024) ![0, 0, 0] S1x1024x1024.size inb_S1x2816x1024_S1x1024x1024_0_0_0
abbrev rU1024 : Rect S1x2816x1024 := Rect.unit (s := S1x2816x1024) ![0, 1024, 0] S1x1024x1024.size inb_S1x2816x1024_S1x1024x1024_0_1024_0
abbrev rU2048 : Rect S1x2816x1024 := Rect.unit (s := S1x2816x1024) ![0, 2048, 0] S1x768x1024.size inb_S1x2816x1024_S1x768x1024_0_2048_0

/-- The output's rows from what the body reads, -/
def rowsOut (x : FVec F S688x1024 .f32) (g : Vec F S1x1024 .f32)
    (w w' u w1 w1' u1 : Vec F S1x1024x1024 .bf16) (w2 w2' : Vec F S1x1024x768 .bf16) (u2 : Vec F S1x768x1024 .bf16) : FVec F S688x1024 .f32 :=
  halved (x) (pieces (firstRows x g) (gate (wide (firstRows x g) w) (wide (firstRows x g) w')) u w1 w1' u1 w2 w2' u2)

/-- and the block the body stores. -/
def outF (i : grid0.Coords) (x0 : Vec F S688x1024 .f32) (x1 : Vec F S128x1024 .f32) (x2 : Vec F S1x1024 .f32) (x3 : Vec F S1x1024x5632 .bf16) (x4 : Vec F S1x2816x1024 .bf16) : Vec F S688x1024 .f32 :=
  View.canon [⟨rX, rowsOut (joined i (View.ld x0 rX) (View.ld x1 rS)) (View.ld x2 rG)
    (View.ld x3 rW0) (View.ld x3 rW2816) (View.ld x4 rU0) (View.ld x3 rW1024) (View.ld x3 rW3840) (View.ld x4 rU1024) (View.ld x3 rW2048) (View.ld x3 rW4864) (View.ld x4 rU2048)⟩]

theorem cover_out (p0 : Vec F S688x1024 .f32) (y : S688x1024.Idx) :
    ∃ pc ∈ ([⟨rX, p0⟩] : List (View.Piece (Elt F) S688x1024 .f32)), y ∈ pc.1.set :=
  View.cover_of_tiled [⟨rX, p0⟩] S688x1024.size (by rfl) y

set_option maxHeartbeats 1000000 in
/-- The body's triple: the inputs' buffers stay, the output's holds its block. -/
theorem sound_kernel (c : Dev nD) (E : Set ℕ) (i : grid0.Coords) (arg1 : Memref sig .tc .vmem S688x1024 .f32) (harg1 : arg1.IsWhole) (arg2 : Memref sig .tc .vmem S128x1024 .f32) (harg2 : arg2.IsWhole) (arg3 : Memref sig .tc .vmem S1x1024 .f32) (harg3 : arg3.IsWhole) (arg4 : Memref sig .tc .vmem S1x1024x5632 .bf16) (harg4 : arg4.IsWhole) (arg5 : Memref sig .tc .vmem S1x2816x1024 .bf16) (harg5 : arg5.IsWhole) (arg6 : Memref sig .tc .vmem S688x1024 .f32) (harg6 : arg6.IsWhole)
    (x0 : Vec F S688x1024 .f32) (x1 : Vec F S128x1024 .f32) (x2 : Vec F S1x1024 .f32) (x3 : Vec F S1x1024x5632 .bf16) (x4 : Vec F S1x2816x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outF i x0 x1 x2 x3 x4)) -∗ K ⟨⟩))
      ⊢ wp frame (wpE (defs₀ (F := F)) Variants.none c none) E (cc0_ffn i arg1 harg1 arg2 harg2 arg3 harg3 arg4 harg4 arg5 harg5 arg6 harg6) K := by
  simp only [whole_eq]; unfold whole
  simp only [part1_eq]; unfold part1
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

variable (m : (ℓ : Loc nD τ sig) → Buf (Elt F) ℓ) (ρ : Dev nD → PrngReg)

/-- The prompt's block, anything past the array. -/
def oblk (c : Dev nD) (t : Fin cfg0.N) : Vec F S688x1024 .f32 :=
  win0_0.fill (grid0.coords t) (fun _ => Scalar.ofBits .f32 0#32) (iblk m c 0 t)

/-- The proof data: each input's block left in place, the output's block the body's. -/
def dats (_ : Fin 1) (c : Dev nD) : Dat τ (Elt F) Unit ℕ (UR sig nD τ) ℕ cfg0 c where
  A w := V m c (Pipeline.arrRef spec0 w)
  after w t := match w with
    | ⟨0, _⟩ => oblk m c t
    | ⟨1, _⟩ => iblk m c 1 t
    | ⟨2, _⟩ => iblk m c 2 t
    | ⟨3, _⟩ => iblk m c 3 t
    | ⟨4, _⟩ => iblk m c 4 t
    | ⟨5, _⟩ => outF (grid0.coords t) (oblk m c t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = oblk m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outF (grid0.coords t) (oblk m c t) (iblk m c 1 t) (iblk m c 2 t) (iblk m c 3 t) (iblk m c 4 t) := by dsimp only [dats]

theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The prompt's buffer just fetched: its block on the rows inside the array. -/
theorem before_0 (c : Dev nD) (t : Fin cfg0.N) (d) : (dats m 0 c).before 0 t d = win0_0.fill (grid0.coords t) d (iblk m c 0 t) := by
  unfold Dat.before; rw [if_pos (fetch0_0 t)]; rfl

theorem hz : (![0, 0] : Fin 2 → Nat) = fun _ => 0 := funext fun a => by fin_cases a <;> rfl

theorem ld_whole (x : Vec F S688x1024 .f32) : View.ld x rX = x := by
  rw [View.ld_unit_zero hz]

/-- What lies past the array does not reach the output. -/
theorem out_fill (t : Fin cfg0.N) (d d' : Vec F S688x1024 .f32) (b : (win0_0.xblock (grid0.coords t)).Idx → Elt F .f32) (x1 : Vec F S128x1024 .f32) (x2 : Vec F S1x1024 .f32) (x3 : Vec F S1x1024x5632 .bf16) (x4 : Vec F S1x2816x1024 .bf16) :
    outF (grid0.coords t) (win0_0.fill (grid0.coords t) d b) x1 x2 x3 x4 = outF (grid0.coords t) (win0_0.fill (grid0.coords t) d' b) x1 x2 x3 x4 := by
  unfold outF
  rw [ld_whole, ld_whole, joined_fill t d d']

theorem out_blk (c : Dev nD) (t : Fin cfg0.N) (d : Vec F S688x1024 .f32) :
    outF (grid0.coords t) (win0_0.fill (grid0.coords t) d (iblk m c 0 t)) (iblk m c 1 t) (iblk m c 2 t) (iblk m c 3 t) (iblk m c 4 t) = (dats m 0 c).after 5 t :=
  (out_fill t d (fun _ => Scalar.ofBits .f32 0#32) _ _ _ _ _).trans (after_5 m c t).symm

theorem defs₀_row (t : Fin cfg0.N) :
    defs₀ (F := F) .tc cfg0.body (cfg0.bodyArgs t (cfg0.slots t)) = bodyAt0 t := by
  unfold defs₀; rw [Defs.onTc_tc]

set_option maxHeartbeats 1000000 in
theorem body_obligation (c : Dev nD) : BodyObligationLoose (dats (F := F) m 0 c) (defs₀ (F := F)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before_0 m c t d0, before_1 m c t d1, before_2 m c t d2, before_3 m c t d3, before_4 m c t d4]
  iapply (sound_kernel c Set.univ (grid0.coords t) _ _ _ _ _ _ _ _ _ _ _ _ (win0_0.fill (grid0.coords t) d0 (iblk m c 0 t)) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  have hx : win0_0.cut (grid0.coords t) (oblk m c t) = iblk m c 0 t := win0_0.cut_fill _ _ _
  isplitl [H0]
  · iexists d0
    change _ ⊢ owns (c : Thread nD τ) (st0_0 t) fullShare (win0_0.fill (grid0.coords t) d0 (win0_0.cut (grid0.coords t) (oblk m c t)))
    rw [hx]
  isplitl [H1]; · iexact H1
  isplitl [H2]; · iexact H2
  isplitl [H3]; · iexact H3
  isplitl [H4]; · iexact H4
  rw [out_blk m c t d0]
  iexact H5

set_option backward.isDefEq.respectTransparency.types false in
set_option maxHeartbeats 800000 in
/-- The run, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments stay, and every counter ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Proof.Ffn0

end
-- ==== Proof.Ffn0Pay.lean ====
/-
  The block the first call leaves: each of its rows through the layer.
-/
module

public import proofs.«01_k».proof.Proof.Ffn0Run
public import proofs.«01_k».proof.Proof.FfnFPay
public import proofs.«01_k».proof.Proof.FfnRow
public import Idealize.ShloMosaic.Lib.Pipeline.ValueKit.Tiles

@[expose] public section

set_option maxRecDepth 16384

noncomputable section

namespace Cert.Proof.Ffn0

open Cert.KernelFfn0Ideal Cert.KernelFfn0Ideal.Gen Cert.Proof.Ffn
open Cert.Proof.FfnF (normed gate wide narrow gateN back backN halved pieces normed_at cut_at halved_at ld_w ld_u pieces_at)
open Idealize.ShloMosaic

/-- The block the body leaves. -/
theorem out_at (i : grid0.Coords) (x : FVec Ideal S688x1024 .f32) (s : FVec Ideal S128x1024 .f32) (g : FVec Ideal S1x1024 .f32)
    (w : FVec Ideal S1x1024x5632 .bf16) (u : FVec Ideal S1x2816x1024 .bf16) (r : Fin 688) (c : Fin 1024) :
    outF (F := Ideal) i x s g w u (ix2 r c)
      = row (fun j => joined (F := Ideal) i x s (ix2 r j)) (fun j => g (ix2 0 j)) (fun k f => w (ix3 0 k f)) (fun f k => u (ix3 0 f k)) c := by
  unfold outF
  rw [View.canon_unit_zero hz, View.ld_unit_zero hz, View.ld_unit_zero hz, View.ld_unit_zero hz]
  unfold rowsOut
  refine (halved_at _ _ r c).trans ?_
  refine congrArg (fun z => joined (F := Ideal) i x s (ix2 r c) + Ideal.ofBits .f32 0x3F000000#32 * z) ?_
  refine pieces_at _ _ _ _ _ _ _ _ _ _ r c _ (fun k f => w (ix3 0 k f)) (fun f k => u (ix3 0 f k)) (fun k => ?_)
    (fun k f => ld_w w 0 1024 _ k f _ (by show f.val = 0 + f.val; omega)) (fun k f => ld_w w 2816 1024 _ k f _ rfl) (fun f => ld_u u 0 1024 _ f c _ (by show f.val = 0 + f.val; omega))
    (fun k f => ld_w w 1024 1024 _ k f _ rfl) (fun k f => ld_w w 3840 1024 _ k f _ (by show 2816 + (1024 + f.val) = 3840 + f.val; omega)) (fun f => ld_u u 1024 1024 _ f c _ rfl)
    (fun k f => ld_w w 2048 768 _ k f _ rfl) (fun k f => ld_w w 4864 768 _ k f _ (by show 2816 + (2048 + f.val) = 4864 + f.val; omega)) (fun f => ld_u u 2048 768 _ f c _ rfl)
  unfold firstRows
  refine (cut_at _ r k).trans (normed_at _ _ r k)

end Cert.Proof.Ffn0

end
-- ==== Proof.Ffn0Value.lean ====
/-
  The first feed-forward call leaves each row through the layer.
-/
module

public import proofs.«01_k».proof.Proof.Ffn0Pay
public import Idealize.ShloMosaic.Lib.Claim
public import Idealize.ShloMosaic.Lib.Pipeline.ValueKit.Point

@[expose] public section

set_option maxRecDepth 16384

noncomputable section

namespace Cert.Proof.Ffn0

open Cert.KernelFfn0Ideal Cert.KernelFfn0Ideal.Gen Cert.Proof.Ffn
open Idealize.ShloMosaic Idealize.ShloMosaic.TcCoe Idealize.SL.Sem

variable (m : (ℓ : Loc nD τ sig) → Buf (Elt Ideal) ℓ)

theorem gain (c : Dev nD) (j : Fin 1024) : V m c main_v4 (ix2 0 j) = m ((c.tc : Thread nD τ).loc main_arg2) (ix2 0 j) := by
  entry_read
  pointwise

theorem weights (c : Dev nD) (k : Fin 1024) (f : Fin 5632) : V m c main_v2 (ix3 0 k f) = m ((c.tc : Thread nD τ).loc main_arg3) (ix3 0 k f) := by
  entry_read
  pointwise

theorem out_weights (c : Dev nD) (f : Fin 2816) (k : Fin 1024) : V m c main_v3 (ix3 0 f k) = m ((c.tc : Thread nD τ).loc main_arg4) (ix3 0 f k) := by
  entry_read
  pointwise

theorem e0 : ∀ t : Fin cfg0.N, win0_0.index t = ![(grid0.coords t 0).val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0, 0] := (by decide +kernel : ∀ t : Fin grid0.N, _)
theorem e4 : ∀ t : Fin cfg0.N, win0_4.index t = ![0, 0, 0] := (by decide +kernel : ∀ t : Fin grid0.N, _)
theorem e5 : ∀ t : Fin cfg0.N, win0_5.index t = ![(grid0.coords t 0).val, 0] := (by decide +kernel : ∀ t : Fin grid0.N, _)

/-- The array's row that a point's local row is. -/
def rowOf (t : Fin cfg0.N) (r : Fin 688) : Fin 16512 :=
  ⟨688 * (grid0.coords t 0).val + r.val, by have : (grid0.coords t 0).val < 24 := (grid0.coords t 0).isLt; omega⟩

theorem blk_s (c : Dev nD) (t : Fin cfg0.N) (r : Fin 128) (j : Fin 1024) : iblk m c 1 t (ix2 r j) = m ((c.tc : Thread nD τ).loc main_arg1) (ix2 r j) := by
  refine Eq.trans ?_ (congrFun (V_main_arg1 m c) _)
  show V m c main_arg1 ((win0_1.blk t).view.emb (ix2 r j)) = _
  congr 1
  blk_ext [e1 t]

theorem blk_g (c : Dev nD) (t : Fin cfg0.N) (j : Fin 1024) : iblk m c 2 t (ix2 0 j) = m ((c.tc : Thread nD τ).loc main_arg2) (ix2 0 j) := by
  refine Eq.trans ?_ (gain m c j)
  show V m c main_v4 ((win0_2.blk t).view.emb (ix2 0 j)) = _
  congr 1
  blk_ext [e2 t]

theorem blk_w (c : Dev nD) (t : Fin cfg0.N) (k : Fin 1024) (f : Fin 5632) : iblk m c 3 t (ix3 0 k f) = m ((c.tc : Thread nD τ).loc main_arg3) (ix3 0 k f) := by
  refine Eq.trans ?_ (weights m c k f)
  show V m c main_v2 ((win0_3.blk t).view.emb (ix3 0 k f)) = _
  congr 1
  blk_ext [e3 t]

theorem blk_u (c : Dev nD) (t : Fin cfg0.N) (f : Fin 2816) (k : Fin 1024) : iblk m c 4 t (ix3 0 f k) = m ((c.tc : Thread nD τ).loc main_arg4) (ix3 0 f k) := by
  refine Eq.trans ?_ (out_weights m c f k)
  show V m c main_v3 ((win0_4.blk t).view.emb (ix3 0 f k)) = _
  congr 1
  blk_ext [e4 t]

/-- Both batches' rows, the prompt's first. -/
def both (o : FVec Ideal S16384x1024 .f32) (s : FVec Ideal S128x1024 .f32) (r : Fin 16512) (k : Fin 1024) : EReal :=
  if h : r.val < 16384 then o (ix2 ⟨r.val, h⟩ k) else s (ix2 ⟨r.val - 16384, by omega⟩ k)

theorem blk_o (c : Dev nD) (t : Fin cfg0.N) (r : Fin 688) (k : Fin 1024) (h : ¬ ((grid0.coords t 0).val = 23 ∧ ¬ r.val < 560)) (hr : (rowOf t r).val < 16384) :
    oblk m c t (ix2 r k) = m ((c.tc : Thread nD τ).loc main_arg0) (ix2 ⟨(rowOf t r).val, hr⟩ k) := by
  unfold oblk Pipeline.Window.fill
  rw [dif_pos (moved_of t r k h)]
  refine Eq.trans ?_ (congrFun (V_main_arg0 m c) _)
  show V m c main_arg0 ((win0_0.blk t).view.emb _) = _
  congr 1
  unfold rowOf
  blk_ext [e0 t]

theorem joined_blk (c : Dev nD) (t : Fin cfg0.N) (r : Fin 688) (k : Fin 1024) :
    joined (F := Ideal) (grid0.coords t) (oblk m c t) (iblk m c 1 t) (ix2 r k)
      = both (m ((c.tc : Thread nD τ).loc main_arg0)) (m ((c.tc : Thread nD τ).loc main_arg1)) (rowOf t r) k := by
  have hv : (rowOf t r).val = 688 * (grid0.coords t 0).val + r.val := rfl
  have ht : (grid0.coords t 0).val < 24 := (grid0.coords t 0).isLt
  have hr : r.val < 688 := r.isLt
  rw [joined_at]
  unfold both
  by_cases h : (grid0.coords t 0).val = 23 ∧ ¬ r.val < 560
  · rw [dif_pos h, dif_neg (by omega)]
    refine (blk_s m c t _ k).trans (congrArg (fun z => m ((c.tc : Thread nD τ).loc main_arg1) (ix2 z k)) (Fin.ext ?_))
    show r.val - 560 = (rowOf t r).val - 16384
    omega
  · have hlt : (rowOf t r).val < 16384 := by omega
    rw [dif_neg h, dif_pos hlt]
    exact blk_o m c t r k h hlt

/-- The call's result is any array whose rows are the argument's rows through the call. -/
theorem final (c : Dev nD) (G : FVec Ideal S16512x1024 .f32)
    (hG : ∀ (r : Fin 16512) (k : Fin 1024), G (ix2 r k) = row (both (m ((c.tc : Thread nD τ).loc main_arg0)) (m ((c.tc : Thread nD τ).loc main_arg1)) r)
      (fun j => m ((c.tc : Thread nD τ).loc main_arg2) (ix2 0 j)) (fun k f => m ((c.tc : Thread nD τ).loc main_arg3) (ix3 0 k f)) (fun f k => m ((c.tc : Thread nD τ).loc main_arg4) (ix3 0 f k)) k) :
    (dats m 0 c).arrAt 5 cfg0.N = G := by
  refine (dats m 0 c).arrAt_eq_of_covers 5 _ (by decide +kernel) fun t hf y => ?_
  blk_simp
  rw [after_5]
  obtain ⟨r, k, rfl⟩ : ∃ (r : Fin 688) (k : Fin 1024), y = ix2 r k := ⟨y 0, y 1, funext fun a => by fin_cases a <;> rfl⟩
  have he : (win0_5.blk t).view.emb (ix2 r k) = ix2 (rowOf t r) k := by
    unfold rowOf
    blk_ext [e5 t]
  rw [he, hG]
  refine (out_at _ _ _ _ _ _ r k).trans ?_
  simp only [blk_g, blk_w, blk_u, joined_blk]

/-- The run with the output array named, the arguments unchanged. -/
theorem run_value (ρ : Dev nD → PrngReg) : θ_run defs (onTc (τ := τ) (main (F := Ideal))) ⟨m, fun _ => 0, ρ⟩ (fun r =>
      (∀ c : Dev nD, r.2.mem ((c.tc : Thread nD τ).loc main_v5) = (dats m 0 c).arrAt 5 cfg0.N) ∧ ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_and ((θ_run defs _ _).mono (fun _ h c => (h c).1 5) (run_main m ρ)) (frame_of m ρ (dats m) (A_eq m) (run_main m ρ))

end Cert.Proof.Ffn0

end
-- ==== Proof.Ffn0Ref.lean ====
/-
  The reference of the first call, read at a row.
-/
module

public import proofs.«01_k».proof.Proof.Gen.ReferenceFfn0Ideal.Run
public import proofs.«01_k».proof.Proof.Ffn0Value
public import Idealize.ShloMosaic.Lib.Pointwise

@[expose] public section

set_option maxRecDepth 16384

noncomputable section

namespace Cert.Proof.Ffn0.Ref

open Cert.ReferenceFfn0Ideal Cert.ReferenceFfn0Ideal.Gen Cert.ReferenceFfn0Ideal.Value Cert.Proof.Ffn
open Idealize.ShloMosaic

variable (x : FVec Ideal S16512x1024 .f32) (w : FVec Ideal S4x1024x5632 .f32) (u : FVec Ideal S4x2816x1024 .f32)

/-- Both batches' rows. -/
def stack (x : FVec Ideal S16384x1024 .f32) (s : FVec Ideal S128x1024 .f32) : FVec Ideal S16512x1024 .f32 :=
  concatenate S16512x1024 0 [⟨S16384x1024, x⟩, ⟨S128x1024, s⟩] concatenates_S16384x1024_S128x1024_S16512x1024_d0

/-- The layer's gain. -/
def gainF (g : FVec Ideal S4x1024 .f32) : FVec Ideal S1024 .f32 :=
  shapeCast _ (extractStridedSlice S1x1024 ![0, 0] g slices_S4x1024_S1x1024_0_0) shapeCasts_S1x1024_S1024

/-- The normalized rows. -/
def normF (g : FVec Ideal S1024 .f32) : FVec Ideal S16512x1024 .f32 :=
  mulf (mulf x (broadcastInDim S16512x1024 ![0, 1] bcast_S16512x1_S16512x1024_0_1 (Host.rsqrt (addf (Host.divf (broadcastInDim S16512x1 ![0] bcast_S16512_S16512x1_0 (Host.reduceAdd (mulf x x) (constant S_ .f32 0x00000000#32) reducesTo_S16512x1024_S16512_d1 h_S_)) (broadcastInDim S16512x1 ![] bcast_S_S16512x1 (constant S_ .f32 0x44800000#32))) (broadcastInDim S16512x1 ![] bcast_S_S16512x1 (constant S_ .f32 0x358637BD#32))))))
    (broadcastInDim S16512x1024 ![0, 1] bcast_S1x1024_S16512x1024_0_1 (broadcastInDim S1x1024 ![1] bcast_S1024_S1x1024_1 g))

/-- Both halves of the first product. -/
def bothF (h : FVec Ideal S16512x1024 .f32) : FVec Ideal S16512x5632 .f32 :=
  Host.dotGeneral dot_S16512x1024_S1024x5632_S16512x5632_1_0_0_1_n_n none h (shapeCast _ (extractStridedSlice S1x1024x5632 ![0, 0, 0] w slices_S4x1024x5632_S1x1024x5632_0_0_0) shapeCasts_S1x1024x5632_S1024x5632)

def ones : FVec Ideal S16512x2816 .f32 := broadcastInDim S16512x2816 ![] bcast_S_S16512x2816 (constant S_ .f32 0x3F800000#32)

/-- The gated half. -/
def actF (p : FVec Ideal S16512x5632 .f32) : FVec Ideal S16512x2816 .f32 :=
  mulf (mulf (extractStridedSlice S16512x2816 ![0, 0] p slices_S16512x5632_S16512x2816_0_0)
      (Host.divf ones (addf ones (Host.exp (Host.negf (extractStridedSlice S16512x2816 ![0, 0] p slices_S16512x5632_S16512x2816_0_0))))))
    (extractStridedSlice S16512x2816 ![0, 2816] p slices_S16512x5632_S16512x2816_0_2816)

def outF (a : FVec Ideal S16512x2816 .f32) : FVec Ideal S16512x1024 .f32 :=
  addf x (mulf (broadcastInDim S16512x1024 ![] bcast_S_S16512x1024 (constant S_ .f32 0x3F000000#32)) (Host.dotGeneral dot_S16512x2816_S2816x1024_S16512x1024_1_0_0_1_n_n none a (shapeCast _ (extractStridedSlice S1x2816x1024 ![0, 0, 0] u slices_S4x2816x1024_S1x2816x1024_0_0_0) shapeCasts_S1x2816x1024_S2816x1024)))

/-- The whole reference. -/
def wholeF (g : FVec Ideal S4x1024 .f32) : FVec Ideal S16512x1024 .f32 :=
  outF x u (actF (bothF w (normF x (gainF g))))

theorem res_eq (m : (ℓ : Loc nD τ sig) → Buf (Elt Ideal) ℓ) (c : Dev nD) :
    res_main_v28 m c = wholeF (stack (m ((c.tc : Thread nD τ).loc main_arg0)) (m ((c.tc : Thread nD τ).loc main_arg1))) (m ((c.tc : Thread nD τ).loc main_arg3)) (m ((c.tc : Thread nD τ).loc main_arg4)) (m ((c.tc : Thread nD τ).loc main_arg2)) := rfl

theorem stack_at (x : FVec Ideal S16384x1024 .f32) (s : FVec Ideal S128x1024 .f32) (r : Fin 16512) (k : Fin 1024) :
    stack x s (ix2 r k) = both x s r k := by
  unfold both
  pointwise [stack]

theorem gain_at (g : FVec Ideal S4x1024 .f32) (k : Fin 1024) : gainF g (ix1 k) = g (ix2 0 k) := by
  pointwise [gainF]

theorem norm_at (g : FVec Ideal S1024 .f32) (r : Fin 16512) (k : Fin 1024) : normF x g (ix2 r k) = rms (fun j => x (ix2 r j)) (fun j => g (ix1 j)) k := by
  pointwise [normF, rms]

theorem both_at (h : FVec Ideal S16512x1024 .f32) (r : Fin 16512) (f : Fin 5632) :
    bothF w h (ix2 r f) = dot (fun k => h (ix2 r k)) (fun k f => w (ix3 0 k f)) f := by
  pointwise [bothF, dot]

theorem act_at (p : FVec Ideal S16512x5632 .f32) (r : Fin 16512) (f : Fin 2816) :
    actF p (ix2 r f) = p (ix2 r ⟨f.val, by omega⟩) * Ideal.logistic (p (ix2 r ⟨f.val, by omega⟩)) * p (ix2 r ⟨2816 + f.val, by omega⟩) := by
  pointwise [actF, ones]
  rfl

theorem out_at (a : FVec Ideal S16512x2816 .f32) (r : Fin 16512) (c : Fin 1024) :
    outF x u a (ix2 r c) = x (ix2 r c) + Ideal.ofBits .f32 0x3F000000#32 * ∑ f : Fin 2816, a (ix2 r f) * u (ix3 0 f c) := by
  pointwise [outF]

/-- The reference's rows. -/
theorem ref_at (g : FVec Ideal S4x1024 .f32) (r : Fin 16512) (c : Fin 1024) :
    wholeF x w u g (ix2 r c) = row (fun j => x (ix2 r j)) (fun j => g (ix2 0 j)) (fun k f => w (ix3 0 k f)) (fun f k => u (ix3 0 f k)) c := by
  unfold wholeF
  simp only [out_at, act_at, both_at, norm_at, gain_at]
  rfl

end Cert.Proof.Ffn0.Ref

end
-- ==== Proof.Ffn0.lean ====
/-
  The claims of the first feed-forward call: the frames, and the equation of the kernel's result with the reference's.
-/
module

public import proofs.«01_k».proof.Defs
public import proofs.«01_k».proof.Proof.Ffn0Value
public import proofs.«01_k».proof.Proof.Ffn0Ref
public import proofs.«01_k».proof.Proof.Gen.KernelFfn0
public import Idealize.ShloMosaic.Lib.Quiescent

@[expose] public section

noncomputable section

namespace Cert.Proof.Ffn0

open Idealize.ShloMosaic Idealize.ShloMosaic.TcCoe Idealize.SL.Sem

instance : Cert.KernelFfn0.Facts := Cert.KernelFfn0.Gen.facts

/-! The two programs are the same text. -/

theorem main_eq : Cert.KernelFfn0.main (F := Bits) = Cert.KernelFfn0Ideal.main (F := Bits) := rfl

theorem body_eq : Cert.KernelFfn0.cc0_ffn (F := Bits) = Cert.KernelFfn0Ideal.cc0_ffn (F := Bits) := rfl

theorem defs₀_eq : Cert.KernelFfn0.defs₀ (F := Bits) = Cert.KernelFfn0Ideal.defs₀ (F := Bits) := by
  refine congrArg Defs.onTc (funext fun l => funext fun a => ?_)
  obtain ⟨l, hl⟩ := l
  match l, hl, a with
  | 0, _, (t, s) => exact congrFun (congrFun (congrFun (congrFun (congrFun (congrFun (congrFun (congrFun (congrFun (congrFun (congrFun (congrFun (congrFun body_eq _) _) _) _) _) _) _) _) _) _) _) _) _
  | _ + 1, h, _ => exact absurd h (Nat.not_lt.2 (Nat.le_add_left _ _))

theorem defs_eq : Cert.KernelFfn0.defs (F := Bits) = Cert.KernelFfn0Ideal.defs (F := Bits) :=
  congrArg (Pipeline.defs Cert.KernelFfn0Ideal.pcfgs) defs₀_eq

theorem frame_kernel : Cert.quiescent_KernelFfn0 (hKernelFfn0 := Cert.KernelFfn0.Gen.facts) := fun m ρ _ => by
  have h := frame_run (F := Bits) m ρ
  rw [← defs_eq, ← main_eq] at h
  exact h

theorem frame_ideal : Cert.quiescent_KernelFfn0Ideal (hKernelFfn0Ideal := Cert.KernelFfn0Ideal.Gen.facts) :=
  fun m ρ _ => frame_run (F := Ideal) m ρ

theorem frame_reference : Cert.quiescent_ReferenceFfn0Ideal (hReferenceFfn0Ideal := Cert.ReferenceFfn0Ideal.Gen.facts) := fun m ρ _ =>
  (θ_run (Cert.ReferenceFfn0Ideal.defs (F := Ideal)) _ _).mono
    (fun r h => ⟨fun c => (h c).2, Idealize.ShloMosaic.sem_eq_zero_of_no_sems (by decide) r.2⟩)
    (Cert.ReferenceFfn0Ideal.Value.run (F := Ideal) m ρ)

theorem preserves : Cert.preserves_KernelFfn0_KernelFfn0Ideal := trivial

open Cert.KernelFfn0Ideal Cert.KernelFfn0Ideal.Gen

theorem algebraic : Cert.algebraic_KernelFfn0Ideal_ReferenceFfn0Ideal (hKernelFfn0Ideal := Cert.KernelFfn0Ideal.Gen.facts)
    (hReferenceFfn0Ideal := Cert.ReferenceFfn0Ideal.Gen.facts) := by
  intro m g m' g' _ hagree
  refine ⟨fun c => Cert.ReferenceFfn0Ideal.Value.res_out0 m' c, ?_, Cert.ReferenceFfn0Ideal.Value.run (F := Ideal) m' g'⟩
  refine (θ_run defs _ _).mono (fun _ h c => ⟨(h.1 c).trans ?_, h.2 c⟩) (run_value m g)
  obtain ⟨a0, a1, a2, a3, a4⟩ := hagree c
  refine final m c _ fun r k => ?_
  refine (congrFun (Ref.res_eq m' c) _).trans ((Ref.ref_at _ _ _ _ r k).trans ?_)
  simp only [Ref.stack_at]
  rw [a0, a1, a2, a3, a4]

end Cert.Proof.Ffn0

end
-- ==== Proof.ProjRow.lean ====
/-
  One normalized row times one column of a projection, over the extended reals.
-/
module

public import proofs.«01_k».proof.Proof.FfnRow

@[expose] public section

noncomputable section

namespace Cert.Proof.Proj

open Cert.Proof.Ffn

/-- The row over its root mean square, times the gain, times a column. -/
def col (x g w : Fin 1024 → EReal) : EReal := ∑ k : Fin 1024, rms x g k * w k

end Cert.Proof.Proj

end
-- ==== Proof.ProjValue.lean ====
/-
  The recurrent layer's input projection: the columns each of its results holds.
-/
module

public import proofs.«01_k».proof.Proof.ProjRow
public import proofs.«01_k».proof.Proof.Gen.KernelProjIdeal.Value
public import Idealize.ShloMosaic.Lib.Claim
public import Idealize.ShloMosaic.Lib.Pointwise
public import Idealize.ShloMosaic.Lib.Pipeline.ValueKit.Tiles
public import Idealize.ShloMosaic.Lib.Pipeline.ValueKit.Point

@[expose] public section

set_option maxRecDepth 16384

noncomputable section

namespace Cert.Proof.Proj

open Cert.KernelProjIdeal Cert.KernelProjIdeal.Gen Cert.Proof.Ffn Cert.Proof.Proj
open Idealize.ShloMosaic Idealize.ShloMosaic.TcCoe

variable (x : FVec Ideal S688x1024 .f32) (g : FVec Ideal S1x1024 .f32)

theorem normed_at (r : Fin 688) (k : Fin 1024) : k0_pay1 (F := Ideal) x g (ix2 r k) = rms (fun j => x (ix2 r j)) (fun j => g (ix2 0 j)) k := by
  pointwise [k0_pay1, rms]

theorem pay2_at (w : FVec Ideal S1024x512 .bf16) (r : Fin 688) (f : Fin 512) :
    k0_pay2 (F := Ideal) x g w (ix2 r f) = col (fun j => x (ix2 r j)) (fun j => g (ix2 0 j)) (fun k => w (ix2 k f)) := by
  unfold col
  simp only [← normed_at x g r]
  pointwise [k0_pay2]

theorem pay3_at (w : FVec Ideal S1024x512 .bf16) (r : Fin 688) (f : Fin 512) :
    k0_pay3 (F := Ideal) x g w (ix2 r f) = col (fun j => x (ix2 r j)) (fun j => g (ix2 0 j)) (fun k => w (ix2 k f)) := by
  unfold col
  simp only [← normed_at x g r]
  pointwise [k0_pay3]

theorem pay4_at (w : FVec Ideal S1024x512 .bf16) (r : Fin 688) (f : Fin 512) :
    k0_pay4 (F := Ideal) x g w (ix2 r f) = col (fun j => x (ix2 r j)) (fun j => g (ix2 0 j)) (fun k => w (ix2 k f)) := by
  unfold col
  simp only [← normed_at x g r]
  pointwise [k0_pay4]

theorem hz : (![0, 0] : Fin 2 → Nat) = fun _ => 0 := funext fun a => by fin_cases a <;> rfl

theorem ld_w (w : FVec Ideal S1024x1536 .bf16) (o : Nat) (hi) (k : Fin 1024) (f : Fin 512) (e : Fin 1536) (he : e.val = o + f.val) :
    View.ld (Val := Elt Ideal) (e' := .bf16) w (Rect.unit (s := S1024x1536) ![0, o] ![1024, 512] hi) (ix2 k f) = w (ix2 k e) := by
  refine congrArg w (funext fun a => ?_)
  match a with
  | ⟨0, _⟩ => exact Fin.ext ((Rect.idx_unit_val _ _ _ _ _).trans (by show 0 + k.val = k.val; omega))
  | ⟨1, _⟩ => exact Fin.ext ((Rect.idx_unit_val _ _ _ _ _).trans (by show o + f.val = e.val; omega))

theorem out3_at (w : FVec Ideal S1024x1536 .bf16) (r : Fin 688) (f : Fin 512) :
    out0_3 (F := Ideal) x g w (ix2 r f) = col (fun j => x (ix2 r j)) (fun j => g (ix2 0 j)) (fun k => w (ix2 k ⟨0 + f.val, by omega⟩)) := by
  unfold out0_3
  rw [View.canon_unit_zero hz, View.ld_unit_zero hz, View.ld_unit_zero hz]
  refine (pay2_at _ _ _ r f).trans ?_
  exact congrArg (col _ _) (funext fun k => ld_w w 0 _ k f _ rfl)

theorem out4_at (w : FVec Ideal S1024x1536 .bf16) (r : Fin 688) (f : Fin 512) :
    out0_4 (F := Ideal) x g w (ix2 r f) = col (fun j => x (ix2 r j)) (fun j => g (ix2 0 j)) (fun k => w (ix2 k ⟨512 + f.val, by omega⟩)) := by
  unfold out0_4
  rw [View.canon_unit_zero hz, View.ld_unit_zero hz, View.ld_unit_zero hz]
  refine (pay3_at _ _ _ r f).trans ?_
  exact congrArg (col _ _) (funext fun k => ld_w w 512 _ k f _ rfl)

theorem out5_at (w : FVec Ideal S1024x1536 .bf16) (r : Fin 688) (f : Fin 512) :
    out0_5 (F := Ideal) x g w (ix2 r f) = col (fun j => x (ix2 r j)) (fun j => g (ix2 0 j)) (fun k => w (ix2 k ⟨1024 + f.val, by omega⟩)) := by
  unfold out0_5
  rw [View.canon_unit_zero hz, View.ld_unit_zero hz, View.ld_unit_zero hz]
  refine (pay4_at _ _ _ r f).trans ?_
  exact congrArg (col _ _) (funext fun k => ld_w w 1024 _ k f _ rfl)

variable (m : (ℓ : Loc nD τ sig) → Buf (Elt Ideal) ℓ)

theorem gain (c : Dev nD) (j : Fin 1024) : V m c main_v5 (ix2 0 j) = m ((c.tc : Thread nD τ).loc main_arg1) (ix2 0 j) := by
  entry_read
  pointwise

theorem weights (c : Dev nD) (k : Fin 1024) (f : Fin 1536) : V m c main_v4 (ix2 k f) = m ((c.tc : Thread nD τ).loc main_arg2) (ix3 0 k f) := by
  entry_read
  pointwise

theorem e0 : ∀ t : Fin cfg0.N, win0_0.index t = ![(grid0.coords t 0).val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![(grid0.coords t 0).val, 0] := (by decide +kernel : ∀ t : Fin grid0.N, _)
theorem e4 : ∀ t : Fin cfg0.N, win0_4.index t = ![(grid0.coords t 0).val, 0] := (by decide +kernel : ∀ t : Fin grid0.N, _)
theorem e5 : ∀ t : Fin cfg0.N, win0_5.index t = ![(grid0.coords t 0).val, 0] := (by decide +kernel : ∀ t : Fin grid0.N, _)

/-- The array's row that a point's local row is. -/
def rowOf (t : Fin cfg0.N) (r : Fin 688) : Fin 16512 :=
  ⟨688 * (grid0.coords t 0).val + r.val, by have : (grid0.coords t 0).val < 24 := (grid0.coords t 0).isLt; omega⟩

theorem blk_x (c : Dev nD) (t : Fin cfg0.N) (r : Fin 688) (j : Fin 1024) : iblk m c 0 t (ix2 r j) = m ((c.tc : Thread nD τ).loc main_arg0) (ix2 (rowOf t r) j) := by
  refine Eq.trans ?_ (congrFun (V_main_arg0 m c) _)
  show V m c main_arg0 ((win0_0.blk t).view.emb (ix2 r j)) = _
  congr 1
  unfold rowOf
  blk_ext [e0 t]

theorem blk_g (c : Dev nD) (t : Fin cfg0.N) (j : Fin 1024) : iblk m c 1 t (ix2 0 j) = m ((c.tc : Thread nD τ).loc main_arg1) (ix2 0 j) := by
  refine Eq.trans ?_ (gain m c j)
  show V m c main_v5 ((win0_1.blk t).view.emb (ix2 0 j)) = _
  congr 1
  blk_ext [e1 t]

theorem blk_w (c : Dev nD) (t : Fin cfg0.N) (k : Fin 1024) (f : Fin 1536) : iblk m c 2 t (ix2 k f) = m ((c.tc : Thread nD τ).loc main_arg2) (ix3 0 k f) := by
  refine Eq.trans ?_ (weights m c k f)
  show V m c main_v4 ((win0_2.blk t).view.emb (ix2 k f)) = _
  congr 1
  blk_ext [e2 t]

/-- Result 0 is any array of the rows times the columns from 0. -/
theorem final3 (c : Dev nD) (G : FVec Ideal S16512x512 .f32)
    (hG : ∀ (r : Fin 16512) (f : Fin 512), G (ix2 r f) = col (fun j => m ((c.tc : Thread nD τ).loc main_arg0) (ix2 r j)) (fun j => m ((c.tc : Thread nD τ).loc main_arg1) (ix2 0 j)) (fun k => m ((c.tc : Thread nD τ).loc main_arg2) (ix3 0 k ⟨0 + f.val, by omega⟩))) :
    (dats m 0 c).arrAt 3 cfg0.N = G := by
  refine (dats m 0 c).arrAt_eq_of_covers 3 _ (by decide +kernel) fun t hf y => ?_
  blk_simp
  rw [after0_3]
  obtain ⟨r, f, rfl⟩ : ∃ (r : Fin 688) (f : Fin 512), y = ix2 r f := ⟨y 0, y 1, funext fun a => by fin_cases a <;> rfl⟩
  have he : (win0_3.blk t).view.emb (ix2 r f) = ix2 (rowOf t r) f := by
    unfold rowOf
    blk_ext [e3 t]
  rw [he, hG]
  refine (out3_at _ _ _ r f).trans ?_
  simp only [blk_x, blk_g, blk_w]

/-- Result 1 is any array of the rows times the columns from 512. -/
theorem final4 (c : Dev nD) (G : FVec Ideal S16512x512 .f32)
    (hG : ∀ (r : Fin 16512) (f : Fin 512), G (ix2 r f) = col (fun j => m ((c.tc : Thread nD τ).loc main_arg0) (ix2 r j)) (fun j => m ((c.tc : Thread nD τ).loc main_arg1) (ix2 0 j)) (fun k => m ((c.tc : Thread nD τ).loc main_arg2) (ix3 0 k ⟨512 + f.val, by omega⟩))) :
    (dats m 0 c).arrAt 4 cfg0.N = G := by
  refine (dats m 0 c).arrAt_eq_of_covers 4 _ (by decide +kernel) fun t hf y => ?_
  blk_simp
  rw [after0_4]
  obtain ⟨r, f, rfl⟩ : ∃ (r : Fin 688) (f : Fin 512), y = ix2 r f := ⟨y 0, y 1, funext fun a => by fin_cases a <;> rfl⟩
  have he : (win0_4.blk t).view.emb (ix2 r f) = ix2 (rowOf t r) f := by
    unfold rowOf
    blk_ext [e4 t]
  rw [he, hG]
  refine (out4_at _ _ _ r f).trans ?_
  simp only [blk_x, blk_g, blk_w]

/-- Result 2 is any array of the rows times the columns from 1024. -/
theorem final5 (c : Dev nD) (G : FVec Ideal S16512x512 .f32)
    (hG : ∀ (r : Fin 16512) (f : Fin 512), G (ix2 r f) = col (fun j => m ((c.tc : Thread nD τ).loc main_arg0) (ix2 r j)) (fun j => m ((c.tc : Thread nD τ).loc main_arg1) (ix2 0 j)) (fun k => m ((c.tc : Thread nD τ).loc main_arg2) (ix3 0 k ⟨1024 + f.val, by omega⟩))) :
    (dats m 0 c).arrAt 5 cfg0.N = G := by
  refine (dats m 0 c).arrAt_eq_of_covers 5 _ (by decide +kernel) fun t hf y => ?_
  blk_simp
  rw [after0_5]
  obtain ⟨r, f, rfl⟩ : ∃ (r : Fin 688) (f : Fin 512), y = ix2 r f := ⟨y 0, y 1, funext fun a => by fin_cases a <;> rfl⟩
  have he : (win0_5.blk t).view.emb (ix2 r f) = ix2 (rowOf t r) f := by
    unfold rowOf
    blk_ext [e5 t]
  rw [he, hG]
  refine (out5_at _ _ _ r f).trans ?_
  simp only [blk_x, blk_g, blk_w]

end Cert.Proof.Proj

end
-- ==== Proof.ProjRef.lean ====
/-
  The reference of the recurrent layer's input projection, read at a row.
-/
module

public import proofs.«01_k».proof.Proof.Gen.ReferenceProjIdeal.Run
public import proofs.«01_k».proof.Proof.ProjRow
public import Idealize.ShloMosaic.Lib.Pointwise

@[expose] public section

set_option maxRecDepth 16384

noncomputable section

namespace Cert.Proof.Proj.Ref

open Cert.ReferenceProjIdeal Cert.ReferenceProjIdeal.Gen Cert.Proof.Ffn Cert.Proof.Proj
open Idealize.ShloMosaic Idealize.ShloMosaic.TcCoe Idealize.SL.Sem

variable (x : FVec Ideal S16512x1024 .f32)

/-- The layer's gain. -/
def gainF (g : FVec Ideal S4x1024 .f32) : FVec Ideal S1024 .f32 :=
  shapeCast _ (extractStridedSlice S1x1024 ![0, 0] g slices_S4x1024_S1x1024_0_0) shapeCasts_S1x1024_S1024

/-- The normalized rows. -/
def normF (g : FVec Ideal S1024 .f32) : FVec Ideal S16512x1024 .f32 :=
  mulf (mulf x (broadcastInDim S16512x1024 ![0, 1] bcast_S16512x1_S16512x1024_0_1 (Host.rsqrt (addf (Host.divf (broadcastInDim S16512x1 ![0] bcast_S16512_S16512x1_0 (Host.reduceAdd (mulf x x) (constant S_ .f32 0x00000000#32) reducesTo_S16512x1024_S16512_d1 h_S_)) (broadcastInDim S16512x1 ![] bcast_S_S16512x1 (constant S_ .f32 0x44800000#32))) (broadcastInDim S16512x1 ![] bcast_S_S16512x1 (constant S_ .f32 0x358637BD#32))))))
    (broadcastInDim S16512x1024 ![0, 1] bcast_S1x1024_S16512x1024_0_1 (broadcastInDim S1x1024 ![1] bcast_S1024_S1x1024_1 g))

/-- The product with all the columns. -/
def allF (w : FVec Ideal S2x1024x1536 .f32) (h : FVec Ideal S16512x1024 .f32) : FVec Ideal S16512x1536 .f32 :=
  Host.dotGeneral dot_S16512x1024_S1024x1536_S16512x1536_1_0_0_1_n_n none h (shapeCast _ (extractStridedSlice S1x1024x1536 ![0, 0, 0] w slices_S2x1024x1536_S1x1024x1536_0_0_0) shapeCasts_S1x1024x1536_S1024x1536)

def res0 (w : FVec Ideal S2x1024x1536 .f32) (g : FVec Ideal S4x1024 .f32) : FVec Ideal S16512x512 .f32 :=
  extractStridedSlice S16512x512 ![0, 0] (allF w (normF x (gainF g))) slices_S16512x1536_S16512x512_0_0

def res1 (w : FVec Ideal S2x1024x1536 .f32) (g : FVec Ideal S4x1024 .f32) : FVec Ideal S16512x512 .f32 :=
  extractStridedSlice S16512x512 ![0, 512] (allF w (normF x (gainF g))) slices_S16512x1536_S16512x512_0_512

def res2 (w : FVec Ideal S2x1024x1536 .f32) (g : FVec Ideal S4x1024 .f32) : FVec Ideal S16512x512 .f32 :=
  extractStridedSlice S16512x512 ![0, 1024] (allF w (normF x (gainF g))) slices_S16512x1536_S16512x512_0_1024

/-- The run with the results named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
r.2.mem ((c.tc : Thread nD τ).loc main_v18) = res0 (m ((c.tc : Thread nD τ).loc main_arg0)) (m ((c.tc : Thread nD τ).loc main_arg2)) (m ((c.tc : Thread nD τ).loc main_arg1))
      ∧ r.2.mem ((c.tc : Thread nD τ).loc main_v19) = res1 (m ((c.tc : Thread nD τ).loc main_arg0)) (m ((c.tc : Thread nD τ).loc main_arg2)) (m ((c.tc : Thread nD τ).loc main_arg1))
      ∧ r.2.mem ((c.tc : Thread nD τ).loc main_v20) = res2 (m ((c.tc : Thread nD τ).loc main_arg0)) (m ((c.tc : Thread nD τ).loc main_arg2)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceProjIdeal.Value.run (F := Ideal) m ρ

theorem gain_at (g : FVec Ideal S4x1024 .f32) (k : Fin 1024) : gainF g (ix1 k) = g (ix2 0 k) := by
  pointwise [gainF]

theorem norm_at (g : FVec Ideal S1024 .f32) (r : Fin 16512) (k : Fin 1024) : normF x g (ix2 r k) = rms (fun j => x (ix2 r j)) (fun j => g (ix1 j)) k := by
  pointwise [normF, rms]

theorem all_at (w : FVec Ideal S2x1024x1536 .f32) (h : FVec Ideal S16512x1024 .f32) (r : Fin 16512) (f : Fin 1536) :
    allF w h (ix2 r f) = ∑ k : Fin 1024, h (ix2 r k) * w (ix3 0 k f) := by
  pointwise [allF]

theorem res0_at (w : FVec Ideal S2x1024x1536 .f32) (g : FVec Ideal S4x1024 .f32) (r : Fin 16512) (f : Fin 512) :
    res0 x w g (ix2 r f) = col (fun j => x (ix2 r j)) (fun j => g (ix2 0 j)) (fun k => w (ix3 0 k ⟨0 + f.val, by omega⟩)) := by
  refine Eq.trans (b := allF w (normF x (gainF g)) (ix2 r ⟨0 + f.val, by omega⟩)) ?_ ?_
  · unfold res0
    generalize allF w (normF x (gainF g)) = z
    pointwise
  · rw [all_at]
    simp only [norm_at, gain_at]
    rfl

theorem res1_at (w : FVec Ideal S2x1024x1536 .f32) (g : FVec Ideal S4x1024 .f32) (r : Fin 16512) (f : Fin 512) :
    res1 x w g (ix2 r f) = col (fun j => x (ix2 r j)) (fun j => g (ix2 0 j)) (fun k => w (ix3 0 k ⟨512 + f.val, by omega⟩)) := by
  refine Eq.trans (b := allF w (normF x (gainF g)) (ix2 r ⟨512 + f.val, by omega⟩)) ?_ ?_
  · unfold res1
    generalize allF w (normF x (gainF g)) = z
    pointwise
  · rw [all_at]
    simp only [norm_at, gain_at]
    rfl

theorem res2_at (w : FVec Ideal S2x1024x1536 .f32) (g : FVec Ideal S4x1024 .f32) (r : Fin 16512) (f : Fin 512) :
    res2 x w g (ix2 r f) = col (fun j => x (ix2 r j)) (fun j => g (ix2 0 j)) (fun k => w (ix3 0 k ⟨1024 + f.val, by omega⟩)) := by
  refine Eq.trans (b := allF w (normF x (gainF g)) (ix2 r ⟨1024 + f.val, by omega⟩)) ?_ ?_
  · unfold res2
    generalize allF w (normF x (gainF g)) = z
    pointwise
  · rw [all_at]
    simp only [norm_at, gain_at]
    rfl

end Cert.Proof.Proj.Ref

end
-- ==== Proof.Proj.lean ====
/-
  The claims of the recurrent layer's input projection: the frames, and the equations of its results with the reference's.
-/
module

public import proofs.«01_k».proof.Defs
public import proofs.«01_k».proof.Proof.ProjValue
public import proofs.«01_k».proof.Proof.ProjRef
public import proofs.«01_k».proof.Proof.Gen.KernelProj
public import proofs.«01_k».proof.Proof.Gen.KernelProjIdeal.Value
public import Idealize.ShloMosaic.Lib.Quiescent

@[expose] public section

noncomputable section

namespace Cert.Proof.Proj

open Idealize.ShloMosaic Idealize.ShloMosaic.TcCoe Idealize.SL.Sem

instance : Cert.KernelProj.Facts := Cert.KernelProj.Gen.facts

/-! The two programs are the same text. -/

theorem main_eq : Cert.KernelProj.main (F := Bits) = Cert.KernelProjIdeal.main (F := Bits) := rfl

theorem body_eq : Cert.KernelProj.cc0_proj (F := Bits) = Cert.KernelProjIdeal.cc0_proj (F := Bits) := rfl

theorem defs₀_eq : Cert.KernelProj.defs₀ (F := Bits) = Cert.KernelProjIdeal.defs₀ (F := Bits) := by
  refine congrArg Defs.onTc (funext fun l => funext fun a => ?_)
  obtain ⟨l, hl⟩ := l
  match l, hl, a with
  | 0, _, (t, s) => exact congrFun (congrFun (congrFun (congrFun (congrFun (congrFun (congrFun (congrFun (congrFun (congrFun (congrFun (congrFun (congrFun body_eq _) _) _) _) _) _) _) _) _) _) _) _) _
  | _ + 1, h, _ => exact absurd h (Nat.not_lt.2 (Nat.le_add_left _ _))

theorem defs_eq : Cert.KernelProj.defs (F := Bits) = Cert.KernelProjIdeal.defs (F := Bits) :=
  congrArg (Pipeline.defs Cert.KernelProjIdeal.pcfgs) defs₀_eq

theorem frame_kernel : Cert.quiescent_KernelProj (hKernelProj := Cert.KernelProj.Gen.facts) := fun m ρ _ => by
  have h := Cert.KernelProjIdeal.Gen.frame (F := Bits) m ρ
  rw [← defs_eq, ← main_eq] at h
  exact h

theorem frame_ideal : Cert.quiescent_KernelProjIdeal (hKernelProjIdeal := Cert.KernelProjIdeal.Gen.facts) :=
  fun m ρ _ => Cert.KernelProjIdeal.Gen.frame (F := Ideal) m ρ

theorem frame_reference : Cert.quiescent_ReferenceProjIdeal (hReferenceProjIdeal := Cert.ReferenceProjIdeal.Gen.facts) := fun m ρ _ =>
  (θ_run (Cert.ReferenceProjIdeal.defs (F := Ideal)) _ _).mono
    (fun r h => ⟨fun c => (h c).2.2.2, Idealize.ShloMosaic.sem_eq_zero_of_no_sems (by decide) r.2⟩)
    (Cert.ReferenceProjIdeal.Value.run (F := Ideal) m ρ)

theorem preserves : Cert.preserves_KernelProj_KernelProjIdeal := trivial

open Cert.KernelProjIdeal Cert.KernelProjIdeal.Gen

theorem algebraic : Cert.algebraic_KernelProjIdeal_ReferenceProjIdeal (hKernelProjIdeal := Cert.KernelProjIdeal.Gen.facts)
    (hReferenceProjIdeal := Cert.ReferenceProjIdeal.Gen.facts) := by
  intro m g m' g' _ hagree
  refine ⟨fun c => _, fun c => _, fun c => _, ?_, Ref.run m' g'⟩
  refine (θ_run defs _ _).mono (fun _ h c => ?_) (Cert.KernelProjIdeal.Value.run_blocks m g)
  obtain ⟨a0, a1, a2⟩ := hagree c
  obtain ⟨h3, h4, h5, hk⟩ := h c
  refine ⟨h3.trans ?_, h4.trans ?_, h5.trans ?_, hk⟩
  · refine final3 m c _ fun r f => (Ref.res0_at _ _ _ r f).trans ?_
    rw [a0, a1, a2]
  · refine final4 m c _ fun r f => (Ref.res1_at _ _ _ r f).trans ?_
    rw [a0, a1, a2]
  · refine final5 m c _ fun r f => (Ref.res2_at _ _ _ r f).trans ?_
    rw [a0, a1, a2]

end Cert.Proof.Proj

end
-- ==== Proof.ProjSValue.lean ====
/-
  The samples' query, key and value projection: the columns each of its results holds.
-/
module

public import proofs.«01_k».proof.Proof.ProjRow
public import proofs.«01_k».proof.Proof.Gen.KernelProjSIdeal.Value
public import Idealize.ShloMosaic.Lib.Claim
public import Idealize.ShloMosaic.Lib.Pointwise
public import Idealize.ShloMosaic.Lib.Pipeline.ValueKit.Tiles
public import Idealize.ShloMosaic.Lib.Pipeline.ValueKit.Point

@[expose] public section

set_option maxRecDepth 16384

noncomputable section

namespace Cert.Proof.ProjS

open Cert.KernelProjSIdeal Cert.KernelProjSIdeal.Gen Cert.Proof.Ffn Cert.Proof.Proj
open Idealize.ShloMosaic Idealize.ShloMosaic.TcCoe

variable (x : FVec Ideal S128x1024 .f32) (g : FVec Ideal S1x1024 .f32)

theorem normed_at (r : Fin 128) (k : Fin 1024) : k0_pay1 (F := Ideal) x g (ix2 r k) = rms (fun j => x (ix2 r j)) (fun j => g (ix2 0 j)) k := by
  pointwise [k0_pay1, rms]

theorem pay2_at (w : FVec Ideal S1024x1024 .bf16) (r : Fin 128) (f : Fin 1024) :
    k0_pay2 (F := Ideal) x g w (ix2 r f) = col (fun j => x (ix2 r j)) (fun j => g (ix2 0 j)) (fun k => w (ix2 k f)) := by
  unfold col
  simp only [← normed_at x g r]
  pointwise [k0_pay2]

theorem pay3_at (w : FVec Ideal S1024x1024 .bf16) (r : Fin 128) (f : Fin 1024) :
    k0_pay3 (F := Ideal) x g w (ix2 r f) = col (fun j => x (ix2 r j)) (fun j => g (ix2 0 j)) (fun k => w (ix2 k f)) := by
  unfold col
  simp only [← normed_at x g r]
  pointwise [k0_pay3]

theorem pay4_at (w : FVec Ideal S1024x1024 .bf16) (r : Fin 128) (f : Fin 1024) :
    k0_pay4 (F := Ideal) x g w (ix2 r f) = col (fun j => x (ix2 r j)) (fun j => g (ix2 0 j)) (fun k => w (ix2 k f)) := by
  unfold col
  simp only [← normed_at x g r]
  pointwise [k0_pay4]

theorem hz : (![0, 0] : Fin 2 → Nat) = fun _ => 0 := funext fun a => by fin_cases a <;> rfl

theorem ld_w (w : FVec Ideal S1024x3072 .bf16) (o : Nat) (hi) (k : Fin 1024) (f : Fin 1024) (e : Fin 3072) (he : e.val = o + f.val) :
    View.ld (Val := Elt Ideal) (e' := .bf16) w (Rect.unit (s := S1024x3072) ![0, o] ![1024, 1024] hi) (ix2 k f) = w (ix2 k e) := by
  refine congrArg w (funext fun a => ?_)
  match a with
  | ⟨0, _⟩ => exact Fin.ext ((Rect.idx_unit_val _ _ _ _ _).trans (by show 0 + k.val = k.val; omega))
  | ⟨1, _⟩ => exact Fin.ext ((Rect.idx_unit_val _ _ _ _ _).trans (by show o + f.val = e.val; omega))

theorem out3_at (w : FVec Ideal S1024x3072 .bf16) (r : Fin 128) (f : Fin 1024) :
    out0_3 (F := Ideal) x g w (ix2 r f) = col (fun j => x (ix2 r j)) (fun j => g (ix2 0 j)) (fun k => w (ix2 k ⟨0 + f.val, by omega⟩)) := by
  unfold out0_3
  rw [View.canon_unit_zero hz, View.ld_unit_zero hz, View.ld_unit_zero hz]
  refine (pay2_at _ _ _ r f).trans ?_
  exact congrArg (col _ _) (funext fun k => ld_w w 0 _ k f _ rfl)

theorem out4_at (w : FVec Ideal S1024x3072 .bf16) (r : Fin 128) (f : Fin 1024) :
    out0_4 (F := Ideal) x g w (ix2 r f) = col (fun j => x (ix2 r j)) (fun j => g (ix2 0 j)) (fun k => w (ix2 k ⟨1024 + f.val, by omega⟩)) := by
  unfold out0_4
  rw [View.canon_unit_zero hz, View.ld_unit_zero hz, View.ld_unit_zero hz]
  refine (pay3_at _ _ _ r f).trans ?_
  exact congrArg (col _ _) (funext fun k => ld_w w 1024 _ k f _ rfl)

theorem out5_at (w : FVec Ideal S1024x3072 .bf16) (r : Fin 128) (f : Fin 1024) :
    out0_5 (F := Ideal) x g w (ix2 r f) = col (fun j => x (ix2 r j)) (fun j => g (ix2 0 j)) (fun k => w (ix2 k ⟨2048 + f.val, by omega⟩)) := by
  unfold out0_5
  rw [View.canon_unit_zero hz, View.ld_unit_zero hz, View.ld_unit_zero hz]
  refine (pay4_at _ _ _ r f).trans ?_
  exact congrArg (col _ _) (funext fun k => ld_w w 2048 _ k f _ rfl)

variable (m : (ℓ : Loc nD τ sig) → Buf (Elt Ideal) ℓ)

theorem gain (c : Dev nD) (j : Fin 1024) : V m c main_v5 (ix2 0 j) = m ((c.tc : Thread nD τ).loc main_arg1) (ix2 1 j) := by
  entry_read
  pointwise

theorem weights (c : Dev nD) (k : Fin 1024) (f : Fin 3072) : V m c main_v4 (ix2 k f) = m ((c.tc : Thread nD τ).loc main_arg2) (ix3 0 k f) := by
  entry_read
  pointwise

theorem e0 : ∀ t : Fin cfg0.N, win0_0.index t = ![128, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)

theorem blk_x (c : Dev nD) (t : Fin cfg0.N) (r : Fin 128) (j : Fin 1024) : iblk m c 0 t (ix2 r j) = m ((c.tc : Thread nD τ).loc main_arg0) (ix2 ⟨16384 + r.val, by omega⟩ j) := by
  refine Eq.trans ?_ (congrFun (V_main_arg0 m c) _)
  show V m c main_arg0 ((win0_0.blk t).view.emb (ix2 r j)) = _
  congr 1
  blk_ext [e0 t]

theorem blk_g (c : Dev nD) (t : Fin cfg0.N) (j : Fin 1024) : iblk m c 1 t (ix2 0 j) = m ((c.tc : Thread nD τ).loc main_arg1) (ix2 1 j) := by
  refine Eq.trans ?_ (gain m c j)
  show V m c main_v5 ((win0_1.blk t).view.emb (ix2 0 j)) = _
  congr 1
  blk_ext [e1 t]

theorem blk_w (c : Dev nD) (t : Fin cfg0.N) (k : Fin 1024) (f : Fin 3072) : iblk m c 2 t (ix2 k f) = m ((c.tc : Thread nD τ).loc main_arg2) (ix3 0 k f) := by
  refine Eq.trans ?_ (weights m c k f)
  show V m c main_v4 ((win0_2.blk t).view.emb (ix2 k f)) = _
  congr 1
  blk_ext [e2 t]

/-- Result 0 is any array of the rows times the columns from 0. -/
theorem final3 (c : Dev nD) (G : FVec Ideal S128x1024 .f32)
    (hG : ∀ (r : Fin 128) (f : Fin 1024), G (ix2 r f) = col (fun j => m ((c.tc : Thread nD τ).loc main_arg0) (ix2 ⟨16384 + r.val, by omega⟩ j)) (fun j => m ((c.tc : Thread nD τ).loc main_arg1) (ix2 1 j)) (fun k => m ((c.tc : Thread nD τ).loc main_arg2) (ix3 0 k ⟨0 + f.val, by omega⟩))) :
    (dats m 0 c).arrAt 3 cfg0.N = G := by
  refine (dats m 0 c).arrAt_eq_of_covers 3 _ (by decide +kernel) fun t hf y => ?_
  blk_simp
  rw [after0_3]
  obtain ⟨r, f, rfl⟩ : ∃ (r : Fin 128) (f : Fin 1024), y = ix2 r f := ⟨y 0, y 1, funext fun a => by fin_cases a <;> rfl⟩
  have he : (win0_3.blk t).view.emb (ix2 r f) = ix2 r f := by
    blk_ext [e3 t]
  rw [he, hG]
  refine (out3_at _ _ _ r f).trans ?_
  simp only [blk_x, blk_g, blk_w]

/-- Result 1 is any array of the rows times the columns from 1024. -/
theorem final4 (c : Dev nD) (G : FVec Ideal S128x1024 .f32)
    (hG : ∀ (r : Fin 128) (f : Fin 1024), G (ix2 r f) = col (fun j => m ((c.tc : Thread nD τ).loc main_arg0) (ix2 ⟨16384 + r.val, by omega⟩ j)) (fun j => m ((c.tc : Thread nD τ).loc main_arg1) (ix2 1 j)) (fun k => m ((c.tc : Thread nD τ).loc main_arg2) (ix3 0 k ⟨1024 + f.val, by omega⟩))) :
    (dats m 0 c).arrAt 4 cfg0.N = G := by
  refine (dats m 0 c).arrAt_eq_of_covers 4 _ (by decide +kernel) fun t hf y => ?_
  blk_simp
  rw [after0_4]
  obtain ⟨r, f, rfl⟩ : ∃ (r : Fin 128) (f : Fin 1024), y = ix2 r f := ⟨y 0, y 1, funext fun a => by fin_cases a <;> rfl⟩
  have he : (win0_4.blk t).view.emb (ix2 r f) = ix2 r f := by
    blk_ext [e4 t]
  rw [he, hG]
  refine (out4_at _ _ _ r f).trans ?_
  simp only [blk_x, blk_g, blk_w]

/-- Result 2 is any array of the rows times the columns from 2048. -/
theorem final5 (c : Dev nD) (G : FVec Ideal S128x1024 .f32)
    (hG : ∀ (r : Fin 128) (f : Fin 1024), G (ix2 r f) = col (fun j => m ((c.tc : Thread nD τ).loc main_arg0) (ix2 ⟨16384 + r.val, by omega⟩ j)) (fun j => m ((c.tc : Thread nD τ).loc main_arg1) (ix2 1 j)) (fun k => m ((c.tc : Thread nD τ).loc main_arg2) (ix3 0 k ⟨2048 + f.val, by omega⟩))) :
    (dats m 0 c).arrAt 5 cfg0.N = G := by
  refine (dats m 0 c).arrAt_eq_of_covers 5 _ (by decide +kernel) fun t hf y => ?_
  blk_simp
  rw [after0_5]
  obtain ⟨r, f, rfl⟩ : ∃ (r : Fin 128) (f : Fin 1024), y = ix2 r f := ⟨y 0, y 1, funext fun a => by fin_cases a <;> rfl⟩
  have he : (win0_5.blk t).view.emb (ix2 r f) = ix2 r f := by
    blk_ext [e5 t]
  rw [he, hG]
  refine (out5_at _ _ _ r f).trans ?_
  simp only [blk_x, blk_g, blk_w]

end Cert.Proof.ProjS

end
-- ==== Proof.ProjSRef.lean ====
/-
  The reference of the samples' query, key and value projection, read at a row.
-/
module

public import proofs.«01_k».proof.Proof.Gen.ReferenceProjSIdeal.Run
public import proofs.«01_k».proof.Proof.ProjRow
public import Idealize.ShloMosaic.Lib.Pointwise

@[expose] public section

set_option maxRecDepth 16384

noncomputable section

namespace Cert.Proof.ProjS.Ref

open Cert.ReferenceProjSIdeal Cert.ReferenceProjSIdeal.Gen Cert.Proof.Ffn Cert.Proof.Proj
open Idealize.ShloMosaic Idealize.ShloMosaic.TcCoe Idealize.SL.Sem

variable (x : FVec Ideal S128x1024 .f32)

/-- The layer's gain. -/
def gainF (g : FVec Ideal S4x1024 .f32) : FVec Ideal S1024 .f32 :=
  shapeCast _ (extractStridedSlice S1x1024 ![1, 0] g slices_S4x1024_S1x1024_1_0) shapeCasts_S1x1024_S1024

/-- The normalized rows. -/
def normF (g : FVec Ideal S1024 .f32) : FVec Ideal S128x1024 .f32 :=
  mulf (mulf x (broadcastInDim S128x1024 ![0, 1] bcast_S128x1_S128x1024_0_1 (Host.rsqrt (addf (Host.divf (broadcastInDim S128x1 ![0] bcast_S128_S128x1_0 (Host.reduceAdd (mulf x x) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32))))))
    (broadcastInDim S128x1024 ![0, 1] bcast_S1x1024_S128x1024_0_1 (broadcastInDim S1x1024 ![1] bcast_S1024_S1x1024_1 g))

/-- The product with all the columns. -/
def allF (w : FVec Ideal S2x1024x3072 .f32) (h : FVec Ideal S128x1024 .f32) : FVec Ideal S128x3072 .f32 :=
  Host.dotGeneral dot_S128x1024_S1024x3072_S128x3072_1_0_0_1_n_n none h (shapeCast _ (extractStridedSlice S1x1024x3072 ![0, 0, 0] w slices_S2x1024x3072_S1x1024x3072_0_0_0) shapeCasts_S1x1024x3072_S1024x3072)

/-- The samples' rows. -/
def lastF (x : FVec Ideal S16512x1024 .f32) : FVec Ideal S128x1024 .f32 := extractStridedSlice S128x1024 ![16384, 0] x slices_S16512x1024_S128x1024_16384_0

theorem last_at (x : FVec Ideal S16512x1024 .f32) (r : Fin 128) (k : Fin 1024) : lastF x (ix2 r k) = x (ix2 ⟨16384 + r.val, by omega⟩ k) := by
  pointwise [lastF]

def res0 (w : FVec Ideal S2x1024x3072 .f32) (g : FVec Ideal S4x1024 .f32) : FVec Ideal S128x1024 .f32 :=
  extractStridedSlice S128x1024 ![0, 0] (allF w (normF x (gainF g))) slices_S128x3072_S128x1024_0_0

def res1 (w : FVec Ideal S2x1024x3072 .f32) (g : FVec Ideal S4x1024 .f32) : FVec Ideal S128x1024 .f32 :=
  extractStridedSlice S128x1024 ![0, 1024] (allF w (normF x (gainF g))) slices_S128x3072_S128x1024_0_1024

def res2 (w : FVec Ideal S2x1024x3072 .f32) (g : FVec Ideal S4x1024 .f32) : FVec Ideal S128x1024 .f32 :=
  extractStridedSlice S128x1024 ![0, 2048] (allF w (normF x (gainF g))) slices_S128x3072_S128x1024_0_2048

/-- The run with the results named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
r.2.mem ((c.tc : Thread nD τ).loc main_v19) = res0 (lastF (m ((c.tc : Thread nD τ).loc main_arg0))) (m ((c.tc : Thread nD τ).loc main_arg2)) (m ((c.tc : Thread nD τ).loc main_arg1))
      ∧ r.2.mem ((c.tc : Thread nD τ).loc main_v20) = res1 (lastF (m ((c.tc : Thread nD τ).loc main_arg0))) (m ((c.tc : Thread nD τ).loc main_arg2)) (m ((c.tc : Thread nD τ).loc main_arg1))
      ∧ r.2.mem ((c.tc : Thread nD τ).loc main_v21) = res2 (lastF (m ((c.tc : Thread nD τ).loc main_arg0))) (m ((c.tc : Thread nD τ).loc main_arg2)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceProjSIdeal.Value.run (F := Ideal) m ρ

theorem gain_at (g : FVec Ideal S4x1024 .f32) (k : Fin 1024) : gainF g (ix1 k) = g (ix2 1 k) := by
  pointwise [gainF]

theorem norm_at (g : FVec Ideal S1024 .f32) (r : Fin 128) (k : Fin 1024) : normF x g (ix2 r k) = rms (fun j => x (ix2 r j)) (fun j => g (ix1 j)) k := by
  pointwise [normF, rms]

theorem all_at (w : FVec Ideal S2x1024x3072 .f32) (h : FVec Ideal S128x1024 .f32) (r : Fin 128) (f : Fin 3072) :
    allF w h (ix2 r f) = ∑ k : Fin 1024, h (ix2 r k) * w (ix3 0 k f) := by
  pointwise [allF]

theorem res0_at (w : FVec Ideal S2x1024x3072 .f32) (g : FVec Ideal S4x1024 .f32) (r : Fin 128) (f : Fin 1024) :
    res0 x w g (ix2 r f) = col (fun j => x (ix2 r j)) (fun j => g (ix2 1 j)) (fun k => w (ix3 0 k ⟨0 + f.val, by omega⟩)) := by
  refine Eq.trans (b := allF w (normF x (gainF g)) (ix2 r ⟨0 + f.val, by omega⟩)) ?_ ?_
  · unfold res0
    generalize allF w (normF x (gainF g)) = z
    pointwise
  · rw [all_at]
    simp only [norm_at, gain_at]
    rfl

theorem res1_at (w : FVec Ideal S2x1024x3072 .f32) (g : FVec Ideal S4x1024 .f32) (r : Fin 128) (f : Fin 1024) :
    res1 x w g (ix2 r f) = col (fun j => x (ix2 r j)) (fun j => g (ix2 1 j)) (fun k => w (ix3 0 k ⟨1024 + f.val, by omega⟩)) := by
  refine Eq.trans (b := allF w (normF x (gainF g)) (ix2 r ⟨1024 + f.val, by omega⟩)) ?_ ?_
  · unfold res1
    generalize allF w (normF x (gainF g)) = z
    pointwise
  · rw [all_at]
    simp only [norm_at, gain_at]
    rfl

theorem res2_at (w : FVec Ideal S2x1024x3072 .f32) (g : FVec Ideal S4x1024 .f32) (r : Fin 128) (f : Fin 1024) :
    res2 x w g (ix2 r f) = col (fun j => x (ix2 r j)) (fun j => g (ix2 1 j)) (fun k => w (ix3 0 k ⟨2048 + f.val, by omega⟩)) := by
  refine Eq.trans (b := allF w (normF x (gainF g)) (ix2 r ⟨2048 + f.val, by omega⟩)) ?_ ?_
  · unfold res2
    generalize allF w (normF x (gainF g)) = z
    pointwise
  · rw [all_at]
    simp only [norm_at, gain_at]
    rfl

end Cert.Proof.ProjS.Ref

end
-- ==== Proof.ProjS.lean ====
/-
  The claims of the samples' query, key and value projection: the frames, and the equations of its results with the reference's.
-/
module

public import proofs.«01_k».proof.Defs
public import proofs.«01_k».proof.Proof.ProjSValue
public import proofs.«01_k».proof.Proof.ProjSRef
public import proofs.«01_k».proof.Proof.Gen.KernelProjS
public import proofs.«01_k».proof.Proof.Gen.KernelProjSIdeal.Value
public import Idealize.ShloMosaic.Lib.Quiescent

@[expose] public section

noncomputable section

namespace Cert.Proof.ProjS

open Idealize.ShloMosaic Idealize.ShloMosaic.TcCoe Idealize.SL.Sem

instance : Cert.KernelProjS.Facts := Cert.KernelProjS.Gen.facts

/-! The two programs are the same text. -/

theorem main_eq : Cert.KernelProjS.main (F := Bits) = Cert.KernelProjSIdeal.main (F := Bits) := rfl

theorem body_eq : Cert.KernelProjS.cc0_proj (F := Bits) = Cert.KernelProjSIdeal.cc0_proj (F := Bits) := rfl

theorem defs₀_eq : Cert.KernelProjS.defs₀ (F := Bits) = Cert.KernelProjSIdeal.defs₀ (F := Bits) := by
  refine congrArg Defs.onTc (funext fun l => funext fun a => ?_)
  obtain ⟨l, hl⟩ := l
  match l, hl, a with
  | 0, _, (t, s) => exact congrFun (congrFun (congrFun (congrFun (congrFun (congrFun (congrFun (congrFun (congrFun (congrFun (congrFun (congrFun (congrFun body_eq _) _) _) _) _) _) _) _) _) _) _) _) _
  | _ + 1, h, _ => exact absurd h (Nat.not_lt.2 (Nat.le_add_left _ _))

theorem defs_eq : Cert.KernelProjS.defs (F := Bits) = Cert.KernelProjSIdeal.defs (F := Bits) :=
  congrArg (Pipeline.defs Cert.KernelProjSIdeal.pcfgs) defs₀_eq

theorem frame_kernel : Cert.quiescent_KernelProjS (hKernelProjS := Cert.KernelProjS.Gen.facts) := fun m ρ _ => by
  have h := Cert.KernelProjSIdeal.Gen.frame (F := Bits) m ρ
  rw [← defs_eq, ← main_eq] at h
  exact h

theorem frame_ideal : Cert.quiescent_KernelProjSIdeal (hKernelProjSIdeal := Cert.KernelProjSIdeal.Gen.facts) :=
  fun m ρ _ => Cert.KernelProjSIdeal.Gen.frame (F := Ideal) m ρ

theorem frame_reference : Cert.quiescent_ReferenceProjSIdeal (hReferenceProjSIdeal := Cert.ReferenceProjSIdeal.Gen.facts) := fun m ρ _ =>
  (θ_run (Cert.ReferenceProjSIdeal.defs (F := Ideal)) _ _).mono
    (fun r h => ⟨fun c => (h c).2.2.2, Idealize.ShloMosaic.sem_eq_zero_of_no_sems (by decide) r.2⟩)
    (Cert.ReferenceProjSIdeal.Value.run (F := Ideal) m ρ)

theorem preserves : Cert.preserves_KernelProjS_KernelProjSIdeal := trivial

open Cert.KernelProjSIdeal Cert.KernelProjSIdeal.Gen

theorem algebraic : Cert.algebraic_KernelProjSIdeal_ReferenceProjSIdeal (hKernelProjSIdeal := Cert.KernelProjSIdeal.Gen.facts)
    (hReferenceProjSIdeal := Cert.ReferenceProjSIdeal.Gen.facts) := by
  intro m g m' g' _ hagree
  refine ⟨fun c => _, fun c => _, fun c => _, ?_, Ref.run m' g'⟩
  refine (θ_run defs _ _).mono (fun _ h c => ?_) (Cert.KernelProjSIdeal.Value.run_blocks m g)
  obtain ⟨a0, a1, a2⟩ := hagree c
  obtain ⟨h3, h4, h5, hk⟩ := h c
  refine ⟨h3.trans ?_, h4.trans ?_, h5.trans ?_, hk⟩
  · refine final3 m c _ fun r f => (Ref.res0_at _ _ _ r f).trans ?_
    simp only [Ref.last_at]
    rw [a0, a1, a2]
  · refine final4 m c _ fun r f => (Ref.res1_at _ _ _ r f).trans ?_
    simp only [Ref.last_at]
    rw [a0, a1, a2]
  · refine final5 m c _ fun r f => (Ref.res2_at _ _ _ r f).trans ?_
    simp only [Ref.last_at]
    rw [a0, a1, a2]

end Cert.Proof.ProjS

end
-- ==== Proof.QkvOut.lean ====
/-
  What the prompts' projection body leaves in each result's block: the pieces its stores write.
-/
module

public import proofs.«01_k».proof.Proof.Gen.KernelQkvIdeal.Frame
public import Idealize.ShloMosaic.Lib.WritesUnit
public import Idealize.ShloMosaic.Lib.Claim
public import Idealize.ShloMosaic.Lib.Pointwise
public import Idealize.ShloMosaic.Lib.Pipeline.ValueKit.Tiles
public import Idealize.ShloMosaic.Lib.Pipeline.ValueKit.Point

@[expose] public section

set_option maxRecDepth 16384

noncomputable section

namespace Cert.Proof.Qkv

open Cert.KernelQkvIdeal Cert.KernelQkvIdeal.Gen
open Idealize.ShloMosaic Idealize.ShloMosaic.TcCoe

variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x1x1024x512 .f32) (harg8 : arg8.IsWhole) (arg9 : Memref sig .tc .vmem S1x1x1024x512 .f32) (harg9 : arg9.IsWhole) (arg10 : Memref sig .tc .vmem S512x1024 .bf16) (harg10 : arg10.IsWhole) (arg11 : Memref sig .tc .vmem S2x1x1024x512 .f32) (harg11 : arg11.IsWhole) (arg12 : Memref sig .tc .vmem S1x2x1024x256 .bf16) (harg12 : arg12.IsWhole) (arg13 : Memref sig .tc .vmem S2x1x1024x512 .f32) (harg13 : arg13.IsWhole) (arg14 : Memref sig .tc .vmem S512x1024 .bf16) (harg14 : arg14.IsWhole) (x0 : Vec Ideal S512x1024 .f32) (x1 : Vec Ideal S1x1024 .f32) (x2 : Vec Ideal S1024x1024 .bf16) (x3 : Vec Ideal S1024x1024 .bf16) (x4 : Vec Ideal S1024x1024 .bf16) (x5 : Vec Ideal S1024x1024 .bf16) (x6 : Vec Ideal S1x1x1024x512 .f32) (x7 : Vec Ideal S1x1x1024x512 .f32)

theorem hz : (![0, 0] : Fin 2 → Nat) = fun _ => 0 := funext fun a => by fin_cases a <;> rfl

theorem hz4 : (![0, 0, 0, 0] : Fin 4 → Nat) = fun _ => 0 := funext fun a => by fin_cases a <;> rfl

/-- A load of a whole staging buffer. -/
theorem whole {S : Shape} {e : EltTy} (M : Memref sig .tc .vmem S e) (h : M.IsWhole) (X : Vec Ideal S e) {off : Fin S.rank → Nat}
    (ho : off = fun _ => 0) (inb : ∀ a, off a + S.size a ≤ S.size a) :
    View.readAt (Elt Ideal) M.view (Rect.unit (s := S) off S.size inb).toLoadRect (h.unread X) = X := by
  rw [View.readAt_eq_ld, h.read_unread, View.ld_unit_zero ho]

theorem normed_eq : kernelRun0_A.sl.r (F := Ideal) c arg2 harg2 arg3 harg3 x0 x1 = k0_pay2 x0 x1 := by
  unfold kernelRun0_A.sl.r
  exact congrArg₂ _ (whole arg2 harg2 x0 hz _) (whole arg3 harg3 x1 hz _)

theorem keys_eq : kernelRun0_A.sl.r_1 (F := Ideal) c arg2 harg2 arg3 harg3 arg5 harg5 x0 x1 x3 = k0_pay4 x0 x1 x3 := by
  unfold kernelRun0_A.sl.r_1
  exact congr (congrArg₂ _ (whole arg2 harg2 x0 hz _) (whole arg3 harg3 x1 hz _)) (whole arg5 harg5 x3 hz _)

theorem second_eq : kernelRun0_A.sl.r_2 (F := Ideal) c arg2 harg2 arg3 harg3 arg5 harg5 x0 x1 x3 = k0_pay6 x0 x1 x3 := by
  unfold kernelRun0_A.sl.r_2
  exact congr (congrArg₂ _ (whole arg2 harg2 x0 hz _) (whole arg3 harg3 x1 hz _)) (whole arg5 harg5 x3 hz _)

theorem out8 : out0_A_8 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 = k0_pay3 x0 x1 x2 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7)]
  unfold kernelRun0_A
  refine (View.canon_unit_zero hz _ _).trans ?_
  exact congr (congrArg₂ _ (whole arg2 harg2 x0 hz _) (whole arg3 harg3 x1 hz _)) (whole arg4 harg4 x2 hz _)

theorem out12 : out0_A_12 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 = k0_pay8 (k0_pay2 x0 x1) x5 := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7)]
  unfold kernelRun0_A
  refine (View.canon_unit_zero hz _ _).trans ?_
  exact congrArg₂ _ (normed_eq c arg2 harg2 arg3 harg3 x0 x1) (whole arg7 harg7 x5 hz _)

theorem out9_old (f : Fin 1024) (s : Fin 512) : out0_A_9 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (ix4 0 0 f s) = k0_pay9 x6 (ix4 0 0 f s) := by
  unfold out0_A_9 kernelRun0_A
  refine (View.read_writes_cons_unit_of_not_mem _ _ _ _ _ _ rfl 0 (.inl Nat.one_pos)).trans ?_
  refine (View.read_writes_cons_unit_of_mem _ _ _ _ _ _ (ix4 0 0 f s) rfl fun a => ?_).trans ?_
  · fin_cases a <;> exact (Nat.zero_add _).symm
  · exact congrFun (congrArg k0_pay9 (whole arg8 harg8 x6 hz4 _)) _

theorem out9_new (f : Fin 1024) (s : Fin 512) : out0_A_9 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (ix4 1 0 f s) = k0_pay11 (k0_pay4 x0 x1 x3) (ix4 0 0 f s) := by
  unfold out0_A_9 kernelRun0_A
  refine (View.read_writes_cons_unit_of_mem _ _ _ _ _ _ (ix4 0 0 f s) rfl fun a => ?_).trans ?_
  · fin_cases a <;> first | rfl | exact (Nat.zero_add _).symm
  · exact congrFun (congrArg k0_pay11 (keys_eq c arg2 harg2 arg3 harg3 arg5 harg5 x0 x1 x3)) _

theorem values_eq : kernelRun0_A.sl.r_3 (F := Ideal) c arg2 harg2 arg3 harg3 arg6 harg6 x0 x1 x4 = k0_pay12 (k0_pay2 x0 x1) x4 := by
  unfold kernelRun0_A.sl.r_3
  exact congrArg₂ _ (normed_eq c arg2 harg2 arg3 harg3 x0 x1) (whole arg6 harg6 x4 hz _)

theorem out11_old (f : Fin 1024) (s : Fin 512) : out0_A_11 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (ix4 0 0 f s) = k0_pay10 x7 (ix4 0 0 f s) := by
  unfold out0_A_11 kernelRun0_A
  refine (View.read_writes_cons_unit_of_not_mem _ _ _ _ _ _ rfl 0 (.inl Nat.one_pos)).trans ?_
  refine (View.read_writes_cons_unit_of_mem _ _ _ _ _ _ (ix4 0 0 f s) rfl fun a => ?_).trans ?_
  · fin_cases a <;> exact (Nat.zero_add _).symm
  · exact congrFun (congrArg k0_pay10 (whole arg9 harg9 x7 hz4 _)) _

theorem out11_new (f : Fin 1024) (s : Fin 512) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (ix4 1 0 f s) = k0_pay1 (k0_pay12 (k0_pay2 x0 x1) x4) (ix4 0 0 f s) := by
  unfold out0_A_11 kernelRun0_A
  refine (View.read_writes_cons_unit_of_mem _ _ _ _ _ _ (ix4 0 0 f s) rfl fun a => ?_).trans ?_
  · fin_cases a <;> first | rfl | exact (Nat.zero_add _).symm
  · exact congrFun (congrArg k0_pay1 (values_eq c arg2 harg2 arg3 harg3 arg6 harg6 x0 x1 x4)) _

theorem out10_first (f : Fin 1024) (s : Fin 256) : out0_A_10 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (ix4 0 0 f s) = k0_pay5 x0 x1 x3 (ix4 0 0 f s) := by
  unfold out0_A_10 kernelRun0_A
  refine (View.read_writes_cons_unit_of_not_mem _ _ _ _ _ _ rfl 1 (.inl Nat.one_pos)).trans ?_
  refine (View.read_writes_cons_unit_of_mem _ _ _ _ _ _ (ix4 0 0 f s) rfl fun a => ?_).trans ?_
  · fin_cases a <;> exact (Nat.zero_add _).symm
  · exact congrFun (congr (congrArg₂ k0_pay5 (whole arg2 harg2 x0 hz _) (whole arg3 harg3 x1 hz _)) (whole arg5 harg5 x3 hz _)) _

theorem out10_second (f : Fin 1024) (s : Fin 256) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (ix4 0 1 f s) = k0_pay7 (k0_pay6 x0 x1 x3) (ix4 0 0 f s) := by
  unfold out0_A_10 kernelRun0_A
  refine (View.read_writes_cons_unit_of_mem _ _ _ _ _ _ (ix4 0 0 f s) rfl fun a => ?_).trans ?_
  · fin_cases a <;> first | rfl | exact (Nat.zero_add _).symm
  · exact congrFun (congrArg k0_pay7 (second_eq c arg2 harg2 arg3 harg3 arg5 harg5 x0 x1 x3)) _

end Cert.Proof.Qkv

end
-- ==== Proof.QkvPay.lean ====
/-
  The prompts' projection over the extended reals: each payload of the body, and each window's block, at an index.
-/
module

public import proofs.«01_k».proof.Proof.ProjRow
public import proofs.«01_k».proof.Proof.QkvOut

@[expose] public section

set_option maxRecDepth 16384

noncomputable section

namespace Cert.Proof.Qkv

open Cert.KernelQkvIdeal Cert.KernelQkvIdeal.Gen Cert.Proof.Ffn Cert.Proof.Proj
open Idealize.ShloMosaic Idealize.ShloMosaic.TcCoe

/-- The queries' scale. -/
def scale : EReal := Scalar.ofBits (F := Ideal) .f32 0x3E38AA3B#32

variable (x : FVec Ideal S512x1024 .f32) (g : FVec Ideal S1x1024 .f32) (w : FVec Ideal S1024x1024 .bf16)

theorem normed_at (r : Fin 512) (k : Fin 1024) : k0_pay2 (F := Ideal) x g (ix2 r k) = rms (fun j => x (ix2 r j)) (fun j => g (ix2 0 j)) k := by
  pointwise [k0_pay2, rms]

theorem query_at (r : Fin 512) (f : Fin 1024) :
    k0_pay3 (F := Ideal) x g w (ix2 r f) = col (fun j => x (ix2 r j)) (fun j => g (ix2 0 j)) (fun k => w (ix2 k f)) * scale := by
  unfold col scale
  simp only [← normed_at x g r]
  pointwise [k0_pay3]

theorem value_at (r : Fin 512) (f : Fin 1024) :
    k0_pay8 (F := Ideal) (k0_pay2 x g) w (ix2 r f) = col (fun j => x (ix2 r j)) (fun j => g (ix2 0 j)) (fun k => w (ix2 k f)) := by
  unfold col
  simp only [← normed_at x g r]
  generalize k0_pay2 (F := Ideal) x g = h
  pointwise [k0_pay8]

theorem keyT_at (f : Fin 1024) (r : Fin 512) :
    k0_pay4 (F := Ideal) x g w (ix2 f r) = col (fun j => x (ix2 r j)) (fun j => g (ix2 0 j)) (fun k => w (ix2 f k)) := by
  refine Eq.trans (b := ∑ k : Fin 1024, w (ix2 f k) * k0_pay2 (F := Ideal) x g (ix2 r k)) ?_ ?_
  · pointwise [k0_pay4]
  · exact Finset.sum_congr rfl fun k _ => (congrArg _ (normed_at x g r k)).trans (mul_comm _ _)

theorem valueT_at (f : Fin 1024) (r : Fin 512) :
    k0_pay12 (F := Ideal) (k0_pay2 x g) w (ix2 f r) = col (fun j => x (ix2 r j)) (fun j => g (ix2 0 j)) (fun k => w (ix2 f k)) := by
  refine Eq.trans (b := ∑ k : Fin 1024, w (ix2 f k) * k0_pay2 (F := Ideal) x g (ix2 r k)) ?_ ?_
  · generalize k0_pay2 (F := Ideal) x g = h
    pointwise [k0_pay12]
  · exact Finset.sum_congr rfl fun k _ => (congrArg _ (normed_at x g r k)).trans (mul_comm _ _)

/-! The stored blocks are the products' columns and the earlier layer's copies. -/

theorem store1_at (z : FVec Ideal S1024x512 .f32) (f : Fin 1024) (s : Fin 512) : k0_pay1 (F := Ideal) z (ix4 0 0 f s) = z (ix2 f s) := by
  pointwise [k0_pay1]

theorem store11_at (z : FVec Ideal S1024x512 .f32) (f : Fin 1024) (s : Fin 512) : k0_pay11 (F := Ideal) z (ix4 0 0 f s) = z (ix2 f s) := by
  pointwise [k0_pay11]

theorem copy9_at (z : FVec Ideal S1x1x1024x512 .f32) (f : Fin 1024) (s : Fin 512) : k0_pay9 (F := Ideal) z (ix4 0 0 f s) = z (ix4 0 0 f s) := by
  pointwise [k0_pay9]

theorem copy10_at (z : FVec Ideal S1x1x1024x512 .f32) (f : Fin 1024) (s : Fin 512) : k0_pay10 (F := Ideal) z (ix4 0 0 f s) = z (ix4 0 0 f s) := by
  pointwise [k0_pay10]

theorem first_at (f : Fin 1024) (s : Fin 256) :
    k0_pay5 (F := Ideal) x g w (ix4 0 0 f s) = k0_pay4 (F := Ideal) x g w (ix2 f ⟨0 + s.val, by omega⟩) := by
  unfold k0_pay5
  generalize k0_pay4 (F := Ideal) x g w = z
  pointwise

theorem second_at (f : Fin 1024) (s : Fin 256) :
    k0_pay7 (k0_pay6 (F := Ideal) x g w) (ix4 0 0 f s) = k0_pay4 (F := Ideal) x g w (ix2 f ⟨256 + s.val, by omega⟩) := by
  unfold k0_pay7 k0_pay6
  generalize k0_pay4 (F := Ideal) x g w = z
  pointwise

variable (m : (ℓ : Loc nD τ sig) → Buf (Elt Ideal) ℓ)

theorem gain (c : Dev nD) (j : Fin 1024) : V m c main_v8 (ix2 0 j) = m ((c.tc : Thread nD τ).loc main_arg1) (ix2 3 j) := by
  show StableHlo.after [hostOps0].flatten _ _ _ = _
  simp only [hostOps0, List.flatten_cons, List.flatten_nil, List.append_nil]
  after_results_simp
  pointwise

theorem wq (c : Dev nD) (k f : Fin 1024) : V m c main_v5 (ix2 k f) = m ((c.tc : Thread nD τ).loc main_arg2) (ix3 1 k ⟨0 + f.val, by omega⟩) := by
  show StableHlo.after [hostOps0].flatten _ _ _ = _
  simp only [hostOps0, List.flatten_cons, List.flatten_nil, List.append_nil]
  after_results_simp
  pointwise

theorem wkt (c : Dev nD) (k f : Fin 1024) : V m c main_v9 (ix2 f k) = m ((c.tc : Thread nD τ).loc main_arg2) (ix3 1 k ⟨1024 + f.val, by omega⟩) := by
  show StableHlo.after [hostOps0].flatten _ _ _ = _
  simp only [hostOps0, List.flatten_cons, List.flatten_nil, List.append_nil]
  after_results_simp
  pointwise

theorem wvt (c : Dev nD) (k f : Fin 1024) : V m c main_v10 (ix2 f k) = m ((c.tc : Thread nD τ).loc main_arg2) (ix3 1 k ⟨2048 + f.val, by omega⟩) := by
  show StableHlo.after [hostOps0].flatten _ _ _ = _
  simp only [hostOps0, List.flatten_cons, List.flatten_nil, List.append_nil]
  after_results_simp
  pointwise

theorem wv (c : Dev nD) (k f : Fin 1024) : V m c main_v7 (ix2 k f) = m ((c.tc : Thread nD τ).loc main_arg2) (ix3 1 k ⟨2048 + f.val, by omega⟩) := by
  show StableHlo.after [hostOps0].flatten _ _ _ = _
  simp only [hostOps0, List.flatten_cons, List.flatten_nil, List.append_nil]
  after_results_simp
  pointwise

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, t.val / 16, 0, t.val % 16] := (by decide +kernel : ∀ t : Fin grid0.N, _)
theorem e7 : ∀ t : Fin cfg0.N, win0_7.index t = ![0, t.val / 16, 0, t.val % 16] := (by decide +kernel : ∀ t : Fin grid0.N, _)
theorem e8 : ∀ t : Fin cfg0.N, win0_8.index t = ![t.val, 0] := (by decide +kernel : ∀ t : Fin grid0.N, _)
theorem e9 : ∀ t : Fin cfg0.N, win0_9.index t = ![0, t.val / 16, 0, t.val % 16] := (by decide +kernel : ∀ t : Fin grid0.N, _)
theorem e10 : ∀ t : Fin cfg0.N, win0_10.index t = ![t.val / 16, t.val % 16, 0, 0] := (by decide +kernel : ∀ t : Fin grid0.N, _)
theorem e11 : ∀ t : Fin cfg0.N, win0_11.index t = ![0, t.val / 16, 0, t.val % 16] := (by decide +kernel : ∀ t : Fin grid0.N, _)
theorem e12 : ∀ t : Fin cfg0.N, win0_12.index t = ![t.val, 0] := (by decide +kernel : ∀ t : Fin grid0.N, _)

theorem point_lt (t : Fin cfg0.N) : t.val < 32 := lt_of_lt_of_eq t.isLt (by decide +kernel : cfg0.N = 32)

/-- The row of the prompts that row `r` of point `t`'s block is. -/
def rowOf (t : Fin cfg0.N) (r : Fin 512) : Fin 16512 := ⟨512 * t.val + r.val, by have := point_lt t; omega⟩

theorem blk_x (c : Dev nD) (t : Fin cfg0.N) (r : Fin 512) (j : Fin 1024) : X0_0 m c t (ix2 r j) = m ((c.tc : Thread nD τ).loc main_arg0) (ix2 (rowOf t r) j) := by
  refine Eq.trans ?_ (congrFun (V_main_arg0 m c) _)
  unfold X0_0 Pipeline.Window.fill
  rw [dif_pos (moved0_0 t (ix2 r j))]
  show V m c main_arg0 ((win0_0.blk t).view.emb _) = _
  congr 1
  unfold rowOf
  blk_ext [e0 t]

theorem blk_g (c : Dev nD) (t : Fin cfg0.N) (j : Fin 1024) : iblk m c 1 t (ix2 0 j) = m ((c.tc : Thread nD τ).loc main_arg1) (ix2 3 j) := by
  refine Eq.trans ?_ (gain m c j)
  show V m c main_v8 ((win0_1.blk t).view.emb (ix2 0 j)) = _
  congr 1
  blk_ext [e1 t]

theorem blk_wq (c : Dev nD) (t : Fin cfg0.N) (k f : Fin 1024) :
    iblk m c 2 t (ix2 k f) = m ((c.tc : Thread nD τ).loc main_arg2) (ix3 1 k ⟨0 + f.val, by omega⟩) := by
  refine Eq.trans ?_ (wq m c k f)
  show V m c main_v5 ((win0_2.blk t).view.emb (ix2 k f)) = _
  congr 1
  blk_ext [e2 t]

theorem blk_wkt (c : Dev nD) (t : Fin cfg0.N) (k f : Fin 1024) :
    iblk m c 3 t (ix2 f k) = m ((c.tc : Thread nD τ).loc main_arg2) (ix3 1 k ⟨1024 + f.val, by omega⟩) := by
  refine Eq.trans ?_ (wkt m c k f)
  show V m c main_v9 ((win0_3.blk t).view.emb (ix2 f k)) = _
  congr 1
  blk_ext [e3 t]

theorem blk_wvt (c : Dev nD) (t : Fin cfg0.N) (k f : Fin 1024) :
    iblk m c 4 t (ix2 f k) = m ((c.tc : Thread nD τ).loc main_arg2) (ix3 1 k ⟨2048 + f.val, by omega⟩) := by
  refine Eq.trans ?_ (wvt m c k f)
  show V m c main_v10 ((win0_4.blk t).view.emb (ix2 f k)) = _
  congr 1
  blk_ext [e4 t]

theorem blk_wv (c : Dev nD) (t : Fin cfg0.N) (k f : Fin 1024) :
    iblk m c 5 t (ix2 k f) = m ((c.tc : Thread nD τ).loc main_arg2) (ix3 1 k ⟨2048 + f.val, by omega⟩) := by
  refine Eq.trans ?_ (wv m c k f)
  show V m c main_v7 ((win0_5.blk t).view.emb (ix2 k f)) = _
  congr 1
  blk_ext [e5 t]

theorem blk_prev6 (c : Dev nD) (t : Fin cfg0.N) (f : Fin 1024) (s : Fin 512) :
    iblk m c 6 t (ix4 0 0 f s) = m ((c.tc : Thread nD τ).loc main_arg3) (ix4 0 ⟨t.val / 16, by have := point_lt t; omega⟩ f ⟨512 * (t.val % 16) + s.val, by omega⟩) := by
  refine Eq.trans ?_ (congrFun (V_main_arg3 m c) _)
  show V m c main_arg3 ((win0_6.blk t).view.emb (ix4 0 0 f s)) = _
  congr 1
  blk_ext [e6 t]

theorem blk_prev7 (c : Dev nD) (t : Fin cfg0.N) (f : Fin 1024) (s : Fin 512) :
    iblk m c 7 t (ix4 0 0 f s) = m ((c.tc : Thread nD τ).loc main_arg4) (ix4 0 ⟨t.val / 16, by have := point_lt t; omega⟩ f ⟨512 * (t.val % 16) + s.val, by omega⟩) := by
  refine Eq.trans ?_ (congrFun (V_main_arg4 m c) _)
  show V m c main_arg4 ((win0_7.blk t).view.emb (ix4 0 0 f s)) = _
  congr 1
  blk_ext [e7 t]

end Cert.Proof.Qkv

end
-- ==== Proof.QkvValue.lean ====
/-
  The prompts' projection: the contents each of its result arrays ends with, and the results after the host's transposes.
-/
module

public import proofs.«01_k».proof.Proof.QkvPay

@[expose] public section

set_option maxRecDepth 16384

noncomputable section

namespace Cert.Proof.Qkv

open Cert.KernelQkvIdeal Cert.KernelQkvIdeal.Gen Cert.Proof.Ffn Cert.Proof.Proj
open Idealize.ShloMosaic Idealize.ShloMosaic.TcCoe

variable (m : (ℓ : Loc nD τ sig) → Buf (Elt Ideal) ℓ)

/-- Row `r` of the normalized rows times column `j` of the layer's weights. -/
def entry (c : Dev nD) (r : Fin 16512) (j : Fin 3072) : EReal :=
  col (fun k => m ((c.tc : Thread nD τ).loc main_arg0) (ix2 r k)) (fun k => m ((c.tc : Thread nD τ).loc main_arg1) (ix2 3 k))
    (fun k => m ((c.tc : Thread nD τ).loc main_arg2) (ix3 1 k j))

/-- The row of position `p` of prompt `b`. -/
def promptRow (b : Fin 2) (p : Fin 8192) : Fin 16512 := ⟨b.val * 8192 + p.val, by omega⟩

/-- The prompt of a point. -/
def promptOf (t : Fin cfg0.N) : Fin 2 := ⟨t.val / 16, by have := point_lt t; omega⟩

/-- The position of row `s` of a point's block in its prompt. -/
def posOf (t : Fin cfg0.N) (s : Fin 512) : Fin 8192 := ⟨512 * (t.val % 16) + s.val, by omega⟩

theorem row_eq (t : Fin cfg0.N) (s : Fin 512) : rowOf t s = promptRow (promptOf t) (posOf t s) :=
  Fin.ext (by show 512 * t.val + s.val = t.val / 16 * 8192 + (512 * (t.val % 16) + s.val); omega)

/-! What the body leaves at a point, of the point's blocks. -/

theorem outs8 (c : Dev nD) (t : Fin cfg0.N) :
    (outsAt0 m c t).1 = k0_pay3 (X0_0 m c t) (iblk m c 1 t) (iblk m c 2 t) := by
  unfold outsAt0
  dsimp only
  exact out8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (iblk m c 1 t) (iblk m c 2 t) (iblk m c 3 t) (iblk m c 4 t) (iblk m c 5 t) (iblk m c 6 t) (iblk m c 7 t)

theorem outs12 (c : Dev nD) (t : Fin cfg0.N) :
    (outsAt0 m c t).2.2.2.2 = k0_pay8 (k0_pay2 (X0_0 m c t) (iblk m c 1 t)) (iblk m c 5 t) := by
  unfold outsAt0
  dsimp only
  exact out12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (iblk m c 1 t) (iblk m c 2 t) (iblk m c 3 t) (iblk m c 4 t) (iblk m c 5 t) (iblk m c 6 t) (iblk m c 7 t)

theorem outs9_old (c : Dev nD) (t : Fin cfg0.N) (f : Fin 1024) (s : Fin 512) :
    (outsAt0 m c t).2.1 (ix4 0 0 f s) = k0_pay9 (iblk m c 6 t) (ix4 0 0 f s) := by
  unfold outsAt0
  dsimp only
  exact out9_old c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (iblk m c 1 t) (iblk m c 2 t) (iblk m c 3 t) (iblk m c 4 t) (iblk m c 5 t) (iblk m c 6 t) (iblk m c 7 t) f s

theorem outs9_new (c : Dev nD) (t : Fin cfg0.N) (f : Fin 1024) (s : Fin 512) :
    (outsAt0 m c t).2.1 (ix4 1 0 f s) = k0_pay11 (k0_pay4 (X0_0 m c t) (iblk m c 1 t) (iblk m c 3 t)) (ix4 0 0 f s) := by
  unfold outsAt0
  dsimp only
  exact out9_new c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (iblk m c 1 t) (iblk m c 2 t) (iblk m c 3 t) (iblk m c 4 t) (iblk m c 5 t) (iblk m c 6 t) (iblk m c 7 t) f s

theorem outs11_old (c : Dev nD) (t : Fin cfg0.N) (f : Fin 1024) (s : Fin 512) :
    (outsAt0 m c t).2.2.2.1 (ix4 0 0 f s) = k0_pay10 (iblk m c 7 t) (ix4 0 0 f s) := by
  unfold outsAt0
  dsimp only
  exact out11_old c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (iblk m c 1 t) (iblk m c 2 t) (iblk m c 3 t) (iblk m c 4 t) (iblk m c 5 t) (iblk m c 6 t) (iblk m c 7 t) f s

theorem outs11_new (c : Dev nD) (t : Fin cfg0.N) (f : Fin 1024) (s : Fin 512) :
    (outsAt0 m c t).2.2.2.1 (ix4 1 0 f s) = k0_pay1 (k0_pay12 (k0_pay2 (X0_0 m c t) (iblk m c 1 t)) (iblk m c 4 t)) (ix4 0 0 f s) := by
  unfold outsAt0
  dsimp only
  exact out11_new c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (iblk m c 1 t) (iblk m c 2 t) (iblk m c 3 t) (iblk m c 4 t) (iblk m c 5 t) (iblk m c 6 t) (iblk m c 7 t) f s

theorem outs10_first (c : Dev nD) (t : Fin cfg0.N) (f : Fin 1024) (s : Fin 256) :
    (outsAt0 m c t).2.2.1 (ix4 0 0 f s) = k0_pay5 (X0_0 m c t) (iblk m c 1 t) (iblk m c 3 t) (ix4 0 0 f s) := by
  unfold outsAt0
  dsimp only
  exact out10_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (iblk m c 1 t) (iblk m c 2 t) (iblk m c 3 t) (iblk m c 4 t) (iblk m c 5 t) (iblk m c 6 t) (iblk m c 7 t) f s

theorem outs10_second (c : Dev nD) (t : Fin cfg0.N) (f : Fin 1024) (s : Fin 256) :
    (outsAt0 m c t).2.2.1 (ix4 0 1 f s) = k0_pay7 (k0_pay6 (X0_0 m c t) (iblk m c 1 t) (iblk m c 3 t)) (ix4 0 0 f s) := by
  unfold outsAt0
  dsimp only
  exact out10_second c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (X0_0 m c t) (iblk m c 1 t) (iblk m c 2 t) (iblk m c 3 t) (iblk m c 4 t) (iblk m c 5 t) (iblk m c 6 t) (iblk m c 7 t) f s

/-- The queries, scaled. -/
theorem final8 (c : Dev nD) (G : FVec Ideal S16384x1024 .bf16)
    (hG : ∀ (r : Fin 16384) (f : Fin 1024), G (ix2 r f) = entry m c ⟨r.val, by omega⟩ ⟨0 + f.val, by omega⟩ * scale) :
    (dats m 0 c).arrAt 8 cfg0.N = G := by
  refine (dats m 0 c).arrAt_eq_of_covers 8 _ (by decide +kernel) fun t hf y => ?_
  blk_simp
  rw [after0_8]
  obtain ⟨r, f, rfl⟩ : ∃ (r : Fin 512) (f : Fin 1024), y = ix2 r f := ⟨y 0, y 1, funext fun a => by fin_cases a <;> rfl⟩
  have hlt := point_lt t
  have he : (win0_8.blk t).view.emb (ix2 r f) = ix2 (⟨512 * t.val + r.val, by omega⟩ : Fin 16384) f := by
    blk_ext [e8 t]
  rw [he, hG]
  refine (congrFun (outs8 m c t) _).trans ((query_at _ _ _ r f).trans ?_)
  unfold entry
  simp only [blk_x, blk_g, blk_wq]
  rfl

/-- The values. -/
theorem final12 (c : Dev nD) (G : FVec Ideal S16384x1024 .bf16)
    (hG : ∀ (r : Fin 16384) (f : Fin 1024), G (ix2 r f) = entry m c ⟨r.val, by omega⟩ ⟨2048 + f.val, by omega⟩) :
    (dats m 0 c).arrAt 12 cfg0.N = G := by
  refine (dats m 0 c).arrAt_eq_of_covers 12 _ (by decide +kernel) fun t hf y => ?_
  blk_simp
  rw [after0_12]
  obtain ⟨r, f, rfl⟩ : ∃ (r : Fin 512) (f : Fin 1024), y = ix2 r f := ⟨y 0, y 1, funext fun a => by fin_cases a <;> rfl⟩
  have hlt := point_lt t
  have he : (win0_12.blk t).view.emb (ix2 r f) = ix2 (⟨512 * t.val + r.val, by omega⟩ : Fin 16384) f := by
    blk_ext [e12 t]
  rw [he, hG]
  refine (congrFun (outs12 m c t) _).trans ((value_at _ _ _ r f).trans ?_)
  unfold entry
  simp only [blk_x, blk_g, blk_wv]
  rfl

/-- The keys of both layers, one position per column. -/
theorem final9 (c : Dev nD) (G : FVec Ideal S2x2x1024x8192 .f32)
    (h0 : ∀ (b : Fin 2) (f : Fin 1024) (p : Fin 8192), G (ix4 0 b f p) = m ((c.tc : Thread nD τ).loc main_arg3) (ix4 0 b f p))
    (h1 : ∀ (b : Fin 2) (f : Fin 1024) (p : Fin 8192), G (ix4 1 b f p) = entry m c (promptRow b p) ⟨1024 + f.val, by omega⟩) :
    (dats m 0 c).arrAt 9 cfg0.N = G := by
  refine (dats m 0 c).arrAt_eq_of_covers 9 _ (by decide +kernel) fun t hf y => ?_
  blk_simp
  rw [after0_9]
  obtain ⟨l, f, s, rfl⟩ : ∃ (l : Fin 2) (f : Fin 1024) (s : Fin 512), y = ix4 l 0 f s :=
    ⟨y 0, y 2, y 3, funext fun a => by fin_cases a <;> first | rfl | exact Subsingleton.elim (α := Fin 1) _ _⟩
  have he : (win0_9.blk t).view.emb (ix4 l 0 f s) = ix4 l (promptOf t) f (posOf t s) := by
    unfold promptOf posOf
    blk_ext [e9 t]
  rw [he]
  match l with
  | 0 =>
    rw [h0]
    exact (outs9_old m c t f s).trans ((copy9_at _ f s).trans (blk_prev6 m c t f s))
  | 1 =>
    rw [h1, ← row_eq]
    refine (outs9_new m c t f s).trans ((store11_at _ f s).trans ((keyT_at _ _ _ f s).trans ?_))
    unfold entry
    simp only [blk_x, blk_g, blk_wkt]

/-- The values of both layers, one position per column. -/
theorem final11 (c : Dev nD) (G : FVec Ideal S2x2x1024x8192 .f32)
    (h0 : ∀ (b : Fin 2) (f : Fin 1024) (p : Fin 8192), G (ix4 0 b f p) = m ((c.tc : Thread nD τ).loc main_arg4) (ix4 0 b f p))
    (h1 : ∀ (b : Fin 2) (f : Fin 1024) (p : Fin 8192), G (ix4 1 b f p) = entry m c (promptRow b p) ⟨2048 + f.val, by omega⟩) :
    (dats m 0 c).arrAt 11 cfg0.N = G := by
  refine (dats m 0 c).arrAt_eq_of_covers 11 _ (by decide +kernel) fun t hf y => ?_
  blk_simp
  rw [after0_11]
  obtain ⟨l, f, s, rfl⟩ : ∃ (l : Fin 2) (f : Fin 1024) (s : Fin 512), y = ix4 l 0 f s :=
    ⟨y 0, y 2, y 3, funext fun a => by fin_cases a <;> first | rfl | exact Subsingleton.elim (α := Fin 1) _ _⟩
  have he : (win0_11.blk t).view.emb (ix4 l 0 f s) = ix4 l (promptOf t) f (posOf t s) := by
    unfold promptOf posOf
    blk_ext [e11 t]
  rw [he]
  match l with
  | 0 =>
    rw [h0]
    exact (outs11_old m c t f s).trans ((copy10_at _ f s).trans (blk_prev7 m c t f s))
  | 1 =>
    rw [h1, ← row_eq]
    refine (outs11_new m c t f s).trans ((store1_at _ f s).trans ((valueT_at _ _ _ f s).trans ?_))
    unfold entry
    simp only [blk_x, blk_g, blk_wvt]

/-- The block of 256 positions `n` of a prompt. -/
def blockRow (b : Fin 2) (n : Fin 32) (s : Fin 256) : Fin 16512 := ⟨b.val * 8192 + n.val * 256 + s.val, by omega⟩

/-- The keys in blocks of 256 positions. -/
theorem final10 (c : Dev nD) (G : FVec Ideal S2x32x1024x256 .bf16)
    (hG : ∀ (b : Fin 2) (n : Fin 32) (f : Fin 1024) (s : Fin 256), G (ix4 b n f s) = entry m c (blockRow b n s) ⟨1024 + f.val, by omega⟩) :
    (dats m 0 c).arrAt 10 cfg0.N = G := by
  refine (dats m 0 c).arrAt_eq_of_covers 10 _ (by decide +kernel) fun t hf y => ?_
  blk_simp
  rw [after0_10]
  obtain ⟨l, f, s, rfl⟩ : ∃ (l : Fin 2) (f : Fin 1024) (s : Fin 256), y = ix4 0 l f s :=
    ⟨y 1, y 2, y 3, funext fun a => by fin_cases a <;> first | rfl | exact Subsingleton.elim (α := Fin 1) _ _⟩
  have hlt := point_lt t
  have he : (win0_10.blk t).view.emb (ix4 0 l f s) = ix4 (promptOf t) (⟨2 * (t.val % 16) + l.val, by omega⟩ : Fin 32) f s := by
    unfold promptOf
    blk_ext [e10 t]
  rw [he, hG]
  match l with
  | 0 =>
    have hr : blockRow (promptOf t) ⟨2 * (t.val % 16) + (0 : Fin 2).val, by omega⟩ s = rowOf t ⟨0 + s.val, by omega⟩ :=
      Fin.ext (by show t.val / 16 * 8192 + (2 * (t.val % 16) + 0) * 256 + s.val = 512 * t.val + (0 + s.val); omega)
    rw [hr]
    refine (outs10_first m c t f s).trans ((first_at _ _ _ f s).trans ((keyT_at _ _ _ f _).trans ?_))
    unfold entry
    simp only [blk_x, blk_g, blk_wkt]
  | 1 =>
    have hr : blockRow (promptOf t) ⟨2 * (t.val % 16) + (1 : Fin 2).val, by omega⟩ s = rowOf t ⟨256 + s.val, by omega⟩ :=
      Fin.ext (by show t.val / 16 * 8192 + (2 * (t.val % 16) + 1) * 256 + s.val = 512 * t.val + (256 + s.val); omega)
    rw [hr]
    refine (outs10_second m c t f s).trans ((second_at _ _ _ f s).trans ((keyT_at _ _ _ f _).trans ?_))
    unfold entry
    simp only [blk_x, blk_g, blk_wkt]

/-- The host's lines after the call: the keys and the values, one head's row per position. -/
def tail (A : FVec Ideal S2x2x1024x8192 .f32) : FVec Ideal S2x2x8192x16x64 .f32 :=
  transpose S2x2x8192x16x64 [0, 1, 4, 2, 3] (shapeCast S2x2x16x64x8192 A shapeCasts_S2x2x1024x8192_S2x2x16x64x8192) transposes_S2x2x16x64x8192_S2x2x8192x16x64_0_1_4_2_3

theorem tail_at (A : FVec Ideal S2x2x1024x8192 .f32) (l b : Fin 2) (p : Fin 8192) (h : Fin 16) (e : Fin 64) :
    tail A (ix5 l b p h e) = A (ix4 l b ⟨h.val * 64 + e.val, by omega⟩ p) := by
  pointwise [tail]

theorem keys_tail (c : Dev nD) :
    Pipeline.afterTail₀ cfgs (dats m) 0 (V0 m) [hostOps1] c main_v13 = tail ((dats m 0 c).arrAt 9 cfg0.N) := by
  unfold Pipeline.afterTail₀
  simp only [hostOps1, List.flatten_cons, List.flatten_nil, List.append_nil]
  after_results_simp
  exact congrArg tail (Pipeline.withArrays_arr spec0 (by decide +kernel) c _ _ 9)

theorem values_tail (c : Dev nD) :
    Pipeline.afterTail₀ cfgs (dats m) 0 (V0 m) [hostOps1] c main_v15 = tail ((dats m 0 c).arrAt 11 cfg0.N) := by
  unfold Pipeline.afterTail₀
  simp only [hostOps1, List.flatten_cons, List.flatten_nil, List.append_nil]
  after_results_simp
  exact congrArg tail (Pipeline.withArrays_arr spec0 (by decide +kernel) c _ _ 11)

end Cert.Proof.Qkv

end
-- ==== Proof.QkvRef.lean ====
/-
  The reference of the prompts' query, key and value projection, read at an index.
-/
module

public import proofs.«01_k».proof.Proof.Gen.ReferenceQkvIdeal.Run
public import proofs.«01_k».proof.Proof.ProjRow
public import Idealize.ShloMosaic.Lib.Pointwise

@[expose] public section

set_option maxRecDepth 16384

noncomputable section

namespace Cert.Proof.Qkv.Ref

open Cert.ReferenceQkvIdeal Cert.ReferenceQkvIdeal.Gen Cert.Proof.Ffn Cert.Proof.Proj
open Idealize.ShloMosaic Idealize.ShloMosaic.TcCoe Idealize.SL.Sem

/-- The layer's gain. -/
def gainF (g : FVec Ideal S4x1024 .f32) : FVec Ideal S1024 .f32 :=
  shapeCast _ (extractStridedSlice S1x1024 ![3, 0] g slices_S4x1024_S1x1024_3_0) shapeCasts_S1x1024_S1024

/-- The normalized rows. -/
def normF (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The product with all the columns. -/
def allF (w : FVec Ideal S2x1024x3072 .f32) (h : FVec Ideal S16384x1024 .f32) : FVec Ideal S16384x3072 .f32 :=
  Host.dotGeneral dot_S16384x1024_S1024x3072_S16384x3072_1_0_0_1_n_n none h (shapeCast _ (extractStridedSlice S1x1024x3072 ![1, 0, 0] w slices_S2x1024x3072_S1x1024x3072_1_0_0) shapeCasts_S1x1024x3072_S1024x3072)

/-- The prompts' rows. -/
def firstF (x : FVec Ideal S16512x1024 .f32) : FVec Ideal S16384x1024 .f32 := extractStridedSlice S16384x1024 ![0, 0] x slices_S16512x1024_S16384x1024_0_0

/-- All the products of the layer. -/
def prodF (x : FVec Ideal S16512x1024 .f32) (g : FVec Ideal S4x1024 .f32) (w : FVec Ideal S2x1024x3072 .f32) : FVec Ideal S16384x3072 .f32 :=
  allF w (normF (firstF x) (gainF g))

/-! The results, of the products. -/

variable (z : FVec Ideal S16384x3072 .f32)

def queriesF : FVec Ideal S16384x1024 .bf16 :=
  truncf .bf16 (mulf (extractStridedSlice S16384x1024 ![0, 0] z slices_S16384x3072_S16384x1024_0_0) (broadcastInDim S16384x1024 ![] bcast_S_S16384x1024 (constant S_ .f32 0x3E38AA3B#32))) bitsLt_bf16_f32

def valuesF : FVec Ideal S16384x1024 .bf16 :=
  truncf .bf16 (extractStridedSlice S16384x1024 ![0, 2048] z slices_S16384x3072_S16384x1024_0_2048) bitsLt_bf16_f32

def blocksF : FVec Ideal S2x32x1024x256 .bf16 :=
  truncf .bf16 (transpose S2x32x1024x256 [0, 1, 3, 2] (shapeCast _ (extractStridedSlice S16384x1024 ![0, 1024] z slices_S16384x3072_S16384x1024_0_1024) shapeCasts_S16384x1024_S2x32x256x1024) transposes_S2x32x256x1024_S2x32x1024x256_0_1_3_2) bitsLt_bf16_f32

/-- The earlier layer's rows and this layer's. -/
def stackF (prev : FVec Ideal S1x2x1024x8192 .f32) (y : FVec Ideal S16384x1024 .f32) : FVec Ideal S2x2x8192x16x64 .f32 :=
  concatenate S2x2x8192x16x64 0 [⟨S1x2x8192x16x64, (transpose S1x2x8192x16x64 [0, 1, 4, 2, 3] (shapeCast _ prev shapeCasts_S1x2x1024x8192_S1x2x16x64x8192) transposes_S1x2x16x64x8192_S1x2x8192x16x64_0_1_4_2_3)⟩, ⟨S1x2x8192x16x64, (shapeCast _ y shapeCasts_S16384x1024_S1x2x8192x16x64)⟩] concatenates_S1x2x8192x16x64_S1x2x8192x16x64_S2x2x8192x16x64_d0

def keysF (prev : FVec Ideal S1x2x1024x8192 .f32) : FVec Ideal S2x2x8192x16x64 .f32 :=
  stackF prev (extractStridedSlice S16384x1024 ![0, 1024] z slices_S16384x3072_S16384x1024_0_1024)

def valuesAllF (prev : FVec Ideal S1x2x1024x8192 .f32) : FVec Ideal S2x2x8192x16x64 .f32 :=
  stackF prev (extractStridedSlice S16384x1024 ![0, 2048] z slices_S16384x3072_S16384x1024_0_2048)

/-- The run with the results named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26) = queriesF (prodF (m ((c.tc : Thread nD τ).loc main_arg0)) (m ((c.tc : Thread nD τ).loc main_arg1)) (m ((c.tc : Thread nD τ).loc main_arg2)))
      ∧ r.2.mem ((c.tc : Thread nD τ).loc main_v30) = keysF (prodF (m ((c.tc : Thread nD τ).loc main_arg0)) (m ((c.tc : Thread nD τ).loc main_arg1)) (m ((c.tc : Thread nD τ).loc main_arg2))) (m ((c.tc : Thread nD τ).loc main_arg3))
      ∧ r.2.mem ((c.tc : Thread nD τ).loc main_v31) = blocksF (prodF (m ((c.tc : Thread nD τ).loc main_arg0)) (m ((c.tc : Thread nD τ).loc main_arg1)) (m ((c.tc : Thread nD τ).loc main_arg2)))
      ∧ r.2.mem ((c.tc : Thread nD τ).loc main_v35) = valuesAllF (prodF (m ((c.tc : Thread nD τ).loc main_arg0)) (m ((c.tc : Thread nD τ).loc main_arg1)) (m ((c.tc : Thread nD τ).loc main_arg2))) (m ((c.tc : Thread nD τ).loc main_arg4))
      ∧ r.2.mem ((c.tc : Thread nD τ).loc main_v36) = valuesF (prodF (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceQkvIdeal.Value.run (F := Ideal) m ρ

theorem gain_at (g : FVec Ideal S4x1024 .f32) (k : Fin 1024) : gainF g (ix1 k) = g (ix2 3 k) := by
  pointwise [gainF]

theorem norm_at (x : FVec Ideal S16384x1024 .f32) (g : FVec Ideal S1024 .f32) (r : Fin 16384) (k : Fin 1024) :
    normF x g (ix2 r k) = rms (fun j => x (ix2 r j)) (fun j => g (ix1 j)) k := by
  pointwise [normF, rms]

theorem all_at (w : FVec Ideal S2x1024x3072 .f32) (h : FVec Ideal S16384x1024 .f32) (r : Fin 16384) (f : Fin 3072) :
    allF w h (ix2 r f) = ∑ k : Fin 1024, h (ix2 r k) * w (ix3 1 k f) := by
  pointwise [allF]

theorem first_at (x : FVec Ideal S16512x1024 .f32) (r : Fin 16384) (k : Fin 1024) : firstF x (ix2 r k) = x (ix2 ⟨r.val, by omega⟩ k) := by
  pointwise [firstF]

theorem prod_at (x : FVec Ideal S16512x1024 .f32) (g : FVec Ideal S4x1024 .f32) (w : FVec Ideal S2x1024x3072 .f32) (r : Fin 16384) (f : Fin 3072) :
    prodF x g w (ix2 r f) = col (fun k => x (ix2 ⟨r.val, by omega⟩ k)) (fun k => g (ix2 3 k)) (fun k => w (ix3 1 k f)) := by
  unfold prodF
  rw [all_at]
  simp only [norm_at, gain_at, first_at]
  rfl

theorem queries_at (r : Fin 16384) (f : Fin 1024) :
    queriesF z (ix2 r f) = z (ix2 r ⟨0 + f.val, by omega⟩) * Scalar.ofBits (F := Ideal) .f32 0x3E38AA3B#32 := by
  pointwise [queriesF]

theorem values_at (r : Fin 16384) (f : Fin 1024) : valuesF z (ix2 r f) = z (ix2 r ⟨2048 + f.val, by omega⟩) := by
  pointwise [valuesF]

theorem blocks_at (b : Fin 2) (n : Fin 32) (f : Fin 1024) (s : Fin 256) :
    blocksF z (ix4 b n f s) = z (ix2 ⟨b.val * 8192 + n.val * 256 + s.val, by omega⟩ ⟨1024 + f.val, by omega⟩) := by
  pointwise [blocksF]

theorem stack_old (prev : FVec Ideal S1x2x1024x8192 .f32) (y : FVec Ideal S16384x1024 .f32) (b : Fin 2) (p : Fin 8192) (h : Fin 16) (e : Fin 64) :
    stackF prev y (ix5 0 b p h e) = prev (ix4 0 b ⟨h.val * 64 + e.val, by omega⟩ p) := by
  pointwise [stackF]

theorem stack_new (prev : FVec Ideal S1x2x1024x8192 .f32) (y : FVec Ideal S16384x1024 .f32) (b : Fin 2) (p : Fin 8192) (h : Fin 16) (e : Fin 64) :
    stackF prev y (ix5 1 b p h e) = y (ix2 ⟨b.val * 8192 + p.val, by omega⟩ ⟨h.val * 64 + e.val, by omega⟩) := by
  pointwise [stackF]

theorem key_slice (r : Fin 16384) (f : Fin 1024) :
    extractStridedSlice S16384x1024 ![0, 1024] z slices_S16384x3072_S16384x1024_0_1024 (ix2 r f) = z (ix2 r ⟨1024 + f.val, by omega⟩) := by
  pointwise

theorem value_slice (r : Fin 16384) (f : Fin 1024) :
    extractStridedSlice S16384x1024 ![0, 2048] z slices_S16384x3072_S16384x1024_0_2048 (ix2 r f) = z (ix2 r ⟨2048 + f.val, by omega⟩) := by
  pointwise

end Cert.Proof.Qkv.Ref

end
-- ==== Proof.Qkv.lean ====
/-
  The claims of the prompts' query, key and value projection: the frames, and the equations of its results with the reference's.
-/
module

public import proofs.«01_k».proof.Defs
public import proofs.«01_k».proof.Proof.QkvValue
public import proofs.«01_k».proof.Proof.QkvRef
public import proofs.«01_k».proof.Proof.Gen.KernelQkv
public import Idealize.ShloMosaic.Lib.Quiescent

@[expose] public section

noncomputable section

namespace Cert.Proof.Qkv

open Idealize.ShloMosaic Idealize.ShloMosaic.TcCoe Idealize.SL.Sem

instance : Cert.KernelQkv.Facts := Cert.KernelQkv.Gen.facts

/-! The two programs are the same text. -/

theorem main_eq : Cert.KernelQkv.main (F := Bits) = Cert.KernelQkvIdeal.main (F := Bits) := rfl

theorem body_eq : Cert.KernelQkv.cc0_qkv_prompt (F := Bits) = Cert.KernelQkvIdeal.cc0_qkv_prompt (F := Bits) := rfl

theorem defs₀_eq : Cert.KernelQkv.defs₀ (F := Bits) = Cert.KernelQkvIdeal.defs₀ (F := Bits) := by
  refine congrArg Defs.onTc (funext fun l => funext fun a => ?_)
  obtain ⟨l, hl⟩ := l
  match l, hl, a with
  | 0, _, (t, s) => exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _) _) _) _) _) _) _) _) _
  | _ + 1, h, _ => exact absurd h (Nat.not_lt.2 (Nat.le_add_left _ _))

theorem defs_eq : Cert.KernelQkv.defs (F := Bits) = Cert.KernelQkvIdeal.defs (F := Bits) :=
  congrArg (Pipeline.defs Cert.KernelQkvIdeal.pcfgs) defs₀_eq

theorem frame_kernel : Cert.quiescent_KernelQkv (hKernelQkv := Cert.KernelQkv.Gen.facts) := fun m ρ _ => by
  have h := Cert.KernelQkvIdeal.Gen.frame (F := Bits) m ρ
  rw [← defs_eq, ← main_eq] at h
  exact h

theorem frame_ideal : Cert.quiescent_KernelQkvIdeal (hKernelQkvIdeal := Cert.KernelQkvIdeal.Gen.facts) :=
  fun m ρ _ => Cert.KernelQkvIdeal.Gen.frame (F := Ideal) m ρ

theorem frame_reference : Cert.quiescent_ReferenceQkvIdeal (hReferenceQkvIdeal := Cert.ReferenceQkvIdeal.Gen.facts) := fun m ρ _ =>
  (θ_run (Cert.ReferenceQkvIdeal.defs (F := Ideal)) _ _).mono
    (fun r h => ⟨fun c => (h c).2.2.2.2.2, Idealize.ShloMosaic.sem_eq_zero_of_no_sems (by decide) r.2⟩)
    (Cert.ReferenceQkvIdeal.Value.run (F := Ideal) m ρ)

theorem preserves : Cert.preserves_KernelQkv_KernelQkvIdeal := trivial

open Cert.KernelQkvIdeal Cert.KernelQkvIdeal.Gen

/-- The array whose reading by heads is `R`. -/
def untail (R : FVec Ideal S2x2x8192x16x64 .f32) : FVec Ideal S2x2x1024x8192 .f32 := fun y =>
  R (ix5 (y 0 : Fin 2) (y 1 : Fin 2) (y 3 : Fin 8192) (⟨(y 2 : Fin 1024).val / 64, by have h : (y 2 : Fin 1024).val < 1024 := (y 2 : Fin 1024).isLt; omega⟩ : Fin 16)
    (⟨(y 2 : Fin 1024).val % 64, by omega⟩ : Fin 64))

theorem untail_at (R : FVec Ideal S2x2x8192x16x64 .f32) (l b : Fin 2) (f : Fin 1024) (p : Fin 8192) :
    untail R (ix4 l b f p) = R (ix5 l b p ⟨f.val / 64, by omega⟩ ⟨f.val % 64, by omega⟩) := rfl

theorem tail_untail (R : FVec Ideal S2x2x8192x16x64 .f32) : tail (untail R) = R := by
  funext y
  obtain ⟨l, b, p, h, e, rfl⟩ : ∃ (l b : Fin 2) (p : Fin 8192) (h : Fin 16) (e : Fin 64), y = ix5 l b p h e :=
    ⟨y 0, y 1, y 2, y 3, y 4, funext fun a => by fin_cases a <;> rfl⟩
  rw [tail_at, untail_at]
  have h1 : (⟨(h.val * 64 + e.val) / 64, by omega⟩ : Fin 16) = h := Fin.ext (by show (h.val * 64 + e.val) / 64 = h.val; omega)
  have h2 : (⟨(h.val * 64 + e.val) % 64, by omega⟩ : Fin 64) = e := Fin.ext (by show (h.val * 64 + e.val) % 64 = e.val; omega)
  rw [h1, h2]

theorem head_col (f : Fin 1024) (h) : (⟨f.val / 64 * 64 + f.val % 64, h⟩ : Fin 1024) = f :=
  Fin.ext (by show f.val / 64 * 64 + f.val % 64 = f.val; omega)

theorem algebraic : Cert.algebraic_KernelQkvIdeal_ReferenceQkvIdeal (hKernelQkvIdeal := Cert.KernelQkvIdeal.Gen.facts)
    (hReferenceQkvIdeal := Cert.ReferenceQkvIdeal.Gen.facts) := by
  intro m g m' g' _ hagree
  refine ⟨fun c => _, fun c => _, fun c => _, fun c => _, fun c => _, ?_, Ref.run m' g'⟩
  refine (θ_run defs _ _).mono (fun _ h c => ?_) (θ_run_and (unchanged m g) (run_main m g))
  obtain ⟨a0, a1, a2, a3, a4⟩ := hagree c
  obtain ⟨hw, hr⟩ := h.2 c
  have hp : ∀ (r : Fin 16384) (f : Fin 3072),
      Ref.prodF (m' ((c.tc : Thread Cert.ReferenceQkvIdeal.nD Cert.ReferenceQkvIdeal.τ).loc Cert.ReferenceQkvIdeal.main_arg0))
        (m' ((c.tc : Thread Cert.ReferenceQkvIdeal.nD Cert.ReferenceQkvIdeal.τ).loc Cert.ReferenceQkvIdeal.main_arg1))
        (m' ((c.tc : Thread Cert.ReferenceQkvIdeal.nD Cert.ReferenceQkvIdeal.τ).loc Cert.ReferenceQkvIdeal.main_arg2)) (ix2 r f)
        = entry m c ⟨r.val, by omega⟩ f := fun r f => by
    rw [Ref.prod_at, a0, a1, a2]
    rfl
  refine ⟨(hw 8).trans ?_, (hr main_v13 (Pipeline.mem_restRefs_of main_v13 (by decide) (by decide))).trans ?_, (hw 10).trans ?_,
    (hr main_v15 (Pipeline.mem_restRefs_of main_v15 (by decide) (by decide))).trans ?_, (hw 12).trans ?_, h.1 c⟩
  · exact final8 m c _ fun r f => (Ref.queries_at _ r f).trans (congrArg (· * scale) (hp r _))
  · refine (keys_tail m c).trans ((congrArg tail (final9 m c (untail _) (fun b f p => ?_) fun b f p => ?_)).trans (tail_untail _))
    · rw [untail_at]
      refine (Ref.stack_old _ _ b p _ _).trans ?_
      rw [head_col, a3]
    · rw [untail_at]
      refine (Ref.stack_new _ _ b p _ _).trans ((Ref.key_slice _ _ _).trans ?_)
      rw [head_col]
      exact hp _ _
  · exact final10 m c _ fun b n f s => (Ref.blocks_at _ b n f s).trans (hp _ _)
  · refine (values_tail m c).trans ((congrArg tail (final11 m c (untail _) (fun b f p => ?_) fun b f p => ?_)).trans (tail_untail _))
    · rw [untail_at]
      refine (Ref.stack_old _ _ b p _ _).trans ?_
      rw [head_col, a4]
    · rw [untail_at]
      refine (Ref.stack_new _ _ b p _ _).trans ((Ref.value_slice _ _ _).trans ?_)
      rw [head_col]
      exact hp _ _
  · exact final12 m c _ fun r f => (Ref.values_at _ r f).trans (hp r _)

end Cert.Proof.Qkv

end
-- ==== Proof.Qkv1Out.lean ====
/-
  What layer 1's body of the prompts' projection leaves in each result's block: the pieces its stores write.
-/
module

public import proofs.«01_k».proof.Proof.QkvOut
public import proofs.«01_k».proof.Proof.Gen.KernelQkv1Ideal.Frame
public import Idealize.ShloMosaic.Lib.WritesUnit
public import Idealize.ShloMosaic.Lib.Claim
public import Idealize.ShloMosaic.Lib.Pointwise
public import Idealize.ShloMosaic.Lib.Pipeline.ValueKit.Tiles
public import Idealize.ShloMosaic.Lib.Pipeline.ValueKit.Point

@[expose] public section

set_option maxRecDepth 16384

noncomputable section

namespace Cert.Proof.Qkv1

open Cert.Proof.Qkv (hz hz4)
open Cert.KernelQkv1Ideal Cert.KernelQkv1Ideal.Gen
open Idealize.ShloMosaic Idealize.ShloMosaic.TcCoe

variable (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S512x1024 .bf16) (harg8 : arg8.IsWhole) (arg9 : Memref sig .tc .vmem S1x1x1024x512 .f32) (harg9 : arg9.IsWhole) (arg10 : Memref sig .tc .vmem S1x2x1024x256 .bf16) (harg10 : arg10.IsWhole) (arg11 : Memref sig .tc .vmem S1x1x1024x512 .f32) (harg11 : arg11.IsWhole) (arg12 : Memref sig .tc .vmem S512x1024 .bf16) (harg12 : arg12.IsWhole) (x0 : Vec Ideal S512x1024 .f32) (x1 : Vec Ideal S1x1024 .f32) (x2 : Vec Ideal S1024x1024 .bf16) (x3 : Vec Ideal S1024x1024 .bf16) (x4 : Vec Ideal S1024x1024 .bf16) (x5 : Vec Ideal S1024x1024 .bf16)

/-- A load of a whole staging buffer. -/
theorem whole {S : Shape} {e : EltTy} (M : Memref sig .tc .vmem S e) (h : M.IsWhole) (X : Vec Ideal S e) {off : Fin S.rank → Nat}
    (ho : off = fun _ => 0) (inb : ∀ a, off a + S.size a ≤ S.size a) :
    View.readAt (Elt Ideal) M.view (Rect.unit (s := S) off S.size inb).toLoadRect (h.unread X) = X := by
  rw [View.readAt_eq_ld, h.read_unread, View.ld_unit_zero ho]

theorem normed_eq : kernelRun0_A.sl.r (F := Ideal) c arg2 harg2 arg3 harg3 x0 x1 = k0_pay5 x0 x1 := by
  unfold kernelRun0_A.sl.r
  exact congrArg₂ _ (whole arg2 harg2 x0 hz _) (whole arg3 harg3 x1 hz _)

theorem keys_eq : kernelRun0_A.sl.r_1 (F := Ideal) c arg2 harg2 arg3 harg3 arg5 harg5 x0 x1 x3 = k0_pay7 x0 x1 x3 := by
  unfold kernelRun0_A.sl.r_1
  exact congr (congrArg₂ _ (whole arg2 harg2 x0 hz _) (whole arg3 harg3 x1 hz _)) (whole arg5 harg5 x3 hz _)

theorem second_eq : kernelRun0_A.sl.r_2 (F := Ideal) c arg2 harg2 arg3 harg3 arg5 harg5 x0 x1 x3 = k0_pay9 x0 x1 x3 := by
  unfold kernelRun0_A.sl.r_2
  exact congr (congrArg₂ _ (whole arg2 harg2 x0 hz _) (whole arg3 harg3 x1 hz _)) (whole arg5 harg5 x3 hz _)

theorem out6 : out0_A_6 (F := Ideal) c i arg2 harg2 arg3 harg3 arg4 harg4 arg5 harg5 arg6 harg6 arg7 harg7 arg8 harg8 arg9 harg9 arg10 harg10 arg11 harg11 arg12 harg12 x0 x1 x2 x3 x4 x5 = k0_pay6 x0 x1 x2 := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 x0 x1 x2 x3 x4 x5)]
  unfold kernelRun0_A
  refine (View.canon_unit_zero hz _ _).trans ?_
  exact congr (congrArg₂ _ (whole arg2 harg2 x0 hz _) (whole arg3 harg3 x1 hz _)) (whole arg4 harg4 x2 hz _)

theorem out10 : out0_A_10 (F := Ideal) c i arg2 harg2 arg3 harg3 arg4 harg4 arg5 harg5 arg6 harg6 arg7 harg7 arg8 harg8 arg9 harg9 arg10 harg10 arg11 harg11 arg12 harg12 x0 x1 x2 x3 x4 x5 = k0_pay2 (k0_pay5 x0 x1) x5 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 x0 x1 x2 x3 x4 x5)]
  unfold kernelRun0_A
  refine (View.canon_unit_zero hz _ _).trans ?_
  exact congrArg₂ _ (normed_eq c arg2 harg2 arg3 harg3 x0 x1) (whole arg7 harg7 x5 hz _)

theorem out7 : out0_A_7 (F := Ideal) c i arg2 harg2 arg3 harg3 arg4 harg4 arg5 harg5 arg6 harg6 arg7 harg7 arg8 harg8 arg9 harg9 arg10 harg10 arg11 harg11 arg12 harg12 x0 x1 x2 x3 x4 x5 = k0_pay3 (k0_pay7 x0 x1 x3) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 x0 x1 x2 x3 x4 x5)]
  unfold kernelRun0_A
  refine (View.canon_unit_zero hz4 _ _).trans ?_
  exact congrArg _ (keys_eq c arg2 harg2 arg3 harg3 arg5 harg5 x0 x1 x3)

theorem out9 : out0_A_9 (F := Ideal) c i arg2 harg2 arg3 harg3 arg4 harg4 arg5 harg5 arg6 harg6 arg7 harg7 arg8 harg8 arg9 harg9 arg10 harg10 arg11 harg11 arg12 harg12 x0 x1 x2 x3 x4 x5 = k0_pay4 (k0_pay5 x0 x1) x4 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 x0 x1 x2 x3 x4 x5)]
  unfold kernelRun0_A
  refine (View.canon_unit_zero hz4 _ _).trans ?_
  exact congrArg₂ _ (normed_eq c arg2 harg2 arg3 harg3 x0 x1) (whole arg6 harg6 x4 hz _)

theorem out8_first (f : Fin 1024) (s : Fin 256) : out0_A_8 (F := Ideal) c i arg2 harg2 arg3 harg3 arg4 harg4 arg5 harg5 arg6 harg6 arg7 harg7 arg8 harg8 arg9 harg9 arg10 harg10 arg11 harg11 arg12 harg12 x0 x1 x2 x3 x4 x5 (ix4 0 0 f s) = k0_pay8 x0 x1 x3 (ix4 0 0 f s) := by
  unfold out0_A_8 kernelRun0_A
  refine (View.read_writes_cons_unit_of_not_mem _ _ _ _ _ _ rfl 1 (.inl Nat.one_pos)).trans ?_
  refine (View.read_writes_cons_unit_of_mem _ _ _ _ _ _ (ix4 0 0 f s) rfl fun a => ?_).trans ?_
  · fin_cases a <;> exact (Nat.zero_add _).symm
  · exact congrFun (congr (congrArg₂ k0_pay8 (whole arg2 harg2 x0 hz _) (whole arg3 harg3 x1 hz _)) (whole arg5 harg5 x3 hz _)) _

theorem out8_second (f : Fin 1024) (s : Fin 256) :
    out0_A_8 (F := Ideal) c i arg2 harg2 arg3 harg3 arg4 harg4 arg5 harg5 arg6 harg6 arg7 harg7 arg8 harg8 arg9 harg9 arg10 harg10 arg11 harg11 arg12 harg12 x0 x1 x2 x3 x4 x5 (ix4 0 1 f s) = k0_pay1 (k0_pay9 x0 x1 x3) (ix4 0 0 f s) := by
  unfold out0_A_8 kernelRun0_A
  refine (View.read_writes_cons_unit_of_mem _ _ _ _ _ _ (ix4 0 0 f s) rfl fun a => ?_).trans ?_
  · fin_cases a <;> first | rfl | exact (Nat.zero_add _).symm
  · exact congrFun (congrArg k0_pay1 (second_eq c arg2 harg2 arg3 harg3 arg5 harg5 x0 x1 x3)) _

end Cert.Proof.Qkv1

end
-- ==== Proof.Qkv1Pay.lean ====
/-
  Layer 1's projection of the prompts over the extended reals: each payload of the body, and each window's block, at an index.
-/
module

public import proofs.«01_k».proof.Proof.ProjRow
public import proofs.«01_k».proof.Proof.QkvPay
public import proofs.«01_k».proof.Proof.Qkv1Out

@[expose] public section

set_option maxRecDepth 16384

noncomputable section

namespace Cert.Proof.Qkv1

open Cert.Proof.Qkv (scale)
open Cert.KernelQkv1Ideal Cert.KernelQkv1Ideal.Gen Cert.Proof.Ffn Cert.Proof.Proj
open Idealize.ShloMosaic Idealize.ShloMosaic.TcCoe

variable (x : FVec Ideal S512x1024 .f32) (g : FVec Ideal S1x1024 .f32) (w : FVec Ideal S1024x1024 .bf16)

theorem query_at (r : Fin 512) (f : Fin 1024) :
    k0_pay6 (F := Ideal) x g w (ix2 r f) = col (fun j => x (ix2 r j)) (fun j => g (ix2 0 j)) (fun k => w (ix2 k f)) * scale := Qkv.query_at x g w r f

theorem value_at (r : Fin 512) (f : Fin 1024) :
    k0_pay2 (F := Ideal) (k0_pay5 x g) w (ix2 r f) = col (fun j => x (ix2 r j)) (fun j => g (ix2 0 j)) (fun k => w (ix2 k f)) := Qkv.value_at x g w r f

theorem keyT_at (f : Fin 1024) (r : Fin 512) :
    k0_pay7 (F := Ideal) x g w (ix2 f r) = col (fun j => x (ix2 r j)) (fun j => g (ix2 0 j)) (fun k => w (ix2 f k)) := Qkv.keyT_at x g w f r

theorem keyT_store_at (f : Fin 1024) (r : Fin 512) :
    k0_pay3 (F := Ideal) (k0_pay7 x g w) (ix4 0 0 f r) = col (fun j => x (ix2 r j)) (fun j => g (ix2 0 j)) (fun k => w (ix2 f k)) :=
  (Qkv.store11_at _ f r).trans (Qkv.keyT_at x g w f r)

theorem valueT_store_at (f : Fin 1024) (r : Fin 512) :
    k0_pay4 (F := Ideal) (k0_pay5 x g) w (ix4 0 0 f r) = col (fun j => x (ix2 r j)) (fun j => g (ix2 0 j)) (fun k => w (ix2 f k)) :=
  (Qkv.store1_at _ f r).trans (Qkv.valueT_at x g w f r)

theorem first_at (f : Fin 1024) (s : Fin 256) :
    k0_pay8 (F := Ideal) x g w (ix4 0 0 f s) = k0_pay7 (F := Ideal) x g w (ix2 f ⟨0 + s.val, by omega⟩) := Qkv.first_at x g w f s

theorem second_at (f : Fin 1024) (s : Fin 256) :
    k0_pay1 (k0_pay9 (F := Ideal) x g w) (ix4 0 0 f s) = k0_pay7 (F := Ideal) x g w (ix2 f ⟨256 + s.val, by omega⟩) := Qkv.second_at x g w f s

variable (m : (ℓ : Loc nD τ sig) → Buf (Elt Ideal) ℓ)

theorem gain (c : Dev nD) (j : Fin 1024) : V m c main_v8 (ix2 0 j) = m ((c.tc : Thread nD τ).loc main_arg1) (ix2 1 j) := by
  show StableHlo.after [hostOps0].flatten _ _ _ = _
  simp only [hostOps0, List.flatten_cons, List.flatten_nil, List.append_nil]
  after_results_simp
  pointwise

theorem wq (c : Dev nD) (k f : Fin 1024) : V m c main_v5 (ix2 k f) = m ((c.tc : Thread nD τ).loc main_arg2) (ix3 0 k ⟨0 + f.val, by omega⟩) := by
  show StableHlo.after [hostOps0].flatten _ _ _ = _
  simp only [hostOps0, List.flatten_cons, List.flatten_nil, List.append_nil]
  after_results_simp
  pointwise

theorem wkt (c : Dev nD) (k f : Fin 1024) : V m c main_v9 (ix2 f k) = m ((c.tc : Thread nD τ).loc main_arg2) (ix3 0 k ⟨1024 + f.val, by omega⟩) := by
  show StableHlo.after [hostOps0].flatten _ _ _ = _
  simp only [hostOps0, List.flatten_cons, List.flatten_nil, List.append_nil]
  after_results_simp
  pointwise

theorem wvt (c : Dev nD) (k f : Fin 1024) : V m c main_v10 (ix2 f k) = m ((c.tc : Thread nD τ).loc main_arg2) (ix3 0 k ⟨2048 + f.val, by omega⟩) := by
  show StableHlo.after [hostOps0].flatten _ _ _ = _
  simp only [hostOps0, List.flatten_cons, List.flatten_nil, List.append_nil]
  after_results_simp
  pointwise

theorem wv (c : Dev nD) (k f : Fin 1024) : V m c main_v7 (ix2 k f) = m ((c.tc : Thread nD τ).loc main_arg2) (ix3 0 k ⟨2048 + f.val, by omega⟩) := by
  show StableHlo.after [hostOps0].flatten _ _ _ = _
  simp only [hostOps0, List.flatten_cons, List.flatten_nil, List.append_nil]
  after_results_simp
  pointwise

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![0, t.val / 16, 0, t.val % 16] := (by decide +kernel : ∀ t : Fin grid0.N, _)
theorem e8 : ∀ t : Fin cfg0.N, win0_8.index t = ![t.val / 16, t.val % 16, 0, 0] := (by decide +kernel : ∀ t : Fin grid0.N, _)
theorem e9 : ∀ t : Fin cfg0.N, win0_9.index t = ![0, t.val / 16, 0, t.val % 16] := (by decide +kernel : ∀ t : Fin grid0.N, _)
theorem e10 : ∀ t : Fin cfg0.N, win0_10.index t = ![t.val, 0] := (by decide +kernel : ∀ t : Fin grid0.N, _)

theorem point_lt (t : Fin cfg0.N) : t.val < 32 := lt_of_lt_of_eq t.isLt (by decide +kernel : cfg0.N = 32)

/-- The row of the prompts that row `r` of point `t`'s block is. -/
def rowOf (t : Fin cfg0.N) (r : Fin 512) : Fin 16512 := ⟨512 * t.val + r.val, by have := point_lt t; omega⟩

theorem blk_x (c : Dev nD) (t : Fin cfg0.N) (r : Fin 512) (j : Fin 1024) : X0_0 m c t (ix2 r j) = m ((c.tc : Thread nD τ).loc main_arg0) (ix2 (rowOf t r) j) := by
  refine Eq.trans ?_ (congrFun (V_main_arg0 m c) _)
  unfold X0_0 Pipeline.Window.fill
  rw [dif_pos (moved0_0 t (ix2 r j))]
  show V m c main_arg0 ((win0_0.blk t).view.emb _) = _
  congr 1
  unfold rowOf
  blk_ext [e0 t]

theorem blk_g (c : Dev nD) (t : Fin cfg0.N) (j : Fin 1024) : iblk m c 1 t (ix2 0 j) = m ((c.tc : Thread nD τ).loc main_arg1) (ix2 1 j) := by
  refine Eq.trans ?_ (gain m c j)
  show V m c main_v8 ((win0_1.blk t).view.emb (ix2 0 j)) = _
  congr 1
  blk_ext [e1 t]

theorem blk_wq (c : Dev nD) (t : Fin cfg0.N) (k f : Fin 1024) :
    iblk m c 2 t (ix2 k f) = m ((c.tc : Thread nD τ).loc main_arg2) (ix3 0 k ⟨0 + f.val, by omega⟩) := by
  refine Eq.trans ?_ (wq m c k f)
  show V m c main_v5 ((win0_2.blk t).view.emb (ix2 k f)) = _
  congr 1
  blk_ext [e2 t]

theorem blk_wkt (c : Dev nD) (t : Fin cfg0.N) (k f : Fin 1024) :
    iblk m c 3 t (ix2 f k) = m ((c.tc : Thread nD τ).loc main_arg2) (ix3 0 k ⟨1024 + f.val, by omega⟩) := by
  refine Eq.trans ?_ (wkt m c k f)
  show V m c main_v9 ((win0_3.blk t).view.emb (ix2 f k)) = _
  congr 1
  blk_ext [e3 t]

theorem blk_wvt (c : Dev nD) (t : Fin cfg0.N) (k f : Fin 1024) :
    iblk m c 4 t (ix2 f k) = m ((c.tc : Thread nD τ).loc main_arg2) (ix3 0 k ⟨2048 + f.val, by omega⟩) := by
  refine Eq.trans ?_ (wvt m c k f)
  show V m c main_v10 ((win0_4.blk t).view.emb (ix2 f k)) = _
  congr 1
  blk_ext [e4 t]

theorem blk_wv (c : Dev nD) (t : Fin cfg0.N) (k f : Fin 1024) :
    iblk m c 5 t (ix2 k f) = m ((c.tc : Thread nD τ).loc main_arg2) (ix3 0 k ⟨2048 + f.val, by omega⟩) := by
  refine Eq.trans ?_ (wv m c k f)
  show V m c main_v7 ((win0_5.blk t).view.emb (ix2 k f)) = _
  congr 1
  blk_ext [e5 t]

end Cert.Proof.Qkv1

end
-- ==== Proof.Qkv1Value.lean ====
/-
  Layer 1's projection of the prompts: the contents each of its result arrays ends with.
-/
module

public import proofs.«01_k».proof.Proof.Qkv1Pay

@[expose] public section

set_option maxRecDepth 16384

noncomputable section

namespace Cert.Proof.Qkv1

open Cert.Proof.Qkv (scale)
open Cert.KernelQkv1Ideal Cert.KernelQkv1Ideal.Gen Cert.Proof.Ffn Cert.Proof.Proj
open Idealize.ShloMosaic Idealize.ShloMosaic.TcCoe

variable (m : (ℓ : Loc nD τ sig) → Buf (Elt Ideal) ℓ)

/-- Row `r` of the normalized rows times column `j` of the layer's weights. -/
def entry (c : Dev nD) (r : Fin 16512) (j : Fin 3072) : EReal :=
  col (fun k => m ((c.tc : Thread nD τ).loc main_arg0) (ix2 r k)) (fun k => m ((c.tc : Thread nD τ).loc main_arg1) (ix2 1 k))
    (fun k => m ((c.tc : Thread nD τ).loc main_arg2) (ix3 0 k j))

/-- The row of position `p` of prompt `b`. -/
def promptRow (b : Fin 2) (p : Fin 8192) : Fin 16512 := ⟨b.val * 8192 + p.val, by omega⟩

/-- The prompt of a point. -/
def promptOf (t : Fin cfg0.N) : Fin 2 := ⟨t.val / 16, by have := point_lt t; omega⟩

/-- The position of row `s` of a point's block in its prompt. -/
def posOf (t : Fin cfg0.N) (s : Fin 512) : Fin 8192 := ⟨512 * (t.val % 16) + s.val, by omega⟩

theorem row_eq (t : Fin cfg0.N) (s : Fin 512) : rowOf t s = promptRow (promptOf t) (posOf t s) :=
  Fin.ext (by show 512 * t.val + s.val = t.val / 16 * 8192 + (512 * (t.val % 16) + s.val); omega)

/-! What the body leaves at a point, of the point's blocks. -/

theorem outs6 (c : Dev nD) (t : Fin cfg0.N) :
    (outsAt0 m c t).1 = k0_pay6 (X0_0 m c t) (iblk m c 1 t) (iblk m c 2 t) := by
  unfold outsAt0
  dsimp only
  exact out6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (X0_0 m c t) (iblk m c 1 t) (iblk m c 2 t) (iblk m c 3 t) (iblk m c 4 t) (iblk m c 5 t)

theorem outs7 (c : Dev nD) (t : Fin cfg0.N) :
    (outsAt0 m c t).2.1 = k0_pay3 (k0_pay7 (X0_0 m c t) (iblk m c 1 t) (iblk m c 3 t)) := by
  unfold outsAt0
  dsimp only
  exact out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (X0_0 m c t) (iblk m c 1 t) (iblk m c 2 t) (iblk m c 3 t) (iblk m c 4 t) (iblk m c 5 t)

theorem outs9 (c : Dev nD) (t : Fin cfg0.N) :
    (outsAt0 m c t).2.2.2.1 = k0_pay4 (k0_pay5 (X0_0 m c t) (iblk m c 1 t)) (iblk m c 4 t) := by
  unfold outsAt0
  dsimp only
  exact out9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (X0_0 m c t) (iblk m c 1 t) (iblk m c 2 t) (iblk m c 3 t) (iblk m c 4 t) (iblk m c 5 t)

theorem outs10 (c : Dev nD) (t : Fin cfg0.N) :
    (outsAt0 m c t).2.2.2.2 = k0_pay2 (k0_pay5 (X0_0 m c t) (iblk m c 1 t)) (iblk m c 5 t) := by
  unfold outsAt0
  dsimp only
  exact out10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (X0_0 m c t) (iblk m c 1 t) (iblk m c 2 t) (iblk m c 3 t) (iblk m c 4 t) (iblk m c 5 t)

theorem outs8_first (c : Dev nD) (t : Fin cfg0.N) (f : Fin 1024) (s : Fin 256) :
    (outsAt0 m c t).2.2.1 (ix4 0 0 f s) = k0_pay8 (X0_0 m c t) (iblk m c 1 t) (iblk m c 3 t) (ix4 0 0 f s) := by
  unfold outsAt0
  dsimp only
  exact out8_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (X0_0 m c t) (iblk m c 1 t) (iblk m c 2 t) (iblk m c 3 t) (iblk m c 4 t) (iblk m c 5 t) f s

theorem outs8_second (c : Dev nD) (t : Fin cfg0.N) (f : Fin 1024) (s : Fin 256) :
    (outsAt0 m c t).2.2.1 (ix4 0 1 f s) = k0_pay1 (k0_pay9 (X0_0 m c t) (iblk m c 1 t) (iblk m c 3 t)) (ix4 0 0 f s) := by
  unfold outsAt0
  dsimp only
  exact out8_second c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (X0_0 m c t) (iblk m c 1 t) (iblk m c 2 t) (iblk m c 3 t) (iblk m c 4 t) (iblk m c 5 t) f s

/-- The queries, scaled. -/
theorem final6 (c : Dev nD) (G : FVec Ideal S16384x1024 .bf16)
    (hG : ∀ (r : Fin 16384) (f : Fin 1024), G (ix2 r f) = entry m c ⟨r.val, by omega⟩ ⟨0 + f.val, by omega⟩ * scale) :
    (dats m 0 c).arrAt 6 cfg0.N = G := by
  refine (dats m 0 c).arrAt_eq_of_covers 6 _ (by decide +kernel) fun t hf y => ?_
  blk_simp
  rw [after0_6]
  obtain ⟨r, f, rfl⟩ : ∃ (r : Fin 512) (f : Fin 1024), y = ix2 r f := ⟨y 0, y 1, funext fun a => by fin_cases a <;> rfl⟩
  have hlt := point_lt t
  have he : (win0_6.blk t).view.emb (ix2 r f) = ix2 (⟨512 * t.val + r.val, by omega⟩ : Fin 16384) f := by
    blk_ext [e6 t]
  rw [he, hG]
  refine (congrFun (outs6 m c t) _).trans ((query_at _ _ _ r f).trans ?_)
  unfold entry
  simp only [blk_x, blk_g, blk_wq]
  rfl

/-- The values. -/
theorem final10 (c : Dev nD) (G : FVec Ideal S16384x1024 .bf16)
    (hG : ∀ (r : Fin 16384) (f : Fin 1024), G (ix2 r f) = entry m c ⟨r.val, by omega⟩ ⟨2048 + f.val, by omega⟩) :
    (dats m 0 c).arrAt 10 cfg0.N = G := by
  refine (dats m 0 c).arrAt_eq_of_covers 10 _ (by decide +kernel) fun t hf y => ?_
  blk_simp
  rw [after0_10]
  obtain ⟨r, f, rfl⟩ : ∃ (r : Fin 512) (f : Fin 1024), y = ix2 r f := ⟨y 0, y 1, funext fun a => by fin_cases a <;> rfl⟩
  have hlt := point_lt t
  have he : (win0_10.blk t).view.emb (ix2 r f) = ix2 (⟨512 * t.val + r.val, by omega⟩ : Fin 16384) f := by
    blk_ext [e10 t]
  rw [he, hG]
  refine (congrFun (outs10 m c t) _).trans ((value_at _ _ _ r f).trans ?_)
  unfold entry
  simp only [blk_x, blk_g, blk_wv]
  rfl

/-- The keys, one position per column. -/
theorem final7 (c : Dev nD) (G : FVec Ideal S1x2x1024x8192 .f32)
    (hG : ∀ (b : Fin 2) (f : Fin 1024) (p : Fin 8192), G (ix4 0 b f p) = entry m c (promptRow b p) ⟨1024 + f.val, by omega⟩) :
    (dats m 0 c).arrAt 7 cfg0.N = G := by
  refine (dats m 0 c).arrAt_eq_of_covers 7 _ (by decide +kernel) fun t hf y => ?_
  blk_simp
  rw [after0_7]
  obtain ⟨f, s, rfl⟩ : ∃ (f : Fin 1024) (s : Fin 512), y = ix4 0 0 f s :=
    ⟨y 2, y 3, funext fun a => by fin_cases a <;> first | rfl | exact Subsingleton.elim (α := Fin 1) _ _⟩
  have he : (win0_7.blk t).view.emb (ix4 0 0 f s) = ix4 0 (promptOf t) f (posOf t s) := by
    unfold promptOf posOf
    blk_ext [e7 t]
  rw [he, hG, ← row_eq]
  refine (congrFun (outs7 m c t) _).trans ((keyT_store_at _ _ _ f s).trans ?_)
  unfold entry
  simp only [blk_x, blk_g, blk_wkt]

/-- The values, one position per column. -/
theorem final9 (c : Dev nD) (G : FVec Ideal S1x2x1024x8192 .f32)
    (hG : ∀ (b : Fin 2) (f : Fin 1024) (p : Fin 8192), G (ix4 0 b f p) = entry m c (promptRow b p) ⟨2048 + f.val, by omega⟩) :
    (dats m 0 c).arrAt 9 cfg0.N = G := by
  refine (dats m 0 c).arrAt_eq_of_covers 9 _ (by decide +kernel) fun t hf y => ?_
  blk_simp
  rw [after0_9]
  obtain ⟨f, s, rfl⟩ : ∃ (f : Fin 1024) (s : Fin 512), y = ix4 0 0 f s :=
    ⟨y 2, y 3, funext fun a => by fin_cases a <;> first | rfl | exact Subsingleton.elim (α := Fin 1) _ _⟩
  have he : (win0_9.blk t).view.emb (ix4 0 0 f s) = ix4 0 (promptOf t) f (posOf t s) := by
    unfold promptOf posOf
    blk_ext [e9 t]
  rw [he, hG, ← row_eq]
  refine (congrFun (outs9 m c t) _).trans ((valueT_store_at _ _ _ f s).trans ?_)
  unfold entry
  simp only [blk_x, blk_g, blk_wvt]

/-- The block of 256 positions `n` of a prompt. -/
def blockRow (b : Fin 2) (n : Fin 32) (s : Fin 256) : Fin 16512 := ⟨b.val * 8192 + n.val * 256 + s.val, by omega⟩

/-- The keys in blocks of 256 positions. -/
theorem final8 (c : Dev nD) (G : FVec Ideal S2x32x1024x256 .bf16)
    (hG : ∀ (b : Fin 2) (n : Fin 32) (f : Fin 1024) (s : Fin 256), G (ix4 b n f s) = entry m c (blockRow b n s) ⟨1024 + f.val, by omega⟩) :
    (dats m 0 c).arrAt 8 cfg0.N = G := by
  refine (dats m 0 c).arrAt_eq_of_covers 8 _ (by decide +kernel) fun t hf y => ?_
  blk_simp
  rw [after0_8]
  obtain ⟨l, f, s, rfl⟩ : ∃ (l : Fin 2) (f : Fin 1024) (s : Fin 256), y = ix4 0 l f s :=
    ⟨y 1, y 2, y 3, funext fun a => by fin_cases a <;> first | rfl | exact Subsingleton.elim (α := Fin 1) _ _⟩
  have hlt := point_lt t
  have he : (win0_8.blk t).view.emb (ix4 0 l f s) = ix4 (promptOf t) (⟨2 * (t.val % 16) + l.val, by omega⟩ : Fin 32) f s := by
    unfold promptOf
    blk_ext [e8 t]
  rw [he, hG]
  match l with
  | 0 =>
    have hr : blockRow (promptOf t) ⟨2 * (t.val % 16) + (0 : Fin 2).val, by omega⟩ s = rowOf t ⟨0 + s.val, by omega⟩ :=
      Fin.ext (by show t.val / 16 * 8192 + (2 * (t.val % 16) + 0) * 256 + s.val = 512 * t.val + (0 + s.val); omega)
    rw [hr]
    refine (outs8_first m c t f s).trans ((first_at _ _ _ f s).trans ((keyT_at _ _ _ f _).trans ?_))
    unfold entry
    simp only [blk_x, blk_g, blk_wkt]
  | 1 =>
    have hr : blockRow (promptOf t) ⟨2 * (t.val % 16) + (1 : Fin 2).val, by omega⟩ s = rowOf t ⟨256 + s.val, by omega⟩ :=
      Fin.ext (by show t.val / 16 * 8192 + (2 * (t.val % 16) + 1) * 256 + s.val = 512 * t.val + (256 + s.val); omega)
    rw [hr]
    refine (outs8_second m c t f s).trans ((second_at _ _ _ f s).trans ((keyT_at _ _ _ f _).trans ?_))
    unfold entry
    simp only [blk_x, blk_g, blk_wkt]

end Cert.Proof.Qkv1

end
-- ==== Proof.Qkv1Ref.lean ====
/-
  The reference of layer 1's projection of the prompts, read at an index.
-/
module

public import proofs.«01_k».proof.Proof.Gen.ReferenceQkv1Ideal.Run
public import proofs.«01_k».proof.Proof.QkvRef

@[expose] public section

set_option maxRecDepth 16384

noncomputable section

namespace Cert.Proof.Qkv1.Ref

open Cert.ReferenceQkv1Ideal Cert.ReferenceQkv1Ideal.Gen Cert.Proof.Ffn Cert.Proof.Proj
open Cert.Proof.Qkv.Ref (normF firstF queriesF blocksF valuesF)
open Idealize.ShloMosaic Idealize.ShloMosaic.TcCoe Idealize.SL.Sem

/-- The layer's gain. -/
def gainF (g : FVec Ideal S4x1024 .f32) : FVec Ideal S1024 .f32 :=
  shapeCast _ (extractStridedSlice S1x1024 ![1, 0] g slices_S4x1024_S1x1024_1_0) shapeCasts_S1x1024_S1024

/-- The product with all the columns. -/
def allF (w : FVec Ideal S2x1024x3072 .f32) (h : FVec Ideal S16384x1024 .f32) : FVec Ideal S16384x3072 .f32 :=
  Host.dotGeneral dot_S16384x1024_S1024x3072_S16384x3072_1_0_0_1_n_n none h (shapeCast _ (extractStridedSlice S1x1024x3072 ![0, 0, 0] w slices_S2x1024x3072_S1x1024x3072_0_0_0) shapeCasts_S1x1024x3072_S1024x3072)

/-- All the products of the layer. -/
def prodF (x : FVec Ideal S16512x1024 .f32) (g : FVec Ideal S4x1024 .f32) (w : FVec Ideal S2x1024x3072 .f32) : FVec Ideal S16384x3072 .f32 :=
  allF w (normF (firstF x) (gainF g))

/-- The rows with one position per column. -/
def columnsF (y : FVec Ideal S16384x1024 .f32) : FVec Ideal S1x2x1024x8192 .f32 :=
  transpose S1x2x1024x8192 [0, 1, 3, 2] (shapeCast _ y shapeCasts_S16384x1024_S1x2x8192x1024) transposes_S1x2x8192x1024_S1x2x1024x8192_0_1_3_2

variable (z : FVec Ideal S16384x3072 .f32)

def keysF : FVec Ideal S1x2x1024x8192 .f32 :=
  columnsF (extractStridedSlice S16384x1024 ![0, 1024] z slices_S16384x3072_S16384x1024_0_1024)

def valuesTF : FVec Ideal S1x2x1024x8192 .f32 :=
  columnsF (extractStridedSlice S16384x1024 ![0, 2048] z slices_S16384x3072_S16384x1024_0_2048)

/-- The run with the results named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26) = queriesF (prodF (m ((c.tc : Thread nD τ).loc main_arg0)) (m ((c.tc : Thread nD τ).loc main_arg1)) (m ((c.tc : Thread nD τ).loc main_arg2)))
      ∧ r.2.mem ((c.tc : Thread nD τ).loc main_v28) = keysF (prodF (m ((c.tc : Thread nD τ).loc main_arg0)) (m ((c.tc : Thread nD τ).loc main_arg1)) (m ((c.tc : Thread nD τ).loc main_arg2)))
      ∧ r.2.mem ((c.tc : Thread nD τ).loc main_v29) = blocksF (prodF (m ((c.tc : Thread nD τ).loc main_arg0)) (m ((c.tc : Thread nD τ).loc main_arg1)) (m ((c.tc : Thread nD τ).loc main_arg2)))
      ∧ r.2.mem ((c.tc : Thread nD τ).loc main_v31) = valuesTF (prodF (m ((c.tc : Thread nD τ).loc main_arg0)) (m ((c.tc : Thread nD τ).loc main_arg1)) (m ((c.tc : Thread nD τ).loc main_arg2)))
      ∧ r.2.mem ((c.tc : Thread nD τ).loc main_v32) = valuesF (prodF (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceQkv1Ideal.Value.run (F := Ideal) m ρ

theorem gain_at (g : FVec Ideal S4x1024 .f32) (k : Fin 1024) : gainF g (ix1 k) = g (ix2 1 k) := by
  pointwise [gainF]

theorem all_at (w : FVec Ideal S2x1024x3072 .f32) (h : FVec Ideal S16384x1024 .f32) (r : Fin 16384) (f : Fin 3072) :
    allF w h (ix2 r f) = ∑ k : Fin 1024, h (ix2 r k) * w (ix3 0 k f) := by
  pointwise [allF]

theorem prod_at (x : FVec Ideal S16512x1024 .f32) (g : FVec Ideal S4x1024 .f32) (w : FVec Ideal S2x1024x3072 .f32) (r : Fin 16384) (f : Fin 3072) :
    prodF x g w (ix2 r f) = col (fun k => x (ix2 ⟨r.val, by omega⟩ k)) (fun k => g (ix2 1 k)) (fun k => w (ix3 0 k f)) := by
  unfold prodF
  rw [all_at]
  simp only [Qkv.Ref.norm_at, gain_at, Qkv.Ref.first_at]
  rfl

theorem columns_at (y : FVec Ideal S16384x1024 .f32) (b : Fin 2) (f : Fin 1024) (p : Fin 8192) :
    columnsF y (ix4 0 b f p) = y (ix2 ⟨b.val * 8192 + p.val, by omega⟩ f) := by
  pointwise [columnsF]

end Cert.Proof.Qkv1.Ref

end
-- ==== Proof.Qkv1.lean ====
/-
  The claims of layer 1's projection of the prompts: the frames, and the equations of its results with the reference's.
-/
module

public import proofs.«01_k».proof.Defs
public import proofs.«01_k».proof.Proof.Qkv1Value
public import proofs.«01_k».proof.Proof.Qkv1Ref
public import proofs.«01_k».proof.Proof.Gen.KernelQkv1
public import proofs.«01_k».proof.Proof.Gen.KernelQkv1Ideal.Value
public import Idealize.ShloMosaic.Lib.Quiescent

@[expose] public section

noncomputable section

namespace Cert.Proof.Qkv1

open Idealize.ShloMosaic Idealize.ShloMosaic.TcCoe Idealize.SL.Sem

instance : Cert.KernelQkv1.Facts := Cert.KernelQkv1.Gen.facts

/-! The two programs are the same text. -/

theorem main_eq : Cert.KernelQkv1.main (F := Bits) = Cert.KernelQkv1Ideal.main (F := Bits) := rfl

theorem body_eq : Cert.KernelQkv1.cc0_qkv_prompt (F := Bits) = Cert.KernelQkv1Ideal.cc0_qkv_prompt (F := Bits) := rfl

theorem defs₀_eq : Cert.KernelQkv1.defs₀ (F := Bits) = Cert.KernelQkv1Ideal.defs₀ (F := Bits) := by
  refine congrArg Defs.onTc (funext fun l => funext fun a => ?_)
  obtain ⟨l, hl⟩ := l
  match l, hl, a with
  | 0, _, (t, s) => exact congrFun (congrFun (congrFun (congrFun (congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _) _) _) _) _
  | _ + 1, h, _ => exact absurd h (Nat.not_lt.2 (Nat.le_add_left _ _))

theorem defs_eq : Cert.KernelQkv1.defs (F := Bits) = Cert.KernelQkv1Ideal.defs (F := Bits) :=
  congrArg (Pipeline.defs Cert.KernelQkv1Ideal.pcfgs) defs₀_eq

theorem frame_kernel : Cert.quiescent_KernelQkv1 (hKernelQkv1 := Cert.KernelQkv1.Gen.facts) := fun m ρ _ => by
  have h := Cert.KernelQkv1Ideal.Gen.frame (F := Bits) m ρ
  rw [← defs_eq, ← main_eq] at h
  exact h

theorem frame_ideal : Cert.quiescent_KernelQkv1Ideal (hKernelQkv1Ideal := Cert.KernelQkv1Ideal.Gen.facts) :=
  fun m ρ _ => Cert.KernelQkv1Ideal.Gen.frame (F := Ideal) m ρ

theorem frame_reference : Cert.quiescent_ReferenceQkv1Ideal (hReferenceQkv1Ideal := Cert.ReferenceQkv1Ideal.Gen.facts) := fun m ρ _ =>
  (θ_run (Cert.ReferenceQkv1Ideal.defs (F := Ideal)) _ _).mono
    (fun r h => ⟨fun c => (h c).2.2.2.2.2, Idealize.ShloMosaic.sem_eq_zero_of_no_sems (by decide) r.2⟩)
    (Cert.ReferenceQkv1Ideal.Value.run (F := Ideal) m ρ)

theorem preserves : Cert.preserves_KernelQkv1_KernelQkv1Ideal := trivial

open Cert.KernelQkv1Ideal Cert.KernelQkv1Ideal.Gen

theorem algebraic : Cert.algebraic_KernelQkv1Ideal_ReferenceQkv1Ideal (hKernelQkv1Ideal := Cert.KernelQkv1Ideal.Gen.facts)
    (hReferenceQkv1Ideal := Cert.ReferenceQkv1Ideal.Gen.facts) := by
  intro m g m' g' _ hagree
  refine ⟨fun c => _, fun c => _, fun c => _, fun c => _, fun c => _, ?_, Ref.run m' g'⟩
  refine (θ_run defs _ _).mono (fun _ h c => ?_) (Cert.KernelQkv1Ideal.Value.run_blocks (F := Ideal) m g)
  obtain ⟨a0, a1, a2⟩ := hagree c
  obtain ⟨h6, h7, h8, h9, h10, hu⟩ := h c
  have hp : ∀ (r : Fin 16384) (f : Fin 3072),
      Ref.prodF (m' ((c.tc : Thread Cert.ReferenceQkv1Ideal.nD Cert.ReferenceQkv1Ideal.τ).loc Cert.ReferenceQkv1Ideal.main_arg0))
        (m' ((c.tc : Thread Cert.ReferenceQkv1Ideal.nD Cert.ReferenceQkv1Ideal.τ).loc Cert.ReferenceQkv1Ideal.main_arg1))
        (m' ((c.tc : Thread Cert.ReferenceQkv1Ideal.nD Cert.ReferenceQkv1Ideal.τ).loc Cert.ReferenceQkv1Ideal.main_arg2)) (ix2 r f)
        = entry m c ⟨r.val, by omega⟩ f := fun r f => by
    rw [Ref.prod_at, a0, a1, a2]
    rfl
  refine ⟨h6.trans ?_, h7.trans ?_, h8.trans ?_, h9.trans ?_, h10.trans ?_, hu⟩
  · exact final6 m c _ fun r f => (Qkv.Ref.queries_at _ r f).trans (congrArg (· * Qkv.scale) (hp r _))
  · exact final7 m c _ fun b f p => (Ref.columns_at _ b f p).trans ((Qkv.Ref.key_slice _ _ _).trans (hp _ _))
  · exact final8 m c _ fun b n f s => (Qkv.Ref.blocks_at _ b n f s).trans (hp _ _)
  · exact final9 m c _ fun b f p => (Ref.columns_at _ b f p).trans ((Qkv.Ref.value_slice _ _ _).trans (hp _ _))
  · exact final10 m c _ fun r f => (Qkv.Ref.values_at _ r f).trans (hp r _)

end Cert.Proof.Qkv1

end
-- ==== Proof.FfnFRef.lean ====
/-
  The reference of the call with the final norm, read at a row.
-/
module

public import proofs.«01_k».proof.Proof.Gen.ReferenceFfnIdeal.Run
public import proofs.«01_k».proof.Proof.FfnFValue
public import Idealize.ShloMosaic.Lib.Pointwise

@[expose] public section

set_option maxRecDepth 16384

noncomputable section

namespace Cert.Proof.FfnF.Ref

open Cert.ReferenceFfnIdeal Cert.ReferenceFfnIdeal.Gen Cert.ReferenceFfnIdeal.Value Cert.Proof.Ffn
open Idealize.ShloMosaic

variable (x : FVec Ideal S16512x1024 .f32) (w : FVec Ideal S4x1024x5632 .f32) (u : FVec Ideal S4x2816x1024 .f32)

/-- The residual with both attentions' rows projected. -/
def mixF (o : FVec Ideal S16384x1024 .bf16) (s : FVec Ideal S128x1024 .f32) (wo : FVec Ideal S2x1024x1024 .f32) : FVec Ideal S16512x1024 .f32 :=
  addf x (Host.dotGeneral dot_S16512x1024_S1024x1024_S16512x1024_1_0_0_1_n_n none (concatenate S16512x1024 0 [⟨S16384x1024, (extf .f32 o bitsLt_bf16_f32)⟩, ⟨S128x1024, s⟩] concatenates_S16384x1024_S128x1024_S16512x1024_d0) (shapeCast _ (extractStridedSlice S1x1024x1024 ![1, 0, 0] wo slices_S2x1024x1024_S1x1024x1024_1_0_0) shapeCasts_S1x1024x1024_S1024x1024))

/-- The layer's gain. -/
def gainF (g : FVec Ideal S4x1024 .f32) : FVec Ideal S1024 .f32 :=
  shapeCast _ (extractStridedSlice S1x1024 ![3, 0] g slices_S4x1024_S1x1024_3_0) shapeCasts_S1x1024_S1024

/-- The normalized rows. -/
def normF (g : FVec Ideal S1024 .f32) : FVec Ideal S16512x1024 .f32 :=
  mulf (mulf x (broadcastInDim S16512x1024 ![0, 1] bcast_S16512x1_S16512x1024_0_1 (Host.rsqrt (addf (Host.divf (broadcastInDim S16512x1 ![0] bcast_S16512_S16512x1_0 (Host.reduceAdd (mulf x x) (constant S_ .f32 0x00000000#32) reducesTo_S16512x1024_S16512_d1 h_S_)) (broadcastInDim S16512x1 ![] bcast_S_S16512x1 (constant S_ .f32 0x44800000#32))) (broadcastInDim S16512x1 ![] bcast_S_S16512x1 (constant S_ .f32 0x358637BD#32))))))
    (broadcastInDim S16512x1024 ![0, 1] bcast_S1x1024_S16512x1024_0_1 (broadcastInDim S1x1024 ![1] bcast_S1024_S1x1024_1 g))

/-- Both halves of the first product. -/
def bothF (h : FVec Ideal S16512x1024 .f32) : FVec Ideal S16512x5632 .f32 :=
  Host.dotGeneral dot_S16512x1024_S1024x5632_S16512x5632_1_0_0_1_n_n none h (shapeCast _ (extractStridedSlice S1x1024x5632 ![3, 0, 0] w slices_S4x1024x5632_S1x1024x5632_3_0_0) shapeCasts_S1x1024x5632_S1024x5632)

def ones : FVec Ideal S16512x2816 .f32 := broadcastInDim S16512x2816 ![] bcast_S_S16512x2816 (constant S_ .f32 0x3F800000#32)

/-- The gated half. -/
def actF (p : FVec Ideal S16512x5632 .f32) : FVec Ideal S16512x2816 .f32 :=
  mulf (mulf (extractStridedSlice S16512x2816 ![0, 0] p slices_S16512x5632_S16512x2816_0_0)
      (Host.divf ones (addf ones (Host.exp (Host.negf (extractStridedSlice S16512x2816 ![0, 0] p slices_S16512x5632_S16512x2816_0_0))))))
    (extractStridedSlice S16512x2816 ![0, 2816] p slices_S16512x5632_S16512x2816_0_2816)

def outF (a : FVec Ideal S16512x2816 .f32) : FVec Ideal S16512x1024 .f32 :=
  addf x (mulf (broadcastInDim S16512x1024 ![] bcast_S_S16512x1024 (constant S_ .f32 0x3F000000#32)) (Host.dotGeneral dot_S16512x2816_S2816x1024_S16512x1024_1_0_0_1_n_n none a (shapeCast _ (extractStridedSlice S1x2816x1024 ![3, 0, 0] u slices_S4x2816x1024_S1x2816x1024_3_0_0) shapeCasts_S1x2816x1024_S2816x1024)))

/-- The whole reference. -/
def wholeF (o : FVec Ideal S16384x1024 .bf16) (s : FVec Ideal S128x1024 .f32) (wo : FVec Ideal S2x1024x1024 .f32) (g : FVec Ideal S4x1024 .f32) (gf : FVec Ideal S1024 .f32) : FVec Ideal S16512x1024 .f32 :=
  normF (outF (mixF x o s wo) u (actF (bothF w (normF (mixF x o s wo) (gainF g))))) gf

theorem res_eq (m : (ℓ : Loc nD τ sig) → Buf (Elt Ideal) ℓ) (c : Dev nD) :
    res_main_v46 m c = wholeF (m ((c.tc : Thread nD τ).loc main_arg0)) (m ((c.tc : Thread nD τ).loc main_arg5)) (m ((c.tc : Thread nD τ).loc main_arg6)) (m ((c.tc : Thread nD τ).loc main_arg1))
      (m ((c.tc : Thread nD τ).loc main_arg2)) (m ((c.tc : Thread nD τ).loc main_arg3)) (m ((c.tc : Thread nD τ).loc main_arg4)) (m ((c.tc : Thread nD τ).loc main_arg7)) := rfl

theorem stack_at (o : FVec Ideal S16384x1024 .bf16) (s : FVec Ideal S128x1024 .f32) (r : Fin 16512) (k : Fin 1024) :
    concatenate S16512x1024 0 [⟨S16384x1024, (extf .f32 o bitsLt_bf16_f32)⟩, ⟨S128x1024, s⟩] concatenates_S16384x1024_S128x1024_S16512x1024_d0 (ix2 r k) = both o s r k := by
  unfold both
  pointwise

theorem mix_at (o : FVec Ideal S16384x1024 .bf16) (s : FVec Ideal S128x1024 .f32) (wo : FVec Ideal S2x1024x1024 .f32) (r : Fin 16512) (c : Fin 1024) :
    mixF x o s wo (ix2 r c) = mixed (fun k => x (ix2 r k)) (both o s r) (fun j k => wo (ix3 1 j k)) c := by
  unfold mixed
  pointwise [mixF, both]

theorem gain_at (g : FVec Ideal S4x1024 .f32) (k : Fin 1024) : gainF g (ix1 k) = g (ix2 3 k) := by
  pointwise [gainF]

theorem norm_at (g : FVec Ideal S1024 .f32) (r : Fin 16512) (k : Fin 1024) : normF x g (ix2 r k) = rms (fun j => x (ix2 r j)) (fun j => g (ix1 j)) k := by
  pointwise [normF, rms]

theorem both_at (h : FVec Ideal S16512x1024 .f32) (r : Fin 16512) (f : Fin 5632) :
    bothF w h (ix2 r f) = dot (fun k => h (ix2 r k)) (fun k f => w (ix3 3 k f)) f := by
  pointwise [bothF, dot]

theorem act_at (p : FVec Ideal S16512x5632 .f32) (r : Fin 16512) (f : Fin 2816) :
    actF p (ix2 r f) = p (ix2 r ⟨f.val, by omega⟩) * Ideal.logistic (p (ix2 r ⟨f.val, by omega⟩)) * p (ix2 r ⟨2816 + f.val, by omega⟩) := by
  pointwise [actF, ones]
  rfl

theorem out_at (a : FVec Ideal S16512x2816 .f32) (r : Fin 16512) (c : Fin 1024) :
    outF x u a (ix2 r c) = x (ix2 r c) + Ideal.ofBits .f32 0x3F000000#32 * ∑ f : Fin 2816, a (ix2 r f) * u (ix3 3 f c) := by
  pointwise [outF]

/-- The reference's rows. -/
theorem ref_at (o : FVec Ideal S16384x1024 .bf16) (s : FVec Ideal S128x1024 .f32) (wo : FVec Ideal S2x1024x1024 .f32) (g : FVec Ideal S4x1024 .f32) (gf : FVec Ideal S1024 .f32) (r : Fin 16512) (c : Fin 1024) :
    wholeF x w u o s wo g gf (ix2 r c) = last (fun j => x (ix2 r j)) (both o s r) (fun j k => wo (ix3 1 j k)) (fun j => g (ix2 3 j)) (fun k f => w (ix3 3 k f))
      (fun f k => u (ix3 3 f k)) (fun j => gf (ix1 j)) c := by
  unfold wholeF
  rw [norm_at]
  simp only [out_at, act_at, both_at, norm_at, mix_at, gain_at]
  rfl

end Cert.Proof.FfnF.Ref

end
-- ==== Proof.FfnF.lean ====
/-
  The claims of the feed-forward call with the final norm: the frames, and the equation of the kernel's result with the reference's.
-/
module

public import proofs.«01_k».proof.Defs
public import proofs.«01_k».proof.Proof.FfnFValue
public import proofs.«01_k».proof.Proof.FfnFRef
public import proofs.«01_k».proof.Proof.Gen.KernelFfn
public import Idealize.ShloMosaic.Lib.Quiescent

@[expose] public section

noncomputable section

namespace Cert.Proof.FfnF

open Idealize.ShloMosaic Idealize.ShloMosaic.TcCoe Idealize.SL.Sem

instance : Cert.KernelFfn.Facts := Cert.KernelFfn.Gen.facts

/-! The two programs are the same text. -/

theorem main_eq : Cert.KernelFfn.main (F := Bits) = Cert.KernelFfnIdeal.main (F := Bits) := rfl

theorem body_eq : Cert.KernelFfn.cc0_ffn (F := Bits) = Cert.KernelFfnIdeal.cc0_ffn (F := Bits) := rfl

theorem defs₀_eq : Cert.KernelFfn.defs₀ (F := Bits) = Cert.KernelFfnIdeal.defs₀ (F := Bits) := by
  refine congrArg Defs.onTc (funext fun l => funext fun a => ?_)
  obtain ⟨l, hl⟩ := l
  match l, hl, a with
  | 0, _, (t, s) => exact congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _
  | _ + 1, h, _ => exact absurd h (Nat.not_lt.2 (Nat.le_add_left _ _))

theorem defs_eq : Cert.KernelFfn.defs (F := Bits) = Cert.KernelFfnIdeal.defs (F := Bits) :=
  congrArg (Pipeline.defs Cert.KernelFfnIdeal.pcfgs) defs₀_eq

theorem frame_kernel : Cert.quiescent_KernelFfn (hKernelFfn := Cert.KernelFfn.Gen.facts) := fun m ρ _ => by
  have h := frame_run (F := Bits) m ρ
  rw [← defs_eq, ← main_eq] at h
  exact h

theorem frame_ideal : Cert.quiescent_KernelFfnIdeal (hKernelFfnIdeal := Cert.KernelFfnIdeal.Gen.facts) :=
  fun m ρ _ => frame_run (F := Ideal) m ρ

theorem frame_reference : Cert.quiescent_ReferenceFfnIdeal (hReferenceFfnIdeal := Cert.ReferenceFfnIdeal.Gen.facts) := fun m ρ _ =>
  (θ_run (Cert.ReferenceFfnIdeal.defs (F := Ideal)) _ _).mono
    (fun r h => ⟨fun c => (h c).2, Idealize.ShloMosaic.sem_eq_zero_of_no_sems (by decide) r.2⟩)
    (Cert.ReferenceFfnIdeal.Value.run (F := Ideal) m ρ)

theorem preserves : Cert.preserves_KernelFfn_KernelFfnIdeal := trivial

open Cert.KernelFfnIdeal Cert.KernelFfnIdeal.Gen

theorem algebraic : Cert.algebraic_KernelFfnIdeal_ReferenceFfnIdeal (hKernelFfnIdeal := Cert.KernelFfnIdeal.Gen.facts)
    (hReferenceFfnIdeal := Cert.ReferenceFfnIdeal.Gen.facts) := by
  intro m g m' g' _ hagree
  refine ⟨fun c => Cert.ReferenceFfnIdeal.Value.res_out0 m' c, ?_, Cert.ReferenceFfnIdeal.Value.run (F := Ideal) m' g'⟩
  refine (θ_run defs _ _).mono (fun _ h c => ⟨(h.1 c).trans ?_, h.2 c⟩) (run_value m g)
  obtain ⟨a0, a1, a2, a3, a4, a5, a6, a7⟩ := hagree c
  refine final m c _ fun r k => ?_
  refine (congrFun (Ref.res_eq m' c) _).trans ((Ref.ref_at _ _ _ _ _ _ _ _ r k).trans ?_)
  rw [a0, a1, a2, a3, a4, a5, a6, a7]

end Cert.Proof.FfnF

end
-- ==== Proof.lean ====
/-
  The certificate of the prompt's stick-breaking attention, of the feed-forward calls and of the input projections: the frames of each kernel, of its
  idealization and of its reference, the meaning of the named constants, and the equations of the results.
-/
module

public import proofs.«01_k».proof.Defs
public import proofs.«01_k».proof.Proof.KernelFrame
public import proofs.«01_k».proof.Proof.RefFrame
public import proofs.«01_k».proof.Proof.Equation
public import proofs.«01_k».proof.Proof.FfnA
public import proofs.«01_k».proof.Proof.FfnB
public import proofs.«01_k».proof.Proof.Ffn0
public import proofs.«01_k».proof.Proof.Proj
public import proofs.«01_k».proof.Proof.ProjS
public import proofs.«01_k».proof.Proof.Qkv
public import proofs.«01_k».proof.Proof.Qkv1
public import proofs.«01_k».proof.Proof.FfnF
public import proofs.«01_k».proof.Proof.Gen.ReferenceIdeal.Run
public import proofs.«01_k».proof.Proof.Gen.KernelFfn
public import proofs.«01_k».proof.Proof.Gen.KernelFfnIdeal.Frame
public import proofs.«01_k».proof.Proof.Gen.KernelFfnAIdeal.Frame
public import proofs.«01_k».proof.Proof.Gen.KernelFfnAIdeal.Value
public import proofs.«01_k».proof.Proof.Gen.KernelFfnA
public import proofs.«01_k».proof.Proof.Gen.ReferenceFfnAIdeal.Run
public import proofs.«01_k».proof.Proof.Gen.ReferenceFfnIdeal.Run
public import proofs.«01_k».proof.Proof.Gen.KernelFfnB
public import proofs.«01_k».proof.Proof.Gen.KernelFfnBIdeal.Frame
public import proofs.«01_k».proof.Proof.Gen.ReferenceFfnBIdeal.Run
public import proofs.«01_k».proof.Proof.Gen.KernelFfn0
public import proofs.«01_k».proof.Proof.Gen.KernelFfn0Ideal.Frame
public import proofs.«01_k».proof.Proof.Gen.ReferenceFfn0Ideal.Run
public import proofs.«01_k».proof.Proof.Gen.KernelProj
public import proofs.«01_k».proof.Proof.Gen.KernelProjIdeal.Frame
public import proofs.«01_k».proof.Proof.Gen.ReferenceProjIdeal.Run
public import proofs.«01_k».proof.Proof.Gen.KernelProjIdeal.Value
public import proofs.«01_k».proof.Proof.Gen.KernelProjS
public import proofs.«01_k».proof.Proof.Gen.KernelProjSIdeal.Frame
public import proofs.«01_k».proof.Proof.Gen.ReferenceProjSIdeal.Run
public import proofs.«01_k».proof.Proof.Gen.KernelProjSIdeal.Value
public import proofs.«01_k».proof.Proof.Gen.KernelQkv
public import proofs.«01_k».proof.Proof.Gen.KernelQkvIdeal.Frame
public import proofs.«01_k».proof.Proof.Gen.ReferenceQkvIdeal.Run
public import proofs.«01_k».proof.Proof.Gen.KernelQkv1
public import proofs.«01_k».proof.Proof.Gen.KernelQkv1Ideal.Frame
public import proofs.«01_k».proof.Proof.Gen.ReferenceQkv1Ideal.Run
public import proofs.«01_k».proof.Proof.Gen.KernelQkv1Ideal.Value

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelFfn.Gen.facts, Cert.KernelFfnIdeal.Gen.facts, Cert.ReferenceFfnIdeal.Gen.facts,
  Cert.KernelFfnA.Gen.facts, Cert.KernelFfnAIdeal.Gen.facts, Cert.ReferenceFfnAIdeal.Gen.facts,
  Cert.KernelFfnB.Gen.facts, Cert.KernelFfnBIdeal.Gen.facts, Cert.ReferenceFfnBIdeal.Gen.facts,
  Cert.KernelFfn0.Gen.facts, Cert.KernelFfn0Ideal.Gen.facts, Cert.ReferenceFfn0Ideal.Gen.facts,
  Cert.KernelProj.Gen.facts, Cert.KernelProjIdeal.Gen.facts, Cert.ReferenceProjIdeal.Gen.facts,
  Cert.KernelProjS.Gen.facts, Cert.KernelProjSIdeal.Gen.facts, Cert.ReferenceProjSIdeal.Gen.facts,
  Cert.KernelQkv.Gen.facts, Cert.KernelQkvIdeal.Gen.facts, Cert.ReferenceQkvIdeal.Gen.facts,
  Cert.KernelQkv1.Gen.facts, Cert.KernelQkv1Ideal.Gen.facts, Cert.ReferenceQkv1Ideal.Gen.facts,
  Attn.Finite.facts,
  Attn.frame_kernel, Attn.frame_ideal, Attn.frame_ideal_pre, Attn.frame_reference, Attn.frame_reference_pre,
  FfnF.frame_kernel, FfnF.frame_ideal, FfnF.frame_reference, FfnA.frame_kernel, FfnA.frame_ideal, FfnA.frame_reference,
  FfnB.frame_kernel, FfnB.frame_ideal, FfnB.frame_reference,
  Ffn0.frame_kernel, Ffn0.frame_ideal, Ffn0.frame_reference,
  Proj.frame_kernel, Proj.frame_ideal, Proj.frame_reference,
  ProjS.frame_kernel, ProjS.frame_ideal, ProjS.frame_reference,
  Qkv.frame_kernel, Qkv.frame_ideal, Qkv.frame_reference,
  Qkv1.frame_kernel, Qkv1.frame_ideal, Qkv1.frame_reference,
  Attn.preserves, Attn.algebraic, FfnF.preserves, FfnF.algebraic, FfnA.preserves, FfnA.algebraic,
  FfnB.preserves, FfnB.algebraic, Ffn0.preserves, Ffn0.algebraic, Proj.preserves, Proj.algebraic, ProjS.preserves, ProjS.algebraic,
  Qkv.preserves, Qkv.algebraic, Qkv1.preserves, Qkv1.algebraic⟩

end Cert.Proof

end
